-- ==== Defs.lean ====
def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_FlashKernel (m : (ℓ : Loc Cert.FlashKernel.nD Cert.FlashKernel.τ Cert.FlashKernel.sig) → Buf (Elt Bits) ℓ) : Prop :=
  True

def Pre_FlashKernelIdeal (m : (ℓ : Loc Cert.FlashKernelIdeal.nD Cert.FlashKernelIdeal.τ Cert.FlashKernelIdeal.sig) → Buf (Elt Ideal) ℓ) : Prop :=
  True

def Pre_FlashKernelIdeal_finite [hPre_finite : Cert.Pre_finite.Facts] (m : (ℓ : Loc Cert.FlashKernelIdeal.nD Cert.FlashKernelIdeal.τ Cert.FlashKernelIdeal.sig) → Buf (Elt Ideal) ℓ) : Prop :=
  ∀ c : Dev Cert.FlashKernelIdeal.nD,
    (Cert.Pre_finite.fn (F := Ideal) (m ((c.tc : Thread Cert.FlashKernelIdeal.nD Cert.FlashKernelIdeal.τ).loc Cert.FlashKernelIdeal.main_arg0)) (m ((c.tc : Thread Cert.FlashKernelIdeal.nD Cert.FlashKernelIdeal.τ).loc Cert.FlashKernelIdeal.main_arg1)) (m ((c.tc : Thread Cert.FlashKernelIdeal.nD Cert.FlashKernelIdeal.τ).loc Cert.FlashKernelIdeal.main_arg2)) (m ((c.tc : Thread Cert.FlashKernelIdeal.nD Cert.FlashKernelIdeal.τ).loc Cert.FlashKernelIdeal.main_arg3)) (m ((c.tc : Thread Cert.FlashKernelIdeal.nD Cert.FlashKernelIdeal.τ).loc Cert.FlashKernelIdeal.main_arg4)) (m ((c.tc : Thread Cert.FlashKernelIdeal.nD Cert.FlashKernelIdeal.τ).loc Cert.FlashKernelIdeal.main_arg5))) = (fun _ => 1#1)

def Pre_FlashReferenceIdeal (m : (ℓ : Loc Cert.FlashReferenceIdeal.nD Cert.FlashReferenceIdeal.τ Cert.FlashReferenceIdeal.sig) → Buf (Elt Ideal) ℓ) : Prop :=
  True

def Pre_FlashReferenceIdeal_finite [hPre_finite : Cert.Pre_finite.Facts] (m : (ℓ : Loc Cert.FlashReferenceIdeal.nD Cert.FlashReferenceIdeal.τ Cert.FlashReferenceIdeal.sig) → Buf (Elt Ideal) ℓ) : Prop :=
  ∀ c : Dev Cert.FlashReferenceIdeal.nD,
    (Cert.Pre_finite.fn (F := Ideal) (m ((c.tc : Thread Cert.FlashReferenceIdeal.nD Cert.FlashReferenceIdeal.τ).loc Cert.FlashReferenceIdeal.main_arg0)) (m ((c.tc : Thread Cert.FlashReferenceIdeal.nD Cert.FlashReferenceIdeal.τ).loc Cert.FlashReferenceIdeal.main_arg1)) (m ((c.tc : Thread Cert.FlashReferenceIdeal.nD Cert.FlashReferenceIdeal.τ).loc Cert.FlashReferenceIdeal.main_arg2)) (m ((c.tc : Thread Cert.FlashReferenceIdeal.nD Cert.FlashReferenceIdeal.τ).loc Cert.FlashReferenceIdeal.main_arg3)) (m ((c.tc : Thread Cert.FlashReferenceIdeal.nD Cert.FlashReferenceIdeal.τ).loc Cert.FlashReferenceIdeal.main_arg4)) (m ((c.tc : Thread Cert.FlashReferenceIdeal.nD Cert.FlashReferenceIdeal.τ).loc Cert.FlashReferenceIdeal.main_arg5))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_in_finite [hPre_in_finite : Cert.Pre_in_finite.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))) = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_in_finite [hPre_in_finite : Cert.Pre_in_finite.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))) = (fun _ => 1#1)

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojKernelIdeal_inp_finite [hPre_inp_finite : Cert.Pre_inp_finite.Facts] (m : (ℓ : Loc Cert.InprojKernelIdeal.nD Cert.InprojKernelIdeal.τ Cert.InprojKernelIdeal.sig) → Buf (Elt Ideal) ℓ) : Prop :=
  ∀ c : Dev Cert.InprojKernelIdeal.nD,
    (Cert.Pre_inp_finite.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6))) = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_inp_finite [hPre_inp_finite : Cert.Pre_inp_finite.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_inp_finite.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6))) = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeKernelIdeal_merge_finite [hPre_merge_finite : Cert.Pre_merge_finite.Facts] (m : (ℓ : Loc Cert.MergeKernelIdeal.nD Cert.MergeKernelIdeal.τ Cert.MergeKernelIdeal.sig) → Buf (Elt Ideal) ℓ) : Prop :=
  ∀ c : Dev Cert.MergeKernelIdeal.nD,
    (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_merge_finite [hPre_merge_finite : Cert.Pre_merge_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6))) = (fun _ => 1#1)

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_mla_finite [hPre_mla_finite : Cert.Pre_mla_finite.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg5)) (m ((c.tc : Thread Cert.MlaKernelIdeal.nD Cert.MlaKernelIdeal.τ).loc Cert.MlaKernelIdeal.main_arg6)) (m ((c.tc : Thread Cert.MlaKernelIdeal.nD Cert.MlaKernelIdeal.τ).loc Cert.MlaKernelIdeal.main_arg7)) (m ((c.tc : Thread Cert.MlaKernelIdeal.nD Cert.MlaKernelIdeal.τ).loc Cert.MlaKernelIdeal.main_arg8))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_mla_finite [hPre_mla_finite : Cert.Pre_mla_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4)) (m ((c.tc : Thread Cert.MlaReferenceIdeal.nD Cert.MlaReferenceIdeal.τ).loc Cert.MlaReferenceIdeal.main_arg5)) (m ((c.tc : Thread Cert.MlaReferenceIdeal.nD Cert.MlaReferenceIdeal.τ).loc Cert.MlaReferenceIdeal.main_arg6)) (m ((c.tc : Thread Cert.MlaReferenceIdeal.nD Cert.MlaReferenceIdeal.τ).loc Cert.MlaReferenceIdeal.main_arg7)) (m ((c.tc : Thread Cert.MlaReferenceIdeal.nD Cert.MlaReferenceIdeal.τ).loc Cert.MlaReferenceIdeal.main_arg8))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
      ∧ r.2.sem = fun _ => 0)

def quiescent_FlashKernel [hFlashKernel : Cert.FlashKernel.Facts] : Prop :=
  ∀ (m : (ℓ : Loc Cert.FlashKernel.nD Cert.FlashKernel.τ Cert.FlashKernel.sig) → Buf (Elt Bits) ℓ) (g : Dev Cert.FlashKernel.nD → PrngReg), Pre_FlashKernel m →
    θ_run (Cert.FlashKernel.defs (F := Bits)) (onTc (τ := Cert.FlashKernel.τ) (Cert.FlashKernel.main (F := Bits))) ⟨m, fun _ => 0, g⟩ (fun r => (∀ c : Dev Cert.FlashKernel.nD,
      r.2.mem ((c.tc : Thread Cert.FlashKernel.nD Cert.FlashKernel.τ).loc Cert.FlashKernel.main_arg0) = m ((c.tc : Thread Cert.FlashKernel.nD Cert.FlashKernel.τ).loc Cert.FlashKernel.main_arg0)
      ∧ r.2.mem ((c.tc : Thread Cert.FlashKernel.nD Cert.FlashKernel.τ).loc Cert.FlashKernel.main_arg1) = m ((c.tc : Thread Cert.FlashKernel.nD Cert.FlashKernel.τ).loc Cert.FlashKernel.main_arg1)
      ∧ r.2.mem ((c.tc : Thread Cert.FlashKernel.nD Cert.FlashKernel.τ).loc Cert.FlashKernel.main_arg2) = m ((c.tc : Thread Cert.FlashKernel.nD Cert.FlashKernel.τ).loc Cert.FlashKernel.main_arg2)
      ∧ r.2.mem ((c.tc : Thread Cert.FlashKernel.nD Cert.FlashKernel.τ).loc Cert.FlashKernel.main_arg3) = m ((c.tc : Thread Cert.FlashKernel.nD Cert.FlashKernel.τ).loc Cert.FlashKernel.main_arg3)
      ∧ r.2.mem ((c.tc : Thread Cert.FlashKernel.nD Cert.FlashKernel.τ).loc Cert.FlashKernel.main_arg4) = m ((c.tc : Thread Cert.FlashKernel.nD Cert.FlashKernel.τ).loc Cert.FlashKernel.main_arg4)
      ∧ r.2.mem ((c.tc : Thread Cert.FlashKernel.nD Cert.FlashKernel.τ).loc Cert.FlashKernel.main_arg5) = m ((c.tc : Thread Cert.FlashKernel.nD Cert.FlashKernel.τ).loc Cert.FlashKernel.main_arg5))
      ∧ r.2.sem = fun _ => 0)

def quiescent_FlashKernelIdeal [hFlashKernelIdeal : Cert.FlashKernelIdeal.Facts] : Prop :=
  ∀ (m : (ℓ : Loc Cert.FlashKernelIdeal.nD Cert.FlashKernelIdeal.τ Cert.FlashKernelIdeal.sig) → Buf (Elt Ideal) ℓ) (g : Dev Cert.FlashKernelIdeal.nD → PrngReg), Pre_FlashKernelIdeal m →
    θ_run (Cert.FlashKernelIdeal.defs (F := Ideal)) (onTc (τ := Cert.FlashKernelIdeal.τ) (Cert.FlashKernelIdeal.main (F := Ideal))) ⟨m, fun _ => 0, g⟩ (fun r => (∀ c : Dev Cert.FlashKernelIdeal.nD,
      r.2.mem ((c.tc : Thread Cert.FlashKernelIdeal.nD Cert.FlashKernelIdeal.τ).loc Cert.FlashKernelIdeal.main_arg0) = m ((c.tc : Thread Cert.FlashKernelIdeal.nD Cert.FlashKernelIdeal.τ).loc Cert.FlashKernelIdeal.main_arg0)
      ∧ r.2.mem ((c.tc : Thread Cert.FlashKernelIdeal.nD Cert.FlashKernelIdeal.τ).loc Cert.FlashKernelIdeal.main_arg1) = m ((c.tc : Thread Cert.FlashKernelIdeal.nD Cert.FlashKernelIdeal.τ).loc Cert.FlashKernelIdeal.main_arg1)
      ∧ r.2.mem ((c.tc : Thread Cert.FlashKernelIdeal.nD Cert.FlashKernelIdeal.τ).loc Cert.FlashKernelIdeal.main_arg2) = m ((c.tc : Thread Cert.FlashKernelIdeal.nD Cert.FlashKernelIdeal.τ).loc Cert.FlashKernelIdeal.main_arg2)
      ∧ r.2.mem ((c.tc : Thread Cert.FlashKernelIdeal.nD Cert.FlashKernelIdeal.τ).loc Cert.FlashKernelIdeal.main_arg3) = m ((c.tc : Thread Cert.FlashKernelIdeal.nD Cert.FlashKernelIdeal.τ).loc Cert.FlashKernelIdeal.main_arg3)
      ∧ r.2.mem ((c.tc : Thread Cert.FlashKernelIdeal.nD Cert.FlashKernelIdeal.τ).loc Cert.FlashKernelIdeal.main_arg4) = m ((c.tc : Thread Cert.FlashKernelIdeal.nD Cert.FlashKernelIdeal.τ).loc Cert.FlashKernelIdeal.main_arg4)
      ∧ r.2.mem ((c.tc : Thread Cert.FlashKernelIdeal.nD Cert.FlashKernelIdeal.τ).loc Cert.FlashKernelIdeal.main_arg5) = m ((c.tc : Thread Cert.FlashKernelIdeal.nD Cert.FlashKernelIdeal.τ).loc Cert.FlashKernelIdeal.main_arg5))
      ∧ r.2.sem = fun _ => 0)

def quiescent_FlashKernelIdeal_pre_finite [hFlashKernelIdeal : Cert.FlashKernelIdeal.Facts] [hPre_finite : Cert.Pre_finite.Facts] : Prop :=
  ∀ (m : (ℓ : Loc Cert.FlashKernelIdeal.nD Cert.FlashKernelIdeal.τ Cert.FlashKernelIdeal.sig) → Buf (Elt Ideal) ℓ) (g : Dev Cert.FlashKernelIdeal.nD → PrngReg), Pre_FlashKernelIdeal_finite m →
    θ_run (Cert.FlashKernelIdeal.defs (F := Ideal)) (onTc (τ := Cert.FlashKernelIdeal.τ) (Cert.FlashKernelIdeal.main (F := Ideal))) ⟨m, fun _ => 0, g⟩ (fun r => (∀ c : Dev Cert.FlashKernelIdeal.nD,
      r.2.mem ((c.tc : Thread Cert.FlashKernelIdeal.nD Cert.FlashKernelIdeal.τ).loc Cert.FlashKernelIdeal.main_arg0) = m ((c.tc : Thread Cert.FlashKernelIdeal.nD Cert.FlashKernelIdeal.τ).loc Cert.FlashKernelIdeal.main_arg0)
      ∧ r.2.mem ((c.tc : Thread Cert.FlashKernelIdeal.nD Cert.FlashKernelIdeal.τ).loc Cert.FlashKernelIdeal.main_arg1) = m ((c.tc : Thread Cert.FlashKernelIdeal.nD Cert.FlashKernelIdeal.τ).loc Cert.FlashKernelIdeal.main_arg1)
      ∧ r.2.mem ((c.tc : Thread Cert.FlashKernelIdeal.nD Cert.FlashKernelIdeal.τ).loc Cert.FlashKernelIdeal.main_arg2) = m ((c.tc : Thread Cert.FlashKernelIdeal.nD Cert.FlashKernelIdeal.τ).loc Cert.FlashKernelIdeal.main_arg2)
      ∧ r.2.mem ((c.tc : Thread Cert.FlashKernelIdeal.nD Cert.FlashKernelIdeal.τ).loc Cert.FlashKernelIdeal.main_arg3) = m ((c.tc : Thread Cert.FlashKernelIdeal.nD Cert.FlashKernelIdeal.τ).loc Cert.FlashKernelIdeal.main_arg3)
      ∧ r.2.mem ((c.tc : Thread Cert.FlashKernelIdeal.nD Cert.FlashKernelIdeal.τ).loc Cert.FlashKernelIdeal.main_arg4) = m ((c.tc : Thread Cert.FlashKernelIdeal.nD Cert.FlashKernelIdeal.τ).loc Cert.FlashKernelIdeal.main_arg4)
      ∧ r.2.mem ((c.tc : Thread Cert.FlashKernelIdeal.nD Cert.FlashKernelIdeal.τ).loc Cert.FlashKernelIdeal.main_arg5) = m ((c.tc : Thread Cert.FlashKernelIdeal.nD Cert.FlashKernelIdeal.τ).loc Cert.FlashKernelIdeal.main_arg5))
      ∧ r.2.sem = fun _ => 0)

def quiescent_FlashReferenceIdeal [hFlashReferenceIdeal : Cert.FlashReferenceIdeal.Facts] : Prop :=
  ∀ (m : (ℓ : Loc Cert.FlashReferenceIdeal.nD Cert.FlashReferenceIdeal.τ Cert.FlashReferenceIdeal.sig) → Buf (Elt Ideal) ℓ) (g : Dev Cert.FlashReferenceIdeal.nD → PrngReg), Pre_FlashReferenceIdeal m →
    θ_run (Cert.FlashReferenceIdeal.defs (F := Ideal)) (onTc (τ := Cert.FlashReferenceIdeal.τ) (Cert.FlashReferenceIdeal.main (F := Ideal))) ⟨m, fun _ => 0, g⟩ (fun r => (∀ c : Dev Cert.FlashReferenceIdeal.nD,
      r.2.mem ((c.tc : Thread Cert.FlashReferenceIdeal.nD Cert.FlashReferenceIdeal.τ).loc Cert.FlashReferenceIdeal.main_arg0) = m ((c.tc : Thread Cert.FlashReferenceIdeal.nD Cert.FlashReferenceIdeal.τ).loc Cert.FlashReferenceIdeal.main_arg0)
      ∧ r.2.mem ((c.tc : Thread Cert.FlashReferenceIdeal.nD Cert.FlashReferenceIdeal.τ).loc Cert.FlashReferenceIdeal.main_arg1) = m ((c.tc : Thread Cert.FlashReferenceIdeal.nD Cert.FlashReferenceIdeal.τ).loc Cert.FlashReferenceIdeal.main_arg1)
      ∧ r.2.mem ((c.tc : Thread Cert.FlashReferenceIdeal.nD Cert.FlashReferenceIdeal.τ).loc Cert.FlashReferenceIdeal.main_arg2) = m ((c.tc : Thread Cert.FlashReferenceIdeal.nD Cert.FlashReferenceIdeal.τ).loc Cert.FlashReferenceIdeal.main_arg2)
      ∧ r.2.mem ((c.tc : Thread Cert.FlashReferenceIdeal.nD Cert.FlashReferenceIdeal.τ).loc Cert.FlashReferenceIdeal.main_arg3) = m ((c.tc : Thread Cert.FlashReferenceIdeal.nD Cert.FlashReferenceIdeal.τ).loc Cert.FlashReferenceIdeal.main_arg3)
      ∧ r.2.mem ((c.tc : Thread Cert.FlashReferenceIdeal.nD Cert.FlashReferenceIdeal.τ).loc Cert.FlashReferenceIdeal.main_arg4) = m ((c.tc : Thread Cert.FlashReferenceIdeal.nD Cert.FlashReferenceIdeal.τ).loc Cert.FlashReferenceIdeal.main_arg4)
      ∧ r.2.mem ((c.tc : Thread Cert.FlashReferenceIdeal.nD Cert.FlashReferenceIdeal.τ).loc Cert.FlashReferenceIdeal.main_arg5) = m ((c.tc : Thread Cert.FlashReferenceIdeal.nD Cert.FlashReferenceIdeal.τ).loc Cert.FlashReferenceIdeal.main_arg5))
      ∧ r.2.sem = fun _ => 0)

def quiescent_FlashReferenceIdeal_pre_finite [hFlashReferenceIdeal : Cert.FlashReferenceIdeal.Facts] [hPre_finite : Cert.Pre_finite.Facts] : Prop :=
  ∀ (m : (ℓ : Loc Cert.FlashReferenceIdeal.nD Cert.FlashReferenceIdeal.τ Cert.FlashReferenceIdeal.sig) → Buf (Elt Ideal) ℓ) (g : Dev Cert.FlashReferenceIdeal.nD → PrngReg), Pre_FlashReferenceIdeal_finite m →
    θ_run (Cert.FlashReferenceIdeal.defs (F := Ideal)) (onTc (τ := Cert.FlashReferenceIdeal.τ) (Cert.FlashReferenceIdeal.main (F := Ideal))) ⟨m, fun _ => 0, g⟩ (fun r => (∀ c : Dev Cert.FlashReferenceIdeal.nD,
      r.2.mem ((c.tc : Thread Cert.FlashReferenceIdeal.nD Cert.FlashReferenceIdeal.τ).loc Cert.FlashReferenceIdeal.main_arg0) = m ((c.tc : Thread Cert.FlashReferenceIdeal.nD Cert.FlashReferenceIdeal.τ).loc Cert.FlashReferenceIdeal.main_arg0)
      ∧ r.2.mem ((c.tc : Thread Cert.FlashReferenceIdeal.nD Cert.FlashReferenceIdeal.τ).loc Cert.FlashReferenceIdeal.main_arg1) = m ((c.tc : Thread Cert.FlashReferenceIdeal.nD Cert.FlashReferenceIdeal.τ).loc Cert.FlashReferenceIdeal.main_arg1)
      ∧ r.2.mem ((c.tc : Thread Cert.FlashReferenceIdeal.nD Cert.FlashReferenceIdeal.τ).loc Cert.FlashReferenceIdeal.main_arg2) = m ((c.tc : Thread Cert.FlashReferenceIdeal.nD Cert.FlashReferenceIdeal.τ).loc Cert.FlashReferenceIdeal.main_arg2)
      ∧ r.2.mem ((c.tc : Thread Cert.FlashReferenceIdeal.nD Cert.FlashReferenceIdeal.τ).loc Cert.FlashReferenceIdeal.main_arg3) = m ((c.tc : Thread Cert.FlashReferenceIdeal.nD Cert.FlashReferenceIdeal.τ).loc Cert.FlashReferenceIdeal.main_arg3)
      ∧ r.2.mem ((c.tc : Thread Cert.FlashReferenceIdeal.nD Cert.FlashReferenceIdeal.τ).loc Cert.FlashReferenceIdeal.main_arg4) = m ((c.tc : Thread Cert.FlashReferenceIdeal.nD Cert.FlashReferenceIdeal.τ).loc Cert.FlashReferenceIdeal.main_arg4)
      ∧ r.2.mem ((c.tc : Thread Cert.FlashReferenceIdeal.nD Cert.FlashReferenceIdeal.τ).loc Cert.FlashReferenceIdeal.main_arg5) = m ((c.tc : Thread Cert.FlashReferenceIdeal.nD Cert.FlashReferenceIdeal.τ).loc Cert.FlashReferenceIdeal.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_in_finite [hInKernelIdeal : Cert.InKernelIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_in_finite m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_in_finite [hInReferenceIdeal : Cert.InReferenceIdeal.Facts] [hPre_in_finite : Cert.Pre_in_finite.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_in_finite m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4)
      ∧ r.2.mem ((c.tc : Thread Cert.InprojKernel.nD Cert.InprojKernel.τ).loc Cert.InprojKernel.main_arg5) = m ((c.tc : Thread Cert.InprojKernel.nD Cert.InprojKernel.τ).loc Cert.InprojKernel.main_arg5)
      ∧ r.2.mem ((c.tc : Thread Cert.InprojKernel.nD Cert.InprojKernel.τ).loc Cert.InprojKernel.main_arg6) = m ((c.tc : Thread Cert.InprojKernel.nD Cert.InprojKernel.τ).loc Cert.InprojKernel.main_arg6))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
      ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6))
      ∧ r.2.sem = fun _ => 0)

def quiescent_InprojKernelIdeal_pre_inp_finite [hInprojKernelIdeal : Cert.InprojKernelIdeal.Facts] [hPre_inp_finite : Cert.Pre_inp_finite.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal_inp_finite m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
      ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_InprojReferenceIdeal_pre_inp_finite [hInprojReferenceIdeal : Cert.InprojReferenceIdeal.Facts] [hPre_inp_finite : Cert.Pre_inp_finite.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_inp_finite m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeKernelIdeal_pre_merge_finite [hMergeKernelIdeal : Cert.MergeKernelIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal_merge_finite m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_MergeReferenceIdeal_pre_merge_finite [hMergeReferenceIdeal : Cert.MergeReferenceIdeal.Facts] [hPre_merge_finite : Cert.Pre_merge_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_merge_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5)
      ∧ r.2.mem ((c.tc : Thread Cert.MlaKernel.nD Cert.MlaKernel.τ).loc Cert.MlaKernel.main_arg6) = m ((c.tc : Thread Cert.MlaKernel.nD Cert.MlaKernel.τ).loc Cert.MlaKernel.main_arg6)
      ∧ r.2.mem ((c.tc : Thread Cert.MlaKernel.nD Cert.MlaKernel.τ).loc Cert.MlaKernel.main_arg7) = m ((c.tc : Thread Cert.MlaKernel.nD Cert.MlaKernel.τ).loc Cert.MlaKernel.main_arg7)
      ∧ r.2.mem ((c.tc : Thread Cert.MlaKernel.nD Cert.MlaKernel.τ).loc Cert.MlaKernel.main_arg8) = m ((c.tc : Thread Cert.MlaKernel.nD Cert.MlaKernel.τ).loc Cert.MlaKernel.main_arg8))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8))
      ∧ r.2.sem = fun _ => 0)

def quiescent_MlaKernelIdeal_pre_mla_finite [hMlaKernelIdeal : Cert.MlaKernelIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_mla_finite m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8))
      ∧ r.2.sem = fun _ => 0)

def quiescent_MlaReferenceIdeal_pre_mla_finite [hMlaReferenceIdeal : Cert.MlaReferenceIdeal.Facts] [hPre_mla_finite : Cert.Pre_mla_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_mla_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def preserves_ActKernel_ActKernelIdeal : Prop :=
  True

def algebraic_ActKernelIdeal_ActReferenceIdeal [hActKernelIdeal : Cert.ActKernelIdeal.Facts] [hActReferenceIdeal : Cert.ActReferenceIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)) →
    ∃ (v0 : (c : Dev Cert.ActKernelIdeal.nD) → Buf (Elt Ideal) ((c.tc : Thread Cert.ActKernelIdeal.nD Cert.ActKernelIdeal.τ).loc Cert.ActKernelIdeal.main_v1)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v1) = v0 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v12) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2))

def preserves_FlashKernel_FlashKernelIdeal : Prop :=
  IdealRules.named_const.Statement Cert.FlashKernelIdeal.κ "ln2" .f32 0x3F317218#32 ((Real.log 2 : ℝ) : EReal)

def algebraic_FlashKernelIdeal_FlashReferenceIdeal_pre_finite [hFlashKernelIdeal : Cert.FlashKernelIdeal.Facts] [hFlashReferenceIdeal : Cert.FlashReferenceIdeal.Facts] [hPre_finite : Cert.Pre_finite.Facts] : Prop :=
  ∀ (m : (ℓ : Loc Cert.FlashKernelIdeal.nD Cert.FlashKernelIdeal.τ Cert.FlashKernelIdeal.sig) → Buf (Elt Ideal) ℓ) (g : Dev Cert.FlashKernelIdeal.nD → PrngReg)
    (m' : (ℓ : Loc Cert.FlashReferenceIdeal.nD Cert.FlashReferenceIdeal.τ Cert.FlashReferenceIdeal.sig) → Buf (Elt Ideal) ℓ) (g' : Dev Cert.FlashReferenceIdeal.nD → PrngReg), Pre_FlashKernelIdeal_finite m →
    (∀ c : Dev Cert.FlashKernelIdeal.nD,
      m' ((c.tc : Thread Cert.FlashReferenceIdeal.nD Cert.FlashReferenceIdeal.τ).loc Cert.FlashReferenceIdeal.main_arg0) = m ((c.tc : Thread Cert.FlashKernelIdeal.nD Cert.FlashKernelIdeal.τ).loc Cert.FlashKernelIdeal.main_arg0)
      ∧ m' ((c.tc : Thread Cert.FlashReferenceIdeal.nD Cert.FlashReferenceIdeal.τ).loc Cert.FlashReferenceIdeal.main_arg1) = m ((c.tc : Thread Cert.FlashKernelIdeal.nD Cert.FlashKernelIdeal.τ).loc Cert.FlashKernelIdeal.main_arg1)
      ∧ m' ((c.tc : Thread Cert.FlashReferenceIdeal.nD Cert.FlashReferenceIdeal.τ).loc Cert.FlashReferenceIdeal.main_arg2) = m ((c.tc : Thread Cert.FlashKernelIdeal.nD Cert.FlashKernelIdeal.τ).loc Cert.FlashKernelIdeal.main_arg2)
      ∧ m' ((c.tc : Thread Cert.FlashReferenceIdeal.nD Cert.FlashReferenceIdeal.τ).loc Cert.FlashReferenceIdeal.main_arg3) = m ((c.tc : Thread Cert.FlashKernelIdeal.nD Cert.FlashKernelIdeal.τ).loc Cert.FlashKernelIdeal.main_arg3)
      ∧ m' ((c.tc : Thread Cert.FlashReferenceIdeal.nD Cert.FlashReferenceIdeal.τ).loc Cert.FlashReferenceIdeal.main_arg4) = m ((c.tc : Thread Cert.FlashKernelIdeal.nD Cert.FlashKernelIdeal.τ).loc Cert.FlashKernelIdeal.main_arg4)
      ∧ m' ((c.tc : Thread Cert.FlashReferenceIdeal.nD Cert.FlashReferenceIdeal.τ).loc Cert.FlashReferenceIdeal.main_arg5) = m ((c.tc : Thread Cert.FlashKernelIdeal.nD Cert.FlashKernelIdeal.τ).loc Cert.FlashKernelIdeal.main_arg5)) →
    ∃ (v0 : (c : Dev Cert.FlashKernelIdeal.nD) → Buf (Elt Ideal) ((c.tc : Thread Cert.FlashKernelIdeal.nD Cert.FlashKernelIdeal.τ).loc Cert.FlashKernelIdeal.main_v55_0)) (v1 : (c : Dev Cert.FlashKernelIdeal.nD) → Buf (Elt Ideal) ((c.tc : Thread Cert.FlashKernelIdeal.nD Cert.FlashKernelIdeal.τ).loc Cert.FlashKernelIdeal.main_v55_1)) (v2 : (c : Dev Cert.FlashKernelIdeal.nD) → Buf (Elt Ideal) ((c.tc : Thread Cert.FlashKernelIdeal.nD Cert.FlashKernelIdeal.τ).loc Cert.FlashKernelIdeal.main_v55_2)),
      θ_run (Cert.FlashKernelIdeal.defs (F := Ideal)) (onTc (τ := Cert.FlashKernelIdeal.τ) (Cert.FlashKernelIdeal.main (F := Ideal))) ⟨m, fun _ => 0, g⟩ (fun r => ∀ c : Dev Cert.FlashKernelIdeal.nD,
          r.2.mem ((c.tc : Thread Cert.FlashKernelIdeal.nD Cert.FlashKernelIdeal.τ).loc Cert.FlashKernelIdeal.main_v55_0) = v0 c
          ∧ r.2.mem ((c.tc : Thread Cert.FlashKernelIdeal.nD Cert.FlashKernelIdeal.τ).loc Cert.FlashKernelIdeal.main_v55_1) = v1 c
          ∧ r.2.mem ((c.tc : Thread Cert.FlashKernelIdeal.nD Cert.FlashKernelIdeal.τ).loc Cert.FlashKernelIdeal.main_v55_2) = v2 c
          ∧ r.2.mem ((c.tc : Thread Cert.FlashKernelIdeal.nD Cert.FlashKernelIdeal.τ).loc Cert.FlashKernelIdeal.main_arg0) = m ((c.tc : Thread Cert.FlashKernelIdeal.nD Cert.FlashKernelIdeal.τ).loc Cert.FlashKernelIdeal.main_arg0)
          ∧ r.2.mem ((c.tc : Thread Cert.FlashKernelIdeal.nD Cert.FlashKernelIdeal.τ).loc Cert.FlashKernelIdeal.main_arg1) = m ((c.tc : Thread Cert.FlashKernelIdeal.nD Cert.FlashKernelIdeal.τ).loc Cert.FlashKernelIdeal.main_arg1)
          ∧ r.2.mem ((c.tc : Thread Cert.FlashKernelIdeal.nD Cert.FlashKernelIdeal.τ).loc Cert.FlashKernelIdeal.main_arg2) = m ((c.tc : Thread Cert.FlashKernelIdeal.nD Cert.FlashKernelIdeal.τ).loc Cert.FlashKernelIdeal.main_arg2)
          ∧ r.2.mem ((c.tc : Thread Cert.FlashKernelIdeal.nD Cert.FlashKernelIdeal.τ).loc Cert.FlashKernelIdeal.main_arg3) = m ((c.tc : Thread Cert.FlashKernelIdeal.nD Cert.FlashKernelIdeal.τ).loc Cert.FlashKernelIdeal.main_arg3)
          ∧ r.2.mem ((c.tc : Thread Cert.FlashKernelIdeal.nD Cert.FlashKernelIdeal.τ).loc Cert.FlashKernelIdeal.main_arg4) = m ((c.tc : Thread Cert.FlashKernelIdeal.nD Cert.FlashKernelIdeal.τ).loc Cert.FlashKernelIdeal.main_arg4)
          ∧ r.2.mem ((c.tc : Thread Cert.FlashKernelIdeal.nD Cert.FlashKernelIdeal.τ).loc Cert.FlashKernelIdeal.main_arg5) = m ((c.tc : Thread Cert.FlashKernelIdeal.nD Cert.FlashKernelIdeal.τ).loc Cert.FlashKernelIdeal.main_arg5))
      ∧ θ_run (Cert.FlashReferenceIdeal.defs (F := Ideal)) (onTc (τ := Cert.FlashReferenceIdeal.τ) (Cert.FlashReferenceIdeal.main (F := Ideal))) ⟨m', fun _ => 0, g'⟩ (fun r => ∀ c : Dev Cert.FlashReferenceIdeal.nD,
          r.2.mem ((c.tc : Thread Cert.FlashReferenceIdeal.nD Cert.FlashReferenceIdeal.τ).loc Cert.FlashReferenceIdeal.main_v87) = v0 c
          ∧ r.2.mem ((c.tc : Thread Cert.FlashReferenceIdeal.nD Cert.FlashReferenceIdeal.τ).loc Cert.FlashReferenceIdeal.main_v88) = v1 c
          ∧ r.2.mem ((c.tc : Thread Cert.FlashReferenceIdeal.nD Cert.FlashReferenceIdeal.τ).loc Cert.FlashReferenceIdeal.main_v89) = v2 c
          ∧ r.2.mem ((c.tc : Thread Cert.FlashReferenceIdeal.nD Cert.FlashReferenceIdeal.τ).loc Cert.FlashReferenceIdeal.main_arg0) = m' ((c.tc : Thread Cert.FlashReferenceIdeal.nD Cert.FlashReferenceIdeal.τ).loc Cert.FlashReferenceIdeal.main_arg0)
          ∧ r.2.mem ((c.tc : Thread Cert.FlashReferenceIdeal.nD Cert.FlashReferenceIdeal.τ).loc Cert.FlashReferenceIdeal.main_arg1) = m' ((c.tc : Thread Cert.FlashReferenceIdeal.nD Cert.FlashReferenceIdeal.τ).loc Cert.FlashReferenceIdeal.main_arg1)
          ∧ r.2.mem ((c.tc : Thread Cert.FlashReferenceIdeal.nD Cert.FlashReferenceIdeal.τ).loc Cert.FlashReferenceIdeal.main_arg2) = m' ((c.tc : Thread Cert.FlashReferenceIdeal.nD Cert.FlashReferenceIdeal.τ).loc Cert.FlashReferenceIdeal.main_arg2)
          ∧ r.2.mem ((c.tc : Thread Cert.FlashReferenceIdeal.nD Cert.FlashReferenceIdeal.τ).loc Cert.FlashReferenceIdeal.main_arg3) = m' ((c.tc : Thread Cert.FlashReferenceIdeal.nD Cert.FlashReferenceIdeal.τ).loc Cert.FlashReferenceIdeal.main_arg3)
          ∧ r.2.mem ((c.tc : Thread Cert.FlashReferenceIdeal.nD Cert.FlashReferenceIdeal.τ).loc Cert.FlashReferenceIdeal.main_arg4) = m' ((c.tc : Thread Cert.FlashReferenceIdeal.nD Cert.FlashReferenceIdeal.τ).loc Cert.FlashReferenceIdeal.main_arg4)
          ∧ r.2.mem ((c.tc : Thread Cert.FlashReferenceIdeal.nD Cert.FlashReferenceIdeal.τ).loc Cert.FlashReferenceIdeal.main_arg5) = m' ((c.tc : Thread Cert.FlashReferenceIdeal.nD Cert.FlashReferenceIdeal.τ).loc Cert.FlashReferenceIdeal.main_arg5))

def preserves_InKernel_InKernelIdeal : Prop :=
  True

def algebraic_InKernelIdeal_InReferenceIdeal_pre_in_finite [hInKernelIdeal : Cert.InKernelIdeal.Facts] [hInReferenceIdeal : Cert.InReferenceIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_in_finite m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v2_0)) (v1 : (c : Dev Cert.InKernelIdeal.nD) → Buf (Elt Ideal) ((c.tc : Thread Cert.InKernelIdeal.nD Cert.InKernelIdeal.τ).loc Cert.InKernelIdeal.main_v2_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2_0) = v0 c
          ∧ r.2.mem ((c.tc : Thread Cert.InKernelIdeal.nD Cert.InKernelIdeal.τ).loc Cert.InKernelIdeal.main_v2_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v39) = v0 c
          ∧ r.2.mem ((c.tc : Thread Cert.InReferenceIdeal.nD Cert.InReferenceIdeal.τ).loc Cert.InReferenceIdeal.main_v40) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)) (v2 : (c : Dev Cert.LossKernelIdeal.nD) → Buf (Elt Ideal) ((c.tc : Thread Cert.LossKernelIdeal.nD Cert.LossKernelIdeal.τ).loc Cert.LossKernelIdeal.main_v2_2)) (v3 : (c : Dev Cert.LossKernelIdeal.nD) → Buf (Elt Ideal) ((c.tc : Thread Cert.LossKernelIdeal.nD Cert.LossKernelIdeal.τ).loc Cert.LossKernelIdeal.main_v2_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_v2_2) = v2 c
          ∧ r.2.mem ((c.tc : Thread Cert.LossKernelIdeal.nD Cert.LossKernelIdeal.τ).loc Cert.LossKernelIdeal.main_v2_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v55) = v0 c
          ∧ r.2.mem ((c.tc : Thread Cert.LossReferenceIdeal.nD Cert.LossReferenceIdeal.τ).loc Cert.LossReferenceIdeal.main_v54) = v1 c
          ∧ r.2.mem ((c.tc : Thread Cert.LossReferenceIdeal.nD Cert.LossReferenceIdeal.τ).loc Cert.LossReferenceIdeal.main_v56) = v2 c
          ∧ r.2.mem ((c.tc : Thread Cert.LossReferenceIdeal.nD Cert.LossReferenceIdeal.τ).loc Cert.LossReferenceIdeal.main_v57) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_InprojKernel_InprojKernelIdeal : Prop :=
  True

def algebraic_InprojKernelIdeal_InprojReferenceIdeal_pre_inp_finite [hInprojKernelIdeal : Cert.InprojKernelIdeal.Facts] [hInprojReferenceIdeal : Cert.InprojReferenceIdeal.Facts] [hPre_inp_finite : Cert.Pre_inp_finite.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal_inp_finite m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)
      ∧ m' ((c.tc : Thread Cert.InprojReferenceIdeal.nD Cert.InprojReferenceIdeal.τ).loc Cert.InprojReferenceIdeal.main_arg5) = m ((c.tc : Thread Cert.InprojKernelIdeal.nD Cert.InprojKernelIdeal.τ).loc Cert.InprojKernelIdeal.main_arg5)
      ∧ m' ((c.tc : Thread Cert.InprojReferenceIdeal.nD Cert.InprojReferenceIdeal.τ).loc Cert.InprojReferenceIdeal.main_arg6) = m ((c.tc : Thread Cert.InprojKernelIdeal.nD Cert.InprojKernelIdeal.τ).loc Cert.InprojKernelIdeal.main_arg6)) →
    ∃ (v0 : (c : Dev Cert.InprojKernelIdeal.nD) → Buf (Elt Ideal) ((c.tc : Thread Cert.InprojKernelIdeal.nD Cert.InprojKernelIdeal.τ).loc Cert.InprojKernelIdeal.main_v17_0)) (v1 : (c : Dev Cert.InprojKernelIdeal.nD) → Buf (Elt Ideal) ((c.tc : Thread Cert.InprojKernelIdeal.nD Cert.InprojKernelIdeal.τ).loc Cert.InprojKernelIdeal.main_v17_1)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v17_0) = v0 c
          ∧ r.2.mem ((c.tc : Thread Cert.InprojKernelIdeal.nD Cert.InprojKernelIdeal.τ).loc Cert.InprojKernelIdeal.main_v17_1) = v1 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
          ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
          ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v67) = v0 c
          ∧ r.2.mem ((c.tc : Thread Cert.InprojReferenceIdeal.nD Cert.InprojReferenceIdeal.τ).loc Cert.InprojReferenceIdeal.main_v68) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def preserves_MergeKernel_MergeKernelIdeal : Prop :=
  IdealRules.named_const.Statement Cert.MergeKernelIdeal.κ "gelu" .f32 0x3D372713#32 ((8943 / 200000 : ℝ) : EReal)
  ∧ IdealRules.named_const.Statement Cert.MergeKernelIdeal.κ "gelu3" .f32 0x3E095D4F#32 ((26829 / 200000 : ℝ) : EReal)

def algebraic_MergeKernelIdeal_MergeReferenceIdeal_pre_merge_finite [hMergeKernelIdeal : Cert.MergeKernelIdeal.Facts] [hMergeReferenceIdeal : Cert.MergeReferenceIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal_merge_finite m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v34_0)) (v1 : (c : Dev Cert.MergeKernelIdeal.nD) → Buf (Elt Ideal) ((c.tc : Thread Cert.MergeKernelIdeal.nD Cert.MergeKernelIdeal.τ).loc Cert.MergeKernelIdeal.main_v34_1)) (v2 : (c : Dev Cert.MergeKernelIdeal.nD) → Buf (Elt Ideal) ((c.tc : Thread Cert.MergeKernelIdeal.nD Cert.MergeKernelIdeal.τ).loc Cert.MergeKernelIdeal.main_v34_2)) (v3 : (c : Dev Cert.MergeKernelIdeal.nD) → Buf (Elt Ideal) ((c.tc : Thread Cert.MergeKernelIdeal.nD Cert.MergeKernelIdeal.τ).loc Cert.MergeKernelIdeal.main_v34_3)) (v4 : (c : Dev Cert.MergeKernelIdeal.nD) → Buf (Elt Ideal) ((c.tc : Thread Cert.MergeKernelIdeal.nD Cert.MergeKernelIdeal.τ).loc Cert.MergeKernelIdeal.main_v34_4)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v34_0) = v0 c
          ∧ r.2.mem ((c.tc : Thread Cert.MergeKernelIdeal.nD Cert.MergeKernelIdeal.τ).loc Cert.MergeKernelIdeal.main_v34_1) = v1 c
          ∧ r.2.mem ((c.tc : Thread Cert.MergeKernelIdeal.nD Cert.MergeKernelIdeal.τ).loc Cert.MergeKernelIdeal.main_v34_2) = v2 c
          ∧ r.2.mem ((c.tc : Thread Cert.MergeKernelIdeal.nD Cert.MergeKernelIdeal.τ).loc Cert.MergeKernelIdeal.main_v34_3) = v3 c
          ∧ r.2.mem ((c.tc : Thread Cert.MergeKernelIdeal.nD Cert.MergeKernelIdeal.τ).loc Cert.MergeKernelIdeal.main_v34_4) = v4 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v76) = v0 c
          ∧ r.2.mem ((c.tc : Thread Cert.MergeReferenceIdeal.nD Cert.MergeReferenceIdeal.τ).loc Cert.MergeReferenceIdeal.main_v77) = v1 c
          ∧ r.2.mem ((c.tc : Thread Cert.MergeReferenceIdeal.nD Cert.MergeReferenceIdeal.τ).loc Cert.MergeReferenceIdeal.main_v79) = v2 c
          ∧ r.2.mem ((c.tc : Thread Cert.MergeReferenceIdeal.nD Cert.MergeReferenceIdeal.τ).loc Cert.MergeReferenceIdeal.main_v52) = v3 c
          ∧ r.2.mem ((c.tc : Thread Cert.MergeReferenceIdeal.nD Cert.MergeReferenceIdeal.τ).loc Cert.MergeReferenceIdeal.main_v44) = v4 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_MlaKernel_MlaKernelIdeal : Prop :=
  IdealRules.named_const.Statement Cert.MlaKernelIdeal.κ "unit" .f32 0x3DD53B95#32 ((((Real.sqrt 192) * (Real.log 2))⁻¹ : ℝ) : EReal)

def algebraic_MlaKernelIdeal_MlaReferenceIdeal_pre_mla_finite [hMlaKernelIdeal : Cert.MlaKernelIdeal.Facts] [hMlaReferenceIdeal : Cert.MlaReferenceIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal_mla_finite m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)
      ∧ m' ((c.tc : Thread Cert.MlaReferenceIdeal.nD Cert.MlaReferenceIdeal.τ).loc Cert.MlaReferenceIdeal.main_arg4) = m ((c.tc : Thread Cert.MlaKernelIdeal.nD Cert.MlaKernelIdeal.τ).loc Cert.MlaKernelIdeal.main_arg4)
      ∧ m' ((c.tc : Thread Cert.MlaReferenceIdeal.nD Cert.MlaReferenceIdeal.τ).loc Cert.MlaReferenceIdeal.main_arg5) = m ((c.tc : Thread Cert.MlaKernelIdeal.nD Cert.MlaKernelIdeal.τ).loc Cert.MlaKernelIdeal.main_arg5)
      ∧ m' ((c.tc : Thread Cert.MlaReferenceIdeal.nD Cert.MlaReferenceIdeal.τ).loc Cert.MlaReferenceIdeal.main_arg6) = m ((c.tc : Thread Cert.MlaKernelIdeal.nD Cert.MlaKernelIdeal.τ).loc Cert.MlaKernelIdeal.main_arg6)
      ∧ m' ((c.tc : Thread Cert.MlaReferenceIdeal.nD Cert.MlaReferenceIdeal.τ).loc Cert.MlaReferenceIdeal.main_arg7) = m ((c.tc : Thread Cert.MlaKernelIdeal.nD Cert.MlaKernelIdeal.τ).loc Cert.MlaKernelIdeal.main_arg7)
      ∧ m' ((c.tc : Thread Cert.MlaReferenceIdeal.nD Cert.MlaReferenceIdeal.τ).loc Cert.MlaReferenceIdeal.main_arg8) = m ((c.tc : Thread Cert.MlaKernelIdeal.nD Cert.MlaKernelIdeal.τ).loc Cert.MlaKernelIdeal.main_arg8)) →
    ∃ (v0 : (c : Dev Cert.MlaKernelIdeal.nD) → Buf (Elt Ideal) ((c.tc : Thread Cert.MlaKernelIdeal.nD Cert.MlaKernelIdeal.τ).loc Cert.MlaKernelIdeal.main_v63_0)) (v1 : (c : Dev Cert.MlaKernelIdeal.nD) → Buf (Elt Ideal) ((c.tc : Thread Cert.MlaKernelIdeal.nD Cert.MlaKernelIdeal.τ).loc Cert.MlaKernelIdeal.main_v63_1)) (v2 : (c : Dev Cert.MlaKernelIdeal.nD) → Buf (Elt Ideal) ((c.tc : Thread Cert.MlaKernelIdeal.nD Cert.MlaKernelIdeal.τ).loc Cert.MlaKernelIdeal.main_v63_2)) (v3 : (c : Dev Cert.MlaKernelIdeal.nD) → Buf (Elt Ideal) ((c.tc : Thread Cert.MlaKernelIdeal.nD Cert.MlaKernelIdeal.τ).loc Cert.MlaKernelIdeal.main_v63_3)) (v4 : (c : Dev Cert.MlaKernelIdeal.nD) → Buf (Elt Ideal) ((c.tc : Thread Cert.MlaKernelIdeal.nD Cert.MlaKernelIdeal.τ).loc Cert.MlaKernelIdeal.main_v63_4)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v63_0) = v0 c
          ∧ r.2.mem ((c.tc : Thread Cert.MlaKernelIdeal.nD Cert.MlaKernelIdeal.τ).loc Cert.MlaKernelIdeal.main_v63_1) = v1 c
          ∧ r.2.mem ((c.tc : Thread Cert.MlaKernelIdeal.nD Cert.MlaKernelIdeal.τ).loc Cert.MlaKernelIdeal.main_v63_2) = v2 c
          ∧ r.2.mem ((c.tc : Thread Cert.MlaKernelIdeal.nD Cert.MlaKernelIdeal.τ).loc Cert.MlaKernelIdeal.main_v63_3) = v3 c
          ∧ r.2.mem ((c.tc : Thread Cert.MlaKernelIdeal.nD Cert.MlaKernelIdeal.τ).loc Cert.MlaKernelIdeal.main_v63_4) = v4 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
          ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
          ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
          ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
          ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v175) = v0 c
          ∧ r.2.mem ((c.tc : Thread Cert.MlaReferenceIdeal.nD Cert.MlaReferenceIdeal.τ).loc Cert.MlaReferenceIdeal.main_v177) = v1 c
          ∧ r.2.mem ((c.tc : Thread Cert.MlaReferenceIdeal.nD Cert.MlaReferenceIdeal.τ).loc Cert.MlaReferenceIdeal.main_v132) = v2 c
          ∧ r.2.mem ((c.tc : Thread Cert.MlaReferenceIdeal.nD Cert.MlaReferenceIdeal.τ).loc Cert.MlaReferenceIdeal.main_v178) = v3 c
          ∧ r.2.mem ((c.tc : Thread Cert.MlaReferenceIdeal.nD Cert.MlaReferenceIdeal.τ).loc Cert.MlaReferenceIdeal.main_v179) = v4 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5)
          ∧ r.2.mem ((c.tc : Thread Cert.MlaReferenceIdeal.nD Cert.MlaReferenceIdeal.τ).loc Cert.MlaReferenceIdeal.main_arg6) = m' ((c.tc : Thread Cert.MlaReferenceIdeal.nD Cert.MlaReferenceIdeal.τ).loc Cert.MlaReferenceIdeal.main_arg6)
          ∧ r.2.mem ((c.tc : Thread Cert.MlaReferenceIdeal.nD Cert.MlaReferenceIdeal.τ).loc Cert.MlaReferenceIdeal.main_arg7) = m' ((c.tc : Thread Cert.MlaReferenceIdeal.nD Cert.MlaReferenceIdeal.τ).loc Cert.MlaReferenceIdeal.main_arg7)
          ∧ r.2.mem ((c.tc : Thread Cert.MlaReferenceIdeal.nD Cert.MlaReferenceIdeal.τ).loc Cert.MlaReferenceIdeal.main_arg8) = m' ((c.tc : Thread Cert.MlaReferenceIdeal.nD Cert.MlaReferenceIdeal.τ).loc Cert.MlaReferenceIdeal.main_arg8))

def preserves_OutKernel_OutKernelIdeal : Prop :=
  IdealRules.named_const.Statement Cert.OutKernelIdeal.κ "gelu" .f32 0x3D372713#32 ((8943 / 200000 : ℝ) : EReal)

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v2_0)) (v1 : (c : Dev Cert.OutKernelIdeal.nD) → Buf (Elt Ideal) ((c.tc : Thread Cert.OutKernelIdeal.nD Cert.OutKernelIdeal.τ).loc Cert.OutKernelIdeal.main_v2_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2_0) = v0 c
          ∧ r.2.mem ((c.tc : Thread Cert.OutKernelIdeal.nD Cert.OutKernelIdeal.τ).loc Cert.OutKernelIdeal.main_v2_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v32) = v0 c
          ∧ r.2.mem ((c.tc : Thread Cert.OutReferenceIdeal.nD Cert.OutReferenceIdeal.τ).loc Cert.OutReferenceIdeal.main_v33) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v2_0)) (v1 : (c : Dev Cert.UpKernelIdeal.nD) → Buf (Elt Ideal) ((c.tc : Thread Cert.UpKernelIdeal.nD Cert.UpKernelIdeal.τ).loc Cert.UpKernelIdeal.main_v2_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v2_0) = v0 c
          ∧ r.2.mem ((c.tc : Thread Cert.UpKernelIdeal.nD Cert.UpKernelIdeal.τ).loc Cert.UpKernelIdeal.main_v2_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v13) = v0 c
          ∧ r.2.mem ((c.tc : Thread Cert.UpReferenceIdeal.nD Cert.UpReferenceIdeal.τ).loc Cert.UpReferenceIdeal.main_v14) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def Claim : Prop :=
  ∃ (hActKernel : Cert.ActKernel.Facts) (hActKernelIdeal : Cert.ActKernelIdeal.Facts) (hActReferenceIdeal : Cert.ActReferenceIdeal.Facts) (hFlashKernel : Cert.FlashKernel.Facts) (hFlashKernelIdeal : Cert.FlashKernelIdeal.Facts) (hFlashReferenceIdeal : Cert.FlashReferenceIdeal.Facts) (hInKernel : Cert.InKernel.Facts) (hInKernelIdeal : Cert.InKernelIdeal.Facts) (hInReferenceIdeal : Cert.InReferenceIdeal.Facts) (hLossKernel : Cert.LossKernel.Facts) (hLossKernelIdeal : Cert.LossKernelIdeal.Facts) (hLossReferenceIdeal : Cert.LossReferenceIdeal.Facts) (hInprojKernel : Cert.InprojKernel.Facts) (hInprojKernelIdeal : Cert.InprojKernelIdeal.Facts) (hInprojReferenceIdeal : Cert.InprojReferenceIdeal.Facts) (hMergeKernel : Cert.MergeKernel.Facts) (hMergeKernelIdeal : Cert.MergeKernelIdeal.Facts) (hMergeReferenceIdeal : Cert.MergeReferenceIdeal.Facts) (hMlaKernel : Cert.MlaKernel.Facts) (hMlaKernelIdeal : Cert.MlaKernelIdeal.Facts) (hMlaReferenceIdeal : Cert.MlaReferenceIdeal.Facts) (hOutKernel : Cert.OutKernel.Facts) (hOutKernelIdeal : Cert.OutKernelIdeal.Facts) (hOutReferenceIdeal : Cert.OutReferenceIdeal.Facts) (hUpKernel : Cert.UpKernel.Facts) (hUpKernelIdeal : Cert.UpKernelIdeal.Facts) (hUpReferenceIdeal : Cert.UpReferenceIdeal.Facts) (hPre_finite : Cert.Pre_finite.Facts) (hPre_in_finite : Cert.Pre_in_finite.Facts) (hPre_loss_finite : Cert.Pre_loss_finite.Facts) (hPre_inp_finite : Cert.Pre_inp_finite.Facts) (hPre_merge_finite : Cert.Pre_merge_finite.Facts) (hPre_mla_finite : Cert.Pre_mla_finite.Facts),
    quiescent_ActKernel (hActKernel := hActKernel)
    ∧ quiescent_ActKernelIdeal (hActKernelIdeal := hActKernelIdeal)
    ∧ quiescent_ActReferenceIdeal (hActReferenceIdeal := hActReferenceIdeal)
    ∧ quiescent_FlashKernel (hFlashKernel := hFlashKernel)
    ∧ quiescent_FlashKernelIdeal (hFlashKernelIdeal := hFlashKernelIdeal)
    ∧ quiescent_FlashKernelIdeal_pre_finite (hFlashKernelIdeal := hFlashKernelIdeal) (hPre_finite := hPre_finite)
    ∧ quiescent_FlashReferenceIdeal (hFlashReferenceIdeal := hFlashReferenceIdeal)
    ∧ quiescent_FlashReferenceIdeal_pre_finite (hFlashReferenceIdeal := hFlashReferenceIdeal) (hPre_finite := hPre_finite)
    ∧ quiescent_InKernel (hInKernel := hInKernel)
    ∧ quiescent_InKernelIdeal (hInKernelIdeal := hInKernelIdeal)
    ∧ quiescent_InKernelIdeal_pre_in_finite (hInKernelIdeal := hInKernelIdeal) (hPre_in_finite := hPre_in_finite)
    ∧ quiescent_InReferenceIdeal (hInReferenceIdeal := hInReferenceIdeal)
    ∧ quiescent_InReferenceIdeal_pre_in_finite (hInReferenceIdeal := hInReferenceIdeal) (hPre_in_finite := hPre_in_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_InprojKernel (hInprojKernel := hInprojKernel)
    ∧ quiescent_InprojKernelIdeal (hInprojKernelIdeal := hInprojKernelIdeal)
    ∧ quiescent_InprojKernelIdeal_pre_inp_finite (hInprojKernelIdeal := hInprojKernelIdeal) (hPre_inp_finite := hPre_inp_finite)
    ∧ quiescent_InprojReferenceIdeal (hInprojReferenceIdeal := hInprojReferenceIdeal)
    ∧ quiescent_InprojReferenceIdeal_pre_inp_finite (hInprojReferenceIdeal := hInprojReferenceIdeal) (hPre_inp_finite := hPre_inp_finite)
    ∧ quiescent_MergeKernel (hMergeKernel := hMergeKernel)
    ∧ quiescent_MergeKernelIdeal (hMergeKernelIdeal := hMergeKernelIdeal)
    ∧ quiescent_MergeKernelIdeal_pre_merge_finite (hMergeKernelIdeal := hMergeKernelIdeal) (hPre_merge_finite := hPre_merge_finite)
    ∧ quiescent_MergeReferenceIdeal (hMergeReferenceIdeal := hMergeReferenceIdeal)
    ∧ quiescent_MergeReferenceIdeal_pre_merge_finite (hMergeReferenceIdeal := hMergeReferenceIdeal) (hPre_merge_finite := hPre_merge_finite)
    ∧ quiescent_MlaKernel (hMlaKernel := hMlaKernel)
    ∧ quiescent_MlaKernelIdeal (hMlaKernelIdeal := hMlaKernelIdeal)
    ∧ quiescent_MlaKernelIdeal_pre_mla_finite (hMlaKernelIdeal := hMlaKernelIdeal) (hPre_mla_finite := hPre_mla_finite)
    ∧ quiescent_MlaReferenceIdeal (hMlaReferenceIdeal := hMlaReferenceIdeal)
    ∧ quiescent_MlaReferenceIdeal_pre_mla_finite (hMlaReferenceIdeal := hMlaReferenceIdeal) (hPre_mla_finite := hPre_mla_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ preserves_ActKernel_ActKernelIdeal
    ∧ algebraic_ActKernelIdeal_ActReferenceIdeal (hActKernelIdeal := hActKernelIdeal) (hActReferenceIdeal := hActReferenceIdeal)
    ∧ preserves_FlashKernel_FlashKernelIdeal
    ∧ algebraic_FlashKernelIdeal_FlashReferenceIdeal_pre_finite (hFlashKernelIdeal := hFlashKernelIdeal) (hFlashReferenceIdeal := hFlashReferenceIdeal) (hPre_finite := hPre_finite)
    ∧ preserves_InKernel_InKernelIdeal
    ∧ algebraic_InKernelIdeal_InReferenceIdeal_pre_in_finite (hInKernelIdeal := hInKernelIdeal) (hInReferenceIdeal := hInReferenceIdeal) (hPre_in_finite := hPre_in_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_InprojKernel_InprojKernelIdeal
    ∧ algebraic_InprojKernelIdeal_InprojReferenceIdeal_pre_inp_finite (hInprojKernelIdeal := hInprojKernelIdeal) (hInprojReferenceIdeal := hInprojReferenceIdeal) (hPre_inp_finite := hPre_inp_finite)
    ∧ preserves_MergeKernel_MergeKernelIdeal
    ∧ algebraic_MergeKernelIdeal_MergeReferenceIdeal_pre_merge_finite (hMergeKernelIdeal := hMergeKernelIdeal) (hMergeReferenceIdeal := hMergeReferenceIdeal) (hPre_merge_finite := hPre_merge_finite)
    ∧ preserves_MlaKernel_MlaKernelIdeal
    ∧ algebraic_MlaKernelIdeal_MlaReferenceIdeal_pre_mla_finite (hMlaKernelIdeal := hMlaKernelIdeal) (hMlaReferenceIdeal := hMlaReferenceIdeal) (hPre_mla_finite := hPre_mla_finite)
    ∧ preserves_OutKernel_OutKernelIdeal
    ∧ algebraic_OutKernelIdeal_OutReferenceIdeal (hOutKernelIdeal := hOutKernelIdeal) (hOutReferenceIdeal := hOutReferenceIdeal)
    ∧ preserves_UpKernel_UpKernelIdeal
    ∧ algebraic_UpKernelIdeal_UpReferenceIdeal (hUpKernelIdeal := hUpKernelIdeal) (hUpReferenceIdeal := hUpReferenceIdeal)
-- ==== Pre_finite.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S_ : Shape := ⟨0, ![]⟩

class Facts : Prop where
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x64 : S_.BroadcastsInDim S8192x64 (![] : Fin 0 → Fin S8192x64.rank)
  reducesTo_S8192x64_S_d0_1 : S8192x64.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x8x128 .f32) (main_arg5 : FVec F S8192x1024 .f32) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S8192x8x128 .f32 := Host.absf main_arg4
  let main_cst_6 : FVec F S_ .f32 := constant S_ .f32 0x7F800000#32
  let main_v20 : FVec F S8192x8x128 .f32 := broadcastInDim S8192x8x128 ![] bcast_S_S8192x8x128 main_cst_6
  let main_v21 : IVec S8192x8x128 1 := cmpf .olt main_v19 main_v20
  let main_c_7 : IVec S_ 1 := constantI S_ 1 1#1
  let main_v22 : IVec S_ 1 := (fun x v => Host.reduce IntOp.andi x v reducesTo_S8192x8x128_S_d0_1_2 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x8x128 .f32) (main_arg1 : FVec F S8192x8x64 .f32) (main_arg2 : FVec F S8192x8x128 .f32) (main_arg3 : FVec F S8192x64 .f32) (main_arg4 : FVec F S8192x8x128 .f32) (main_arg5 : FVec F S8192x1024 .f32) : IVec S_ 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_c : IVec S_ 1 := constantI S_ 1 1#1
  let main_v3 : IVec S_ 1 := (fun x v => Host.reduce IntOp.andi x v reducesTo_S8192x8x128_S_d0_1_2 h_S_) main_v2 main_c
  let main_v4 : FVec F S8192x8x64 .f32 := Host.absf main_arg1
  let main_cst_0 : FVec F S_ .f32 := constant S_ .f32 0x7F800000#32
  let main_v5 : FVec F S8192x8x64 .f32 := broadcastInDim S8192x8x64 ![] bcast_S_S8192x8x64 main_cst_0
  let main_v6 : IVec S8192x8x64 1 := cmpf .olt main_v4 main_v5
  let main_c_1 : IVec S_ 1 := constantI S_ 1 1#1
  let main_v7 : IVec S_ 1 := (fun x v => Host.reduce IntOp.andi x v reducesTo_S8192x8x64_S_d0_1_2 h_S_) main_v6 main_c_1
  let main_v8 : IVec S_ 1 := andi main_v3 main_v7
  let main_v9 : FVec F S8192x8x128 .f32 := Host.absf main_arg2
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  let main_c_3 : IVec S_ 1 := constantI S_ 1 1#1
  let main_v12 : IVec S_ 1 := (fun x v => Host.reduce IntOp.andi x v reducesTo_S8192x8x128_S_d0_1_2 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_arg4 main_arg5 main_v13 main_v16
-- ==== Pre_in_finite.lean ====
abbrev S8192x4096 : Shape := ⟨2, ![8192, 4096]⟩
abbrev S8192x1024 : Shape := ⟨2, ![8192, 1024]⟩
abbrev S1024x4096 : Shape := ⟨2, ![1024, 4096]⟩
abbrev S1024 : Shape := ⟨1, ![1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  main_v19

def fn {F : FTy → Type} [FloatOps F] (main_arg0 : FVec F S8192x4096 .bf16) (main_arg1 : FVec F S8192x1024 .f32) (main_arg2 : FVec F S8192x1024 .f32) (main_arg3 : FVec F S1024x4096 .f32) (main_arg4 : FVec F S1024 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x1024 .f32 := Host.absf main_arg2
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S1024x4096 .f32 := Host.absf main_arg3
  let main_cst_2 : FVec F S_ .f32 := constant S_ .f32 0x7F800000#32
  let main_v11 : FVec F S1024x4096 .f32 := broadcastInDim S1024x4096 ![] bcast_S_S1024x4096 main_cst_2
  let main_v12 : IVec S1024x4096 1 := cmpf .olt main_v10 main_v11
  let main_c_3 : IVec S_ 1 := constantI S_ 1 1#1
  let main_v13 : IVec S_ 1 := (fun x v => Host.reduce IntOp.andi x v reducesTo_S1024x4096_S_d0_1 h_S_) main_v12 main_c_3
  let main_v14 : IVec S_ 1 := andi main_v9 main_v13
  let main_v15 : FVec F S1024 .f32 := Host.absf main_arg4
  let main_cst_4 : FVec F S_ .f32 := constant S_ .f32 0x7F800000#32
  let main_v16 : FVec F S1024 .f32 := broadcastInDim S1024 ![] bcast_S_S1024 main_cst_4
  fn_part1 (F := F) main_v14 main_v15 main_v16
-- ==== Pre_inp_finite.lean ====
abbrev S8192x1024 : Shape := ⟨2, ![8192, 1024]⟩
abbrev S8192x3072 : Shape := ⟨2, ![8192, 3072]⟩
abbrev S8192x640 : Shape := ⟨2, ![8192, 640]⟩
abbrev S1024x4672 : Shape := ⟨2, ![1024, 4672]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  bcast_S_S8192x640 : S_.BroadcastsInDim S8192x640 (![] : Fin 0 → Fin S8192x640.rank)
  reducesTo_S8192x640_S_d0_1 : S8192x640.ReducesTo [0, 1] S_
  bcast_S_S1024x4672 : S_.BroadcastsInDim S1024x4672 (![] : Fin 0 → Fin S1024x4672.rank)
  reducesTo_S1024x4672_S_d0_1 : S1024x4672.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024x4672 .f32) (main_arg6 : FVec F S1024 .f32) (main_v15 : IVec S_ 1) (main_v17 : FVec F S8192x640 .f32) : IVec S_ 1 :=
  let main_cst_4 : FVec F S_ .f32 := constant S_ .f32 0x7F800000#32
  let main_v18 : FVec F S8192x640 .f32 := broadcastInDim S8192x640 ![] bcast_S_S8192x640 main_cst_4
  let main_v19 : IVec S8192x640 1 := cmpf .olt main_v17 main_v18
  let main_c_5 : IVec S_ 1 := constantI S_ 1 1#1
  let main_v20 : IVec S_ 1 := (fun x v => Host.reduce IntOp.andi x v reducesTo_S8192x640_S_d0_1 h_S_) main_v19 main_c_5
  let main_v21 : IVec S_ 1 := andi main_v15 main_v20
  let main_v22 : FVec F S1024x4672 .f32 := Host.absf main_arg5
  let main_cst_6 : FVec F S_ .f32 := constant S_ .f32 0x7F800000#32
  let main_v23 : FVec F S1024x4672 .f32 := broadcastInDim S1024x4672 ![] bcast_S_S1024x4672 main_cst_6
  let main_v24 : IVec S1024x4672 1 := cmpf .olt main_v22 main_v23
  let main_c_7 : IVec S_ 1 := constantI S_ 1 1#1
  let main_v25 : IVec S_ 1 := (fun x v => Host.reduce IntOp.andi x v reducesTo_S1024x4672_S_d0_1 h_S_) main_v24 main_c_7
  let main_v26 : IVec S_ 1 := andi main_v21 main_v25
  let main_v27 : FVec F S1024 .f32 := Host.absf main_arg6
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  let main_c_9 : IVec S_ 1 := constantI S_ 1 1#1
  let main_v30 : IVec S_ 1 := (fun x v => Host.reduce IntOp.andi x v reducesTo_S1024_S_d0 h_S_) main_v29 main_c_9
  let main_v31 : IVec S_ 1 := andi main_v26 main_v30
  main_v31

def fn {F : FTy → Type} [FloatOps F] (main_arg0 : FVec F S8192x1024 .f32) (main_arg1 : FVec F S8192x1024 .f32) (main_arg2 : FVec F S8192x1024 .bf16) (main_arg3 : FVec F S8192x3072 .bf16) (main_arg4 : FVec F S8192x640 .bf16) (main_arg5 : FVec F S1024x4672 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := (extf .f32 · bitsLt_bf16_f32) main_arg2
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  let main_v10 : FVec F S8192x3072 .f32 := (extf .f32 · bitsLt_bf16_f32) main_arg3
  let main_v11 : FVec F S8192x3072 .f32 := Host.absf main_v10
  let main_cst_2 : FVec F S_ .f32 := constant S_ .f32 0x7F800000#32
  let main_v12 : FVec F S8192x3072 .f32 := broadcastInDim S8192x3072 ![] bcast_S_S8192x3072 main_cst_2
  let main_v13 : IVec S8192x3072 1 := cmpf .olt main_v11 main_v12
  let main_c_3 : IVec S_ 1 := constantI S_ 1 1#1
  let main_v14 : IVec S_ 1 := (fun x v => Host.reduce IntOp.andi x v reducesTo_S8192x3072_S_d0_1 h_S_) main_v13 main_c_3
  let main_v15 : IVec S_ 1 := andi main_v9 main_v14
  let main_v16 : FVec F S8192x640 .f32 := (extf .f32 · bitsLt_bf16_f32) main_arg4
  let main_v17 : FVec F S8192x640 .f32 := Host.absf main_v16
  fn_part1 (F := F) main_arg5 main_arg6 main_v15 main_v17
-- ==== Pre_loss_finite.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x4096 .f32) (main_arg1 : FVec F S8192x1024 .f32) (main_arg2 : FVec F S8192x1024 .f32) (main_arg3 : FVec F S4096x1024 .f32) (main_arg4 : FVec F S1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_merge_finite.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S8192x1024 .f32) (main_arg3 : FVec F S8192x1024 .f32) (main_arg4 : FVec F S8192x1024 .f32) (main_arg5 : FVec F S8192x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg5
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_mla_finite.lean ====
abbrev S8x16x256x512 : Shape := ⟨4, ![8, 16, 256, 512]⟩
abbrev S8x8192x256 : Shape := ⟨3, ![8, 8192, 256]⟩
abbrev S8x8192x128 : Shape := ⟨3, ![8, 8192, 128]⟩
abbrev S8192x256 : Shape := ⟨2, ![8192, 256]⟩
abbrev S256 : Shape := ⟨1, ![256]⟩
abbrev S256x1536 : Shape := ⟨2, ![256, 1536]⟩
abbrev S256x2048 : Shape := ⟨2, ![256, 2048]⟩
abbrev S_ : Shape := ⟨0, ![]⟩

class Facts : Prop where
  bcast_S_S8x16x256x512 : S_.BroadcastsInDim S8x16x256x512 (![] : Fin 0 → Fin S8x16x256x512.rank)
  reducesTo_S8x16x256x512_S_d0_1_2_3 : S8x16x256x512.ReducesTo [0, 1, 2, 3] S_
  h_S_ : 0 < S_.numel
  bcast_S_S8x8192x256 : S_.BroadcastsInDim S8x8192x256 (![] : Fin 0 → Fin S8x8192x256.rank)
  reducesTo_S8x8192x256_S_d0_1_2 : S8x8192x256.ReducesTo [0, 1, 2] S_
  bcast_S_S8x8192x128 : S_.BroadcastsInDim S8x8192x128 (![] : Fin 0 → Fin S8x8192x128.rank)
  reducesTo_S8x8192x128_S_d0_1_2 : S8x8192x128.ReducesTo [0, 1, 2] S_
  bcast_S_S8192x256 : S_.BroadcastsInDim S8192x256 (![] : Fin 0 → Fin S8192x256.rank)
  reducesTo_S8192x256_S_d0_1 : S8192x256.ReducesTo [0, 1] S_
  bcast_S_S256 : S_.BroadcastsInDim S256 (![] : Fin 0 → Fin S256.rank)
  reducesTo_S256_S_d0 : S256.ReducesTo [0] S_
  bcast_S_S256x1536 : S_.BroadcastsInDim S256x1536 (![] : Fin 0 → Fin S256x1536.rank)
  reducesTo_S256x1536_S_d0_1 : S256x1536.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn_part2 {F : FTy → Type} [FloatOps F] (main_arg7 : FVec F S256 .f32) (main_arg8 : FVec F S256x2048 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x2048 .f32 := Host.absf main_arg8
  let main_cst_14 : FVec F S_ .f32 := constant S_ .f32 0x7F800000#32
  let main_v40 : FVec F S256x2048 .f32 := broadcastInDim S256x2048 ![] bcast_S_S256x2048 main_cst_14
  let main_v41 : IVec S256x2048 1 := cmpf .olt main_v39 main_v40
  let main_c_15 : IVec S_ 1 := constantI S_ 1 1#1
  let main_v42 : IVec S_ 1 := (fun x v => Host.reduce IntOp.andi x v reducesTo_S256x2048_S_d0_1 h_S_) main_v41 main_c_15
  let main_v43 : IVec S_ 1 := andi main_v38 main_v42
  main_v43

def fn_part1 {F : FTy → Type} [FloatOps F] (main_arg4 : FVec F S8192x256 .f32) (main_arg5 : FVec F S256 .f32) (main_arg6 : FVec F S256x1536 .f32) (main_arg7 : FVec F S256 .f32) (main_arg8 : FVec F S256x2048 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1536 .f32 := Host.absf main_arg6
  let main_cst_10 : FVec F S_ .f32 := constant S_ .f32 0x7F800000#32
  let main_v30 : FVec F S256x1536 .f32 := broadcastInDim S256x1536 ![] bcast_S_S256x1536 main_cst_10
  let main_v31 : IVec S256x1536 1 := cmpf .olt main_v29 main_v30
  let main_c_11 : IVec S_ 1 := constantI S_ 1 1#1
  let main_v32 : IVec S_ 1 := (fun x v => Host.reduce IntOp.andi x v reducesTo_S256x1536_S_d0_1 h_S_) main_v31 main_c_11
  let main_v33 : IVec S_ 1 := andi main_v28 main_v32
  fn_part2 (F := F) main_arg7 main_arg8 main_v33

def fn {F : FTy → Type} [FloatOps F] (main_arg0 : FVec F S8x16x256x512 .f32) (main_arg1 : FVec F S8x8192x256 .f32) (main_arg2 : FVec F S8x8192x128 .f32) (main_arg3 : FVec F S8192x256 .f32) (main_arg4 : FVec F S8192x256 .f32) (main_arg5 : FVec F S256 .f32) (main_arg6 : FVec F S256x1536 .f32) (main_arg7 : FVec F S256 .f32) (main_arg8 : FVec F S256x2048 .f32) : IVec S_ 1 :=
  let main_v0 : FVec F S8x16x256x512 .f32 := Host.absf main_arg0
  let main_cst : FVec F S_ .f32 := constant S_ .f32 0x7F800000#32
  let main_v1 : FVec F S8x16x256x512 .f32 := broadcastInDim S8x16x256x512 ![] bcast_S_S8x16x256x512 main_cst
  let main_v2 : IVec S8x16x256x512 1 := cmpf .olt main_v0 main_v1
  let main_c : IVec S_ 1 := constantI S_ 1 1#1
  let main_v3 : IVec S_ 1 := (fun x v => Host.reduce IntOp.andi x v reducesTo_S8x16x256x512_S_d0_1_2_3 h_S_) main_v2 main_c
  let main_v4 : FVec F S8x8192x256 .f32 := Host.absf main_arg1
  let main_cst_0 : FVec F S_ .f32 := constant S_ .f32 0x7F800000#32
  let main_v5 : FVec F S8x8192x256 .f32 := broadcastInDim S8x8192x256 ![] bcast_S_S8x8192x256 main_cst_0
  let main_v6 : IVec S8x8192x256 1 := cmpf .olt main_v4 main_v5
  let main_c_1 : IVec S_ 1 := constantI S_ 1 1#1
  let main_v7 : IVec S_ 1 := (fun x v => Host.reduce IntOp.andi x v reducesTo_S8x8192x256_S_d0_1_2 h_S_) main_v6 main_c_1
  let main_v8 : IVec S_ 1 := andi main_v3 main_v7
  let main_v9 : FVec F S8x8192x128 .f32 := Host.absf main_arg2
  let main_cst_2 : FVec F S_ .f32 := constant S_ .f32 0x7F800000#32
  let main_v10 : FVec F S8x8192x128 .f32 := broadcastInDim S8x8192x128 ![] bcast_S_S8x8192x128 main_cst_2
  let main_v11 : IVec S8x8192x128 1 := cmpf .olt main_v9 main_v10
  let main_c_3 : IVec S_ 1 := constantI S_ 1 1#1
  let main_v12 : IVec S_ 1 := (fun x v => Host.reduce IntOp.andi x v reducesTo_S8x8192x128_S_d0_1_2 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_arg6 main_arg7 main_arg8 main_v13 main_v16
-- ==== ActKernel.lean ====
abbrev S8192x1024 : Shape := ⟨2, ![8192, 1024]⟩
abbrev S8192x4096 : Shape := ⟨2, ![8192, 4096]⟩
abbrev S4096x1024 : Shape := ⟨2, ![4096, 1024]⟩
abbrev S512x1024 : Shape := ⟨2, ![512, 1024]⟩
abbrev S512x4096 : Shape := ⟨2, ![512, 4096]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S4096x1024, .bf16⟩
  | .hbm, ⟨4, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActReferenceIdeal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== FlashKernel.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S_ : Shape := ⟨0, ![]⟩
abbrev S8192x8x256 : Shape := ⟨3, ![8192, 8, 256]⟩
abbrev S8x8192x256 : Shape := ⟨3, ![8, 8192, 256]⟩
abbrev S8192x1x64 : Shape := ⟨3, ![8192, 1, 64]⟩
abbrev S8x8192x128 : Shape := ⟨3, ![8, 8192, 128]⟩
abbrev S8192 : Shape := ⟨1, ![8192]⟩
abbrev S8x8192x8192 : Shape := ⟨3, ![8, 8192, 8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x16x1x512 : Shape := ⟨4, ![8, 16, 1, 512]⟩
abbrev S8x16x8x512 : Shape := ⟨4, ![8, 16, 8, 512]⟩
abbrev S8x16x256x512 : Shape := ⟨4, ![8, 16, 256, 512]⟩
abbrev S1x8192x256 : Shape := ⟨3, ![1, 8192, 256]⟩
abbrev S1x512x256 : Shape := ⟨3, ![1, 512, 256]⟩
abbrev S1x512x128 : Shape := ⟨3, ![1, 512, 128]⟩
abbrev S8192x128 : Shape := ⟨2, ![8192, 128]⟩
abbrev S1x16x8x512 : Shape := ⟨4, ![1, 16, 8, 512]⟩
abbrev S1x16x256x512 : Shape := ⟨4, ![1, 16, 256, 512]⟩
abbrev S512x256 : Shape := ⟨2, ![512, 256]⟩
abbrev S512x128 : Shape := ⟨2, ![512, 128]⟩
abbrev S256x512 : Shape := ⟨2, ![256, 512]⟩
abbrev S512x512 : Shape := ⟨2, ![512, 512]⟩
abbrev S1x1x1x512 : Shape := ⟨4, ![1, 1, 1, 512]⟩
abbrev S1x512 : Shape := ⟨2, ![1, 512]⟩
abbrev S1x1x256x512 : Shape := ⟨4, ![1, 1, 256, 512]⟩

abbrev nBuf : Space → Nat
  | .hbm => 75
  | .vmem => 18
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x1024, .f32⟩
  | .hbm, ⟨6, _⟩ => ⟨S_, .f32⟩
  | .hbm, ⟨7, _⟩ => ⟨S_, .f32⟩
  | .hbm, ⟨8, _⟩ => ⟨S8192x8x256, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x8x256, .f32⟩
  | .hbm, ⟨16, _⟩ => ⟨S8192x8x256, .f32⟩
  | .hbm, ⟨17, _⟩ => ⟨S8x8192x256, .f32⟩
  | .hbm, ⟨18, _⟩ => ⟨S8192x1x64, .f32⟩
  | .hbm, ⟨19, _⟩ => ⟨S8192x8x64, .f32⟩
  | .hbm, ⟨20, _⟩ => ⟨S_, .f32⟩
  | .hbm, ⟨21, _⟩ => ⟨S8192x8x64, .f32⟩
  | .hbm, ⟨22, _⟩ => ⟨S8192x8x256, .f32⟩
  | .hbm, ⟨23, _⟩ => ⟨S8x8192x256, .f32⟩
  | .hbm, ⟨24, _⟩ => ⟨S8x8192x128, .f32⟩
  | .hbm, ⟨25, _⟩ => ⟨S8192x1024, .bf16⟩
  | .hbm, ⟨26, _⟩ => ⟨S8192, .i32⟩
  | .hbm, ⟨27, _⟩ => ⟨S8x8192x8192, .f32⟩
  | .hbm, ⟨28, _⟩ => ⟨S8192x1, .i32⟩
  | .hbm, ⟨29, _⟩ => ⟨S1x8192, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S1x8192x8192, .i1⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192, .f32⟩
  | .hbm, ⟨50, _⟩ => ⟨S8x8192x1, .f32⟩
  | .hbm, ⟨51, _⟩ => ⟨S8x8192x128, .f32⟩
  | .hbm, ⟨52, _⟩ => ⟨S8x8192x128, .f32⟩
  | .hbm, ⟨53, _⟩ => ⟨S8x8192x128, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S8x8192x1, .f32⟩
  | .hbm, ⟨59, _⟩ => ⟨S8x8192, .f32⟩
  | .hbm, ⟨60, _⟩ => ⟨S8192x8x128, .f32⟩
  | .hbm, ⟨61, _⟩ => ⟨S8x8192x128, .f32⟩
  | .hbm, ⟨62, _⟩ => ⟨S8x8192x128, .f32⟩
  | .hbm, ⟨63, _⟩ => ⟨S_, .f32⟩
  | .hbm, ⟨64, _⟩ => ⟨S8x8192, .f32⟩
  | .hbm, ⟨65, _⟩ => ⟨S8x8192x256, .bf16⟩
  | .hbm, ⟨66, _⟩ => ⟨S8x8192x256, .bf16⟩
  | .hbm, ⟨67, _⟩ => ⟨S8x8192x128, .bf16⟩
  | .hbm, ⟨68, _⟩ => ⟨S8x16x1x512, .f32⟩
  | .hbm, ⟨69, _⟩ => ⟨S8x16x8x512, .f32⟩
  | .hbm, ⟨70, _⟩ => ⟨S8x16x1x512, .f32⟩
  | .hbm, ⟨71, _⟩ => ⟨S8x16x8x512, .f32⟩
  | .hbm, ⟨72, _⟩ => ⟨S8x16x256x512, .f32⟩
  | .hbm, ⟨73, _⟩ => ⟨S8x8192x256, .f32⟩
  | .hbm, ⟨74, _⟩ => ⟨S8x8192x128, .f32⟩
  | .local _ .vmem, ⟨0, _⟩ => ⟨S1x8192x256, .bf16⟩
  | .local _ .vmem, ⟨1, _⟩ => ⟨S1x8192x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S8192x128, .bf16⟩
  | .local _ .vmem, ⟨7, _⟩ => ⟨S8192x128, .bf16⟩
  | .local _ .vmem, ⟨8, _⟩ => ⟨S1x16x8x512, .f32⟩
  | .local _ .vmem, ⟨9, _⟩ => ⟨S1x16x8x512, .f32⟩
  | .local _ .vmem, ⟨10, _⟩ => ⟨S1x16x8x512, .f32⟩
  | .local _ .vmem, ⟨11, _⟩ => ⟨S1x16x8x512, .f32⟩
  | .local _ .vmem, ⟨12, _⟩ => ⟨S1x16x256x512, .f32⟩
  | .local _ .vmem, ⟨13, _⟩ => ⟨S1x16x256x512, .f32⟩
  | .local _ .vmem, ⟨14, _⟩ => ⟨S1x512x256, .f32⟩
  | .local _ .vmem, ⟨15, _⟩ => ⟨S1x512x256, .f32⟩
  | .local _ .vmem, ⟨16, _⟩ => ⟨S1x512x128, .f32⟩
  | .local _ .vmem, ⟨17, _⟩ => ⟨S1x512x128, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55_0 : Ref sig .tc := ⟨.hbm, 72, rfl⟩
abbrev main_v55_1 : Ref sig .tc := ⟨.hbm, 73, rfl⟩
abbrev main_v55_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v8 : BitVec 32 := Scalar.muli arg1 c512_i32
  v8
def k0_off1 (i : grid0.Coords) : Fin 3 → Nat :=
  let c0_6 : Index := 0#32
  let arg1 : BitVec 32 := BitVec.ofNat 32 (i 1).val
  let c512_i32 : BitVec 32 := 512#32
  let v8 : BitVec 32 := Scalar.muli arg1 c512_i32
  let v9 : BitVec 32 := v8
  let v10 : Index := Scalar.indexCast v9
  let c0_7 : Index := 0#32
  ![0, v10.toNat, 0]
def k0_off2 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v13 : Index := Scalar.indexCast v9
  let c0_8 : Index := 0#32
  ![v13.toNat, 0]
def k0_off3 (i : grid0.Coords) : Fin 4 → Nat :=
  let c0_9 : Index := 0#32
  let arg1 : BitVec 32 := BitVec.ofNat 32 (i 1).val
  let v17 : Index := Scalar.indexCast arg1
  let c0_10 : Index := 0#32
  let c0_11 : Index := 0#32
  ![0, v17.toNat, 0, 0]
def k0_off4 (i : grid0.Coords) : Fin 4 → Nat :=
  let c0_26 : Index := 0#32
  let arg1 : BitVec 32 := BitVec.ofNat 32 (i 1).val
  let v47 : Index := Scalar.indexCast arg1
  let c0_27 : Index := 0#32
  let c0_28 : Index := 0#32
  ![0, v47.toNat, 0, 0]
@[reducible] def k0_t1_loop (i : grid0.Coords) : Scf.Loop 32 :=
  let c0_i32_39 : BitVec 32 := 0#32
  let c15_i32 : BitVec 32 := 15#32
  let arg1 : BitVec 32 := BitVec.ofNat 32 (i 1).val
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_39
  let c1_i32_40 : BitVec 32 := 1#32
  let v76 : BitVec 32 := Scalar.divsi v74 c1_i32_40
  let v77 : BitVec 32 := Scalar.muli v76 c1_i32_40
  let v78 : BitVec 32 := Scalar.addi c0_i32_39 v77
  let c1_i32_41 : BitVec 32 := 1#32
  ⟨c0_i32_39, v78, c1_i32_41⟩
def k0_mult2 (i : grid0.Coords) (k0_t1 : Fin (k0_t1_loop i).trips) : BitVec 32 :=
  let arg1 : BitVec 32 := BitVec.ofNat 32 (i 1).val
  let c1_i32_49 : BitVec 32 := 1#32
  let v87 : BitVec 32 := Scalar.addi arg1 c1_i32_49
  let c2_i32_50 : BitVec 32 := 2#32
  let c0_i32_39 : BitVec 32 := 0#32
  let c1_i32_41 : BitVec 32 := 1#32
  let arg11 : BitVec 32 := Scf.iv c0_i32_39 c1_i32_41 k0_t1
  let v88 : BitVec 32 := Scalar.muli c2_i32_50 arg11
  let v89 : BitVec 32 := Scalar.addi v87 v88
  let c512_i32_51 : BitVec 32 := 512#32
  let v90 : BitVec 32 := Scalar.muli v89 c512_i32_51
  v90
def k0_off5 (i : grid0.Coords) (k0_t1 : Fin (k0_t1_loop i).trips) (c1_i32_49 : BitVec 32) : Fin 3 → Nat :=
  let c0_52 : Index := 0#32
  let arg1 : BitVec 32 := BitVec.ofNat 32 (i 1).val
  let v87 : BitVec 32 := Scalar.addi arg1 c1_i32_49
  let c2_i32_50 : BitVec 32 := 2#32
  let c0_i32_39 : BitVec 32 := 0#32
  let c1_i32_41 : BitVec 32 := 1#32
  let arg11 : BitVec 32 := Scf.iv c0_i32_39 c1_i32_41 k0_t1
  let v88 : BitVec 32 := Scalar.muli c2_i32_50 arg11
  let v89 : BitVec 32 := Scalar.addi v87 v88
  let c512_i32_51 : BitVec 32 := 512#32
  let v90 : BitVec 32 := Scalar.muli v89 c512_i32_51
  let v91 : BitVec 32 := v90
  let v92 : Index := Scalar.indexCast v91
  let c0_53 : Index := 0#32
  ![0, v92.toNat, 0]
def k0_off6 (i : grid0.Coords) (k0_t1 : Fin (k0_t1_loop i).trips) (c1_i32_49 : BitVec 32) : Fin 2 → Nat :=
  let arg1 : BitVec 32 := BitVec.ofNat 32 (i 1).val
  let v87 : BitVec 32 := Scalar.addi arg1 c1_i32_49
  let c2_i32_50 : BitVec 32 := 2#32
  let c0_i32_39 : BitVec 32 := 0#32
  let c1_i32_41 : BitVec 32 := 1#32
  let arg11 : BitVec 32 := Scf.iv c0_i32_39 c1_i32_41 k0_t1
  let v88 : BitVec 32 := Scalar.muli c2_i32_50 arg11
  let v89 : BitVec 32 := Scalar.addi v87 v88
  let c512_i32_51 : BitVec 32 := 512#32
  let v90 : BitVec 32 := Scalar.muli v89 c512_i32_51
  let v91 : BitVec 32 := v90
  let v95 : Index := Scalar.indexCast v91
  let c0_54 : Index := 0#32
  ![v95.toNat, 0]
def k0_off7 (i : grid0.Coords) (k0_t1 : Fin (k0_t1_loop i).trips) (c1_i32_49 : BitVec 32) : Fin 4 → Nat :=
  let c0_56 : Index := 0#32
  let arg1 : BitVec 32 := BitVec.ofNat 32 (i 1).val
  let v87 : BitVec 32 := Scalar.addi arg1 c1_i32_49
  let c2_i32_50 : BitVec 32 := 2#32
  let c0_i32_39 : BitVec 32 := 0#32
  let c1_i32_41 : BitVec 32 := 1#32
  let arg11 : BitVec 32 := Scf.iv c0_i32_39 c1_i32_41 k0_t1
  let v88 : BitVec 32 := Scalar.muli c2_i32_50 arg11
  let v89 : BitVec 32 := Scalar.addi v87 v88
  let v99 : Index := Scalar.indexCast v89
  let c0_57 : Index := 0#32
  let c0_58 : Index := 0#32
  ![0, v99.toNat, 0, 0]
def k0_off8 (i : grid0.Coords) (k0_t1 : Fin (k0_t1_loop i).trips) (c1_i32_49 : BitVec 32) : Fin 4 → Nat :=
  let c0_78 : Index := 0#32
  let arg1 : BitVec 32 := BitVec.ofNat 32 (i 1).val
  let v87 : BitVec 32 := Scalar.addi arg1 c1_i32_49
  let c2_i32_50 : BitVec 32 := 2#32
  let c0_i32_39 : BitVec 32 := 0#32
  let c1_i32_41 : BitVec 32 := 1#32
  let arg11 : BitVec 32 := Scf.iv c0_i32_39 c1_i32_41 k0_t1
  let v88 : BitVec 32 := Scalar.muli c2_i32_50 arg11
  let v89 : BitVec 32 := Scalar.addi v87 v88
  let v130 : Index := Scalar.indexCast v89
  let c0_79 : Index := 0#32
  let c0_80 : Index := 0#32
  ![0, v130.toNat, 0, 0]
def k0_mult3 (i : grid0.Coords) (k0_t1 : Fin (k0_t1_loop i).trips) : BitVec 32 :=
  let arg1 : BitVec 32 := BitVec.ofNat 32 (i 1).val
  let c2_i32_85 : BitVec 32 := 2#32
  let v139 : BitVec 32 := Scalar.addi arg1 c2_i32_85
  let c2_i32_86 : BitVec 32 := 2#32
  let c0_i32_39 : BitVec 32 := 0#32
  let c1_i32_41 : BitVec 32 := 1#32
  let arg11 : BitVec 32 := Scf.iv c0_i32_39 c1_i32_41 k0_t1
  let v140 : BitVec 32 := Scalar.muli c2_i32_86 arg11
  let v141 : BitVec 32 := Scalar.addi v139 v140
  let c512_i32_87 : BitVec 32 := 512#32
  let v142 : BitVec 32 := Scalar.muli v141 c512_i32_87
  v142
@[reducible] def k0_t2_loop (i : grid0.Coords) : Scf.Loop 32 :=
  let c0_i32_39 : BitVec 32 := 0#32
  let c15_i32 : BitVec 32 := 15#32
  let arg1 : BitVec 32 := BitVec.ofNat 32 (i 1).val
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_39
  let c1_i32_40 : BitVec 32 := 1#32
  let v76 : BitVec 32 := Scalar.divsi v74 c1_i32_40
  let v77 : BitVec 32 := Scalar.muli v76 c1_i32_40
  let v78 : BitVec 32 := Scalar.addi c0_i32_39 v77
  let v75 : BitVec 32 := Scalar.addi c0_i32_39 v74
  let c1_i32_42 : BitVec 32 := 1#32
  ⟨v78, v75, c1_i32_42⟩
def k0_mult4 (i : grid0.Coords) (k0_t2 : Fin (k0_t2_loop i).trips) : BitVec 32 :=
  let arg1 : BitVec 32 := BitVec.ofNat 32 (i 1).val
  let c1_i32_49 : BitVec 32 := 1#32
  let v87 : BitVec 32 := Scalar.addi arg1 c1_i32_49
  let c2_i32_50 : BitVec 32 := 2#32
  let c0_i32_39 : BitVec 32 := 0#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_39
  let c1_i32_40 : BitVec 32 := 1#32
  let v76 : BitVec 32 := Scalar.divsi v74 c1_i32_40
  let v77 : BitVec 32 := Scalar.muli v76 c1_i32_40
  let v78 : BitVec 32 := Scalar.addi c0_i32_39 v77
  let c1_i32_42 : BitVec 32 := 1#32
  let arg11 : BitVec 32 := Scf.iv v78 c1_i32_42 k0_t2
  let v88 : BitVec 32 := Scalar.muli c2_i32_50 arg11
  let v89 : BitVec 32 := Scalar.addi v87 v88
  let c512_i32_51 : BitVec 32 := 512#32
  let v90 : BitVec 32 := Scalar.muli v89 c512_i32_51
  v90
def k0_off9 (i : grid0.Coords) (k0_t2 : Fin (k0_t2_loop i).trips) (c1_i32_49 : BitVec 32) : Fin 3 → Nat :=
  let c0_52 : Index := 0#32
  let arg1 : BitVec 32 := BitVec.ofNat 32 (i 1).val
  let v87 : BitVec 32 := Scalar.addi arg1 c1_i32_49
  let c2_i32_50 : BitVec 32 := 2#32
  let c0_i32_39 : BitVec 32 := 0#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_39
  let c1_i32_40 : BitVec 32 := 1#32
  let v76 : BitVec 32 := Scalar.divsi v74 c1_i32_40
  let v77 : BitVec 32 := Scalar.muli v76 c1_i32_40
  let v78 : BitVec 32 := Scalar.addi c0_i32_39 v77
  let c1_i32_42 : BitVec 32 := 1#32
  let arg11 : BitVec 32 := Scf.iv v78 c1_i32_42 k0_t2
  let v88 : BitVec 32 := Scalar.muli c2_i32_50 arg11
  let v89 : BitVec 32 := Scalar.addi v87 v88
  let c512_i32_51 : BitVec 32 := 512#32
  let v90 : BitVec 32 := Scalar.muli v89 c512_i32_51
  let v91 : BitVec 32 := v90
  let v92 : Index := Scalar.indexCast v91
  let c0_53 : Index := 0#32
  ![0, v92.toNat, 0]
def k0_off10 (i : grid0.Coords) (k0_t2 : Fin (k0_t2_loop i).trips) (c1_i32_49 : BitVec 32) : Fin 2 → Nat :=
  let arg1 : BitVec 32 := BitVec.ofNat 32 (i 1).val
  let v87 : BitVec 32 := Scalar.addi arg1 c1_i32_49
  let c2_i32_50 : BitVec 32 := 2#32
  let c0_i32_39 : BitVec 32 := 0#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_39
  let c1_i32_40 : BitVec 32 := 1#32
  let v76 : BitVec 32 := Scalar.divsi v74 c1_i32_40
  let v77 : BitVec 32 := Scalar.muli v76 c1_i32_40
  let v78 : BitVec 32 := Scalar.addi c0_i32_39 v77
  let c1_i32_42 : BitVec 32 := 1#32
  let arg11 : BitVec 32 := Scf.iv v78 c1_i32_42 k0_t2
  let v88 : BitVec 32 := Scalar.muli c2_i32_50 arg11
  let v89 : BitVec 32 := Scalar.addi v87 v88
  let c512_i32_51 : BitVec 32 := 512#32
  let v90 : BitVec 32 := Scalar.muli v89 c512_i32_51
  let v91 : BitVec 32 := v90
  let v95 : Index := Scalar.indexCast v91
  let c0_54 : Index := 0#32
  ![v95.toNat, 0]
def k0_off11 (i : grid0.Coords) (k0_t2 : Fin (k0_t2_loop i).trips) (c1_i32_49 : BitVec 32) : Fin 4 → Nat :=
  let c0_56 : Index := 0#32
  let arg1 : BitVec 32 := BitVec.ofNat 32 (i 1).val
  let v87 : BitVec 32 := Scalar.addi arg1 c1_i32_49
  let c2_i32_50 : BitVec 32 := 2#32
  let c0_i32_39 : BitVec 32 := 0#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_39
  let c1_i32_40 : BitVec 32 := 1#32
  let v76 : BitVec 32 := Scalar.divsi v74 c1_i32_40
  let v77 : BitVec 32 := Scalar.muli v76 c1_i32_40
  let v78 : BitVec 32 := Scalar.addi c0_i32_39 v77
  let c1_i32_42 : BitVec 32 := 1#32
  let arg11 : BitVec 32 := Scf.iv v78 c1_i32_42 k0_t2
  let v88 : BitVec 32 := Scalar.muli c2_i32_50 arg11
  let v89 : BitVec 32 := Scalar.addi v87 v88
  let v99 : Index := Scalar.indexCast v89
  let c0_57 : Index := 0#32
  let c0_58 : Index := 0#32
  ![0, v99.toNat, 0, 0]
def k0_off12 (i : grid0.Coords) (k0_t2 : Fin (k0_t2_loop i).trips) (c1_i32_49 : BitVec 32) : Fin 4 → Nat :=
  let c0_78 : Index := 0#32
  let arg1 : BitVec 32 := BitVec.ofNat 32 (i 1).val
  let v87 : BitVec 32 := Scalar.addi arg1 c1_i32_49
  let c2_i32_50 : BitVec 32 := 2#32
  let c0_i32_39 : BitVec 32 := 0#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_39
  let c1_i32_40 : BitVec 32 := 1#32
  let v76 : BitVec 32 := Scalar.divsi v74 c1_i32_40
  let v77 : BitVec 32 := Scalar.muli v76 c1_i32_40
  let v78 : BitVec 32 := Scalar.addi c0_i32_39 v77
  let c1_i32_42 : BitVec 32 := 1#32
  let arg11 : BitVec 32 := Scf.iv v78 c1_i32_42 k0_t2
  let v88 : BitVec 32 := Scalar.muli c2_i32_50 arg11
  let v89 : BitVec 32 := Scalar.addi v87 v88
  let v130 : Index := Scalar.indexCast v89
  let c0_79 : Index := 0#32
  let c0_80 : Index := 0#32
  ![0, v130.toNat, 0, 0]
def k0_mult5 (i : grid0.Coords) (k0_t2 : Fin (k0_t2_loop i).trips) : BitVec 32 :=
  let arg1 : BitVec 32 := BitVec.ofNat 32 (i 1).val
  let c2_i32_85 : BitVec 32 := 2#32
  let v139 : BitVec 32 := Scalar.addi arg1 c2_i32_85
  let c2_i32_86 : BitVec 32 := 2#32
  let c0_i32_39 : BitVec 32 := 0#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_39
  let c1_i32_40 : BitVec 32 := 1#32
  let v76 : BitVec 32 := Scalar.divsi v74 c1_i32_40
  let v77 : BitVec 32 := Scalar.muli v76 c1_i32_40
  let v78 : BitVec 32 := Scalar.addi c0_i32_39 v77
  let c1_i32_42 : BitVec 32 := 1#32
  let arg11 : BitVec 32 := Scf.iv v78 c1_i32_42 k0_t2
  let v140 : BitVec 32 := Scalar.muli c2_i32_86 arg11
  let v141 : BitVec 32 := Scalar.addi v139 v140
  let c512_i32_87 : BitVec 32 := 512#32
  let v142 : BitVec 32 := Scalar.muli v141 c512_i32_87
  v142
@[reducible] def k0_t3_loop (i : grid0.Coords) : Scf.Loop 32 :=
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c16_i32 : BitVec 32 := 16#32
  let v82 : BitVec 32 := Scalar.subi c16_i32 v81
  let c1_i32_46 : BitVec 32 := 1#32
  let v84 : BitVec 32 := Scalar.divsi v82 c1_i32_46
  let v85 : BitVec 32 := Scalar.muli v84 c1_i32_46
  let v86 : BitVec 32 := Scalar.addi v81 v85
  let c1_i32_47 : BitVec 32 := 1#32
  ⟨v81, v86, c1_i32_47⟩
def k0_mult6 (i : grid0.Coords) (k0_t3 : Fin (k0_t3_loop i).trips) : BitVec 32 :=
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c1_i32_47 : BitVec 32 := 1#32
  let arg11 : BitVec 32 := Scf.iv v81 c1_i32_47 k0_t3
  let c512_i32_49 : BitVec 32 := 512#32
  let v87 : BitVec 32 := Scalar.muli arg11 c512_i32_49
  v87
def k0_off13 (i : grid0.Coords) (k0_t3 : Fin (k0_t3_loop i).trips) : Fin 3 → Nat :=
  let c0_50 : Index := 0#32
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c1_i32_47 : BitVec 32 := 1#32
  let arg11 : BitVec 32 := Scf.iv v81 c1_i32_47 k0_t3
  let c512_i32_49 : BitVec 32 := 512#32
  let v87 : BitVec 32 := Scalar.muli arg11 c512_i32_49
  let v88 : BitVec 32 := v87
  let v89 : Index := Scalar.indexCast v88
  let c0_51 : Index := 0#32
  ![0, v89.toNat, 0]
def k0_off14 (i : grid0.Coords) (k0_t3 : Fin (k0_t3_loop i).trips) : Fin 2 → Nat :=
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c1_i32_47 : BitVec 32 := 1#32
  let arg11 : BitVec 32 := Scf.iv v81 c1_i32_47 k0_t3
  let c512_i32_49 : BitVec 32 := 512#32
  let v87 : BitVec 32 := Scalar.muli arg11 c512_i32_49
  let v88 : BitVec 32 := v87
  let v92 : Index := Scalar.indexCast v88
  let c0_52 : Index := 0#32
  ![v92.toNat, 0]
def k0_off15 (i : grid0.Coords) (k0_t3 : Fin (k0_t3_loop i).trips) : Fin 4 → Nat :=
  let c0_54 : Index := 0#32
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c1_i32_47 : BitVec 32 := 1#32
  let arg11 : BitVec 32 := Scf.iv v81 c1_i32_47 k0_t3
  let v96 : Index := Scalar.indexCast arg11
  let c0_55 : Index := 0#32
  let c0_56 : Index := 0#32
  ![0, v96.toNat, 0, 0]
def k0_off16 (i : grid0.Coords) (k0_t3 : Fin (k0_t3_loop i).trips) : Fin 4 → Nat :=
  let c0_76 : Index := 0#32
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c1_i32_47 : BitVec 32 := 1#32
  let arg11 : BitVec 32 := Scf.iv v81 c1_i32_47 k0_t3
  let v127 : Index := Scalar.indexCast arg11
  let c0_77 : Index := 0#32
  let c0_78 : Index := 0#32
  ![0, v127.toNat, 0, 0]
@[reducible] def k0_t4_loop (i : grid0.Coords) : Scf.Loop 32 :=
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c16_i32 : BitVec 32 := 16#32
  let v82 : BitVec 32 := Scalar.subi c16_i32 v81
  let c1_i32_46 : BitVec 32 := 1#32
  let v84 : BitVec 32 := Scalar.divsi v82 c1_i32_46
  let v85 : BitVec 32 := Scalar.muli v84 c1_i32_46
  let v86 : BitVec 32 := Scalar.addi v81 v85
  let v83 : BitVec 32 := Scalar.addi v81 v82
  let c1_i32_48 : BitVec 32 := 1#32
  ⟨v86, v83, c1_i32_48⟩
def k0_mult7 (i : grid0.Coords) (k0_t4 : Fin (k0_t4_loop i).trips) : BitVec 32 :=
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c16_i32 : BitVec 32 := 16#32
  let v82 : BitVec 32 := Scalar.subi c16_i32 v81
  let c1_i32_46 : BitVec 32 := 1#32
  let v84 : BitVec 32 := Scalar.divsi v82 c1_i32_46
  let v85 : BitVec 32 := Scalar.muli v84 c1_i32_46
  let v86 : BitVec 32 := Scalar.addi v81 v85
  let c1_i32_48 : BitVec 32 := 1#32
  let arg11 : BitVec 32 := Scf.iv v86 c1_i32_48 k0_t4
  let c512_i32_49 : BitVec 32 := 512#32
  let v87 : BitVec 32 := Scalar.muli arg11 c512_i32_49
  v87
def k0_off17 (i : grid0.Coords) (k0_t4 : Fin (k0_t4_loop i).trips) : Fin 3 → Nat :=
  let c0_50 : Index := 0#32
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c16_i32 : BitVec 32 := 16#32
  let v82 : BitVec 32 := Scalar.subi c16_i32 v81
  let c1_i32_46 : BitVec 32 := 1#32
  let v84 : BitVec 32 := Scalar.divsi v82 c1_i32_46
  let v85 : BitVec 32 := Scalar.muli v84 c1_i32_46
  let v86 : BitVec 32 := Scalar.addi v81 v85
  let c1_i32_48 : BitVec 32 := 1#32
  let arg11 : BitVec 32 := Scf.iv v86 c1_i32_48 k0_t4
  let c512_i32_49 : BitVec 32 := 512#32
  let v87 : BitVec 32 := Scalar.muli arg11 c512_i32_49
  let v88 : BitVec 32 := v87
  let v89 : Index := Scalar.indexCast v88
  let c0_51 : Index := 0#32
  ![0, v89.toNat, 0]
def k0_off18 (i : grid0.Coords) (k0_t4 : Fin (k0_t4_loop i).trips) : Fin 2 → Nat :=
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c16_i32 : BitVec 32 := 16#32
  let v82 : BitVec 32 := Scalar.subi c16_i32 v81
  let c1_i32_46 : BitVec 32 := 1#32
  let v84 : BitVec 32 := Scalar.divsi v82 c1_i32_46
  let v85 : BitVec 32 := Scalar.muli v84 c1_i32_46
  let v86 : BitVec 32 := Scalar.addi v81 v85
  let c1_i32_48 : BitVec 32 := 1#32
  let arg11 : BitVec 32 := Scf.iv v86 c1_i32_48 k0_t4
  let c512_i32_49 : BitVec 32 := 512#32
  let v87 : BitVec 32 := Scalar.muli arg11 c512_i32_49
  let v88 : BitVec 32 := v87
  let v92 : Index := Scalar.indexCast v88
  let c0_52 : Index := 0#32
  ![v92.toNat, 0]
def k0_off19 (i : grid0.Coords) (k0_t4 : Fin (k0_t4_loop i).trips) : Fin 4 → Nat :=
  let c0_54 : Index := 0#32
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c16_i32 : BitVec 32 := 16#32
  let v82 : BitVec 32 := Scalar.subi c16_i32 v81
  let c1_i32_46 : BitVec 32 := 1#32
  let v84 : BitVec 32 := Scalar.divsi v82 c1_i32_46
  let v85 : BitVec 32 := Scalar.muli v84 c1_i32_46
  let v86 : BitVec 32 := Scalar.addi v81 v85
  let c1_i32_48 : BitVec 32 := 1#32
  let arg11 : BitVec 32 := Scf.iv v86 c1_i32_48 k0_t4
  let v96 : Index := Scalar.indexCast arg11
  let c0_55 : Index := 0#32
  let c0_56 : Index := 0#32
  ![0, v96.toNat, 0, 0]
def k0_off20 (i : grid0.Coords) (k0_t4 : Fin (k0_t4_loop i).trips) : Fin 4 → Nat :=
  let c0_76 : Index := 0#32
  let arg1 : BitVec 32 := BitVec.ofNat 32 (i 1).val
  let c1_i32_43 : BitVec 32 := 1#32
  let v79 : BitVec 32 := Scalar.addi arg1 c1_i32_43
  let c2_i32_44 : BitVec 32 := 2#32
  let c15_i32 : BitVec 32 := 15#32
  let v56 : BitVec 32 := Scalar.subi c15_i32 arg1
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c2_i32 : BitVec 32 := 2#32
  let c0_i32_35 : BitVec 32 := 0#32
  let v63 : BitVec 1 := Scalar.cmpi .sgt c2_i32 c0_i32_35
  let v64 : BitVec 32 := Scalar.extui v63
  let c0_i32_36 : BitVec 32 := 0#32
  let v65 : BitVec 1 := Scalar.cmpi .slt c2_i32 c0_i32_36
  let v66 : BitVec 32 := Scalar.extui v65
  let v67 : BitVec 32 := Scalar.subi v64 v66
  let v68 : BitVec 1 := Scalar.cmpi .ne v62 v67
  let v69 : BitVec 32 := Scalar.remsi v56 c2_i32
  let c0_i32_37 : BitVec 32 := 0#32
  let v70 : BitVec 1 := Scalar.cmpi .ne v69 c0_i32_37
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v80 : BitVec 32 := Scalar.muli c2_i32_44 v73
  let v81 : BitVec 32 := Scalar.addi v79 v80
  let c16_i32 : BitVec 32 := 16#32
  let v82 : BitVec 32 := Scalar.subi c16_i32 v81
  let c1_i32_46 : BitVec 32 := 1#32
  let v84 : BitVec 32 := Scalar.divsi v82 c1_i32_46
  let v85 : BitVec 32 := Scalar.muli v84 c1_i32_46
  let v86 : BitVec 32 := Scalar.addi v81 v85
  let c1_i32_48 : BitVec 32 := 1#32
  let arg11 : BitVec 32 := Scf.iv v86 c1_i32_48 k0_t4
  let v127 : Index := Scalar.indexCast arg11
  let c0_77 : Index := 0#32
  let c0_78 : Index := 0#32
  ![0, v127.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashKernelIdeal.lean ====
variable {F : FTy → Type} [FloatOps F] [Named F]
def κ : String → Option EReal := fun
  | "ln2" => some ((Real.log 2 : ℝ) : EReal)
  | _ => none
-- ==== FlashReferenceIdeal.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S8192x1x64 : Shape := ⟨3, ![8192, 1, 64]⟩
abbrev S8192 : Shape := ⟨1, ![8192]⟩
abbrev S8x8192x8192 : Shape := ⟨3, ![8, 8192, 8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x64 : Shape := ⟨3, ![8, 8192, 64]⟩
abbrev S8x8192x128 : Shape := ⟨3, ![8, 8192, 128]⟩
abbrev S8192x8x256 : Shape := ⟨3, ![8192, 8, 256]⟩
abbrev S16x512x8x256 : Shape := ⟨4, ![16, 512, 8, 256]⟩
abbrev S8x16x256x512 : Shape := ⟨4, ![8, 16, 256, 512]⟩
abbrev S8x8192x256 : Shape := ⟨3, ![8, 8192, 256]⟩

abbrev nBuf : Space → Nat
  | .hbm => 121
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x1024, .f32⟩
  | .hbm, ⟨6, _⟩ => ⟨S8192x1x64, .f32⟩
  | .hbm, ⟨7, _⟩ => ⟨S8192x8x64, .f32⟩
  | .hbm, ⟨8, _⟩ => ⟨S8192, .i32⟩
  | .hbm, ⟨9, _⟩ => ⟨S8x8192x8192, .f32⟩
  | .hbm, ⟨10, _⟩ => ⟨S8x8192x8192, .f32⟩
  | .hbm, ⟨11, _⟩ => ⟨S8x8192x8192, .f32⟩
  | .hbm, ⟨12, _⟩ => ⟨S8192x1, .i32⟩
  | .hbm, ⟨13, _⟩ => ⟨S1x8192, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x8192x8192, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .i1⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .i1⟩
  | .hbm, ⟨46, _⟩ => ⟨S_, .f32⟩
  | .hbm, ⟨47, _⟩ => ⟨S8x8192, .f32⟩
  | .hbm, ⟨48, _⟩ => ⟨S8x8192, .i1⟩
  | .hbm, ⟨49, _⟩ => ⟨S_, .f32⟩
  | .hbm, ⟨50, _⟩ => ⟨S8x8192, .f32⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S8x8192, .f32⟩
  | .hbm, ⟨56, _⟩ => ⟨S8x8192, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S8x8192x1, .f32⟩
  | .hbm, ⟨67, _⟩ => ⟨S_, .f32⟩
  | .hbm, ⟨68, _⟩ => ⟨S8x8192x1, .f32⟩
  | .hbm, ⟨69, _⟩ => ⟨S8x8192x1, .f32⟩
  | .hbm, ⟨70, _⟩ => ⟨S8x128x8192, .f32⟩
  | .hbm, ⟨71, _⟩ => ⟨S8192x8x128, .f32⟩
  | .hbm, ⟨72, _⟩ => ⟨S8192x1024, .f32⟩
  | .hbm, ⟨73, _⟩ => ⟨S8192x8x128, .f32⟩
  | .hbm, ⟨74, _⟩ => ⟨S8x128x8192, .f32⟩
  | .hbm, ⟨75, _⟩ => ⟨S8x8192x8192, .f32⟩
  | .hbm, ⟨76, _⟩ => ⟨S8x128x8192, .f32⟩
  | .hbm, ⟨77, _⟩ => ⟨S8192x8x128, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192, .f32⟩
  | .hbm, ⟨83, _⟩ => ⟨S8x8192x1, .f32⟩
  | .hbm, ⟨84, _⟩ => ⟨S8x8192x1, .f32⟩
  | .hbm, ⟨85, _⟩ => ⟨S8x8192x8192, .f32⟩
  | .hbm, ⟨86, _⟩ => ⟨S8x8192x8192, .f32⟩
  | .hbm, ⟨87, _⟩ => ⟨S_, .f32⟩
  | .hbm, ⟨88, _⟩ => ⟨S8x8192, .f32⟩
  | .hbm, ⟨89, _⟩ => ⟨S8x8192x8192, .f32⟩
  | .hbm, ⟨90, _⟩ => ⟨S8x8192x8192, .f32⟩
  | .hbm, ⟨91, _⟩ => ⟨S8x8192x8192, .f32⟩
  | .hbm, ⟨92, _⟩ => ⟨S_, .f32⟩
  | .hbm, ⟨93, _⟩ => ⟨S8x8192x8192, .f32⟩
  | .hbm, ⟨94, _⟩ => ⟨S8x8192x8192, .f32⟩
  | .hbm, ⟨95, _⟩ => ⟨S8x8192x8192, .f32⟩
  | .hbm, ⟨96, _⟩ => ⟨S8x8192x8192, .f32⟩
  | .hbm, ⟨97, _⟩ => ⟨S8x8192x64, .f32⟩
  | .hbm, ⟨98, _⟩ => ⟨S8192x8x64, .f32⟩
  | .hbm, ⟨99, _⟩ => ⟨S8x8192x64, .f32⟩
  | .hbm, ⟨100, _⟩ => ⟨S8192x8x64, .f32⟩
  | .hbm, ⟨101, _⟩ => ⟨S8x8192x128, .f32⟩
  | .hbm, ⟨102, _⟩ => ⟨S8192x8x128, .f32⟩
  | .hbm, ⟨103, _⟩ => ⟨S8x8192x128, .f32⟩
  | .hbm, ⟨104, _⟩ => ⟨S8192x8x128, .f32⟩
  | .hbm, ⟨105, _⟩ => ⟨S_, .f32⟩
  | .hbm, ⟨106, _⟩ => ⟨S8192x8x64, .f32⟩
  | .hbm, ⟨107, _⟩ => ⟨S8192x8x256, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S8192x8x256, .f32⟩
  | .hbm, ⟨115, _⟩ => ⟨S8192x8x256, .f32⟩
  | .hbm, ⟨116, _⟩ => ⟨S8192x8x256, .f32⟩
  | .hbm, ⟨117, _⟩ => ⟨S16x512x8x256, .f32⟩
  | .hbm, ⟨118, _⟩ => ⟨S8x16x256x512, .f32⟩
  | .hbm, ⟨119, _⟩ => ⟨S8x8192x256, .f32⟩
  | .hbm, ⟨120, _⟩ => ⟨S8x8192x128, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call0_v0 : Ref sig .tc := ⟨.hbm, 26, rfl⟩
abbrev main_v17_1 : Ref sig .tc := ⟨.hbm, 27, rfl⟩
abbrev main_call0_v2 : Ref sig .tc := ⟨.hbm, 28, rfl⟩
abbrev main_v17_0 : Ref sig .tc := ⟨.hbm, 29, rfl⟩
abbrev main_call0_cst : Ref sig .tc := ⟨.hbm, 30, rfl⟩
abbrev main_v17_2 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call1_cst : Ref sig .tc := ⟨.hbm, 92, rfl⟩
abbrev main_call1_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== InKernel.lean ====
abbrev S8192x4096 : Shape := ⟨2, ![8192, 4096]⟩
abbrev S8192x1024 : Shape := ⟨2, ![8192, 1024]⟩
abbrev S1024x4096 : Shape := ⟨2, ![1024, 4096]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S1024, .f32⟩
  | .hbm, ⟨5, _⟩ => ⟨S1024x4096, .bf16⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InReferenceIdeal.lean ====
abbrev S8192x4096 : Shape := ⟨2, ![8192, 4096]⟩
abbrev S8192x1024 : Shape := ⟨2, ![8192, 1024]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== LossKernel.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S1024, .f32⟩
  | .hbm, ⟨5, _⟩ => ⟨S4096x1024, .bf16⟩
  | .hbm, ⟨6, _⟩ => ⟨S1x1024, .f32⟩
  | .hbm, ⟨7, _⟩ => ⟨S8192x4096, .bf16⟩
  | .hbm, ⟨8, _⟩ => ⟨S8192x1024, .f32⟩
  | .hbm, ⟨9, _⟩ => ⟨S8x128, .f32⟩
  | .hbm, ⟨10, _⟩ => ⟨S1x1024, .f32⟩
  | .local _ .vmem, ⟨0, _⟩ => ⟨S512x4096, .f32⟩
  | .local _ .vmem, ⟨1, _⟩ => ⟨S512x4096, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S1x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S1x1024, .f32⟩
  | .local _ .vmem, ⟨14, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v65 : BitVec 1 := Scalar.cmpi .eq arg0 c15_i32
  let v66 : BitVec 32 := Scalar.extui v65
  let c0_i32_31 : BitVec 32 := 0#32
  let v67 : BitVec 1 := Scalar.cmpi .ne v66 c0_i32_31
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossReferenceIdeal.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 82
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x4096, .bf16⟩
  | .hbm, ⟨80, _⟩ => ⟨S8x128, .f32⟩
  | .hbm, ⟨81, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== InprojKernel.lean ====
abbrev S8192x1024 : Shape := ⟨2, ![8192, 1024]⟩
abbrev S8192x3072 : Shape := ⟨2, ![8192, 3072]⟩
abbrev S8192x640 : Shape := ⟨2, ![8192, 640]⟩
abbrev S1024x4672 : Shape := ⟨2, ![1024, 4672]⟩
abbrev S1024 : Shape := ⟨1, ![1024]⟩
abbrev S4672x1024 : Shape := ⟨2, ![4672, 1024]⟩
abbrev S1024x1024 : Shape := ⟨2, ![1024, 1024]⟩
abbrev S256x1024 : Shape := ⟨2, ![256, 1024]⟩
abbrev S64x1024 : Shape := ⟨2, ![64, 1024]⟩
abbrev S1024x64 : Shape := ⟨2, ![1024, 64]⟩
abbrev S1024x32 : Shape := ⟨2, ![1024, 32]⟩
abbrev S4736x1024 : Shape := ⟨2, ![4736, 1024]⟩
abbrev S1x1024 : Shape := ⟨2, ![1, 1024]⟩
abbrev S512x1024 : Shape := ⟨2, ![512, 1024]⟩
abbrev S512x3072 : Shape := ⟨2, ![512, 3072]⟩
abbrev S512x640 : Shape := ⟨2, ![512, 640]⟩
abbrev S640x1024 : Shape := ⟨2, ![640, 1024]⟩
abbrev S512 : Shape := ⟨1, ![512]⟩
abbrev S512x1 : Shape := ⟨2, ![512, 1]⟩

abbrev nBuf : Space → Nat
  | .hbm => 26
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x3072, .bf16⟩
  | .hbm, ⟨4, _⟩ => ⟨S8192x640, .bf16⟩
  | .hbm, ⟨5, _⟩ => ⟨S1024x4672, .f32⟩
  | .hbm, ⟨6, _⟩ => ⟨S1024, .f32⟩
  | .hbm, ⟨7, _⟩ => ⟨S4672x1024, .f32⟩
  | .hbm, ⟨8, _⟩ => ⟨S4672x1024, .bf16⟩
  | .hbm, ⟨9, _⟩ => ⟨S1024x1024, .bf16⟩
  | .hbm, ⟨10, _⟩ => ⟨S1024x1024, .bf16⟩
  | .hbm, ⟨11, _⟩ => ⟨S256x1024, .bf16⟩
  | .hbm, ⟨12, _⟩ => ⟨S256x1024, .bf16⟩
  | .hbm, ⟨13, _⟩ => ⟨S64x1024, .bf16⟩
  | .hbm, ⟨14, _⟩ => ⟨S1024x1024, .bf16⟩
  | .hbm, ⟨15, _⟩ => ⟨S1024x1024, .bf16⟩
  | .hbm, ⟨16, _⟩ => ⟨S1024x64, .bf16⟩
  | .hbm, ⟨17, _⟩ => ⟨S1024x32, .bf16⟩
  | .hbm, ⟨18, _⟩ => ⟨S1024x32, .bf16⟩
  | .hbm, ⟨19, _⟩ => ⟨S1024x32, .bf16⟩
  | .hbm, ⟨20, _⟩ => ⟨S1024x64, .bf16⟩
  | .hbm, ⟨21, _⟩ => ⟨S64x1024, .bf16⟩
  | .hbm, ⟨22, _⟩ => ⟨S4736x1024, .bf16⟩
  | .hbm, ⟨23, _⟩ => ⟨S1x1024, .f32⟩
  | .hbm, ⟨24, _⟩ => ⟨S8192x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S512x640, .bf16⟩
  | .local _ .vmem, ⟨9, _⟩ => ⟨S512x640, .bf16⟩
  | .local _ .vmem, ⟨10, _⟩ => ⟨S4736x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4736x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InprojReferenceIdeal.lean ====
abbrev S8192x1024 : Shape := ⟨2, ![8192, 1024]⟩
abbrev S8192x3072 : Shape := ⟨2, ![8192, 3072]⟩
abbrev S8192x640 : Shape := ⟨2, ![8192, 640]⟩
abbrev S1024x4672 : Shape := ⟨2, ![1024, 4672]⟩
abbrev S1024 : Shape := ⟨1, ![1024]⟩
abbrev S8192x256 : Shape := ⟨2, ![8192, 256]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4672 : Shape := ⟨2, ![8192, 4672]⟩
abbrev S8192x32 : Shape := ⟨2, ![8192, 32]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x3072, .bf16⟩
  | .hbm, ⟨4, _⟩ => ⟨S8192x640, .bf16⟩
  | .hbm, ⟨5, _⟩ => ⟨S1024x4672, .f32⟩
  | .hbm, ⟨6, _⟩ => ⟨S1024, .f32⟩
  | .hbm, ⟨7, _⟩ => ⟨S8192x3072, .f32⟩
  | .hbm, ⟨8, _⟩ => ⟨S8192x640, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x256, .f32⟩
  | .hbm, ⟨14, _⟩ => ⟨S8192x256, .f32⟩
  | .hbm, ⟨15, _⟩ => ⟨S8192x64, .f32⟩
  | .hbm, ⟨16, _⟩ => ⟨S8192x64, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x4672, .f32⟩
  | .hbm, ⟨38, _⟩ => ⟨S8192x1024, .f32⟩
  | .hbm, ⟨39, _⟩ => ⟨S8192x1024, .f32⟩
  | .hbm, ⟨40, _⟩ => ⟨S8192x256, .f32⟩
  | .hbm, ⟨41, _⟩ => ⟨S8192x256, .f32⟩
  | .hbm, ⟨42, _⟩ => ⟨S8192x64, .f32⟩
  | .hbm, ⟨43, _⟩ => ⟨S8192x1024, .f32⟩
  | .hbm, ⟨44, _⟩ => ⟨S8192x1024, .f32⟩
  | .hbm, ⟨45, _⟩ => ⟨S8192x32, .f32⟩
  | .hbm, ⟨46, _⟩ => ⟨S8192x32, .f32⟩
  | .hbm, ⟨47, _⟩ => ⟨S8192x32, .f32⟩
  | .hbm, ⟨48, _⟩ => ⟨S8192x64, .f32⟩
  | .hbm, ⟨49, _⟩ => ⟨S8192x32, .f32⟩
  | .hbm, ⟨50, _⟩ => ⟨S8192x32, .f32⟩
  | .hbm, ⟨51, _⟩ => ⟨S_, .f32⟩
  | .hbm, ⟨52, _⟩ => ⟨S8192x64, .f32⟩
  | .hbm, ⟨53, _⟩ => ⟨S8192x64, .f32⟩
  | .hbm, ⟨54, _⟩ => ⟨S8192x32, .f32⟩
  | .hbm, ⟨55, _⟩ => ⟨S_, .f32⟩
  | .hbm, ⟨56, _⟩ => ⟨S8192x64, .f32⟩
  | .hbm, ⟨57, _⟩ => ⟨S8192x64, .f32⟩
  | .hbm, ⟨58, _⟩ => ⟨S8192x4672, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== MergeKernel.lean ====
abbrev S8192x1024 : Shape := ⟨2, ![8192, 1024]⟩
abbrev S1024x1024 : Shape := ⟨2, ![1024, 1024]⟩
abbrev S8192x3072 : Shape := ⟨2, ![8192, 3072]⟩
abbrev S_ : Shape := ⟨0, ![]⟩
abbrev S8x8x8192 : Shape := ⟨3, ![8, 8, 8192]⟩
abbrev S512x1024 : Shape := ⟨2, ![512, 1024]⟩
abbrev S512x3072 : Shape := ⟨2, ![512, 3072]⟩
abbrev S8x8x512 : Shape := ⟨3, ![8, 8, 512]⟩
abbrev S8x128 : Shape := ⟨2, ![8, 128]⟩
abbrev S512x128 : Shape := ⟨2, ![512, 128]⟩
abbrev S8x512 : Shape := ⟨2, ![8, 512]⟩
abbrev S1x8x512 : Shape := ⟨3, ![1, 8, 512]⟩

abbrev nBuf : Space → Nat
  | .hbm => 55
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S1024x1024, .bf16⟩
  | .hbm, ⟨50, _⟩ => ⟨S8192x3072, .bf16⟩
  | .hbm, ⟨51, _⟩ => ⟨S8192x1024, .bf16⟩
  | .hbm, ⟨52, _⟩ => ⟨S8x8x8192, .f32⟩
  | .hbm, ⟨53, _⟩ => ⟨S8192x1024, .f32⟩
  | .hbm, ⟨54, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x3072, .f32⟩
  | .local _ .vmem, ⟨4, _⟩ => ⟨S512x3072, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x3072, .bf16⟩
  | .local _ .vmem, ⟨12, _⟩ => ⟨S512x3072, .bf16⟩
  | .local _ .vmem, ⟨13, _⟩ => ⟨S512x1024, .bf16⟩
  | .local _ .vmem, ⟨14, _⟩ => ⟨S512x1024, .bf16⟩
  | .local _ .vmem, ⟨15, _⟩ => ⟨S8x8x512, .f32⟩
  | .local _ .vmem, ⟨16, _⟩ => ⟨S8x8x512, .f32⟩
  | .local _ .vmem, ⟨17, _⟩ => ⟨S512x1024, .f32⟩
  | .local _ .vmem, ⟨18, _⟩ => ⟨S512x1024, .f32⟩
  | .local _ .vmem, ⟨19, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v34_3 : Ref sig .tc := ⟨.hbm, 53, rfl⟩
abbrev main_v34_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeKernelIdeal.lean ====
variable {F : FTy → Type} [FloatOps F] [Named F]
def κ : String → Option EReal := fun
  | "gelu" => some ((8943 / 200000 : ℝ) : EReal)
  | "gelu3" => some ((26829 / 200000 : ℝ) : EReal)
  | _ => none
-- ==== MergeReferenceIdeal.lean ====
abbrev S8192x1024 : Shape := ⟨2, ![8192, 1024]⟩
abbrev S1024x1024 : Shape := ⟨2, ![1024, 1024]⟩
abbrev S_ : Shape := ⟨0, ![]⟩
abbrev S8192x8x128 : Shape := ⟨3, ![8192, 8, 128]⟩
abbrev S8192x8 : Shape := ⟨2, ![8192, 8]⟩
abbrev S8x8192 : Shape := ⟨2, ![8, 8192]⟩
abbrev S8192x3072 : Shape := ⟨2, ![8192, 3072]⟩
abbrev S8x1x8192 : Shape := ⟨3, ![8, 1, 8192]⟩
abbrev S8x8x8192 : Shape := ⟨3, ![8, 8, 8192]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1024x1024, .f32⟩
  | .hbm, ⟨64, _⟩ => ⟨S1024x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x8x128, .f32⟩
  | .hbm, ⟨95, _⟩ => ⟨S_, .f32⟩
  | .hbm, ⟨96, _⟩ => ⟨S8192x8, .f32⟩
  | .hbm, ⟨97, _⟩ => ⟨S8x8192, .f32⟩
  | .hbm, ⟨98, _⟩ => ⟨S8192x3072, .f32⟩
  | .hbm, ⟨99, _⟩ => ⟨S8192x3072, .bf16⟩
  | .hbm, ⟨100, _⟩ => ⟨S8192x1024, .bf16⟩
  | .hbm, ⟨101, _⟩ => ⟨S8x1x8192, .f32⟩
  | .hbm, ⟨102, _⟩ => ⟨S8x8x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== MlaKernel.lean ====
abbrev S8x16x256x512 : Shape := ⟨4, ![8, 16, 256, 512]⟩
abbrev S8x8192x256 : Shape := ⟨3, ![8, 8192, 256]⟩
abbrev S8x8192x128 : Shape := ⟨3, ![8, 8192, 128]⟩
abbrev S8192x256 : Shape := ⟨2, ![8192, 256]⟩
abbrev S256 : Shape := ⟨1, ![256]⟩
abbrev S256x1536 : Shape := ⟨2, ![256, 1536]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S32 : Shape := ⟨1, ![32]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S256x8x192 : Shape := ⟨3, ![256, 8, 192]⟩
abbrev S256x8x64 : Shape := ⟨3, ![256, 8, 64]⟩
abbrev S256x8x128 : Shape := ⟨3, ![256, 8, 128]⟩
abbrev S256x8x32 : Shape := ⟨3, ![256, 8, 32]⟩
abbrev S256x8x256 : Shape := ⟨3, ![256, 8, 256]⟩
abbrev S8192x640 : Shape := ⟨2, ![8192, 640]⟩
abbrev S8x1x256x512 : Shape := ⟨4, ![8, 1, 256, 512]⟩
abbrev S8x512x256 : Shape := ⟨3, ![8, 512, 256]⟩
abbrev S8x512x128 : Shape := ⟨3, ![8, 512, 128]⟩
abbrev S512x256 : Shape := ⟨2, ![512, 256]⟩
abbrev S512x128 : Shape := ⟨2, ![512, 128]⟩
abbrev S512x640 : Shape := ⟨2, ![512, 640]⟩
abbrev S1x1x256x512 : Shape := ⟨4, ![1, 1, 256, 512]⟩
abbrev S256x512 : Shape := ⟨2, ![256, 512]⟩
abbrev S256x256 : Shape := ⟨2, ![256, 256]⟩
abbrev S1x512x128 : Shape := ⟨3, ![1, 512, 128]⟩
abbrev S512 : Shape := ⟨1, ![512]⟩
abbrev S512x1 : Shape := ⟨2, ![512, 1]⟩

abbrev nBuf : Space → Nat
  | .hbm => 88
  | .vmem => 26
  | .smem => 0
  | _ => 0

abbrev bufTy : (tb : Table) → Fin (tcTables nBuf tb) → BufTy
  | .hbm, ⟨0, _⟩ => ⟨S8x16x256x512, .f32⟩
  | .hbm, ⟨1, _⟩ => ⟨S8x8192x256, .f32⟩
  | .hbm, ⟨2, _⟩ => ⟨S8x8192x128, .f32⟩
  | .hbm, ⟨3, _⟩ => ⟨S8192x256, .f32⟩
  | .hbm, ⟨4, _⟩ => ⟨S8192x256, .f32⟩
  | .hbm, ⟨5, _⟩ => ⟨S256, .f32⟩
  | .hbm, ⟨6, _⟩ => ⟨S256x1536, .f32⟩
  | .hbm, ⟨7, _⟩ => ⟨S256, .f32⟩
  | .hbm, ⟨8, _⟩ => ⟨S256x2048, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S8192x256, .bf16⟩
  | .hbm, ⟨26, _⟩ => ⟨S8192x256, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x256, .f32⟩
  | .hbm, ⟨38, _⟩ => ⟨S8192x256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S8192x256, .bf16⟩
  | .hbm, ⟨43, _⟩ => ⟨S8192, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S8192x1, .f32⟩
  | .hbm, ⟨61, _⟩ => ⟨S1x32, .f32⟩
  | .hbm, ⟨62, _⟩ => ⟨S8192x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x64, .f32⟩
  | .hbm, ⟨68, _⟩ => ⟨S8192x64, .f32⟩
  | .hbm, ⟨69, _⟩ => ⟨S8192x128, .f32⟩
  | .hbm, ⟨70, _⟩ => ⟨S256x1536, .bf16⟩
  | .hbm, ⟨71, _⟩ => ⟨S256x8x192, .bf16⟩
  | .hbm, ⟨72, _⟩ => ⟨S256x8x64, .bf16⟩
  | .hbm, ⟨73, _⟩ => ⟨S256x8x128, .bf16⟩
  | .hbm, ⟨74, _⟩ => ⟨S256x8x32, .bf16⟩
  | .hbm, ⟨75, _⟩ => ⟨S256x8x32, .bf16⟩
  | .hbm, ⟨76, _⟩ => ⟨S256x8x32, .bf16⟩
  | .hbm, ⟨77, _⟩ => ⟨S256x8x64, .bf16⟩
  | .hbm, ⟨78, _⟩ => ⟨S256x8x256, .bf16⟩
  | .hbm, ⟨79, _⟩ => ⟨S256x2048, .bf16⟩
  | .hbm, ⟨80, _⟩ => ⟨S256x2048, .bf16⟩
  | .hbm, ⟨81, _⟩ => ⟨S1x256, .f32⟩
  | .hbm, ⟨82, _⟩ => ⟨S1x256, .f32⟩
  | .hbm, ⟨83, _⟩ => ⟨S8192x640, .bf16⟩
  | .hbm, ⟨84, _⟩ => ⟨S256x2048, .f32⟩
  | .hbm, ⟨85, _⟩ => ⟨S256x2048, .f32⟩
  | .hbm, ⟨86, _⟩ => ⟨S1x256, .f32⟩
  | .hbm, ⟨87, _⟩ => ⟨S1x256, .f32⟩
  | .local _ .vmem, ⟨0, _⟩ => ⟨S8x1x256x512, .f32⟩
  | .local _ .vmem, ⟨1, _⟩ => ⟨S8x1x256x512, .f32⟩
  | .local _ .vmem, ⟨2, _⟩ => ⟨S8x512x256, .f32⟩
  | .local _ .vmem, ⟨3, _⟩ => ⟨S8x512x256, .f32⟩
  | .local _ .vmem, ⟨4, _⟩ => ⟨S8x512x128, .f32⟩
  | .local _ .vmem, ⟨5, _⟩ => ⟨S8x512x128, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | .local _ .vmem, ⟨16, _⟩ => ⟨S256x2048, .bf16⟩
  | .local _ .vmem, ⟨17, _⟩ => ⟨S256x2048, .bf16⟩
  | .local _ .vmem, ⟨18, _⟩ => ⟨S1x256, .f32⟩
  | .local _ .vmem, ⟨19, _⟩ => ⟨S1x256, .f32⟩
  | .local _ .vmem, ⟨20, _⟩ => ⟨S512x640, .bf16⟩
  | .local _ .vmem, ⟨21, _⟩ => ⟨S512x640, .bf16⟩
  | .local _ .vmem, ⟨22, _⟩ => ⟨S256x2048, .f32⟩
  | .local _ .vmem, ⟨23, _⟩ => ⟨S256x2048, .f32⟩
  | .local _ .vmem, ⟨24, _⟩ => ⟨S1x256, .f32⟩
  | .local _ .vmem, ⟨25, _⟩ => ⟨S1x256, .f32⟩
  | _, _ => ⟨S8x16x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63_0 : Ref sig .tc := ⟨.hbm, 83, rfl⟩
abbrev main_v63_1 : Ref sig .tc := ⟨.hbm, 84, rfl⟩
abbrev main_v63_2 : Ref sig .tc := ⟨.hbm, 85, rfl⟩
abbrev main_v63_3 : Ref sig .tc := ⟨.hbm, 86, rfl⟩
abbrev main_v63_4 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MlaKernelIdeal.lean ====
variable {F : FTy → Type} [FloatOps F] [Named F]
def κ : String → Option EReal := fun
  | "unit" => some ((((Real.sqrt 192) * (Real.log 2))⁻¹ : ℝ) : EReal)
  | _ => none
-- ==== MlaReferenceIdeal.lean ====
abbrev S8x16x256x512 : Shape := ⟨4, ![8, 16, 256, 512]⟩
abbrev S8x8192x256 : Shape := ⟨3, ![8, 8192, 256]⟩
abbrev S8x8192x128 : Shape := ⟨3, ![8, 8192, 128]⟩
abbrev S8192x256 : Shape := ⟨2, ![8192, 256]⟩
abbrev S256 : Shape := ⟨1, ![256]⟩
abbrev S256x1536 : Shape := ⟨2, ![256, 1536]⟩
abbrev S256x2048 : Shape := ⟨2, ![256, 2048]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S256x8x192 : Shape := ⟨3, ![256, 8, 192]⟩
abbrev S256x8x128 : Shape := ⟨3, ![256, 8, 128]⟩
abbrev S256x8x64 : Shape := ⟨3, ![256, 8, 64]⟩
abbrev S256x8x32 : Shape := ⟨3, ![256, 8, 32]⟩
abbrev S8x16x512x256 : Shape := ⟨4, ![8, 16, 512, 256]⟩
abbrev S8x8192x64 : Shape := ⟨3, ![8, 8192, 64]⟩
abbrev S1x256 : Shape := ⟨2, ![1, 256]⟩
abbrev S8192x2048 : Shape := ⟨2, ![8192, 2048]⟩
abbrev S8192x8x256 : Shape := ⟨3, ![8192, 8, 256]⟩
abbrev S8x128x8192 : Shape := ⟨3, ![8, 128, 8192]⟩
abbrev S8x64x8192 : Shape := ⟨3, ![8, 64, 8192]⟩
abbrev S1x8192x64 : Shape := ⟨3, ![1, 8192, 64]⟩
abbrev S8192x8x128 : Shape := ⟨3, ![8192, 8, 128]⟩
abbrev S8x64x256 : Shape := ⟨3, ![8, 64, 256]⟩
abbrev S8x128x256 : Shape := ⟨3, ![8, 128, 256]⟩
abbrev S2048x256 : Shape := ⟨2, ![2048, 256]⟩
abbrev S8192x640 : Shape := ⟨2, ![8192, 640]⟩
abbrev S256x8x256 : Shape := ⟨3, ![256, 8, 256]⟩

abbrev nBuf : Space → Nat
  | .hbm => 219
  | .vmem => 0
  | .smem => 0
  | _ => 0

abbrev hbmTy0_0 (i : Nat) : BufTy := match i % 128 with
  | 0 => ⟨S8x16x256x512, .f32⟩
  | 1 => ⟨S8x8192x256, .f32⟩
  | 2 => ⟨S8x8192x128, .f32⟩
  | 3 => ⟨S8192x256, .f32⟩
  | 4 => ⟨S8192x256, .f32⟩
  | 5 => ⟨S256, .f32⟩
  | 6 => ⟨S256x1536, .f32⟩
  | 7 => ⟨S256, .f32⟩
  | 8 => ⟨S256x2048, .f32⟩
  | 9 => ⟨S8192, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S8192x1, .f32⟩
  | 27 => ⟨S1x32, .f32⟩
  | 28 => ⟨S8192x32, .f32⟩
  | 29 => ⟨S8192x32, .f32⟩
  | 30 => ⟨S8192x32, .f32⟩
  | 31 => ⟨S8192x32, .f32⟩
  | 32 => ⟨S8192x32, .f32⟩
  | 33 => ⟨S8192x64, .f32⟩
  | 34 => ⟨S8192x64, .f32⟩
  | 35 => ⟨S256x8x192, .f32⟩
  | 36 => ⟨S256x8x128, .f32⟩
  | 37 => ⟨S256x8x64, .f32⟩
  | 38 => ⟨S256x8x32, .f32⟩
  | 39 => ⟨S256x8x32, .f32⟩
  | 40 => ⟨S256x8x32, .f32⟩
  | 41 => ⟨S256x8x64, .f32⟩
  | 42 => ⟨S_, .f32⟩
  | 43 => ⟨S8192x64, .f32⟩
  | 44 => ⟨S8x16x512x256, .f32⟩
  | 45 => ⟨S8x8192x256, .f32⟩
  | 46 => ⟨S8x8192x128, .f32⟩
  | 47 => ⟨S8x8192x64, .f32⟩
  | 48 => ⟨S8x8192x128, .f32⟩
  | 49 => ⟨S8x8192x64, .f32⟩
  | 50 => ⟨S8192x256, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x256, .f32⟩
  | 66 => ⟨S8192x256, .f32⟩
  | 67 => ⟨S1x256, .f32⟩
  | 68 => ⟨S8192x256, .f32⟩
  | 69 => ⟨S8192x256, .f32⟩
  | 70 => ⟨S8192x256, .f32⟩
  | 71 => ⟨S_, .f32⟩
  | 72 => ⟨S8192, .f32⟩
  | 73 => ⟨S8192x1, .f32⟩
  | 74 => ⟨S_, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x256, .f32⟩
  | 86 => ⟨S8192x256, .f32⟩
  | 87 => ⟨S1x256, .f32⟩
  | 88 => ⟨S8192x256, .f32⟩
  | 89 => ⟨S8192x256, .f32⟩
  | 90 => ⟨S8192x2048, .f32⟩
  | 91 => ⟨S8192x8x256, .f32⟩
  | 92 => ⟨S8x128x8192, .f32⟩
  | 93 => ⟨S8x8192x128, .f32⟩
  | 94 => ⟨S8x64x8192, .f32⟩
  | 95 => ⟨S8x8192x64, .f32⟩
  | 96 => ⟨S1x8192x64, .f32⟩
  | 97 => ⟨S8x8192x64, .f32⟩
  | 98 => ⟨S8x8192x64, .f32⟩
  | 99 => ⟨S8x64x8192, .f32⟩
  | 100 => ⟨S8x8192x64, .f32⟩
  | 101 => ⟨S1x8192x64, .f32⟩
  | 102 => ⟨S8x8192x64, .f32⟩
  | 103 => ⟨S8x8192x64, .f32⟩
  | 104 => ⟨S8x8192x64, .f32⟩
  | 105 => ⟨S8192x64, .f32⟩
  | 106 => ⟨S8192x64, .f32⟩
  | 107 => ⟨S8192x64, .f32⟩
  | 108 => ⟨S8x8192x64, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S8x8192x128, .f32⟩
  | 118 => ⟨S8x8192x128, .f32⟩
  | 119 => ⟨S_, .f32⟩
  | 120 => ⟨S8x8192x64, .f32⟩
  | 121 => ⟨S8x8192x64, .f32⟩
  | 122 => ⟨S8192x8x128, .f32⟩
  | 123 => ⟨S8x8192x128, .f32⟩
  | 124 => ⟨S8192x8x128, .f32⟩
  | 125 => ⟨S8x8192x128, .f32⟩
  | 126 => ⟨S8192x8x128, .f32⟩
  | 127 => ⟨S_, .f32⟩
  | _ => ⟨S8x16x256x512, .f32⟩

abbrev hbmTy0_1 (i : Nat) : BufTy := match i % 128 with
  | 0 => ⟨S8192x8x256, .f32⟩
  | 1 => ⟨S8192x8x128, .f32⟩
  | 2 => ⟨S_, .f32⟩
  | 3 => ⟨S8192x8x256, .f32⟩
  | 4 => ⟨S8192x8x256, .f32⟩
  | 5 => ⟨S8x8192x64, .f32⟩
  | 6 => ⟨S8x8192x64, .f32⟩
  | 7 => ⟨S8x8192x128, .f32⟩
  | 8 => ⟨S8x8192x128, .f32⟩
  | 9 => ⟨S_, .f32⟩
  | 10 => ⟨S8192x64, .f32⟩
  | 11 => ⟨S8192x64, .f32⟩
  | 12 => ⟨S8192x64, .f32⟩
  | 13 => ⟨S8x8192x64, .f32⟩
  | 14 => ⟨S8x8192x64, .f32⟩
  | 15 => ⟨S8x64x8192, .f32⟩
  | 16 => ⟨S8192x256, .f32⟩
  | 17 => ⟨S8x64x256, .f32⟩
  | 18 => ⟨S256x8x64, .f32⟩
  | 19 => ⟨S8x8192x64, .f32⟩
  | 20 => ⟨S8x8192x64, .f32⟩
  | 21 => ⟨S8x64x8192, .f32⟩
  | 22 => ⟨S8192x256, .f32⟩
  | 23 => ⟨S8192x256, .f32⟩
  | 24 => ⟨S8x64x256, .f32⟩
  | 25 => ⟨S256x8x64, .f32⟩
  | 26 => ⟨S8x128x8192, .f32⟩
  | 27 => ⟨S8192x256, .f32⟩
  | 28 => ⟨S8192x256, .f32⟩
  | 29 => ⟨S8x128x256, .f32⟩
  | 30 => ⟨S256x8x128, .f32⟩
  | 31 => ⟨S8192x2048, .f32⟩
  | 32 => ⟨S2048x256, .f32⟩
  | 33 => ⟨S256x2048, .f32⟩
  | 34 => ⟨S8192x256, .f32⟩
  | 35 => ⟨S8192x256, .f32⟩
  | 36 => ⟨S_, .f32⟩
  | 37 => ⟨S256, .f32⟩
  | 38 => ⟨S1x256, .f32⟩
  | 39 => ⟨S8192x256, .f32⟩
  | 40 => ⟨S8192x256, .f32⟩
  | 41 => ⟨S_, .f32⟩
  | 42 => ⟨S256, .f32⟩
  | 43 => ⟨S8192x256, .f32⟩
  | 44 => ⟨S_, .f32⟩
  | 45 => ⟨S8192, .f32⟩
  | 46 => ⟨S8192x1, .f32⟩
  | 47 => ⟨S8192x256, .f32⟩
  | 48 => ⟨S8192x256, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S_, .f32⟩
  | 62 => ⟨S256, .f32⟩
  | 63 => ⟨S1x256, .f32⟩
  | 64 => ⟨S8192x256, .f32⟩
  | 65 => ⟨S8192x256, .f32⟩
  | 66 => ⟨S_, .f32⟩
  | 67 => ⟨S256, .f32⟩
  | 68 => ⟨S8192x256, .f32⟩
  | 69 => ⟨S_, .f32⟩
  | 70 => ⟨S8192, .f32⟩
  | 71 => ⟨S8192x1, .f32⟩
  | 72 => ⟨S8192x256, .f32⟩
  | 73 => ⟨S8192x256, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192, .f32⟩
  | 80 => ⟨S8192x256, .f32⟩
  | 81 => ⟨S8192x256, .f32⟩
  | 82 => ⟨S8192x256, .f32⟩
  | 83 => ⟨S8192x256, .f32⟩
  | 84 => ⟨S8192x256, .f32⟩
  | 85 => ⟨S8192x640, .f32⟩
  | 86 => ⟨S8192x640, .bf16⟩
  | 87 => ⟨S256x8x256, .f32⟩
  | 88 => ⟨S256x2048, .f32⟩
  | 89 => ⟨S1x256, .f32⟩
  | 90 => ⟨S1x256, .f32⟩
  | _ => ⟨S8x16x256x512, .f32⟩

abbrev hbmTy (i : Nat) : BufTy := match i / 128 with
  | 0 => hbmTy0_0 i
  | 1 => hbmTy0_1 i
  | _ => ⟨S8x16x256x512, .f32⟩

abbrev bufTy : (tb : Table) → Fin (tcTables nBuf tb) → BufTy
  | .hbm, ⟨i, _⟩ => hbmTy i
  | _, _ => ⟨S8x16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_13 : Ref sig .tc := ⟨.hbm, 109, rfl⟩
abbrev main_v86 : Ref sig .tc := ⟨.hbm, 110, rfl⟩
abbrev main_cst_14 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_16 : Ref sig .tc := ⟨.hbm, 127, rfl⟩
abbrev main_v101 : Ref sig .tc := ⟨.hbm, 128, rfl⟩
abbrev main_v102 : Ref sig .tc := ⟨.hbm, 129, rfl⟩
abbrev main_cst_17 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_18 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_19 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_20 : Ref sig .tc := ⟨.hbm, 169, rfl⟩
abbrev main_v139 : Ref sig .tc := ⟨.hbm, 170, rfl⟩
abbrev main_v140 : Ref sig .tc := ⟨.hbm, 171, rfl⟩
abbrev main_cst_21 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_cst_22 : Ref sig .tc := ⟨.hbm, 178, rfl⟩
abbrev main_v146 : Ref sig .tc := ⟨.hbm, 179, rfl⟩
abbrev main_v147 : Ref sig .tc := ⟨.hbm, 180, rfl⟩
abbrev main_cst_23 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_24 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_25 : Ref sig .tc := ⟨.hbm, 194, rfl⟩
abbrev main_v159 : Ref sig .tc := ⟨.hbm, 195, rfl⟩
abbrev main_v160 : Ref sig .tc := ⟨.hbm, 196, rfl⟩
abbrev main_cst_26 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_27 : Ref sig .tc := ⟨.hbm, 203, rfl⟩
abbrev main_v166 : Ref sig .tc := ⟨.hbm, 204, rfl⟩
abbrev main_v167 : Ref sig .tc := ⟨.hbm, 205, rfl⟩
abbrev main_cst_28 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩

abbrev nD : Nat := 1
abbrev τ : Topo := Topo.v7x

variable {F : FTy → Type} [FloatOps F]
-- ==== OutKernel.lean ====
abbrev S8192x1024 : Shape := ⟨2, ![8192, 1024]⟩
abbrev S1024x1024 : Shape := ⟨2, ![1024, 1024]⟩
abbrev S8192x3072 : Shape := ⟨2, ![8192, 3072]⟩
abbrev S512x1024 : Shape := ⟨2, ![512, 1024]⟩
abbrev S512x3072 : Shape := ⟨2, ![512, 3072]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S8192x3072, .f32⟩
  | .hbm, ⟨8, _⟩ => ⟨S1024x1024, .bf16⟩
  | .hbm, ⟨9, _⟩ => ⟨S8192x1024, .f32⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x3072, .f32⟩
  | .local _ .vmem, ⟨5, _⟩ => ⟨S512x3072, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutKernelIdeal.lean ====
variable {F : FTy → Type} [FloatOps F] [Named F]
def κ : String → Option EReal := fun
  | "gelu" => some ((8943 / 200000 : ℝ) : EReal)
  | _ => none
-- ==== OutReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== UpKernel.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S8192x4096, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpReferenceIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Numbers.lean ====
/- The numbers that the programs' float words stand for. -/
module

public import Idealize.ShloMosaic.Lib.Pointwise

@[expose] public section

set_option maxRecDepth 16384

noncomputable section

namespace Cert.Numbers

open Idealize.ShloMosaic

/-- The pattern `0x40000000` is two. -/
theorem two : Ideal.ofBits .f32 0x40000000#32 = 2 := by
  rw [show (2 : EReal) = ((2 : ℝ) : EReal) by norm_cast]
  simp [Ideal.ofBits, Ideal.ieee, -EReal.coe_mul]; norm_num

end Cert.Numbers
end
-- ==== Proof.ActValue.lean ====
/- The value of the squared-ReLU gate's gradient: what the kernel writes is, entry by entry,
   (row of dh2) · (row of w_down) times 2·max(u, 0), and so is what the reference computes. -/
module

public import proofs.«01_k».proof.Defs
public import proofs.«01_k».proof.Proof.Gen.ActKernelIdeal.Value
public import proofs.«01_k».proof.Proof.Numbers
public import Idealize.ShloMosaic.Lib.Pipeline.ValueKit
public import Idealize.ShloMosaic.Lib.Pointwise

@[expose] public section

set_option maxRecDepth 16384

noncomputable section

namespace Cert.ActValue

open Idealize.ShloMosaic Idealize.ShloMosaic.TcCoe Idealize.SL.Sem
open Idealize.ShloMosaic.Pipeline (Dat)
open Cert.ActKernelIdeal Cert.ActKernelIdeal.Gen

variable (m : (ℓ : Loc nD τ sig) → Buf (Elt Ideal) ℓ)

/-- Entry (i, j) of the gradient: the product of row i of the cotangent with row j of the weight, times twice the
    positive part of the pre-activation. -/
def G (d : S8192x1024.Idx → EReal) (u : S8192x4096.Idx → EReal) (w : S4096x1024.Idx → EReal) (i : S8192x4096.Idx) : EReal :=
  (∑ k : Fin 1024, d (ix2 (i 0) k) * w (ix2 (i 1) k)) * (2 * max (u i) 0)

/-- Which block each window shows at a grid point. -/
theorem idx : ∀ t : Fin cfg0.N, win0_0.index t = ![(t : Nat), 0] ∧ win0_1.index t = ![(t : Nat), 0] ∧ win0_2.index t = ![0, 0] ∧ win0_3.index t = ![(t : Nat), 0] :=
  (by decide +kernel : ∀ t : Fin grid0.N, _)

/-- One stored column tile, at an entry: the product's entry times twice the positive part. -/
theorem pay (x0 : Vec Ideal S512x1024 .f32) (x1 : Vec Ideal S512x512 .f32) (x2 : Vec Ideal S512x1024 .bf16) (y : S512x512.Idx) :
    k0_pay5 x0 x2 x1 y = (∑ k : Fin 1024, x0 (ix2 (y 0) k) * x2 (ix2 (y 1) k)) * (2 * max (x1 y) 0) := by
  idx_vars y
  pointwise [k0_pay5, k0_pay4, Numbers.two]

/-- The array the kernel leaves is `G` of its arguments. -/
theorem final (c : Dev nD) : (dats m 0 c).arrAt 3 cfg0.N = fun i => (G (m ((c : Thread nD τ).loc main_arg0)) (m ((c : Thread nD τ).loc main_arg1)) (m ((c : Thread nD τ).loc main_arg2)) i : EReal) := by
  refine (dats m 0 c).arrAt_eq_of_covers 3 _ (by decide +kernel) fun t hf y => ?_
  blk_simp
  rw [after0_3]
  frame_out
  canon_tiles y h
  all_goals
    refine (pay _ _ _ _).trans ?_
    unfold G
    blk_point [iblk, V, idx t, View.ld_apply]

end Cert.ActValue
end
-- ==== Proof.ActRef.lean ====
/- The reference of the squared-ReLU gate's gradient read at one entry. -/
module

public import proofs.«01_k».proof.Defs
public import proofs.«01_k».proof.Proof.Numbers
public import proofs.«01_k».proof.Proof.Gen.ActReferenceIdeal.Read
public import Idealize.ShloMosaic.Lib.Pointwise

@[expose] public section

set_option maxRecDepth 16384

noncomputable section

namespace Cert.ActRef

open Idealize.ShloMosaic Idealize.ShloMosaic.TcCoe Idealize.SL.Sem
open Cert.ActReferenceIdeal Cert.ActReferenceIdeal.Read

/-- An entry of the derivative of `square(relu(u)) @ w` along `d`. -/
theorem ref (d : Vec Ideal S8192x1024 .f32) (u : Vec Ideal S8192x4096 .f32) (w : Vec Ideal S4096x1024 .f32) (i : S8192x4096.Idx) :
    val_main_v12 (F := Ideal) d u w i = (∑ k : Fin 1024, d (ix2 (i 0) k) * w (ix2 (i 1) k)) * (2 * max (u i) 0) := by
  idx_vars i
  pointwise [val_main_call0_cst, val_main_call0_v0, val_main_v0, val_main_cst, val_main_v1, val_main_v2, val_main_cst_0, val_main_v3, val_main_v4, val_main_cst_1, val_main_v5, val_main_v6, val_main_v7, val_main_v8, val_main_v9, val_main_cst_2, val_main_v10, val_main_v11, val_main_v12, Numbers.two]
  split_ifs with h
  · rfl
  · rw [max_eq_right (not_lt.mp h), mul_zero, mul_zero]

end Cert.ActRef
end
-- ==== Proof.Act.lean ====
/- The five claims about the gradient of the squared-ReLU gate. -/
module

public import proofs.«01_k».proof.Proof.ActValue
public import proofs.«01_k».proof.Proof.ActRef
public import proofs.«01_k».proof.Proof.Gen.ActKernel
public import proofs.«01_k».proof.Proof.Gen.ActKernel.Frame
public import Idealize.ShloMosaic.Adequacy
public import Idealize.ShloMosaic.Init
public import Idealize.ShloMosaic.Lib.Quiescent

@[expose] public section

set_option maxRecDepth 16384

noncomputable section

namespace Cert.Act

open Idealize.ShloMosaic Idealize.ShloMosaic.TcCoe Idealize.SL.Sem

/-- The kernel's frame. -/
theorem frame_kernel : Cert.quiescent_ActKernel (hActKernel := Cert.ActKernel.Gen.facts) :=
  fun m ρ _ => Cert.ActKernel.Gen.frame m ρ

/-- The idealized kernel's frame. -/
theorem frame_ideal : Cert.quiescent_ActKernelIdeal (hActKernelIdeal := Cert.ActKernelIdeal.Gen.facts) :=
  fun m ρ _ => Cert.ActKernelIdeal.Gen.frame m ρ

/-- The reference's frame. -/
theorem frame_ref : Cert.quiescent_ActReferenceIdeal (hActReferenceIdeal := Cert.ActReferenceIdeal.Gen.facts) :=
  fun m ρ _ => (θ_run Cert.ActReferenceIdeal.defs _ _).mono (fun r h => ⟨fun c => (h c).2, sem_eq_zero_of_no_sems rfl r.2⟩) (Cert.ActReferenceIdeal.Value.run m ρ)

/-- Nothing was rewritten. -/
theorem preserves : Cert.preserves_ActKernel_ActKernelIdeal := trivial

/-- Kernel and reference compute one function. -/
theorem algebraic : Cert.algebraic_ActKernelIdeal_ActReferenceIdeal (hActKernelIdeal := Cert.ActKernelIdeal.Gen.facts) (hActReferenceIdeal := Cert.ActReferenceIdeal.Gen.facts) := by
  intro m g m' g' _ hag
  refine ⟨_, Cert.ActKernelIdeal.Value.run_blocks m g, (θ_run Cert.ActReferenceIdeal.defs _ _).mono (fun r h c => ⟨(h c).1.trans ?_, (h c).2⟩) (Cert.ActReferenceIdeal.Value.run m' g')⟩
  rw [(hag c).1, (hag c).2.1, (hag c).2.2, Cert.ActReferenceIdeal.Read.val_main_v12_eq, Cert.ActValue.final m c]
  exact funext fun i => Cert.ActRef.ref _ _ _ i

end Cert.Act
end
-- ==== Proof.FlashOffs.lean ====
module

public import proofs.«01_k».proof.Proof.Gen.FlashKernelIdeal.Frame
public import proofs.«01_k».proof.Proof.Gen.FlashKernelIdeal.Skeleton
public import Idealize.ShloMosaic.Lib.VecWindow

@[expose] public section

set_option maxRecDepth 16384

noncomputable section

namespace Cert.FlashRun

open Cert.FlashKernelIdeal Cert.FlashKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The query block of half `r` of a pair of blocks. -/
abbrev qq (i : grid0.Coords) (k r : ℕ) : Fin 16 := Fin.ofNat 16 ((i 1).val + 1 + (2 * k + r))

theorem off5_eq0 : ∀ (i : grid0.Coords) (k : Fin (k0_t1_loop i).trips), k0_off5 i k 1#32 = ![0, 512 * (qq i k 0).val, 0] := by decide +kernel
theorem off5_eq1 : ∀ (i : grid0.Coords) (k : Fin (k0_t1_loop i).trips), k0_off5 i k 2#32 = ![0, 512 * (qq i k 1).val, 0] := by decide +kernel
theorem off6_eq0 : ∀ (i : grid0.Coords) (k : Fin (k0_t1_loop i).trips), k0_off6 i k 1#32 = ![512 * (qq i k 0).val, 0] := by decide +kernel
theorem off6_eq1 : ∀ (i : grid0.Coords) (k : Fin (k0_t1_loop i).trips), k0_off6 i k 2#32 = ![512 * (qq i k 1).val, 0] := by decide +kernel
theorem off7_eq0 : ∀ (i : grid0.Coords) (k : Fin (k0_t1_loop i).trips), k0_off7 i k 1#32 = ![0, (qq i k 0).val, 0, 0] := by decide +kernel
theorem off7_eq1 : ∀ (i : grid0.Coords) (k : Fin (k0_t1_loop i).trips), k0_off7 i k 2#32 = ![0, (qq i k 1).val, 0, 0] := by decide +kernel
theorem off8_eq0 : ∀ (i : grid0.Coords) (k : Fin (k0_t1_loop i).trips), k0_off8 i k 1#32 = ![0, (qq i k 0).val, 0, 0] := by decide +kernel
theorem off8_eq1 : ∀ (i : grid0.Coords) (k : Fin (k0_t1_loop i).trips), k0_off8 i k 2#32 = ![0, (qq i k 1).val, 0, 0] := by decide +kernel
theorem trips1_eq : ∀ i : grid0.Coords, (k0_t1_loop i).trips = (15 - (i 1).val) / 2 := by decide +kernel
theorem trips2_eq : ∀ i : grid0.Coords, (k0_t2_loop i).trips = 0 := by decide +kernel
theorem trips3_eq : ∀ i : grid0.Coords, (k0_t3_loop i).trips = (15 - (i 1).val) % 2 := by decide +kernel
theorem trips4_eq : ∀ i : grid0.Coords, (k0_t4_loop i).trips = 0 := by decide +kernel
theorem off13_eq : ∀ (i : grid0.Coords) (k : Fin (k0_t3_loop i).trips), k0_off13 i k = ![0, 512 * 15, 0] := by decide +kernel
theorem off14_eq : ∀ (i : grid0.Coords) (k : Fin (k0_t3_loop i).trips), k0_off14 i k = ![512 * 15, 0] := by decide +kernel
theorem off15_eq : ∀ (i : grid0.Coords) (k : Fin (k0_t3_loop i).trips), k0_off15 i k = ![0, 15, 0, 0] := by decide +kernel
theorem off16_eq : ∀ (i : grid0.Coords) (k : Fin (k0_t3_loop i).trips), k0_off16 i k = ![0, 15, 0, 0] := by decide +kernel

end Cert.FlashRun
end
end
-- ==== Proof.FlashRun.lean ====
module

public import proofs.«01_k».proof.Proof.Gen.FlashKernelIdeal.Frame
public import proofs.«01_k».proof.Proof.Gen.FlashKernelIdeal.Skeleton
public import proofs.«01_k».proof.Proof.FlashOffs
public import Idealize.ShloMosaic.Lib.VecWindow
public import Idealize.ShloMosaic.Lib.LoopRemainder

@[expose] public section

set_option maxRecDepth 16384

noncomputable section

namespace Cert.FlashRun

open Cert.FlashKernelIdeal Cert.FlashKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

instance (i : grid0.Coords) (k : Fin (k0_t1_loop i).trips) : ClosedOff (k0_off8 i k 1#32) := ⟨_, off8_eq0 i k⟩
instance (i : grid0.Coords) (k : Fin (k0_t1_loop i).trips) : ClosedOff (k0_off8 i k 2#32) := ⟨_, off8_eq1 i k⟩

/-! ## What one block of queries does to the three gradients -/

/-- The contents of the three outputs' staging buffers. -/
abbrev St (F : FTy → Type) : Type := Vec F S1x16x256x512 .f32 × Vec F S1x512x256 .f32 × Vec F S1x512x128 .f32

theorem inbQ : ∀ (q : Fin 16) a, ![0, 512 * q.val, 0] a + S1x512x256.size a ≤ S1x8192x256.size a := by decide
theorem inbD : ∀ (q : Fin 16) a, ![512 * q.val, 0] a + S512x128.size a ≤ S8192x128.size a := by decide
theorem inbL : ∀ (q : Fin 16) a, ![0, q.val, 0, 0] a + S1x1x1x512.size a ≤ S1x16x8x512.size a := by decide
theorem inbA : ∀ (q : Fin 16) a, ![0, q.val, 0, 0] a + S1x1x256x512.size a ≤ S1x16x256x512.size a := by decide

/-- Query block `q`, of the scaled queries. -/
def wq (x : Vec F S1x8192x256 .bf16) (q : Fin 16) : Vec F S1x512x256 .bf16 :=
  VecWindow.window x ![0, 512 * q.val, 0] S1x512x256.size (inbQ q)
/-- Query block `q`, of the output's cotangent. -/
def wd (x : Vec F S8192x128 .bf16) (q : Fin 16) : Vec F S512x128 .bf16 :=
  VecWindow.window x ![512 * q.val, 0] S512x128.size (inbD q)
/-- Query block `q`, of a row statistic. -/
def wl (x : Vec F S1x16x8x512 .f32) (q : Fin 16) : Vec F S1x1x1x512 .f32 :=
  VecWindow.window x ![0, q.val, 0, 0] S1x1x1x512.size (inbL q)
/-- Query block `q`, of the transposed gradient of the queries. -/
def wa (x : Vec F S1x16x256x512 .f32) (q : Fin 16) : Vec F S1x1x256x512 .f32 :=
  VecWindow.window x ![0, q.val, 0, 0] S1x1x256x512.size (inbA q)
/-- The transposed gradient of the queries with block `q` replaced. -/
def pa (x : Vec F S1x16x256x512 .f32) (q : Fin 16) (w : Vec F S1x1x256x512 .f32) : Vec F S1x16x256x512 .f32 :=
  VecWindow.put x ![0, q.val, 0, 0] S1x1x256x512.size w

section Step
variable (x2 : Vec F S1x8192x256 .bf16) (x5 : Vec F S8192x128 .bf16) (x6 x7 : Vec F S1x16x8x512 .f32)
  (v4 : FVec F S512x256 .bf16) (v6 : FVec F S512x128 .bf16) (v7 : FVec F S256x512 .bf16)

/-- A block of queries below the diagonal: every gradient takes its addend. -/
def stepQ (q : Fin 16) (s : St F) : St F :=
  (pa s.1 q (k0_pay4 v7 (k0_pay42 v4 v6 (wq x2 q) (wd x5 q) (wl x6 q) (wl x7 q)) (wa s.1 q)),
   k0_pay3 (k0_pay43 v4 v6 (wq x2 q) (wd x5 q) (wl x6 q) (wl x7 q)) s.2.1,
   k0_pay44 v4 (wq x2 q) (wd x5 q) (wl x6 q) s.2.2)

/-- The first `n` blocks of queries after block `b`. -/
def stepN (b : ℕ) : ℕ → St F → St F
  | 0, s => s
  | n + 1, s => stepQ x2 x5 x6 x7 v4 v6 v7 (Fin.ofNat 16 (b + 1 + n)) (stepN b n s)

/-- `n` steps at the last block of queries. -/
def stepM : ℕ → St F → St F
  | 0, s => s
  | n + 1, s => stepQ x2 x5 x6 x7 v4 v6 v7 15 (stepM n s)

end Step

/-! ## The loops -/

variable (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x16x256x512 .f32) (harg8 : arg8.IsWhole) (arg9 : Memref sig .tc .vmem S1x512x256 .f32) (harg9 : arg9.IsWhole) (arg10 : Memref sig .tc .vmem S1x512x128 .f32) (harg10 : arg10.IsWhole)
  (X2 : BufTy.Contents (Elt F) arg2.view.ty) (X5 : BufTy.Contents (Elt F) arg5.view.ty) (X6 : BufTy.Contents (Elt F) arg6.view.ty) (X7 : BufTy.Contents (Elt F) arg7.view.ty)

/-- The buffers of a trip. -/
abbrev Bufs (f8 : BufTy.Contents (Elt F) arg8.view.ty) (f9 : BufTy.Contents (Elt F) arg9.view.ty) (f10 : BufTy.Contents (Elt F) arg10.view.ty) : sProp 𝕄 :=
  iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

variable (v4 : FVec F S512x256 .bf16) (v6 : FVec F S512x128 .bf16) (v7 : FVec F S256x512 .bf16)

/-- The contents a state leaves in the three buffers. -/
abbrev Holds (s : St F) (f8 : BufTy.Contents (Elt F) arg8.view.ty) (f9 : BufTy.Contents (Elt F) arg9.view.ty) (f10 : BufTy.Contents (Elt F) arg10.view.ty) : Prop :=
  arg8.view.read (Elt F) f8 = s.1 ∧ arg9.view.read (Elt F) f9 = s.2.1 ∧ arg10.view.read (Elt F) f10 = s.2.2

theorem trip3 (v81 : BitVec 32) (k : Fin (k0_t3_loop i).trips) (E : Set ℕ) (f8 f9 f10) (s : St F) (hs : Holds arg8 arg9 arg10 s f8 f9 f10) :
    Bufs c arg2 arg5 arg6 arg7 arg8 arg9 arg10 X2 X5 X6 X7 f8 f9 f10 ⊢
      wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 v4 v6 v7 v81 k PUnit.unit)
        (fun _ => iprop(∃ g8 g9 g10, Bufs c arg2 arg5 arg6 arg7 arg8 arg9 arg10 X2 X5 X6 X7 g8 g9 g10 ∗
          ⌜Holds arg8 arg9 arg10 (stepQ (arg2.view.read (Elt F) X2) (arg5.view.read (Elt F) X5) (arg6.view.read (Elt F) X6) (arg7.view.read (Elt F) X7) v4 v6 v7 15 s) g8 g9 g10⌝)) := by
  unfold k0_t3_body
  iintro ⟨H2, H5, H6, H7, H8, H9, H10⟩
  sl_exec
  sl_step
  iexists _, _, _
  isplitl [H2 H5 H6 H7 H8 H9 H10]
  · isplitl [H2]; · iexact H2
    isplitl [H5]; · iexact H5
    isplitl [H6]; · iexact H6
    isplitl [H7]; · iexact H7
    isplitl [H8]; · iexact H8
    isplitl [H9]; · iexact H9
    iexact H10
  · ipureintro
    sl_unfold_run_names
    obtain ⟨h8, h9, h10⟩ := hs
    have e2 := View.readAt_unit arg2.view X2 (k0_off13_inb i k) (off13_eq i k) (inbQ 15)
    have e5 := View.readAt_unit arg5.view X5 (k0_off14_inb i k) (off14_eq i k) (inbD 15)
    have e6 := View.readAt_unit arg6.view X6 (k0_off15_inb i k) (off15_eq i k) (inbL 15)
    have e7 := View.readAt_unit arg7.view X7 (k0_off15_inb i k) (off15_eq i k) (inbL 15)
    have e8 := View.readAt_unit arg8.view f8 (k0_off16_inb i k) (off16_eq i k) (inbA 15)
    refine ⟨?_, ?_, ?_⟩
    · rw [View.read_writes_cons_put _ _ _ _ _ (off16_eq i k), View.writes_nil, e2, e5, e6, e7, e8, h8]
      rfl
    · refine (View.read_writes_full _ _ _ _ _).trans ?_
      rw [e2, e5, e6, e7]
      erw [View.readAt_full]
      rw [h9]
      rfl
    · refine (View.read_writes_full _ _ _ _ _).trans ?_
      rw [e2, e5, e6]
      erw [View.readAt_full]
      rw [h10]
      rfl

theorem trip1 (v81 : BitVec 32) (k : Fin (k0_t1_loop i).trips) (E : Set ℕ) (f8 f9 f10) (s : St F) (hs : Holds arg8 arg9 arg10 s f8 f9 f10) :
    Bufs c arg2 arg5 arg6 arg7 arg8 arg9 arg10 X2 X5 X6 X7 f8 f9 f10 ⊢
      wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 v81 v4 v6 v7 k PUnit.unit)
        (fun _ => iprop(∃ g8 g9 g10, Bufs c arg2 arg5 arg6 arg7 arg8 arg9 arg10 X2 X5 X6 X7 g8 g9 g10 ∗
          ⌜Holds arg8 arg9 arg10 (stepQ (arg2.view.read (Elt F) X2) (arg5.view.read (Elt F) X5) (arg6.view.read (Elt F) X6) (arg7.view.read (Elt F) X7) v4 v6 v7 (qq i k 1)
            (stepQ (arg2.view.read (Elt F) X2) (arg5.view.read (Elt F) X5) (arg6.view.read (Elt F) X6) (arg7.view.read (Elt F) X7) v4 v6 v7 (qq i k 0) s)) g8 g9 g10⌝)) := by
  unfold k0_t1_body
  iintro ⟨H2, H5, H6, H7, H8, H9, H10⟩
  sl_exec
  sl_step
  iexists _, _, _
  isplitl [H2 H5 H6 H7 H8 H9 H10]
  · isplitl [H2]; · iexact H2
    isplitl [H5]; · iexact H5
    isplitl [H6]; · iexact H6
    isplitl [H7]; · iexact H7
    isplitl [H8]; · iexact H8
    isplitl [H9]; · iexact H9
    iexact H10
  · ipureintro
    sl_unfold_run_names
    obtain ⟨h8, h9, h10⟩ := hs
    have e2 := View.readAt_unit (off := k0_off5 i k 1#32) arg2.view X2 (k0_off5_inb i k 0) (off5_eq0 i k) (inbQ _)
    have e5 := View.readAt_unit (off := k0_off6 i k 1#32) arg5.view X5 (k0_off6_inb i k 0) (off6_eq0 i k) (inbD _)
    have e6 := View.readAt_unit (off := k0_off7 i k 1#32) arg6.view X6 (k0_off7_inb i k 0) (off7_eq0 i k) (inbL _)
    have e7 := View.readAt_unit (off := k0_off7 i k 1#32) arg7.view X7 (k0_off7_inb i k 0) (off7_eq0 i k) (inbL _)
    have e8 := View.readAt_unit (off := k0_off8 i k 1#32) arg8.view f8 (k0_off8_inb i k 0) (off8_eq0 i k) (inbA _)
    have d2 := View.readAt_unit (off := k0_off5 i k 2#32) arg2.view X2 (k0_off5_inb i k 1) (off5_eq1 i k) (inbQ _)
    have d5 := View.readAt_unit (off := k0_off6 i k 2#32) arg5.view X5 (k0_off6_inb i k 1) (off6_eq1 i k) (inbD _)
    have d6 := View.readAt_unit (off := k0_off7 i k 2#32) arg6.view X6 (k0_off7_inb i k 1) (off7_eq1 i k) (inbL _)
    have d7 := View.readAt_unit (off := k0_off7 i k 2#32) arg7.view X7 (k0_off7_inb i k 1) (off7_eq1 i k) (inbL _)
    have d8 := fun (f : BufTy.Contents (Elt F) arg8.view.ty) => View.readAt_unit (off := k0_off8 i k 2#32) arg8.view f (k0_off8_inb i k 1) (off8_eq1 i k) (inbA _)
    refine ⟨?_, ?_, ?_⟩
    · rw [View.read_writes_cons_put _ _ _ _ _ (off8_eq1 i k), View.read_writes_cons_put _ _ _ _ _ (off8_eq0 i k), View.writes_nil]
      rw [d2, d5, d6, d7, d8, View.read_writes_cons_put _ _ _ _ _ (off8_eq0 i k), View.writes_nil, e2, e5, e6, e7, e8, h8]
      rfl
    · refine (View.read_writes_full _ _ _ _ _).trans ?_
      erw [View.readCov_full]
      rw [d2, d5, d6, d7, e2, e5, e6, e7]
      erw [View.readAt_full]
      rw [h9]
      rfl
    · refine (View.read_writes_full _ _ _ _ _).trans ?_
      erw [View.readCov_full]
      rw [d2, d5, d6, e2, e5, e6]
      erw [View.readAt_full]
      rw [h10]
      rfl

/-- The buffers at a state. -/
abbrev Inv (s : St F) : sProp 𝕄 :=
  iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg8.view.loc (c : Thread nD τ) ↦[arg8.view.set]{fullShare} f) ∗ ⌜arg8.view.read (Elt F) f = s.1⌝)
    ∗ (∃ f, (arg9.view.loc (c : Thread nD τ) ↦[arg9.view.set]{fullShare} f) ∗ ⌜arg9.view.read (Elt F) f = s.2.1⌝)
    ∗ (∃ f, (arg10.view.loc (c : Thread nD τ) ↦[arg10.view.set]{fullShare} f) ∗ ⌜arg10.view.read (Elt F) f = s.2.2⌝))

/-- One trip of loop 1, by the state before it. -/
theorem loop1 (E : Set ℕ) (v81 : BitVec 32) (s : St F) (k : Fin (k0_t1_loop i).trips) :
    Inv c arg2 arg5 arg6 arg7 arg8 arg9 arg10 X2 X5 X6 X7 (stepN (arg2.view.read (Elt F) X2) (arg5.view.read (Elt F) X5) (arg6.view.read (Elt F) X6) (arg7.view.read (Elt F) X7) v4 v6 v7 (i 1).val (2 * k.val) s) ⊢
      wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 v81 v4 v6 v7 k PUnit.unit)
        (fun _ => Inv c arg2 arg5 arg6 arg7 arg8 arg9 arg10 X2 X5 X6 X7 (stepN (arg2.view.read (Elt F) X2) (arg5.view.read (Elt F) X5) (arg6.view.read (Elt F) X6) (arg7.view.read (Elt F) X7) v4 v6 v7 (i 1).val (2 * (k.val + 1)) s)) := by
  iintro ⟨H2, H5, H6, H7, ⟨%f8, H8, %h8⟩, ⟨%f9, H9, %h9⟩, ⟨%f10, H10, %h10⟩⟩
  iapply (wp_wand_r frame (wpE (defs₀ (F := F)) Variants.none (c : Thread nD τ) none) E)
  isplitl [H2 H5 H6 H7 H8 H9 H10]
  · iapply (trip1 c i arg2 harg2 arg3 harg3 arg4 harg4 arg5 harg5 arg6 harg6 arg7 harg7 arg8 harg8 arg9 harg9 arg10 harg10 X2 X5 X6 X7 v4 v6 v7 v81 k E f8 f9 f10 _ ⟨h8, h9, h10⟩)
    isplitl [H2]; · iexact H2
    isplitl [H5]; · iexact H5
    isplitl [H6]; · iexact H6
    isplitl [H7]; · iexact H7
    isplitl [H8]; · iexact H8
    isplitl [H9]; · iexact H9
    iexact H10
  · iintro %_ ⟨%g8, %g9, %g10, ⟨H2, H5, H6, H7, H8, H9, H10⟩, %h⟩
    obtain ⟨k8, k9, k10⟩ := h
    isplitl [H2]; · iexact H2
    isplitl [H5]; · iexact H5
    isplitl [H6]; · iexact H6
    isplitl [H7]; · iexact H7
    isplitl [H8]
    · iexists _; isplitl [H8]; · iexact H8
      ipureintro; exact k8
    isplitl [H9]
    · iexists _; isplitl [H9]; · iexact H9
      ipureintro; exact k9
    iexists _; isplitl [H10]; · iexact H10
    ipureintro; exact k10

/-- One trip of loop 3, by the state before it. -/
theorem loop3 (E : Set ℕ) (v81 : BitVec 32) (s : St F) (k : Fin (k0_t3_loop i).trips) :
    Inv c arg2 arg5 arg6 arg7 arg8 arg9 arg10 X2 X5 X6 X7 (stepM (arg2.view.read (Elt F) X2) (arg5.view.read (Elt F) X5) (arg6.view.read (Elt F) X6) (arg7.view.read (Elt F) X7) v4 v6 v7 k.val s) ⊢
      wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 v4 v6 v7 v81 k PUnit.unit)
        (fun _ => Inv c arg2 arg5 arg6 arg7 arg8 arg9 arg10 X2 X5 X6 X7 (stepM (arg2.view.read (Elt F) X2) (arg5.view.read (Elt F) X5) (arg6.view.read (Elt F) X6) (arg7.view.read (Elt F) X7) v4 v6 v7 (k.val + 1) s)) := by
  iintro ⟨H2, H5, H6, H7, ⟨%f8, H8, %h8⟩, ⟨%f9, H9, %h9⟩, ⟨%f10, H10, %h10⟩⟩
  iapply (wp_wand_r frame (wpE (defs₀ (F := F)) Variants.none (c : Thread nD τ) none) E)
  isplitl [H2 H5 H6 H7 H8 H9 H10]
  · iapply (trip3 c i arg2 harg2 arg3 harg3 arg4 harg4 arg5 harg5 arg6 harg6 arg7 harg7 arg8 harg8 arg9 harg9 arg10 harg10 X2 X5 X6 X7 v4 v6 v7 v81 k E f8 f9 f10 _ ⟨h8, h9, h10⟩)
    isplitl [H2]; · iexact H2
    isplitl [H5]; · iexact H5
    isplitl [H6]; · iexact H6
    isplitl [H7]; · iexact H7
    isplitl [H8]; · iexact H8
    isplitl [H9]; · iexact H9
    iexact H10
  · iintro %_ ⟨%g8, %g9, %g10, ⟨H2, H5, H6, H7, H8, H9, H10⟩, %h⟩
    obtain ⟨k8, k9, k10⟩ := h
    isplitl [H2]; · iexact H2
    isplitl [H5]; · iexact H5
    isplitl [H6]; · iexact H6
    isplitl [H7]; · iexact H7
    isplitl [H8]
    · iexists _; isplitl [H8]; · iexact H8
      ipureintro; exact k8
    isplitl [H9]
    · iexists _; isplitl [H9]; · iexact H9
      ipureintro; exact k9
    iexists _; isplitl [H10]; · iexact H10
    ipureintro; exact k10
end Cert.FlashRun
end
end
-- ==== Proof.FlashBody.lean ====
module

public import proofs.«01_k».proof.Proof.Gen.FlashKernelIdeal.Frame
public import proofs.«01_k».proof.Proof.Gen.FlashKernelIdeal.Skeleton
public import proofs.«01_k».proof.Proof.FlashRun

@[expose] public section

set_option maxRecDepth 16384

noncomputable section

namespace Cert.FlashRun

open Cert.FlashKernelIdeal Cert.FlashKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x16x256x512 .f32) (harg8 : arg8.IsWhole) (arg9 : Memref sig .tc .vmem S1x512x256 .f32) (harg9 : arg9.IsWhole) (arg10 : Memref sig .tc .vmem S1x512x128 .f32) (harg10 : arg10.IsWhole)
  (X2 : BufTy.Contents (Elt F) arg2.view.ty) (X5 : BufTy.Contents (Elt F) arg5.view.ty) (X6 : BufTy.Contents (Elt F) arg6.view.ty) (X7 : BufTy.Contents (Elt F) arg7.view.ty)

/-- The transposed gradient of the queries when the diagonal block is met: zeroed first at a head's first key block. -/
def startA (i : grid0.Coords) (A : Vec F S1x16x256x512 .f32) : Vec F S1x16x256x512 .f32 := if (i 1).val = 0 then k0_pay51 else A

theorem first_eq : ∀ i : grid0.Coords, Scalar.cmpi CmpIPredicate.ne (Scalar.extui (Scalar.cmpi CmpIPredicate.eq (BitVec.ofNat 32 (i 1).val) 0#32) : BitVec 32) 0#32 = 1#1 ↔ (i 1).val = 0 := by
  decide +kernel

theorem startA_eq (i : grid0.Coords) (arg8 : Memref sig .tc .vmem S1x16x256x512 .f32) (f8 : BufTy.Contents (Elt F) arg8.view.ty) :
    arg8.view.read (Elt F) (if hc : Scalar.cmpi CmpIPredicate.ne (Scalar.extui (Scalar.cmpi CmpIPredicate.eq (BitVec.ofNat 32 (i 1).val) 0#32) : BitVec 32) 0#32 = 1#1 then
        arg8.view.writes (Elt F) f8 [⟨Rect.unit (s := S1x16x256x512) ![0, 0, 0, 0] S1x16x256x512.size inb_S1x16x256x512_S1x16x256x512_0_0_0_0, k0_pay51⟩] else f8)
      = startA i (arg8.view.read (Elt F) f8) := by
  unfold startA
  by_cases h : (i 1).val = 0
  · rw [dif_pos ((first_eq i).mpr h), if_pos h]
    exact View.read_writes_full _ _ _ _ _
  · rw [dif_neg (fun h' => h ((first_eq i).mp h')), if_neg h]

section
variable (x2 : Vec F S1x8192x256 .bf16) (x3 : Vec F S1x512x256 .bf16) (x4 : Vec F S1x512x128 .bf16) (x5 : Vec F S8192x128 .bf16) (x6 x7 : Vec F S1x16x8x512 .f32)

/-- What the diagonal block leaves: the keys' and values' gradients start here. -/
def diag (q : Fin 16) (A : Vec F S1x16x256x512 .f32) : St F :=
  (pa A q (k0_pay64 (k0_pay54 x3) (k0_pay57 x3 (wq x2 q) (wl x6 q)) (k0_pay59 x4 (wd x5 q)) (k0_pay60 (wl x7 q)) (wa A q)),
   k0_pay63 (k0_pay55 (wq x2 q)) (k0_pay57 x3 (wq x2 q) (wl x6 q)) (k0_pay59 x4 (wd x5 q)) (k0_pay60 (wl x7 q)),
   k0_pay62 (k0_pay58 x3 (wq x2 q) (wd x5 q) (wl x6 q)))

/-- The state a grid point leaves, from the gradient of the queries it finds. -/
def point (i : grid0.Coords) (A : Vec F S1x16x256x512 .f32) : St F :=
  stepM x2 x5 x6 x7 (k0_pay52 x3) (k0_pay53 x4) (k0_pay54 x3) (k0_t3_loop i).trips
    (stepN x2 x5 x6 x7 (k0_pay52 x3) (k0_pay53 x4) (k0_pay54 x3) (i 1).val (2 * (k0_t1_loop i).trips)
      (diag x2 x3 x4 x5 x6 x7 (i 1) (startA i A)))
end

variable (X3 : BufTy.Contents (Elt F) arg3.view.ty) (X4 : BufTy.Contents (Elt F) arg4.view.ty)

set_option maxHeartbeats 2000000 in
theorem body (E : Set ℕ) (f8 f9 f10) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄) ⊢
      wp frame (wpE (defs₀ (F := F)) Variants.none (c : Thread nD τ) none) E (cc0_flash_bwd_skel (F := F) i arg2 harg2 arg3 harg3 arg4 harg4 arg5 harg5 arg6 harg6 arg7 harg7 arg8 harg8 arg9 harg9 arg10 harg10)
        (fun _ => iprop((arg3.view.loc (c : Thread nD τ) ↦[arg3.view.set]{fullShare} X3) ∗ (arg4.view.loc (c : Thread nD τ) ↦[arg4.view.set]{fullShare} X4) ∗ Inv c arg2 arg5 arg6 arg7 arg8 arg9 arg10 X2 X5 X6 X7 (point (arg2.view.read (Elt F) X2) (arg3.view.read (Elt F) X3) (arg4.view.read (Elt F) X4) (arg5.view.read (Elt F) X5) (arg6.view.read (Elt F) X6) (arg7.view.read (Elt F) X7) i (arg8.view.read (Elt F) f8)))) := by
  unfold cc0_flash_bwd_skel
  iintro ⟨H2, H3, H4, H5, H6, H7, H8, H9, H10⟩
  sl_exec
  sl_for (fun k (_ : PUnit) => Inv c arg2 arg5 arg6 arg7 arg8 arg9 arg10 X2 X5 X6 X7 (stepN (arg2.view.read (Elt F) X2) (arg5.view.read (Elt F) X5) (arg6.view.read (Elt F) X6) (arg7.view.read (Elt F) X7) (body.sl.v4 arg3 X3) (body.sl.v6 arg4 X4) (body.sl.v7 arg3 X3) (i 1).val (2 * k) (diag (arg2.view.read (Elt F) X2) (arg3.view.read (Elt F) X3) (arg4.view.read (Elt F) X4) (arg5.view.read (Elt F) X5) (arg6.view.read (Elt F) X6) (arg7.view.read (Elt F) X7) (i 1) (startA i (arg8.view.read (Elt F) f8))))) $$ [H2 H5 H6 H7 H8 H9 H10]
  · intro k acc; exact loop1 c i arg2 harg2 arg3 harg3 arg4 harg4 arg5 harg5 arg6 harg6 arg7 harg7 arg8 harg8 arg9 harg9 arg10 harg10 X2 X5 X6 X7 _ _ _ E _ _ k
  · isplitl [H2]; · iexact H2
    isplitl [H5]; · iexact H5
    isplitl [H6]; · iexact H6
    isplitl [H7]; · iexact H7
    sl_unfold_run_names
    have d2 := View.readAt_unit arg2.view X2 (k0_off1_inb i) (k0_off1_eq i) (inbQ (i 1))
    have d5 := View.readAt_unit arg5.view X5 (k0_off2_inb i) (k0_off2_eq i) (inbD (i 1))
    have d6 := View.readAt_unit arg6.view X6 (k0_off3_inb i) (k0_off3_eq i) (inbL (i 1))
    have d7 := View.readAt_unit arg7.view X7 (k0_off3_inb i) (k0_off3_eq i) (inbL (i 1))
    have d8 := fun (f : BufTy.Contents (Elt F) arg8.view.ty) => View.readAt_unit arg8.view f (k0_off4_inb i) (k0_off4_eq i) (inbA (i 1))
    isplitl [H8]
    · iexists _; isplitl [H8]; · iexact H8
      ipureintro
      rw [View.read_writes_cons_put _ _ _ _ _ (k0_off4_eq i), View.writes_nil]
      rw [d2, d5, d6, d7, d8]
      erw [View.readAt_full, View.readAt_full, startA_eq]
      rfl
    isplitl [H9]
    · iexists _; isplitl [H9]; · iexact H9
      ipureintro
      refine (View.read_writes_full _ _ _ _ _).trans ?_
      rw [d2, d5, d6, d7]
      erw [View.readAt_full, View.readAt_full]
      rfl
    iexists _; isplitl [H10]; · iexact H10
    ipureintro
    refine (View.read_writes_full _ _ _ _ _).trans ?_
    rw [d2, d5, d6]
    erw [View.readAt_full]
    rfl
  iintro %_ ⟨H2, H5, H6, H7, ⟨%g8, H8, %e8⟩, ⟨%g9, H9, %e9⟩, ⟨%g10, H10, %e10⟩⟩
  sl_for0 (trips2_eq i)
  sl_exec
  sl_for (fun k (_ : PUnit) => Inv c arg2 arg5 arg6 arg7 arg8 arg9 arg10 X2 X5 X6 X7 (stepM (arg2.view.read (Elt F) X2) (arg5.view.read (Elt F) X5) (arg6.view.read (Elt F) X6) (arg7.view.read (Elt F) X7) (body.sl.v4 arg3 X3) (body.sl.v6 arg4 X4) (body.sl.v7 arg3 X3) k (arg8.view.read (Elt F) g8, arg9.view.read (Elt F) g9, arg10.view.read (Elt F) g10))) $$ [H2 H5 H6 H7 H8 H9 H10]
  · intro k acc; exact loop3 c i arg2 harg2 arg3 harg3 arg4 harg4 arg5 harg5 arg6 harg6 arg7 harg7 arg8 harg8 arg9 harg9 arg10 harg10 X2 X5 X6 X7 _ _ _ E _ _ k
  · isplitl [H2]; · iexact H2
    isplitl [H5]; · iexact H5
    isplitl [H6]; · iexact H6
    isplitl [H7]; · iexact H7
    isplitl [H8]
    · iexists _; isplitl [H8]; · iexact H8
      ipureintro; exact rfl
    isplitl [H9]
    · iexists _; isplitl [H9]; · iexact H9
      ipureintro; exact rfl
    iexists _; isplitl [H10]; · iexact H10
    ipureintro; exact rfl
  iintro %_ ⟨H2, H5, H6, H7, ⟨%k8, H8, %m8⟩, ⟨%k9, H9, %m9⟩, ⟨%k10, H10, %m10⟩⟩
  sl_for0 (trips4_eq i)
  sl_step
  isplitl [H3]; · iexact H3
  isplitl [H4]; · iexact H4
  have hst : (arg8.view.read (Elt F) g8, arg9.view.read (Elt F) g9, arg10.view.read (Elt F) g10) = (_ : St F) := Prod.ext e8 (Prod.ext e9 e10)
  rw [hst] at m8 m9 m10
  have n4 : body.sl.v4 arg3 X3 = k0_pay52 (arg3.view.read (Elt F) X3) := by
    sl_unfold_run_names; erw [View.readAt_full]; rfl
  have n6 : body.sl.v6 arg4 X4 = k0_pay53 (arg4.view.read (Elt F) X4) := by
    sl_unfold_run_names; erw [View.readAt_full]; rfl
  have n7 : body.sl.v7 arg3 X3 = k0_pay54 (arg3.view.read (Elt F) X3) := by
    sl_unfold_run_names; erw [View.readAt_full]; rfl
  rw [n4, n6, n7] at m8 m9 m10
  isplitl [H2]; · iexact H2
  isplitl [H5]; · iexact H5
  isplitl [H6]; · iexact H6
  isplitl [H7]; · iexact H7
  isplitl [H8]
  · iexists _; isplitl [H8]; · iexact H8
    ipureintro; exact m8
  isplitl [H9]
  · iexists _; isplitl [H9]; · iexact H9
    ipureintro; exact m9
  iexists _; isplitl [H10]; · iexact H10
  ipureintro; exact m10

end Cert.FlashRun
end
end
-- ==== Proof.FlashFrame.lean ====
module

public import proofs.«01_k».proof.Proof.Gen.FlashKernelIdeal.Frame
public import proofs.«01_k».proof.Proof.Gen.FlashKernelIdeal.Skeleton
public import proofs.«01_k».proof.Proof.FlashBody
public import Idealize.ShloMosaic.Lib.Pipeline.FrameBody
public import Idealize.ShloMosaic.Adequacy
public import Idealize.ShloMosaic.Lib.Quiescent

@[expose] public section

set_option maxRecDepth 16384

noncomputable section

namespace Cert.FlashRun

open Cert.FlashKernelIdeal Cert.FlashKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf ΦA)

variable {F : FTy → Type} [FloatOps F] [Named F]

local notation "𝕄" => MT nD τ sig Unit (Elt F) ℕ (UR sig nD τ) ℕ

section
variable (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x16x256x512 .f32) (harg8 : arg8.IsWhole) (arg9 : Memref sig .tc .vmem S1x512x256 .f32) (harg9 : arg9.IsWhole) (arg10 : Memref sig .tc .vmem S1x512x128 .f32) (harg10 : arg10.IsWhole)

set_option maxHeartbeats 2000000 in
/-- A grid point on whole staging buffers: the inputs stay, the outputs' buffers end at `point`. -/
theorem pointRun (x2 : Vec F S1x8192x256 .bf16) (x3 : Vec F S1x512x256 .bf16) (x4 : Vec F S1x512x128 .bf16) (x5 : Vec F S8192x128 .bf16) (x6 x7 : Vec F S1x16x8x512 .f32) (A : Vec F S1x16x256x512 .f32) (y9 : Vec F S1x512x256 .f32) (y10 : Vec F S1x512x128 .f32) (E : Set ℕ) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare A ∗ owns (c : Thread nD τ) arg9 fullShare y9 ∗ owns (c : Thread nD τ) arg10 fullShare y10
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (point x2 x3 x4 x5 x6 x7 i A).1 ∗ owns (c : Thread nD τ) arg9 fullShare (point x2 x3 x4 x5 x6 x7 i A).2.1 ∗ owns (c : Thread nD τ) arg10 fullShare (point x2 x3 x4 x5 x6 x7 i A).2.2) -∗ K ⟨⟩)) : sProp 𝕄)
    ⊢ wp frame (wpE (defs₀ (F := F)) Variants.none (c : Thread nD τ) none) E (cc0_flash_bwd (F := F) i arg2 harg2 arg3 harg3 arg4 harg4 arg5 harg5 arg6 harg6 arg7 harg7 arg8 harg8 arg9 harg9 arg10 harg10) K := by
  rw [cc0_flash_bwd_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, -, H9⟩, ⟨%f10, -, H10⟩, Hk⟩
  subst e2 e3 e4 e5 e6 e7 e8
  iapply (wp_wand_r frame (wpE (defs₀ (F := F)) Variants.none (c : Thread nD τ) none) E)
  isplitl [H2 H3 H4 H5 H6 H7 H8 H9 H10]
  · iapply (body c i arg2 harg2 arg3 harg3 arg4 harg4 arg5 harg5 arg6 harg6 arg7 harg7 arg8 harg8 arg9 harg9 arg10 harg10 f2 f5 f6 f7 f3 f4 E f8 f9 f10)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %_ ⟨H3, H4, H2, H5, H6, H7, ⟨%k8, H8, %m8⟩, ⟨%k9, H9, %m9⟩, ⟨%k10, H10, %m10⟩⟩
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; exact m8
    iexact H8
  isplitl [H9]
  · iexists _; isplitr; · ipureintro; exact m9
    iexact H9
  iexists _; isplitr; · ipureintro; exact m10
  iexact H10
end

/-! ## The pipeline -/

variable (m : (ℓ : Loc nD τ sig) → Buf (Elt F) ℓ) (ρ : Dev nD → PrngReg)

/-- What point `t` leaves, from the gradient of the queries it finds. -/
def ptAt (c : Dev nD) (t : Fin cfg0.N) (A : Vec F S1x16x256x512 .f32) : St F :=
  point (iblk m c 0 t) (iblk m c 1 t) (iblk m c 2 t) (iblk m c 3 t) (iblk m c 4 t) (iblk m c 5 t) (grid0.coords t) A

/-- What the outputs' staging buffers hold after point `n`. -/
def outAt (c : Dev nD) : ℕ → St F
  | 0 => ptAt m c ⟨0, by decide⟩ k0_pay51
  | n + 1 => if h : n + 1 < cfg0.N then ptAt m c ⟨n + 1, h⟩ (outAt c n).1 else outAt c n

/-- The pipeline's proof data: inputs in place, outputs at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outAt m c t.val).1
    | ⟨7, _⟩ => (outAt m c t.val).2.1
    | ⟨8, _⟩ => (outAt m c t.val).2.2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outAt m c t.val).1 := by dsimp only [dats]
theorem after0_7 (c : Dev nD) (t : Fin cfg0.N) : (dats m 0 c).after 7 t = (outAt m c t.val).2.1 := by dsimp only [dats]
theorem after0_8 (c : Dev nD) (t : Fin cfg0.N) : (dats m 0 c).after 8 t = (outAt m c t.val).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem coord1 : ∀ t : Fin grid0.N, ((grid0.coords t) 1).val = t.val % 16 := by decide +kernel

/-- A head's first point does not read what it finds. -/
theorem ptAt_first (c : Dev nD) (t : Fin cfg0.N) (h : t.val % 16 = 0) (A B : Vec F S1x16x256x512 .f32) : ptAt m c t A = ptAt m c t B := by
  have h' : ((grid0.coords t) 1).val = 0 := (coord1 t).trans h
  unfold ptAt point startA
  simp only [if_pos h']

/-- `outAt` is the point's own result at what it finds. -/
theorem outAt_eq (c : Dev nD) (t : Fin cfg0.N) (d) : outAt m c t.val = ptAt m c t ((dats m 0 c).before 6 t d) := by
  obtain ⟨n, hn⟩ := t
  cases n with
  | zero => exact ptAt_first m c _ rfl _ _
  | succ n =>
    rw [outAt, dif_pos hn]
    by_cases h : (n + 1) % 16 = 0
    · exact ptAt_first m c _ h _ _
    · rw [Dat.before_out_kept (dats m 0 c) 6 rfl ⟨n + 1, hn⟩ (Nat.succ_ne_zero n)
        (by rw [Bool.eq_false_iff]; exact fun h' => h (by have := (flush0_6 _).mp h'; simp only at this; omega)) (fun _ => rfl) (fun _ _ => rfl) d, after0_6]
      rfl

theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [outAt_eq m c t d6]
  unfold ptAt
  iapply (pointRun c (grid0.coords t) _ _ _ _ _ _ _ _ _ _ _ _ _ _ _ _ _ _ (iblk m c 0 t) (iblk m c 1 t) (iblk m c 2 t) (iblk m c 3 t) (iblk m c 4 t) (iblk m c 5 t) ((dats m 0 c).before 6 t d6) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- Every run ends with the arrays at what the pipeline's proof data says and the counters at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The arguments end as they were, and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_with_sems (frame_of m ρ (dats m) fun _ _ => rfl) (run_main m ρ)

end Cert.FlashRun
end
end
-- ==== Proof.FlashPoint.lean ====
/- One grid point of the attention's backward, entry by entry, over the extended reals: what a block of queries adds to
   each of the three gradients. -/
module

public import proofs.«01_k».proof.Proof.FlashFrame
public import Idealize.ShloMosaic.Lib.Pointwise

@[expose] public section

set_option maxRecDepth 16384

noncomputable section

namespace Cert.FlashRun

open Cert.FlashKernelIdeal Cert.FlashKernelIdeal.Gen
open Idealize.ShloMosaic Idealize.ShloMosaic.TcCoe

/-- Row `b` of query block `q`. -/
def rowOf (q : Fin 16) (b : Fin 512) : Fin 8192 := ⟨512 * q.val + b.val, by omega⟩

/-- The natural logarithm of two. -/
abbrev ln2 : EReal := ((Real.log 2 : ℝ) : EReal)

theorem wq_apply {F : FTy → Type} [FloatOps F] (x : Vec F S1x8192x256 .bf16) (q : Fin 16) (b : Fin 512) (d : Fin 256) : wq x q (ix3 0 b d) = x (ix3 0 (rowOf q b) d) := by
  unfold wq VecWindow.window rowOf
  refine congrArg x (funext fun j => Fin.ext ?_)
  fin_cases j <;> simp [Rect.emb, Rect.unit, ix3]

theorem wd_apply (x : Vec Ideal S8192x128 .bf16) (q : Fin 16) (b : Fin 512) (d : Fin 128) : wd x q (ix2 b d) = x (ix2 (rowOf q b) d) := by
  unfold wd VecWindow.window rowOf
  refine congrArg x (funext fun j => Fin.ext ?_)
  fin_cases j <;> simp [Rect.emb, Rect.unit, ix2]

theorem wl_apply (x : Vec Ideal S1x16x8x512 .f32) (q : Fin 16) (b : Fin 512) : wl x q (ix4 0 0 0 b) = x (ix4 0 q 0 b) := by
  unfold wl VecWindow.window
  refine congrArg x (funext fun j => Fin.ext ?_)
  fin_cases j <;> simp [Rect.emb, Rect.unit, ix4]

theorem wa_apply (x : Vec Ideal S1x16x256x512 .f32) (q : Fin 16) (d : Fin 256) (b : Fin 512) : wa x q (ix4 0 0 d b) = x (ix4 0 q d b) := by
  unfold wa VecWindow.window
  refine congrArg x (funext fun j => Fin.ext ?_)
  fin_cases j <;> simp [Rect.emb, Rect.unit, ix4]

theorem pa_apply (x : Vec Ideal S1x16x256x512 .f32) (q : Fin 16) (w : Vec Ideal S1x1x256x512 .f32) (r : Fin 16) (d : Fin 256) (b : Fin 512) :
    pa x q w (ix4 0 r d b) = if r = q then w (ix4 0 0 d b) else x (ix4 0 r d b) := by
  unfold pa VecWindow.put
  by_cases h : r = q
  · subst h
    rw [if_pos rfl, dif_pos]
    · refine congrArg w (funext fun j => Fin.ext ?_)
      fin_cases j <;> simp [Rect.unitLocal, ix4]
    · intro j
      fin_cases j <;> simp [ix4]
  · rw [if_neg h, dif_neg]
    intro hj
    have h1 : q.val ≤ r.val ∧ r.val < q.val + 1 := hj 1
    exact h (Fin.ext (by omega))

/-- A signed comparison of two small numbers. -/
theorem sge_eq (n k : ℕ) (hn : n < 2 ^ 31) (hk : k < 2 ^ 31) : IntOp.cmpi CmpIPredicate.sge (BitVec.ofNat 32 n) (BitVec.ofNat 32 k) = if k ≤ n then 1#1 else 0#1 := by
  have e1 : (BitVec.ofNat 32 n).toInt = n := by rw [BitVec.toInt_eq_toNat_of_lt (by rw [BitVec.toNat_ofNat]; omega), BitVec.toNat_ofNat]; omega
  have e2 : (BitVec.ofNat 32 k).toInt = k := by rw [BitVec.toInt_eq_toNat_of_lt (by rw [BitVec.toNat_ofNat]; omega), BitVec.toNat_ofNat]; omega
  simp only [IntOp.cmpi, BitVec.sle, e1, e2, Nat.cast_le]
  by_cases h : k ≤ n <;> simp [h]

section
variable (x2 : Vec Ideal S1x8192x256 .bf16) (x3 : Vec Ideal S1x512x256 .bf16) (x4 : Vec Ideal S1x512x128 .bf16) (x5 : Vec Ideal S8192x128 .bf16) (x6 x7 : Vec Ideal S1x16x8x512 .f32)

/-- The weight of key `a` of block `k` for query `b` of block `q`: none where the key comes after the query. -/
def pB (k q : Fin 16) (a b : Fin 512) : EReal :=
  if 512 * k.val + a.val ≤ 512 * q.val + b.val then
    Ideal.exp2 ((∑ d : Fin 256, x3 (ix3 0 a d) * x2 (ix3 0 (rowOf q b) d)) - x6 (ix4 0 q 0 b)) else 0

/-- The gradient of the score of key `a` of block `k` at query `b` of block `q`. -/
def dsB (k q : Fin 16) (a b : Fin 512) : EReal :=
  pB x2 x3 x6 k q a b * ((∑ d : Fin 128, x4 (ix3 0 a d) * x5 (ix2 (rowOf q b) d)) - x7 (ix4 0 q 0 b)) * ln2

theorem pay52_apply (a : Fin 512) (d : Fin 256) : k0_pay52 x3 (ix2 a d) = x3 (ix3 0 a d) := by
  pointwise [k0_pay52]

theorem pay41_apply (q : Fin 16) (a b : Fin 512) : k0_pay41 (k0_pay52 x3) (wq x2 q) (wl x6 q) (ix2 a b) =
    Ideal.exp2 ((∑ d : Fin 256, x3 (ix3 0 a d) * x2 (ix3 0 (rowOf q b) d)) - x6 (ix4 0 q 0 b)) := by
  pointwise [k0_pay41, k0_pay52, k0_pay39, wq_apply, wl_apply]
  rfl

theorem pay42_apply (q : Fin 16) (a b : Fin 512) : k0_pay42 (k0_pay52 x3) (k0_pay53 x4) (wq x2 q) (wd x5 q) (wl x6 q) (wl x7 q) (ix2 a b) =
    k0_pay41 (k0_pay52 x3) (wq x2 q) (wl x6 q) (ix2 a b) * ((∑ d : Fin 128, x4 (ix3 0 a d) * x5 (ix2 (rowOf q b) d)) - x7 (ix4 0 q 0 b)) * ln2 := by
  pointwise [k0_pay42, k0_pay53, k0_pay40, wd_apply, wl_apply]
  rfl

theorem pay57_apply (q : Fin 16) (a b : Fin 512) : k0_pay57 x3 (wq x2 q) (wl x6 q) (ix2 a b) = pB x2 x3 x6 q q a b := by
  unfold pB
  pointwise [k0_pay57, k0_pay52, k0_pay55, wq_apply, wl_apply]
  rw [sge_eq _ _ (by omega) (by omega)]
  by_cases h : a.val ≤ b.val
  · rw [if_pos h, if_pos (by omega)]; rfl
  · rw [if_neg h, if_neg (by omega)]; rfl

theorem pB_of_lt (k q : Fin 16) (a b : Fin 512) (h : k < q) : pB x2 x3 x6 k q a b = Ideal.exp2 ((∑ d : Fin 256, x3 (ix3 0 a d) * x2 (ix3 0 (rowOf q b) d)) - x6 (ix4 0 q 0 b)) :=
  if_pos (by have : k.val < q.val := h; omega)

theorem pB_of_gt (k q : Fin 16) (a b : Fin 512) (h : q < k) : pB x2 x3 x6 k q a b = 0 :=
  if_neg (by have : q.val < k.val := h; omega)

theorem dsB_of_gt (k q : Fin 16) (a b : Fin 512) (h : q < k) : dsB x2 x3 x4 x5 x6 x7 k q a b = 0 := by
  rw [dsB, pB_of_gt _ _ _ _ _ _ _ h, zero_mul, zero_mul]

/-- What block `q` of the queries adds to the gradient of key `a`, -/
def addK (k q : Fin 16) (a : Fin 512) (d : Fin 256) : EReal := ∑ b : Fin 512, dsB x2 x3 x4 x5 x6 x7 k q a b * x2 (ix3 0 (rowOf q b) d)
/-- to the gradient of value `a`, -/
def addV (k q : Fin 16) (a : Fin 512) (d : Fin 128) : EReal := ∑ b : Fin 512, pB x2 x3 x6 k q a b * x5 (ix2 (rowOf q b) d)
/-- and what block `k` of the keys adds to the gradient of query `b` of block `q`. -/
def addQ (k q : Fin 16) (d : Fin 256) (b : Fin 512) : EReal := ∑ a : Fin 512, x3 (ix3 0 a d) * dsB x2 x3 x4 x5 x6 x7 k q a b

/-- The step of a block after the diagonal. -/
abbrev step (q : Fin 16) (s : St Ideal) : St Ideal := stepQ x2 x5 x6 x7 (k0_pay52 x3) (k0_pay53 x4) (k0_pay54 x3) q s

theorem step_k (k q : Fin 16) (h : k < q) (s : St Ideal) (a : Fin 512) (d : Fin 256) :
    (step x2 x3 x4 x5 x6 x7 q s).2.1 (ix3 0 a d) = s.2.1 (ix3 0 a d) + addK x2 x3 x4 x5 x6 x7 k q a d := by
  unfold addK dsB
  simp only [pB_of_lt _ _ _ k q _ _ h]
  show k0_pay3 _ _ _ = _
  pointwise [k0_pay3, k0_pay43, pay42_apply, pay41_apply, k0_pay39, wq_apply]

theorem step_v (k q : Fin 16) (h : k < q) (s : St Ideal) (a : Fin 512) (d : Fin 128) :
    (step x2 x3 x4 x5 x6 x7 q s).2.2 (ix3 0 a d) = s.2.2 (ix3 0 a d) + addV x2 x3 x5 x6 k q a d := by
  unfold addV
  simp only [pB_of_lt _ _ _ k q _ _ h]
  show k0_pay44 _ _ _ _ _ _ = _
  pointwise [k0_pay44, pay41_apply, k0_pay40, wd_apply]

theorem step_q (k q : Fin 16) (h : k < q) (s : St Ideal) (r : Fin 16) (d : Fin 256) (b : Fin 512) :
    (step x2 x3 x4 x5 x6 x7 q s).1 (ix4 0 r d b) = if r = q then s.1 (ix4 0 r d b) + addQ x2 x3 x4 x5 x6 x7 k r d b else s.1 (ix4 0 r d b) := by
  refine (pa_apply _ _ _ _ _ _).trans ?_
  by_cases hr : r = q
  · subst hr
    rw [if_pos rfl, if_pos rfl]
    unfold addQ dsB
    simp only [pB_of_lt _ _ _ k r _ _ h]
    pointwise [k0_pay4, k0_pay54, pay52_apply, pay42_apply, pay41_apply, wa_apply]
  · rw [if_neg hr, if_neg hr]

theorem diag_k (q : Fin 16) (A : Vec Ideal S1x16x256x512 .f32) (a : Fin 512) (d : Fin 256) :
    (diag x2 x3 x4 x5 x6 x7 q A).2.1 (ix3 0 a d) = addK x2 x3 x4 x5 x6 x7 q q a d := by
  unfold addK dsB diag
  pointwise [k0_pay63, k0_pay61, pay57_apply, k0_pay59, k0_pay53, k0_pay56, k0_pay60, k0_pay55, wq_apply, wd_apply, wl_apply]
  rfl

theorem diag_v (q : Fin 16) (A : Vec Ideal S1x16x256x512 .f32) (a : Fin 512) (d : Fin 128) :
    (diag x2 x3 x4 x5 x6 x7 q A).2.2 (ix3 0 a d) = addV x2 x3 x5 x6 q q a d := by
  unfold addV diag
  pointwise [k0_pay62, k0_pay58, pay57_apply, k0_pay56, wd_apply]

theorem diag_q (q : Fin 16) (A : Vec Ideal S1x16x256x512 .f32) (r : Fin 16) (d : Fin 256) (b : Fin 512) :
    (diag x2 x3 x4 x5 x6 x7 q A).1 (ix4 0 r d b) = if r = q then A (ix4 0 r d b) + addQ x2 x3 x4 x5 x6 x7 q r d b else A (ix4 0 r d b) := by
  refine (pa_apply _ _ _ _ _ _).trans ?_
  by_cases hr : r = q
  · subst hr
    rw [if_pos rfl, if_pos rfl]
    unfold addQ dsB
    pointwise [k0_pay64, k0_pay61, pay57_apply, k0_pay54, k0_pay52, k0_pay59, k0_pay53, k0_pay56, k0_pay60, wa_apply, wd_apply, wl_apply]
    rfl
  · rw [if_neg hr, if_neg hr]

/-! ## A whole point -/

theorem trips_sum (i : grid0.Coords) : 2 * (k0_t1_loop i).trips + (k0_t3_loop i).trips = 15 - (i 1).val := by
  rw [trips1_eq, trips3_eq]; omega

/-- The two loops of a point go once through the blocks after the diagonal. -/
theorem point_eq (i : grid0.Coords) (A : Vec Ideal S1x16x256x512 .f32) :
    point x2 x3 x4 x5 x6 x7 i A = stepN x2 x5 x6 x7 (k0_pay52 x3) (k0_pay53 x4) (k0_pay54 x3) (i 1).val (15 - (i 1).val) (diag x2 x3 x4 x5 x6 x7 (i 1) (startA i A)) := by
  unfold point
  have h := trips_sum i
  have h15 : (i 1).val < 16 := (i 1).isLt
  have h3 : (k0_t3_loop i).trips = 0 ∨ (k0_t3_loop i).trips = 1 := by rw [trips3_eq]; omega
  rcases h3 with e | e
  · rw [e] at h ⊢
    rw [← h]; rfl
  · rw [e] at h ⊢
    rw [← h]
    show stepQ x2 x5 x6 x7 _ _ _ 15 _ = stepQ x2 x5 x6 x7 _ _ _ (Fin.ofNat 16 ((i 1).val + 1 + 2 * (k0_t1_loop i).trips)) _
    have e' : Fin.ofNat 16 ((i 1).val + 1 + 2 * (k0_t1_loop i).trips) = 15 := Fin.ext (by
      show ((i 1).val + 1 + 2 * (k0_t1_loop i).trips) % 16 = 15
      omega)
    rw [e']; rfl

/-- The blocks up to the diagonal's `n`-th successor, of the keys' gradient. -/
theorem stepN_k (k : Fin 16) (A : Vec Ideal S1x16x256x512 .f32) (a : Fin 512) (d : Fin 256) : ∀ n, k.val + n < 16 →
    (stepN x2 x5 x6 x7 (k0_pay52 x3) (k0_pay53 x4) (k0_pay54 x3) k.val n (diag x2 x3 x4 x5 x6 x7 k A)).2.1 (ix3 0 a d) =
      ∑ q ∈ Finset.range (k.val + 1 + n), addK x2 x3 x4 x5 x6 x7 k (Fin.ofNat 16 q) a d
  | 0, _ => by
    rw [add_zero, Finset.sum_range_succ, Finset.sum_eq_zero, zero_add]
    · show (diag x2 x3 x4 x5 x6 x7 k A).2.1 _ = _
      rw [diag_k, show Fin.ofNat 16 k.val = k from Fin.ext (Nat.mod_eq_of_lt k.isLt)]
    · intro q hq
      have hq' := Finset.mem_range.mp hq
      unfold addK
      refine Finset.sum_eq_zero fun b _ => ?_
      rw [dsB_of_gt _ _ _ _ _ _ _ _ _ _ (show (Fin.ofNat 16 q).val < k.val by show q % 16 < _; omega), zero_mul]
  | n + 1, h => by
    rw [← add_assoc, Finset.sum_range_succ, ← stepN_k k A a d n (by omega)]
    exact step_k x2 x3 x4 x5 x6 x7 k _ (show k.val < (Fin.ofNat 16 (k.val + 1 + n)).val by show _ < (k.val + 1 + n) % 16; omega) _ a d

theorem stepN_v (k : Fin 16) (A : Vec Ideal S1x16x256x512 .f32) (a : Fin 512) (d : Fin 128) : ∀ n, k.val + n < 16 →
    (stepN x2 x5 x6 x7 (k0_pay52 x3) (k0_pay53 x4) (k0_pay54 x3) k.val n (diag x2 x3 x4 x5 x6 x7 k A)).2.2 (ix3 0 a d) =
      ∑ q ∈ Finset.range (k.val + 1 + n), addV x2 x3 x5 x6 k (Fin.ofNat 16 q) a d
  | 0, _ => by
    rw [add_zero, Finset.sum_range_succ, Finset.sum_eq_zero, zero_add]
    · show (diag x2 x3 x4 x5 x6 x7 k A).2.2 _ = _
      rw [diag_v, show Fin.ofNat 16 k.val = k from Fin.ext (Nat.mod_eq_of_lt k.isLt)]
    · intro q hq
      have hq' := Finset.mem_range.mp hq
      unfold addV
      refine Finset.sum_eq_zero fun b _ => ?_
      rw [pB_of_gt _ _ _ _ _ _ _ (show (Fin.ofNat 16 q).val < k.val by show q % 16 < _; omega), zero_mul]
  | n + 1, h => by
    rw [← add_assoc, Finset.sum_range_succ, ← stepN_v k A a d n (by omega)]
    exact step_v x2 x3 x4 x5 x6 x7 k _ (show k.val < (Fin.ofNat 16 (k.val + 1 + n)).val by show _ < (k.val + 1 + n) % 16; omega) _ a d

theorem stepN_q (k : Fin 16) (A : Vec Ideal S1x16x256x512 .f32) (r : Fin 16) (d : Fin 256) (b : Fin 512) : ∀ n, k.val + n < 16 →
    (stepN x2 x5 x6 x7 (k0_pay52 x3) (k0_pay53 x4) (k0_pay54 x3) k.val n (diag x2 x3 x4 x5 x6 x7 k A)).1 (ix4 0 r d b) =
      if r.val ≤ k.val + n then A (ix4 0 r d b) + addQ x2 x3 x4 x5 x6 x7 k r d b else A (ix4 0 r d b)
  | 0, _ => by
    show (diag x2 x3 x4 x5 x6 x7 k A).1 _ = _
    rw [diag_q]
    by_cases h : r = k
    · subst h
      rw [if_pos rfl, if_pos (by omega)]
    · rw [if_neg h]
      by_cases h' : r.val ≤ k.val + 0
      · have : r < k := lt_of_le_of_ne h' h
        rw [if_pos h', addQ, Finset.sum_eq_zero, add_zero]
        intro a _
        rw [dsB_of_gt _ _ _ _ _ _ _ _ _ _ this, mul_zero]
      · rw [if_neg h']
  | n + 1, h => by
    have hv : (Fin.ofNat 16 (k.val + 1 + n)).val = k.val + 1 + n := Nat.mod_eq_of_lt (by omega)
    refine (step_q x2 x3 x4 x5 x6 x7 k _ (show k.val < (Fin.ofNat 16 (k.val + 1 + n)).val by omega) _ r d b).trans ?_
    rw [stepN_q k A r d b n (by omega)]
    by_cases e : r = Fin.ofNat 16 (k.val + 1 + n)
    · have e' : r.val = k.val + 1 + n := by rw [e, hv]
      rw [if_pos e, if_neg (by omega), if_pos (by omega)]
    · have e' : r.val ≠ k.val + 1 + n := fun h => e (Fin.ext (by rw [hv, h]))
      rw [if_neg e]
      by_cases h' : r.val ≤ k.val + n
      · rw [if_pos h', if_pos (by omega)]
      · rw [if_neg h', if_neg (by omega)]

/-- A point's gradient of its keys: one addend for each block of queries. -/
theorem point_k (i : grid0.Coords) (A : Vec Ideal S1x16x256x512 .f32) (a : Fin 512) (d : Fin 256) :
    (point x2 x3 x4 x5 x6 x7 i A).2.1 (ix3 0 a d) = ∑ q : Fin 16, addK x2 x3 x4 x5 x6 x7 (i 1) q a d := by
  have h15 : (i 1).val < 16 := (i 1).isLt
  rw [point_eq, stepN_k x2 x3 x4 x5 x6 x7 (i 1) _ a d _ (by omega), show (i 1).val + 1 + (15 - (i 1).val) = 16 by omega, Finset.sum_range]
  exact Finset.sum_congr rfl fun q _ => by rw [show Fin.ofNat 16 q.val = q from Fin.ext (Nat.mod_eq_of_lt q.isLt)]

theorem point_v (i : grid0.Coords) (A : Vec Ideal S1x16x256x512 .f32) (a : Fin 512) (d : Fin 128) :
    (point x2 x3 x4 x5 x6 x7 i A).2.2 (ix3 0 a d) = ∑ q : Fin 16, addV x2 x3 x5 x6 (i 1) q a d := by
  have h15 : (i 1).val < 16 := (i 1).isLt
  rw [point_eq, stepN_v x2 x3 x4 x5 x6 x7 (i 1) _ a d _ (by omega), show (i 1).val + 1 + (15 - (i 1).val) = 16 by omega, Finset.sum_range]
  exact Finset.sum_congr rfl fun q _ => by rw [show Fin.ofNat 16 q.val = q from Fin.ext (Nat.mod_eq_of_lt q.isLt)]

/-- A point's gradient of all queries: its own addend on what it finds. -/
theorem point_q (i : grid0.Coords) (A : Vec Ideal S1x16x256x512 .f32) (r : Fin 16) (d : Fin 256) (b : Fin 512) :
    (point x2 x3 x4 x5 x6 x7 i A).1 (ix4 0 r d b) = (if (i 1).val = 0 then 0 else A (ix4 0 r d b)) + addQ x2 x3 x4 x5 x6 x7 (i 1) r d b := by
  have h15 : (i 1).val < 16 := (i 1).isLt
  rw [point_eq, stepN_q x2 x3 x4 x5 x6 x7 (i 1) _ r d b _ (by omega), if_pos (by omega)]
  unfold startA
  by_cases h : (i 1).val = 0
  · rw [if_pos h, if_pos h]
    congr 1
    pointwise [k0_pay51]
  · rw [if_neg h, if_neg h]

end

end Cert.FlashRun
end
-- ==== Proof.FlashArrays.lean ====
/- The three arrays that the attention's backward leaves, entry by entry, over the extended reals: sums over every query
   (or every key) of the products of the arrays that the host lines prepare. -/
module

public import proofs.«01_k».proof.Proof.FlashPoint
public import Idealize.ShloMosaic.Lib.Pipeline.ValueKit

@[expose] public section

set_option maxRecDepth 16384

noncomputable section

namespace Cert.FlashRun

open Cert.FlashKernelIdeal Cert.FlashKernelIdeal.Gen
open Idealize.ShloMosaic Idealize.ShloMosaic.TcCoe
open Idealize.ShloMosaic.Pipeline (Dat)

/-- Block and position within the block of a row. -/
def blkOf (t : Fin 8192) : Fin 16 := ⟨t.val / 512, by omega⟩
def posOf (t : Fin 8192) : Fin 512 := ⟨t.val % 512, by omega⟩
theorem blkOf_row (q : Fin 16) (b : Fin 512) : blkOf (rowOf q b) = q := Fin.ext (by show (512 * q.val + b.val) / 512 = q.val; omega)
theorem posOf_row (q : Fin 16) (b : Fin 512) : posOf (rowOf q b) = b := Fin.ext (by show (512 * q.val + b.val) % 512 = b.val; omega)
theorem row_blkOf (t : Fin 8192) : rowOf (blkOf t) (posOf t) = t := Fin.ext (by show 512 * (t.val / 512) + t.val % 512 = t.val; omega)

/-- A sum over the blocks and the positions within them is the sum over all rows. -/
theorem sum_rows (f : Fin 8192 → EReal) : ∑ q : Fin 16, ∑ b : Fin 512, f (rowOf q b) = ∑ t : Fin 8192, f t := by
  rw [← Fintype.sum_prod_type' (f := fun q b => f (rowOf q b))]
  exact Fintype.sum_equiv ⟨fun p : Fin 16 × Fin 512 => rowOf p.1 p.2, fun t => (blkOf t, posOf t), fun p => Prod.ext (blkOf_row _ _) (posOf_row _ _), fun t => row_blkOf t⟩ _ _ fun _ => rfl

/-- Lane `d` of head `h`, in an array that has the heads side by side. -/
def lane (h : Fin 8) (d : Fin 128) : Fin 1024 := ⟨128 * h.val + d.val, by omega⟩

section Arrays
variable (aQ aK : S8x8192x256.Idx → EReal) (aV : S8x8192x128.Idx → EReal) (aD : S8192x1024.Idx → EReal) (aL aE : S8x16x8x512.Idx → EReal)

/-- The weight of key `u` for query `t`, -/
def pG (h : Fin 8) (u t : Fin 8192) : EReal :=
  if u.val ≤ t.val then Ideal.exp2 ((∑ d : Fin 256, aK (ix3 h u d) * aQ (ix3 h t d)) - aL (ix4 h (blkOf t) 0 (posOf t))) else 0
/-- and the gradient of their score. -/
def dsG (h : Fin 8) (u t : Fin 8192) : EReal :=
  pG aQ aK aL h u t * ((∑ d : Fin 128, aV (ix3 h u d) * aD (ix2 t (lane h d))) - aE (ix4 h (blkOf t) 0 (posOf t))) * ln2

def outQ (i : S8x16x256x512.Idx) : EReal := ∑ u : Fin 8192, aK (ix3 (i 0) u (i 2)) * dsG aQ aK aV aD aL aE (i 0) u (rowOf (i 1) (i 3))
def outK (i : S8x8192x256.Idx) : EReal := ∑ t : Fin 8192, dsG aQ aK aV aD aL aE (i 0) (i 1) t * aQ (ix3 (i 0) t (i 2))
def outV (i : S8x8192x128.Idx) : EReal := ∑ t : Fin 8192, pG aQ aK aL (i 0) (i 1) t * aD (ix2 t (lane (i 0) (i 2)))
end Arrays

variable (m : (ℓ : Loc nD τ sig) → Buf (Elt Ideal) ℓ) (c : Dev nD)

/-- Head and block of keys of a grid point. -/
def hd (t : Fin cfg0.N) : Fin 8 := ⟨t.val / 16, by have : t.val < 128 := t.isLt; omega⟩
def kb (t : Fin cfg0.N) : Fin 16 := ⟨t.val % 16, by omega⟩

theorem coord_kb (t : Fin cfg0.N) : (grid0.coords t) 1 = kb t := Fin.ext (coord1 t)

/-- Which block each window shows at a grid point. -/
theorem idx : ∀ t : Fin cfg0.N, win0_0.index t = ![(t : Nat) / 16, 0, 0] ∧ win0_1.index t = ![(t : Nat) / 16, (t : Nat) % 16, 0] ∧ win0_2.index t = ![(t : Nat) / 16, (t : Nat) % 16, 0]
    ∧ win0_3.index t = ![0, (t : Nat) / 16] ∧ win0_4.index t = ![(t : Nat) / 16, 0, 0, 0] ∧ win0_5.index t = ![(t : Nat) / 16, 0, 0, 0]
    ∧ win0_6.index t = ![(t : Nat) / 16, 0, 0, 0] ∧ win0_7.index t = ![(t : Nat) / 16, (t : Nat) % 16, 0] ∧ win0_8.index t = ![(t : Nat) / 16, (t : Nat) % 16, 0] :=
  (by decide +kernel : ∀ t : Fin grid0.N, _)

theorem e0 (t : Fin cfg0.N) (r : Fin 8192) (d : Fin 256) : ((win0_0.blk t).view.emb (ix3 0 r d) : S8x8192x256.Idx) = ix3 (hd t) r d := by
  obtain ⟨i0, i1, i2, i3, i4, i5, i6, i7, i8⟩ := idx t
  funext j; apply Fin.ext; refine (Pipeline.Window.rect_emb_val win0_0 t _ j).trans ?_; rw [i0]
  fin_cases j <;> simp [hd, kb, rowOf, lane, ix2, ix3, ix4, win0_0] <;> omega
theorem e1 (t : Fin cfg0.N) (a : Fin 512) (d : Fin 256) : ((win0_1.blk t).view.emb (ix3 0 a d) : S8x8192x256.Idx) = ix3 (hd t) (rowOf (kb t) a) d := by
  obtain ⟨i0, i1, i2, i3, i4, i5, i6, i7, i8⟩ := idx t
  funext j; apply Fin.ext; refine (Pipeline.Window.rect_emb_val win0_1 t _ j).trans ?_; rw [i1]
  fin_cases j <;> simp [hd, kb, rowOf, lane, ix2, ix3, ix4, win0_1] <;> omega
theorem e2 (t : Fin cfg0.N) (a : Fin 512) (d : Fin 128) : ((win0_2.blk t).view.emb (ix3 0 a d) : S8x8192x128.Idx) = ix3 (hd t) (rowOf (kb t) a) d := by
  obtain ⟨i0, i1, i2, i3, i4, i5, i6, i7, i8⟩ := idx t
  funext j; apply Fin.ext; refine (Pipeline.Window.rect_emb_val win0_2 t _ j).trans ?_; rw [i2]
  fin_cases j <;> simp [hd, kb, rowOf, lane, ix2, ix3, ix4, win0_2] <;> omega
theorem e3 (t : Fin cfg0.N) (r : Fin 8192) (d : Fin 128) : ((win0_3.blk t).view.emb (ix2 r d) : S8192x1024.Idx) = ix2 r (lane (hd t) d) := by
  obtain ⟨i0, i1, i2, i3, i4, i5, i6, i7, i8⟩ := idx t
  funext j; apply Fin.ext; refine (Pipeline.Window.rect_emb_val win0_3 t _ j).trans ?_; rw [i3]
  fin_cases j <;> simp [hd, kb, rowOf, lane, ix2, ix3, ix4, win0_3] <;> omega
theorem e4 (t : Fin cfg0.N) (q : Fin 16) (b : Fin 512) : ((win0_4.blk t).view.emb (ix4 0 q 0 b) : S8x16x8x512.Idx) = ix4 (hd t) q 0 b := by
  obtain ⟨i0, i1, i2, i3, i4, i5, i6, i7, i8⟩ := idx t
  funext j; apply Fin.ext; refine (Pipeline.Window.rect_emb_val win0_4 t _ j).trans ?_; rw [i4]
  fin_cases j <;> simp [hd, kb, rowOf, lane, ix2, ix3, ix4, win0_4] <;> omega
theorem e5 (t : Fin cfg0.N) (q : Fin 16) (b : Fin 512) : ((win0_5.blk t).view.emb (ix4 0 q 0 b) : S8x16x8x512.Idx) = ix4 (hd t) q 0 b := by
  obtain ⟨i0, i1, i2, i3, i4, i5, i6, i7, i8⟩ := idx t
  funext j; apply Fin.ext; refine (Pipeline.Window.rect_emb_val win0_5 t _ j).trans ?_; rw [i5]
  fin_cases j <;> simp [hd, kb, rowOf, lane, ix2, ix3, ix4, win0_5] <;> omega
theorem e6 (t : Fin cfg0.N) (q : Fin 16) (d : Fin 256) (b : Fin 512) : ((win0_6.blk t).view.emb (ix4 0 q d b) : S8x16x256x512.Idx) = ix4 (hd t) q d b := by
  obtain ⟨i0, i1, i2, i3, i4, i5, i6, i7, i8⟩ := idx t
  funext j; apply Fin.ext; refine (Pipeline.Window.rect_emb_val win0_6 t _ j).trans ?_; rw [i6]
  fin_cases j <;> simp [hd, kb, rowOf, lane, ix2, ix3, ix4, win0_6] <;> omega
theorem e7 (t : Fin cfg0.N) (a : Fin 512) (d : Fin 256) : ((win0_7.blk t).view.emb (ix3 0 a d) : S8x8192x256.Idx) = ix3 (hd t) (rowOf (kb t) a) d := by
  obtain ⟨i0, i1, i2, i3, i4, i5, i6, i7, i8⟩ := idx t
  funext j; apply Fin.ext; refine (Pipeline.Window.rect_emb_val win0_7 t _ j).trans ?_; rw [i7]
  fin_cases j <;> simp [hd, kb, rowOf, lane, ix2, ix3, ix4, win0_7] <;> omega
theorem e8 (t : Fin cfg0.N) (a : Fin 512) (d : Fin 128) : ((win0_8.blk t).view.emb (ix3 0 a d) : S8x8192x128.Idx) = ix3 (hd t) (rowOf (kb t) a) d := by
  obtain ⟨i0, i1, i2, i3, i4, i5, i6, i7, i8⟩ := idx t
  funext j; apply Fin.ext; refine (Pipeline.Window.rect_emb_val win0_8 t _ j).trans ?_; rw [i8]
  fin_cases j <;> simp [hd, kb, rowOf, lane, ix2, ix3, ix4, win0_8] <;> omega

/- The blocks' entries, in the arrays they are cut from. -/
theorem read0 (X : (b : Ref sig .tc) → Buf (Elt Ideal) ((c : Thread nD τ).loc b)) (t : Fin cfg0.N) (y : (win0_0.xblock (cfg0.grid.coords t)).Idx) :
    ((cfg0.win 0).blk t).view.read (Elt Ideal) (X (Pipeline.arrRef spec0 0)) y = X main_v48 ((win0_0.blk t).view.emb y) := rfl
theorem b0 (t : Fin cfg0.N) (r : Fin 8192) (d : Fin 256) : (iblk m c 0 t : Vec Ideal S1x8192x256 .bf16) (ix3 0 r d) = V m c main_v48 (ix3 (hd t) r d) :=
  (read0 c (V m c) t _).trans (congrArg (V m c main_v48) (e0 t r d))
theorem read1 (X : (b : Ref sig .tc) → Buf (Elt Ideal) ((c : Thread nD τ).loc b)) (t : Fin cfg0.N) (y : (win0_1.xblock (cfg0.grid.coords t)).Idx) :
    ((cfg0.win 1).blk t).view.read (Elt Ideal) (X (Pipeline.arrRef spec0 1)) y = X main_v49 ((win0_1.blk t).view.emb y) := rfl
theorem b1 (t : Fin cfg0.N) (a : Fin 512) (d : Fin 256) : (iblk m c 1 t : Vec Ideal S1x512x256 .bf16) (ix3 0 a d) = V m c main_v49 (ix3 (hd t) (rowOf (kb t) a) d) :=
  (read1 c (V m c) t _).trans (congrArg (V m c main_v49) (e1 t a d))
theorem read2 (X : (b : Ref sig .tc) → Buf (Elt Ideal) ((c : Thread nD τ).loc b)) (t : Fin cfg0.N) (y : (win0_2.xblock (cfg0.grid.coords t)).Idx) :
    ((cfg0.win 2).blk t).view.read (Elt Ideal) (X (Pipeline.arrRef spec0 2)) y = X main_v50 ((win0_2.blk t).view.emb y) := rfl
theorem b2 (t : Fin cfg0.N) (a : Fin 512) (d : Fin 128) : (iblk m c 2 t : Vec Ideal S1x512x128 .bf16) (ix3 0 a d) = V m c main_v50 (ix3 (hd t) (rowOf (kb t) a) d) :=
  (read2 c (V m c) t _).trans (congrArg (V m c main_v50) (e2 t a d))
theorem read3 (X : (b : Ref sig .tc) → Buf (Elt Ideal) ((c : Thread nD τ).loc b)) (t : Fin cfg0.N) (y : (win0_3.xblock (cfg0.grid.coords t)).Idx) :
    ((cfg0.win 3).blk t).view.read (Elt Ideal) (X (Pipeline.arrRef spec0 3)) y = X main_v15 ((win0_3.blk t).view.emb y) := rfl
theorem b3 (t : Fin cfg0.N) (r : Fin 8192) (d : Fin 128) : (iblk m c 3 t : Vec Ideal S8192x128 .bf16) (ix2 r d) = V m c main_v15 (ix2 r (lane (hd t) d)) :=
  (read3 c (V m c) t _).trans (congrArg (V m c main_v15) (e3 t r d))
theorem read4 (X : (b : Ref sig .tc) → Buf (Elt Ideal) ((c : Thread nD τ).loc b)) (t : Fin cfg0.N) (y : (win0_4.xblock (cfg0.grid.coords t)).Idx) :
    ((cfg0.win 4).blk t).view.read (Elt Ideal) (X (Pipeline.arrRef spec0 4)) y = X main_v52 ((win0_4.blk t).view.emb y) := rfl
theorem b4 (t : Fin cfg0.N) (q : Fin 16) (b : Fin 512) : (iblk m c 4 t : Vec Ideal S1x16x8x512 .f32) (ix4 0 q 0 b) = V m c main_v52 (ix4 (hd t) q 0 b) :=
  (read4 c (V m c) t _).trans (congrArg (V m c main_v52) (e4 t q b))
theorem read5 (X : (b : Ref sig .tc) → Buf (Elt Ideal) ((c : Thread nD τ).loc b)) (t : Fin cfg0.N) (y : (win0_5.xblock (cfg0.grid.coords t)).Idx) :
    ((cfg0.win 5).blk t).view.read (Elt Ideal) (X (Pipeline.arrRef spec0 5)) y = X main_v54 ((win0_5.blk t).view.emb y) := rfl
theorem b5 (t : Fin cfg0.N) (q : Fin 16) (b : Fin 512) : (iblk m c 5 t : Vec Ideal S1x16x8x512 .f32) (ix4 0 q 0 b) = V m c main_v54 (ix4 (hd t) q 0 b) :=
  (read5 c (V m c) t _).trans (congrArg (V m c main_v54) (e5 t q b))

/- The arrays that the host lines prepare. -/
abbrev aQ : S8x8192x256.Idx → EReal := V m c main_v48
abbrev aK : S8x8192x256.Idx → EReal := V m c main_v49
abbrev aV : S8x8192x128.Idx → EReal := V m c main_v50
abbrev aD : S8192x1024.Idx → EReal := V m c main_v15
abbrev aL : S8x16x8x512.Idx → EReal := V m c main_v52
abbrev aE : S8x16x8x512.Idx → EReal := V m c main_v54

theorem pB_eq (t : Fin cfg0.N) (q : Fin 16) (a b : Fin 512) : pB (iblk m c 0 t) (iblk m c 1 t) (iblk m c 4 t) (kb t) q a b
    = pG (aQ m c) (aK m c) (aL m c) (hd t) (rowOf (kb t) a) (rowOf q b) := by
  unfold pB pG
  rw [blkOf_row, posOf_row, b4]
  simp only [b0, b1]
  rfl

theorem dsB_eq (t : Fin cfg0.N) (q : Fin 16) (a b : Fin 512) :
    dsB (iblk m c 0 t) (iblk m c 1 t) (iblk m c 2 t) (iblk m c 3 t) (iblk m c 4 t) (iblk m c 5 t) (kb t) q a b
    = dsG (aQ m c) (aK m c) (aV m c) (aD m c) (aL m c) (aE m c) (hd t) (rowOf (kb t) a) (rowOf q b) := by
  unfold dsB dsG
  rw [blkOf_row, posOf_row, b5, pB_eq]
  simp only [b2, b3]

/-- The gradient of key `a` of a point's block, -/
theorem out_k (t : Fin cfg0.N) (a : Fin 512) (d : Fin 256) : (outAt m c t.val).2.1 (ix3 0 a d)
    = outK (aQ m c) (aK m c) (aV m c) (aD m c) (aL m c) (aE m c) (ix3 (hd t) (rowOf (kb t) a) d) := by
  rw [outAt_eq m c t (k0_pay51 (F := Ideal)), ptAt, point_k, coord_kb]
  refine Eq.trans ?_ (sum_rows _)
  refine Finset.sum_congr rfl fun q _ => Finset.sum_congr rfl fun b _ => ?_
  rw [dsB_eq, b0]; rfl

/-- the gradient of its value, -/
theorem out_v (t : Fin cfg0.N) (a : Fin 512) (d : Fin 128) : (outAt m c t.val).2.2 (ix3 0 a d)
    = outV (aQ m c) (aK m c) (aD m c) (aL m c) (ix3 (hd t) (rowOf (kb t) a) d) := by
  rw [outAt_eq m c t (k0_pay51 (F := Ideal)), ptAt, point_v, coord_kb]
  refine Eq.trans ?_ (sum_rows _)
  refine Finset.sum_congr rfl fun q _ => Finset.sum_congr rfl fun b _ => ?_
  rw [pB_eq, b3]; rfl

/-- and what blocks `0 … k` of the keys add to the gradient of a query. -/
def partQ (h : Fin 8) (k : ℕ) (r : Fin 16) (d : Fin 256) (b : Fin 512) : EReal :=
  ∑ j ∈ Finset.range (k + 1), ∑ a : Fin 512, aK m c (ix3 h (rowOf (Fin.ofNat 16 j) a) d)
    * dsG (aQ m c) (aK m c) (aV m c) (aD m c) (aL m c) (aE m c) h (rowOf (Fin.ofNat 16 j) a) (rowOf r b)

theorem addQ_eq (t : Fin cfg0.N) (r : Fin 16) (d : Fin 256) (b : Fin 512) :
    addQ (iblk m c 0 t) (iblk m c 1 t) (iblk m c 2 t) (iblk m c 3 t) (iblk m c 4 t) (iblk m c 5 t) (kb t) r d b
    = ∑ a : Fin 512, aK m c (ix3 (hd t) (rowOf (Fin.ofNat 16 (t.val % 16)) a) d)
      * dsG (aQ m c) (aK m c) (aV m c) (aD m c) (aL m c) (aE m c) (hd t) (rowOf (Fin.ofNat 16 (t.val % 16)) a) (rowOf r b) := by
  have hk : Fin.ofNat 16 (t.val % 16) = kb t := Fin.ext (Nat.mod_mod _ _)
  rw [hk]
  exact Finset.sum_congr rfl fun a _ => by rw [dsB_eq, b1]

theorem out_q (r : Fin 16) (d : Fin 256) (b : Fin 512) : ∀ (n : ℕ) (hn : n < cfg0.N), (outAt m c n).1 (ix4 0 r d b) = partQ m c (hd ⟨n, hn⟩) (n % 16) r d b
  | 0, hn => by
    rw [outAt, ptAt, point_q, coord_kb, addQ_eq]
    refine (congrArg (· + _) (if_pos rfl)).trans ?_
    rw [zero_add, partQ, show 0 % 16 + 1 = 1 from rfl, Finset.sum_range_one]; rfl
  | n + 1, hn => by
    have ih := out_q r d b n (Nat.lt_of_succ_lt hn)
    rw [outAt, dif_pos hn, ptAt, point_q, coord_kb, addQ_eq]
    by_cases h : (n + 1) % 16 = 0
    · rw [if_pos (show (kb ⟨n + 1, hn⟩).val = 0 from h), zero_add, partQ, h, Finset.sum_range_one]
    · rw [if_neg (show ¬ (kb ⟨n + 1, hn⟩).val = 0 from h), ih]
      have e1 : hd ⟨n + 1, hn⟩ = hd ⟨n, Nat.lt_of_succ_lt hn⟩ := Fin.ext (by show (n + 1) / 16 = n / 16; omega)
      have e2 : (n + 1) % 16 = n % 16 + 1 := by omega
      simp only [e1, e2, partQ]
      rw [Finset.sum_range_succ _ (n % 16 + 1)]

theorem partQ_all (h : Fin 8) (r : Fin 16) (d : Fin 256) (b : Fin 512) : partQ m c h 15 r d b
    = outQ (aQ m c) (aK m c) (aV m c) (aD m c) (aL m c) (aE m c) (ix4 h r d b) := by
  unfold partQ outQ
  refine Eq.trans ?_ (sum_rows _)
  rw [Finset.sum_range]
  exact Finset.sum_congr rfl fun q _ => by rw [show Fin.ofNat 16 q.val = q from Fin.ext (Nat.mod_eq_of_lt q.isLt)]; rfl

/-- The three arrays after the run. -/
theorem final_q : (dats m 0 c).arrAt 6 cfg0.N = outQ (aQ m c) (aK m c) (aV m c) (aD m c) (aL m c) (aE m c) := by
  refine (dats m 0 c).arrAt_eq_of_covers 6 _ (by decide +kernel) fun t hf y => ?_
  have h15 : t.val % 16 = 15 := (flush0_6 t).mp hf
  show (dats m 0 c).after 6 t y = outQ _ _ _ _ _ _ ((win0_6.blk t).view.emb y)
  rw [after0_6]
  idx_vars y
  obtain rfl : y0 = 0 := Subsingleton.elim _ _
  rw [show ((View.whole main_v55_0).slice (win0_6.rect t)).emb (ix4 0 y1 y2 y3) = _ from e6 t y1 y2 y3, ← partQ_all, ← h15]
  exact out_q m c y1 y2 y3 t.val t.isLt

theorem final_k : (dats m 0 c).arrAt 7 cfg0.N = outK (aQ m c) (aK m c) (aV m c) (aD m c) (aL m c) (aE m c) := by
  refine (dats m 0 c).arrAt_eq_of_covers 7 _ (by decide +kernel) fun t hf y => ?_
  show (dats m 0 c).after 7 t y = outK _ _ _ _ _ _ ((win0_7.blk t).view.emb y)
  rw [after0_7]
  idx_vars y
  obtain rfl : y0 = 0 := Subsingleton.elim _ _
  rw [show ((View.whole main_v55_1).slice (win0_7.rect t)).emb (ix3 0 y1 y2) = _ from e7 t y1 y2]
  exact out_k m c t y1 y2

theorem final_v : (dats m 0 c).arrAt 8 cfg0.N = outV (aQ m c) (aK m c) (aD m c) (aL m c) := by
  refine (dats m 0 c).arrAt_eq_of_covers 8 _ (by decide +kernel) fun t hf y => ?_
  show (dats m 0 c).after 8 t y = outV _ _ _ _ ((win0_8.blk t).view.emb y)
  rw [after0_8]
  idx_vars y
  obtain rfl : y0 = 0 := Subsingleton.elim _ _
  rw [show ((View.whole main_v55_2).slice (win0_8.rect t)).emb (ix3 0 y1 y2) = _ from e8 t y1 y2]
  exact out_v m c t y1 y2

end Cert.FlashRun
end
-- ==== Proof.Extended.lean ====
/- The extended reals' operations at real numbers. -/
module

public import Idealize.ShloMosaic.Lib.Pointwise

@[expose] public section

set_option maxRecDepth 16384

noncomputable section

namespace Cert.Extended

open Idealize.ShloMosaic

/-- A finite sum of reals is the real sum. -/
theorem esum {ι : Type} [Fintype ι] (f : ι → ℝ) : ∑ i, ((f i : ℝ) : EReal) = ((∑ i, f i : ℝ) : EReal) := by
  classical
  induction (Finset.univ : Finset ι) using Finset.induction_on with
  | empty => simp
  | insert a s h ih => rw [Finset.sum_insert h, Finset.sum_insert h, ih, EReal.coe_add]

/-- A quotient of reals, the lower one not zero, is the real quotient. -/
theorem ediv (x y : ℝ) (h : y ≠ 0) : Ideal.div (x : EReal) (y : EReal) = ((x / y : ℝ) : EReal) := by
  rw [Ideal.div_coe h, ← EReal.coe_mul, mul_one_div]

theorem esqrt (x : ℝ) (h : 0 ≤ x) : Ideal.sqrt (x : EReal) = ((Real.sqrt x : ℝ) : EReal) := by
  rw [Ideal.sqrt_coe, if_neg (not_lt.2 h)]

theorem elog (x : ℝ) (h : 0 < x) : Ideal.log (x : EReal) = ((Real.log x : ℝ) : EReal) := by
  rw [Ideal.log_coe, if_neg (not_le.2 h)]

/-- The greatest of a row is a real number where no entry is `⊤` and some entry is not `⊥`. -/
theorem max_real {n : ℕ} (f : Fin n → EReal) (hf : ∀ i, f i < ⊤) (j : Fin n) (hj : ⊥ < f j) :
    ∃ M : ℝ, Finset.fold max ⊥ f Finset.univ = (M : EReal) := by
  have h1 : Finset.fold max ⊥ f Finset.univ < ⊤ := (Finset.fold_max_lt _).2 ⟨bot_lt_top, fun i _ => hf i⟩
  have h2 : ⊥ < Finset.fold max ⊥ f Finset.univ := (Finset.lt_fold_max _).2 (Or.inr ⟨j, Finset.mem_univ j, hj⟩)
  exact ⟨_, (EReal.coe_toReal h1.ne h2.ne').symm⟩

/-- A number whose size is below infinity is real. -/
theorem real_of_abs (x : EReal) (h : max x (-x) < ⊤) : x = ((x.toReal : ℝ) : EReal) := by
  refine (EReal.coe_toReal ?_ ?_).symm
  · rintro rfl; simp at h
  · rintro rfl; simp at h

theorem two : Ideal.ofBits .f32 0x40000000#32 = ((2 : ℝ) : EReal) := by
  simp [Ideal.ofBits, Ideal.ieee, -EReal.coe_mul]; norm_num

theorem n192 : Ideal.ofBits .f32 0x43400000#32 = ((192 : ℝ) : EReal) := by
  simp [Ideal.ofBits, Ideal.ieee, -EReal.coe_mul]; norm_num

theorem neg_inf : Ideal.ofBits .f32 0xFF800000#32 = ⊥ := by
  simp [Ideal.ofBits, Ideal.ieee]

end Cert.Extended
end
-- ==== Proof.FlashReal.lean ====
/- Causal attention and its gradient over the reals, in plain sums: what both programs are shown to compute. -/
module

public import proofs.«01_k».proof.Proof.FlashArrays
public import proofs.«01_k».proof.Proof.Extended

@[expose] public section

set_option maxRecDepth 16384

noncomputable section

namespace Cert.FlashReal

open Cert.FlashRun (lane)
open Idealize.ShloMosaic

/-- The six arguments, as real numbers. -/
structure Args where
  qn : Fin 8192 → Fin 8 → Fin 128 → ℝ
  qr : Fin 8192 → Fin 8 → Fin 64 → ℝ
  kn : Fin 8192 → Fin 8 → Fin 128 → ℝ
  kr : Fin 8192 → Fin 64 → ℝ
  v : Fin 8192 → Fin 8 → Fin 128 → ℝ
  g : Fin 8192 → Fin 1024 → ℝ

namespace Args
variable (A : Args)

/-- The score of key `u` for query `t`, -/
def sc (h : Fin 8) (t u : Fin 8192) : ℝ := ((∑ d, A.qn t h d * A.kn u h d) + ∑ d, A.qr t h d * A.kr u d) / √192
/-- its weight before the division, nothing for a later key, -/
def w (h : Fin 8) (t u : Fin 8192) : ℝ := if u.val ≤ t.val then Real.exp (A.sc h t u) else 0
/-- the sum of the weights, -/
def z (h : Fin 8) (t : Fin 8192) : ℝ := ∑ u, A.w h t u
/-- the weight, -/
def p (h : Fin 8) (t u : Fin 8192) : ℝ := A.w h t u / A.z h t
/-- its cotangent, -/
def dp (h : Fin 8) (t u : Fin 8192) : ℝ := ∑ d, A.v u h d * A.g t (lane h d)
/-- the row's mean of the cotangents, -/
def del (h : Fin 8) (t : Fin 8192) : ℝ := ∑ u, A.p h t u * A.dp h t u
/-- and the score's cotangent. -/
def ds (h : Fin 8) (t u : Fin 8192) : ℝ := A.p h t u * (A.dp h t u - A.del h t)

/-- A query's lanes, the rotary ones twice, -/
def qc (t : Fin 8192) (h : Fin 8) (d : Fin 256) : ℝ :=
  if h1 : d.val < 128 then A.qn t h ⟨d.val, h1⟩ else if h2 : d.val - 128 < 64 then A.qr t h ⟨d.val - 128, h2⟩ else A.qr t h ⟨d.val - 128 - 64, by omega⟩
/-- and a key's, zeros for the second copy. -/
def kc (u : Fin 8192) (h : Fin 8) (d : Fin 256) : ℝ :=
  if h1 : d.val < 128 then A.kn u h ⟨d.val, h1⟩ else if h2 : d.val - 128 < 64 then A.kr u ⟨d.val - 128, h2⟩ else 0

/- The gradients. -/
def dv (h : Fin 8) (u : Fin 8192) (d : Fin 128) : ℝ := ∑ t, A.p h t u * A.g t (lane h d)
def dk (h : Fin 8) (u : Fin 8192) (d : Fin 256) : ℝ := ∑ t, A.ds h t u * A.qc t h d / √192
def dq (h : Fin 8) (t : Fin 8192) (d : Fin 256) : ℝ := ∑ u, A.kc u h d * (A.ds h t u * Real.log 2)

theorem w_nonneg (h : Fin 8) (t u : Fin 8192) : 0 ≤ A.w h t u := by
  unfold w; split
  · exact (Real.exp_pos _).le
  · exact le_rfl

theorem z_pos (h : Fin 8) (t : Fin 8192) : 0 < A.z h t :=
  Finset.sum_pos' (fun u _ => A.w_nonneg h t u) ⟨t, Finset.mem_univ t, by unfold w; rw [if_pos le_rfl]; exact Real.exp_pos _⟩

theorem log2_pos : 0 < Real.log 2 := Real.log_pos (by norm_num)
theorem sqrt_pos : 0 < √(192 : ℝ) := Real.sqrt_pos.2 (by norm_num)

/-- A sum over a query's or key's lanes is the sums over its parts. -/
theorem sum_lanes (f : Fin 256 → ℝ) : ∑ d, f d = (∑ d : Fin 128, f ⟨d.val, by omega⟩) + (∑ d : Fin 64, f ⟨128 + d.val, by omega⟩) + ∑ d : Fin 64, f ⟨128 + 64 + d.val, by omega⟩ := by
  rw [show (∑ d : Fin 256, f d) = ∑ d : Fin (128 + 64 + 64), f d from rfl, Fin.sum_univ_add, Fin.sum_univ_add]
  rfl

/-- The product of the scaled lanes is the score over the logarithm of two. -/
theorem score (h : Fin 8) (t u : Fin 8192) : ∑ d, A.qc t h d / (√192 * Real.log 2) * A.kc u h d = A.sc h t u / Real.log 2 := by
  rw [sum_lanes]
  have e1 : ∀ d : Fin 128, A.qc t h ⟨d.val, by omega⟩ / (√192 * Real.log 2) * A.kc u h ⟨d.val, by omega⟩ = A.qn t h d * A.kn u h d / (√192 * Real.log 2) := fun d => by
    unfold qc kc; rw [dif_pos d.isLt, dif_pos d.isLt]; ring
  have e2 : ∀ d : Fin 64, A.qc t h ⟨128 + d.val, by omega⟩ / (√192 * Real.log 2) * A.kc u h ⟨128 + d.val, by omega⟩ = A.qr t h d * A.kr u d / (√192 * Real.log 2) := fun d => by
    unfold qc kc
    have n1 : ¬ 128 + d.val < 128 := by omega
    have n2 : 128 + d.val - 128 < 64 := by omega
    rw [dif_neg n1, dif_neg n1, dif_pos n2, dif_pos n2]
    have e : (⟨128 + d.val - 128, n2⟩ : Fin 64) = d := Fin.ext (by simp)
    simp only [e]; ring
  have e3 : ∀ d : Fin 64, A.qc t h ⟨128 + 64 + d.val, by omega⟩ / (√192 * Real.log 2) * A.kc u h ⟨128 + 64 + d.val, by omega⟩ = 0 := fun d => by
    unfold kc
    have n1 : ¬ 128 + 64 + d.val < 128 := by omega
    have n2 : ¬ 128 + 64 + d.val - 128 < 64 := by omega
    rw [dif_neg n1, dif_neg n2, mul_zero]
  simp only [e1, e2, e3]
  rw [Finset.sum_const_zero, add_zero, ← Finset.sum_div, ← Finset.sum_div, ← add_div, sc, div_div]

/-- A row's mean of the cotangents, through the row's output. -/
theorem del_out (h : Fin 8) (t : Fin 8192) : ∑ d : Fin 128, A.g t (lane h d) * (∑ u, A.p h t u * A.v u h d) = A.del h t := by
  unfold del dp
  simp only [Finset.mul_sum]
  rw [Finset.sum_comm]
  exact Finset.sum_congr rfl fun u _ => Finset.sum_congr rfl fun d _ => by ring

/-- The weights taken relative to any number give the same quotients. -/
theorem shift (h : Fin 8) (t u : Fin 8192) (M : ℝ) :
    (if u.val ≤ t.val then Real.exp (A.sc h t u - M) else 0) = A.w h t u * Real.exp (-M) := by
  unfold w
  split
  · rw [sub_eq_add_neg, Real.exp_add]
  · rw [zero_mul]

theorem shift_sum (h : Fin 8) (t : Fin 8192) (M : ℝ) : ∑ u, A.w h t u * Real.exp (-M) = A.z h t * Real.exp (-M) := (Finset.sum_mul _ _ _).symm

end Args
end Cert.FlashReal
end
-- ==== Proof.FlashHost.lean ====
/- What the host lines before the kernel leave in the arrays it reads, for real arguments. -/
module

public import proofs.«01_k».proof.Proof.FlashReal
public import Idealize.ShloMosaic.Lib.StableHlo.ReadAt
public import Idealize.ShloMosaic.Lib.Pointwise

@[expose] public section

set_option maxRecDepth 16384

noncomputable section

namespace Cert.FlashRun

open Cert.FlashKernelIdeal Cert.FlashKernelIdeal.Gen
open Idealize.ShloMosaic Idealize.ShloMosaic.TcCoe
open Cert.Extended
open Cert.FlashReal (Args)
open Cert.FlashReal.Args (log2_pos sqrt_pos)

variable (m : (ℓ : Loc nD τ sig) → Buf (Elt Ideal) ℓ) (c : Dev nD)

/-- The six arrays that the program is given hold these reals. -/
structure HoldsArgs (A : Args) (x0 : S8192x8x128.Idx → EReal) (x1 : S8192x8x64.Idx → EReal) (x2 : S8192x8x128.Idx → EReal) (x3 : S8192x64.Idx → EReal) (x4 : S8192x8x128.Idx → EReal) (x5 : S8192x1024.Idx → EReal) : Prop where
  qn : ∀ t h d, x0 (ix3 t h d) = (A.qn t h d : EReal)
  qr : ∀ t h d, x1 (ix3 t h d) = (A.qr t h d : EReal)
  kn : ∀ t h d, x2 (ix3 t h d) = (A.kn t h d : EReal)
  kr : ∀ t d, x3 (ix2 t d) = (A.kr t d : EReal)
  v : ∀ t h d, x4 (ix3 t h d) = (A.v t h d : EReal)
  g : ∀ t d, x5 (ix2 t d) = (A.g t d : EReal)

variable (A : Args) (H : HoldsArgs A (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)))
include H

theorem h_q (h : Fin 8) (t : Fin 8192) (d : Fin 256) : aQ m c (ix3 h t d) = ((A.qc t h d / (√192 * Real.log 2) : ℝ) : EReal) := by
  have e : aQ m c = truncf .bf16 (transpose S8x8192x256 [1, 0, 2] (mulf (V m c main_v1 : S8192x8x256.Idx → EReal) (broadcastInDim S8192x8x256 ![] bcast_S_S8192x8x256 (id (Host.divf (constant (F := Ideal) S_ FTy.f32 1065353216#32) (mulf (Host.sqrt (constant S_ FTy.f32 1128267776#32)) (Host.log (constant S_ FTy.f32 1073741824#32))))))) transposes_S8192x8x256_S8x8192x256_1_0_2) bitsLt_bf16_f32 := by
    unfold aQ V
    after_reads_simp
  have f : (V m c main_v1 : S8192x8x256.Idx → EReal) (ix3 t h d) = ((A.qc t h d : ℝ) : EReal) := by
    unfold V
    after_reads_at
    pointwise
    simp only [H.qn, H.qr]
    unfold Args.qc
    split
    · rfl
    · split <;> rfl
  rw [e]
  generalize (V m c main_v1 : S8192x8x256.Idx → EReal) = X at f ⊢
  pointwise [f]
  simp only [id_eq]
  pointwise
  rw [two, n192, elog _ (by norm_num), esqrt _ (by norm_num), ← EReal.coe_mul, ← EReal.coe_one, ediv _ _ (mul_pos sqrt_pos log2_pos).ne', ← EReal.coe_mul, mul_one_div]

theorem h_k (h : Fin 8) (t : Fin 8192) (d : Fin 256) : aK m c (ix3 h t d) = ((A.kc t h d : ℝ) : EReal) := by
  unfold aK V
  after_reads_at
  after_reads_at
  simp only [H.kn, H.kr]
  unfold Args.kc
  split
  · rfl
  · split
    · rfl
    · exact EReal.coe_zero.symm

theorem h_v (h : Fin 8) (t : Fin 8192) (d : Fin 128) : aV m c (ix3 h t d) = ((A.v t h d : ℝ) : EReal) := by
  unfold aV V
  after_reads_at
  exact H.v t h d

theorem h_d (t : Fin 8192) (d : Fin 1024) : aD m c (ix2 t d) = ((A.g t d : ℝ) : EReal) := by
  unfold aD V
  after_reads_at
  exact H.g t d
omit H

/- The masked scores, their row's greatest, the weights, the row sums and the outputs. -/
abbrev aS : S8x8192x8192.Idx → EReal := V m c main_v24
abbrev aM : S8x8192.Idx → EReal := V m c main_v25
abbrev aW : S8x8192x8192.Idx → EReal := V m c main_v32
abbrev aZ : S8x8192.Idx → EReal := V m c main_v33
abbrev aO : S8x8192x128.Idx → EReal := V m c main_v37

theorem h_s0 (h : Fin 8) (t u : Fin 8192) : aS m c (ix3 h t u) = Scalar.select (IntOp.cmpi CmpIPredicate.sge (BitVec.ofNat 32 t.val) (BitVec.ofNat 32 u.val))
    (∑ d : Fin 256, aQ m c (ix3 h t d) * aK m c (ix3 h u d)) (Ideal.ofBits .f32 0xFF800000#32 : EReal) := by
  unfold aS aQ aK V
  after_reads_at
  simp only [id_eq]
  pointwise

theorem h_m0 (h : Fin 8) (t : Fin 8192) : aM m c (ix2 h t) = Finset.fold max (Ideal.ofBits .f32 0xFF800000#32 : EReal) (fun u => aS m c (ix3 h t u)) Finset.univ := by
  have e : aM m c = Host.reduce FloatOps.maximumf (aS m c) (constant (F := Ideal) S_ FTy.f32 4286578688#32) reducesTo_S8x8192x8192_S8x8192_d2 h_S_ := by
    unfold aM aS V
    after_reads_simp
  rw [e]
  pointwise

theorem h_w0 (h : Fin 8) (t u : Fin 8192) : aW m c (ix3 h t u) = Ideal.exp ((aS m c (ix3 h t u) - aM m c (ix2 h t)) * Ideal.log (Ideal.ofBits .f32 0x40000000#32 : EReal)) := by
  have e : aW m c = Host.exp (mulf (subf (aS m c) (broadcastInDim S8x8192x8192 ![0, 1, 2] bcast_S8x8192x1_S8x8192x8192_0_1_2 (broadcastInDim S8x8192x1 ![0, 1] bcast_S8x8192_S8x8192x1_0_1 (aM m c)))) (broadcastInDim S8x8192x8192 ![] bcast_S_S8x8192x8192 (id (Host.log (constant (F := Ideal) S_ FTy.f32 1073741824#32))))) := by
    unfold aW aS aM V
    after_reads_simp
  rw [e]
  generalize aS m c = S
  generalize aM m c = M
  pointwise
  simp only [id_eq]
  pointwise

theorem h_z0 (h : Fin 8) (t : Fin 8192) : aZ m c (ix2 h t) = ∑ u : Fin 8192, aW m c (ix3 h t u) := by
  have e : aZ m c = Host.reduceAdd (aW m c) (constant (F := Ideal) S_ FTy.f32 0#32) reducesTo_S8x8192x8192_S8x8192_d2 h_S_ := by
    unfold aZ aW V
    after_reads_simp
  rw [e]
  generalize aW m c = W
  pointwise

theorem h_o0 (h : Fin 8) (t : Fin 8192) (d : Fin 128) : aO m c (ix3 h t d) = Ideal.div (∑ u : Fin 8192, aW m c (ix3 h t u) * aV m c (ix3 h u d)) (aZ m c (ix2 h t)) := by
  unfold aO aW aV aZ V
  after_reads_at

end Cert.FlashRun
end
-- ==== Proof.FlashHost2.lean ====
/- The row's log-sum and the row's sum of do·o that the host lines hand to the kernel. -/
module

public import proofs.«01_k».proof.Proof.FlashHost

@[expose] public section

set_option maxRecDepth 16384

noncomputable section

namespace Cert.FlashRun

open Cert.FlashKernelIdeal Cert.FlashKernelIdeal.Gen
open Idealize.ShloMosaic Idealize.ShloMosaic.TcCoe
open Cert.Extended

variable (m : (ℓ : Loc nD τ sig) → Buf (Elt Ideal) ℓ) (c : Dev nD)

/-- The rows' log-sums before they are reshaped, and the products do·o. -/
abbrev aR : S8x8192x1.Idx → EReal := V m c main_v42
abbrev aT : S8x8192.Idx → EReal := V m c main_v43
abbrev aP : S8x8192x128.Idx → EReal := V m c main_v46

theorem row_eq (h : Fin 8) (q : Fin 16) (j : Fin 512) : ((⟨q.val * 512 + j.val, by omega⟩ : Fin 8192)) = rowOf q j :=
  Fin.ext (by show q.val * 512 + j.val = 512 * q.val + j.val; omega)

theorem eq_l : aL m c = broadcastInDim S8x16x8x512 ![0, 1, 2, 3] bcast_S8x16x1x512_S8x16x8x512_0_1_2_3 (fun i => shapeCast main_v51.ty.shape (aT m c) shapeCasts_S8x8192_S8x16x1x512 i) := by
  unfold aL aT V
  after_reads_simp

theorem eq_t : aT m c = fun j => shapeCast S8x8192 (aR m c) shapeCasts_S8x8192x1_S8x8192 j := by
  unfold aT aR V
  after_reads_simp
  all_goals clean_types
  exact congrArg (fun z : S8x8192x1.Idx → EReal => fun j => shapeCast S8x8192 z shapeCasts_S8x8192x1_S8x8192 j) rfl

theorem at_l1 (Y : S8x8192.Idx → EReal) (h : Fin 8) (q : Fin 16) (b : Fin 8) (j : Fin 512) : broadcastInDim S8x16x8x512 ![0, 1, 2, 3] bcast_S8x16x1x512_S8x16x8x512_0_1_2_3 (fun i => shapeCast S8x16x1x512 Y shapeCasts_S8x8192_S8x16x1x512 i) (ix4 h q b j) = Y (ix2 h (rowOf q j)) := by
  pointwise
  exact congrArg (fun s => Y (ix2 h s)) (row_eq h q j)

theorem at_l2 (X : S8x8192x1.Idx → EReal) (h : Fin 8) (t : Fin 8192) : shapeCast S8x8192 X shapeCasts_S8x8192x1_S8x8192 (ix2 h t) = X (ix3 h t 0) := by
  pointwise

theorem h_l0 (h : Fin 8) (q : Fin 16) (b : Fin 8) (j : Fin 512) : aL m c (ix4 h q b j) = aR m c (ix3 h (rowOf q j) 0) :=
  (congrFun (eq_l m c) _).trans ((at_l1 _ h q b j).trans ((congrFun (eq_t m c) _).trans (at_l2 _ h _)))

theorem eq_r : aR m c = addf (broadcastInDim S8x8192x1 ![0, 1] bcast_S8x8192_S8x8192x1_0_1 (aM m c)) (Host.divf (Host.log (broadcastInDim S8x8192x1 ![0, 1] bcast_S8x8192_S8x8192x1_0_1 (aZ m c))) (broadcastInDim S8x8192x1 ![] bcast_S_S8x8192x1 (id (Host.log (constant (F := Ideal) S_ FTy.f32 1073741824#32))))) := by
  unfold aR aM aZ V
  after_reads_simp

theorem at_r (M Z : S8x8192.Idx → EReal) (h : Fin 8) (t : Fin 8192) : addf (F := Ideal) (broadcastInDim S8x8192x1 ![0, 1] bcast_S8x8192_S8x8192x1_0_1 M : FVec Ideal S8x8192x1 .f32) (Host.divf (Host.log (broadcastInDim S8x8192x1 ![0, 1] bcast_S8x8192_S8x8192x1_0_1 Z : FVec Ideal S8x8192x1 .f32)) (broadcastInDim S8x8192x1 ![] bcast_S_S8x8192x1 (id (Host.log (constant (F := Ideal) S_ FTy.f32 1073741824#32))))) (ix3 h t 0) = M (ix2 h t) + Ideal.div (Ideal.log (Z (ix2 h t))) (Ideal.log (Ideal.ofBits .f32 0x40000000#32 : EReal)) := by
  pointwise
  simp only [id_eq]
  pointwise

theorem h_r0 (h : Fin 8) (t : Fin 8192) : aR m c (ix3 h t 0) = aM m c (ix2 h t) + Ideal.div (Ideal.log (aZ m c (ix2 h t))) (Ideal.log (Ideal.ofBits .f32 0x40000000#32 : EReal)) :=
  (congrFun (eq_r m c) _).trans (at_r _ _ h t)

theorem eq_e : aE m c = broadcastInDim S8x16x8x512 ![0, 1, 2, 3] bcast_S8x16x1x512_S8x16x8x512_0_1_2_3 (fun i => shapeCast S8x16x1x512 (Host.reduceAdd (aP m c) (constant (F := Ideal) S_ FTy.f32 0#32) reducesTo_S8x8192x128_S8x8192_d2 h_S_) shapeCasts_S8x8192_S8x16x1x512 i) := by
  unfold aE aP V
  after_reads_simp
  all_goals clean_types
  exact congrArg (fun z : S8x16x1x512.Idx → EReal => broadcastInDim S8x16x8x512 ![0, 1, 2, 3] bcast_S8x16x1x512_S8x16x8x512_0_1_2_3 z) rfl

theorem at_e (X : S8x8192x128.Idx → EReal) (h : Fin 8) (q : Fin 16) (b : Fin 8) (j : Fin 512) : broadcastInDim S8x16x8x512 ![0, 1, 2, 3] bcast_S8x16x1x512_S8x16x8x512_0_1_2_3 (fun i => shapeCast S8x16x1x512 (Host.reduceAdd (X : FVec Ideal S8x8192x128 .f32) (constant (F := Ideal) S_ FTy.f32 0#32) reducesTo_S8x8192x128_S8x8192_d2 h_S_) shapeCasts_S8x8192_S8x16x1x512 i) (ix4 h q b j) = ∑ d : Fin 128, X (ix3 h (rowOf q j) d) := by
  pointwise
  exact congrArg (fun s => ∑ d : Fin 128, X (ix3 h s d)) (row_eq h q j)

theorem h_e0 (h : Fin 8) (q : Fin 16) (b : Fin 8) (j : Fin 512) : aE m c (ix4 h q b j) = ∑ d : Fin 128, aP m c (ix3 h (rowOf q j) d) :=
  (congrFun (eq_e m c) _).trans (at_e _ h q b j)

theorem eq_p : aP m c = mulf (F := Ideal) (transpose S8x8192x128 [1, 0, 2] (fun i => shapeCast S8192x8x128 (V m c main_arg5 : S8192x1024.Idx → EReal) shapeCasts_S8192x1024_S8192x8x128 i) transposes_S8192x8x128_S8x8192x128_1_0_2 : FVec Ideal S8x8192x128 .f32) (aO m c) := by
  unfold aP aO V
  after_reads_simp
  all_goals clean_types
  exact congrArg₂ mulf rfl rfl

theorem eq_d : aD m c = truncf (F := Ideal) .bf16 (V m c main_arg5 : S8192x1024.Idx → EReal) bitsLt_bf16_f32 := by
  unfold aD V
  after_reads_simp

theorem lane_eq (h : Fin 8) (d : Fin 128) : ((⟨h.val * 128 + d.val, by omega⟩ : Fin 1024)) = lane h d :=
  Fin.ext (by show h.val * 128 + d.val = 128 * h.val + d.val; omega)

theorem at_p (Y : S8192x1024.Idx → EReal) (O : S8x8192x128.Idx → EReal) (h : Fin 8) (t : Fin 8192) (d : Fin 128) : mulf (F := Ideal) (transpose S8x8192x128 [1, 0, 2] (fun i => shapeCast S8192x8x128 Y shapeCasts_S8192x1024_S8192x8x128 i) transposes_S8192x8x128_S8x8192x128_1_0_2 : FVec Ideal S8x8192x128 .f32) O (ix3 h t d) = truncf (F := Ideal) (φ := .f32) FTy.bf16 Y bitsLt_bf16_f32 (ix2 t (lane h d)) * O (ix3 h t d) := by
  pointwise
  rw [lane_eq h d]

theorem h_p0 (h : Fin 8) (t : Fin 8192) (d : Fin 128) : aP m c (ix3 h t d) = aD m c (ix2 t (lane h d)) * aO m c (ix3 h t d) :=
  (congrFun (eq_p m c) _).trans ((at_p _ _ h t d).trans (congrArg (· * _) (congrFun (eq_d m c) _).symm))

end Cert.FlashRun
end
-- ==== Proof.FlashValue.lean ====
/- The kernel's three results, for real arguments: the gradients of attention. -/
module

public import proofs.«01_k».proof.Proof.FlashHost2

@[expose] public section

set_option maxRecDepth 16384

noncomputable section

namespace Cert.FlashRun

open Cert.FlashKernelIdeal Cert.FlashKernelIdeal.Gen
open Idealize.ShloMosaic Idealize.ShloMosaic.TcCoe
open Cert.Extended
open Cert.FlashReal (Args)
open Cert.FlashReal.Args (log2_pos sqrt_pos)

variable (m : (ℓ : Loc nD τ sig) → Buf (Elt Ideal) ℓ) (c : Dev nD)
variable (A : Args) (H : HoldsArgs A (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)))
include H

/-- The scores, relative to base two, and minus infinity for the later keys. -/
theorem r_s (h : Fin 8) (t u : Fin 8192) : aS m c (ix3 h t u) = if u.val ≤ t.val then ((A.sc h t u / Real.log 2 : ℝ) : EReal) else ⊥ := by
  rw [h_s0, sge_eq _ _ (by omega) (by omega), neg_inf]
  simp only [h_q m c A H, h_k m c A H, ← EReal.coe_mul]
  rw [esum, A.score]
  by_cases l : u.val ≤ t.val
  · rw [if_pos l, if_pos l]; rfl
  · rw [if_neg l, if_neg l]; rfl

theorem r_m (h : Fin 8) (t : Fin 8192) : ∃ M : ℝ, aM m c (ix2 h t) = (M : EReal) := by
  rw [h_m0, neg_inf]
  refine max_real _ (fun u => ?_) t ?_
  · rw [r_s m c A H]; split
    · exact EReal.coe_lt_top _
    · exact bot_lt_top
  · rw [r_s m c A H, if_pos le_rfl]; exact EReal.bot_lt_coe _

section
variable (h : Fin 8) (t : Fin 8192) (M : ℝ) (hM : aM m c (ix2 h t) = (M : EReal))
include hM

theorem r_w (u : Fin 8192) : aW m c (ix3 h t u) = ((A.w h t u * Real.exp (-(M * Real.log 2)) : ℝ) : EReal) := by
  rw [h_w0, r_s m c A H, hM, two, elog _ (by norm_num), ← A.shift]
  by_cases l : u.val ≤ t.val
  · rw [if_pos l, if_pos l, ← EReal.coe_sub, ← EReal.coe_mul, Ideal.exp_coe, sub_mul, div_mul_cancel₀ _ log2_pos.ne']
  · rw [if_neg l, if_neg l, EReal.bot_sub, EReal.bot_mul_coe_of_pos log2_pos, Ideal.exp_bot, EReal.coe_zero]

theorem r_z : aZ m c (ix2 h t) = ((A.z h t * Real.exp (-(M * Real.log 2)) : ℝ) : EReal) := by
  rw [h_z0]
  simp only [r_w m c A H h t M hM]
  rw [esum, A.shift_sum]
end

theorem r_r (h : Fin 8) (t : Fin 8192) : aR m c (ix3 h t 0) = ((Real.log (A.z h t) / Real.log 2 : ℝ) : EReal) := by
  obtain ⟨M, hM⟩ := r_m m c A H h t
  rw [h_r0, r_z m c A H h t M hM, hM, two, elog 2 (by norm_num), elog _ (mul_pos (A.z_pos h t) (Real.exp_pos _)), ediv _ _ log2_pos.ne', ← EReal.coe_add,
    Real.log_mul (A.z_pos h t).ne' (Real.exp_pos _).ne', Real.log_exp]
  refine congrArg (fun r : ℝ => (r : EReal)) ?_
  field_simp
  ring

theorem r_l (h : Fin 8) (t : Fin 8192) (b : Fin 8) : aL m c (ix4 h (blkOf t) b (posOf t)) = ((Real.log (A.z h t) / Real.log 2 : ℝ) : EReal) := by
  rw [h_l0, row_blkOf, r_r m c A H]

theorem r_o (h : Fin 8) (t : Fin 8192) (d : Fin 128) : aO m c (ix3 h t d) = ((∑ u, A.p h t u * A.v u h d : ℝ) : EReal) := by
  obtain ⟨M, hM⟩ := r_m m c A H h t
  rw [h_o0, r_z m c A H h t M hM]
  simp only [r_w m c A H h t M hM, h_v m c A H, ← EReal.coe_mul]
  rw [esum, ediv _ _ (mul_pos (A.z_pos h t) (Real.exp_pos _)).ne', Finset.sum_div]
  refine congrArg (fun r : ℝ => (r : EReal)) ?_
  refine Finset.sum_congr rfl fun u _ => ?_
  have h1 := (A.z_pos h t).ne'
  have h2 := (Real.exp_pos (-(M * Real.log 2))).ne'
  unfold Args.p
  field_simp

theorem r_e (h : Fin 8) (t : Fin 8192) (b : Fin 8) : aE m c (ix4 h (blkOf t) b (posOf t)) = ((A.del h t : ℝ) : EReal) := by
  rw [h_e0, row_blkOf]
  simp only [h_p0 m c, h_d m c A H, r_o m c A H, ← EReal.coe_mul]
  rw [esum, A.del_out]

/-- The weights, -/
theorem r_p (h : Fin 8) (u t : Fin 8192) : pG (aQ m c) (aK m c) (aL m c) h u t = ((A.p h t u : ℝ) : EReal) := by
  unfold pG
  rw [r_l m c A H]
  simp only [h_q m c A H, h_k m c A H, ← EReal.coe_mul]
  rw [esum, Finset.sum_congr rfl fun d _ => mul_comm _ _, A.score]
  unfold Args.p Args.w
  split
  · rw [← EReal.coe_sub, Ideal.exp2_coe]
    refine congrArg (fun r : ℝ => (r : EReal)) ?_
    show (2 : ℝ) ^ (_ : ℝ) = _
    rw [Real.rpow_def_of_pos (by norm_num), mul_sub, mul_div_cancel₀ _ log2_pos.ne', mul_div_cancel₀ _ log2_pos.ne', Real.exp_sub, Real.exp_log (A.z_pos h t)]
  · rw [zero_div, EReal.coe_zero]

/-- the scores' cotangents, -/
theorem r_ds (h : Fin 8) (u t : Fin 8192) : dsG (aQ m c) (aK m c) (aV m c) (aD m c) (aL m c) (aE m c) h u t = ((A.ds h t u * Real.log 2 : ℝ) : EReal) := by
  unfold dsG
  rw [r_p m c A H, r_e m c A H]
  simp only [h_v m c A H, h_d m c A H, ← EReal.coe_mul]
  rw [esum, ← EReal.coe_sub, ← EReal.coe_mul, ← EReal.coe_mul]
  rfl

/-- and the results. -/
theorem r_outQ (h : Fin 8) (q : Fin 16) (d : Fin 256) (b : Fin 512) : outQ (aQ m c) (aK m c) (aV m c) (aD m c) (aL m c) (aE m c) (ix4 h q d b) = ((A.dq h (rowOf q b) d : ℝ) : EReal) := by
  show ∑ u : Fin 8192, aK m c (ix3 h u d) * dsG _ _ _ _ _ _ h u (rowOf q b) = _
  simp only [h_k m c A H, r_ds m c A H, ← EReal.coe_mul]
  rw [esum]; rfl

theorem r_outK (h : Fin 8) (u : Fin 8192) (d : Fin 256) : outK (aQ m c) (aK m c) (aV m c) (aD m c) (aL m c) (aE m c) (ix3 h u d) = ((A.dk h u d : ℝ) : EReal) := by
  show ∑ t : Fin 8192, dsG _ _ _ _ _ _ h u t * aQ m c (ix3 h t d) = _
  simp only [h_q m c A H, r_ds m c A H, ← EReal.coe_mul]
  rw [esum]
  refine congrArg (fun r : ℝ => (r : EReal)) ?_
  refine Finset.sum_congr rfl fun t _ => ?_
  have h1 := log2_pos.ne'
  have h2 := sqrt_pos.ne'
  field_simp

theorem r_outV (h : Fin 8) (u : Fin 8192) (d : Fin 128) : outV (aQ m c) (aK m c) (aD m c) (aL m c) (ix3 h u d) = ((A.dv h u d : ℝ) : EReal) := by
  show ∑ t : Fin 8192, pG _ _ _ h u t * aD m c (ix2 t (lane h d)) = _
  simp only [h_d m c A H, r_p m c A H, ← EReal.coe_mul]
  rw [esum]; rfl

end Cert.FlashRun
end
-- ==== Proof.FlashRef.lean ====
/- The reference's three results, for real arguments: the gradients of attention. -/
module

public import proofs.«01_k».proof.Proof.FlashHost2
public import proofs.«01_k».proof.Proof.Gen.FlashReferenceIdeal.Read

@[expose] public section

set_option maxRecDepth 16384

noncomputable section

namespace Cert.FlashRef

open Cert.FlashReferenceIdeal Cert.FlashReferenceIdeal.Gen Cert.FlashReferenceIdeal.Read
open Idealize.ShloMosaic Idealize.ShloMosaic.TcCoe
open Cert.Extended
open Cert.FlashRun (HoldsArgs rowOf lane sge_eq lane_eq row_eq)
open Cert.FlashReal (Args)
open Cert.FlashReal.Args (log2_pos sqrt_pos)

variable (x0 : S8192x8x128.Idx → EReal) (x1 : S8192x8x64.Idx → EReal) (x2 : S8192x8x128.Idx → EReal) (x3 : S8192x64.Idx → EReal) (x4 : S8192x8x128.Idx → EReal) (x5 : S8192x1024.Idx → EReal)
variable (A : Args) (H : HoldsArgs A x0 x1 x2 x3 x4 x5)

/-- The scale of the scores, -/
theorem v_scale : (val_main_v14 (F := Ideal) ix0 : EReal) = ((1 / √192 : ℝ) : EReal) := by
  rw [val_main_v14_apply, val_main_v13_apply, val_main_v12_apply]
  pointwise [val_main_cst, val_main_cst_0]
  rw [n192, esqrt _ (by norm_num), ← EReal.coe_one, ediv _ _ sqrt_pos.ne']

/-- their mask, -/
theorem v_mask (h : Fin 8) (t u : Fin 8192) : val_main_v17_1 (F := Ideal) (ix3 h t u) = if u.val ≤ t.val then 1#1 else 0#1 := by
  pointwise [val_main_v17_1, val_main_v11, val_main_v10, val_main_v9, val_main_v8, val_main_v7, val_main_v6, val_main_v2]
  exact sge_eq _ _ (by omega) (by omega)

include H

/-- the scores, -/
theorem v_s (h : Fin 8) (t u : Fin 8192) : (val_main_v17_0 (F := Ideal) x0 x1 x2 x3 (ix3 h t u) : EReal) = if u.val ≤ t.val then ((A.sc h t u : ℝ) : EReal) else ⊥ := by
  have e : (val_main_v5 (F := Ideal) x0 x1 x2 x3 (ix3 h t u) : EReal) = ((((∑ d, A.qn t h d * A.kn u h d) + ∑ d, A.qr t h d * A.kr u d : ℝ)) : EReal) := by
    pointwise [val_main_v5, val_main_v3, val_main_v4, val_main_v1, val_main_v0]
    simp only [H.qn, H.kn, H.qr, H.kr, ← EReal.coe_mul]
    rw [esum, esum, ← EReal.coe_add]
  have f : (val_main_v16 (F := Ideal) x0 x1 x2 x3 (ix3 h t u) : EReal) = val_main_v5 (F := Ideal) x0 x1 x2 x3 (ix3 h t u) * val_main_v14 (F := Ideal) ix0 := by
    pointwise [val_main_v16, val_main_v15]
  have g : (val_main_call0_v2 (F := Ideal) (ix3 h t u) : EReal) = ⊥ := by
    rw [val_main_call0_v2_apply, val_main_call0_v0_apply, val_main_cst_1_apply]
    exact neg_inf
  rw [val_main_v17_0_apply, v_mask, f, g, e, v_scale, ← EReal.coe_mul]
  by_cases l : u.val ≤ t.val
  · rw [if_pos l, if_pos l, mul_one_div]; rfl
  · rw [if_neg l, if_neg l]; rfl

theorem v_m (h : Fin 8) (t : Fin 8192) : ∃ M : ℝ, (val_main_v18 (F := Ideal) x0 x1 x2 x3 (ix2 h t) : EReal) = (M : EReal) := by
  have e : (val_main_v18 (F := Ideal) x0 x1 x2 x3 (ix2 h t) : EReal) = Finset.fold max (⊥ : EReal) (fun u => (val_main_v17_0 (F := Ideal) x0 x1 x2 x3 (ix3 h t u) : EReal)) Finset.univ := by
    unfold val_main_v18
    pointwise [val_main_cst_2]
    rw [neg_inf]
  rw [e]
  refine max_real _ (fun u => ?_) t ?_
  · rw [v_s x0 x1 x2 x3 x4 x5 A H]; split
    · exact EReal.coe_lt_top _
    · exact bot_lt_top
  · rw [v_s x0 x1 x2 x3 x4 x5 A H, if_pos le_rfl]; exact EReal.bot_lt_coe _

section
variable (h : Fin 8) (t : Fin 8192) (M : ℝ) (hM : (val_main_v18 (F := Ideal) x0 x1 x2 x3 (ix2 h t) : EReal) = (M : EReal))
include hM

/-- the weights and their sum, relative to the greatest score, -/
theorem v_w (u : Fin 8192) : (val_main_v38 (F := Ideal) x0 x1 x2 x3 (ix3 h t u) : EReal) = ((A.w h t u * Real.exp (-M) : ℝ) : EReal) := by
  have e : (val_main_v38 (F := Ideal) x0 x1 x2 x3 (ix3 h t u) : EReal) = Ideal.exp (val_main_v17_0 (F := Ideal) x0 x1 x2 x3 (ix3 h t u) - max (Ideal.ofBits .f32 0xFF800000#32 : EReal) (val_main_v18 (F := Ideal) x0 x1 x2 x3 (ix2 h t))) := by
    have a : (val_main_v36 (F := Ideal) x0 x1 x2 x3 (ix3 h t u) : EReal) = val_main_v25 (F := Ideal) x0 x1 x2 x3 (ix2 h t) := by
      pointwise [val_main_v36, val_main_v35]
    have b : (val_main_v25 (F := Ideal) x0 x1 x2 x3 (ix2 h t) : EReal) = max (Ideal.ofBits .f32 0xFF800000#32 : EReal) (val_main_v18 (F := Ideal) x0 x1 x2 x3 (ix2 h t)) := by
      rw [val_main_v25_apply, val_main_v24_apply, val_main_cst_4_apply]
      generalize val_main_v18 (F := Ideal) x0 x1 x2 x3 (ix2 h t) = w
      rfl
    rw [← b, ← a, val_main_v38_apply, val_main_v37_apply]
    generalize val_main_v17_0 (F := Ideal) x0 x1 x2 x3 (ix3 h t u) = w
    generalize val_main_v36 (F := Ideal) x0 x1 x2 x3 (ix3 h t u) = w'
    rfl
  rw [e, hM, neg_inf, max_eq_right bot_le, v_s x0 x1 x2 x3 x4 x5 A H, ← A.shift]
  by_cases l : u.val ≤ t.val
  · rw [if_pos l, if_pos l, ← EReal.coe_sub, Ideal.exp_coe]
  · rw [if_neg l, if_neg l, EReal.bot_sub, Ideal.exp_bot, EReal.coe_zero]

theorem v_z : (val_main_v39 (F := Ideal) x0 x1 x2 x3 (ix2 h t) : EReal) = ((A.z h t * Real.exp (-M) : ℝ) : EReal) := by
  have e : (val_main_v39 (F := Ideal) x0 x1 x2 x3 (ix2 h t) : EReal) = ∑ u : Fin 8192, (val_main_v38 (F := Ideal) x0 x1 x2 x3 (ix3 h t u) : EReal) := by
    pointwise [val_main_v39, val_main_cst_10]
  rw [e]
  simp only [v_w x0 x1 x2 x3 x4 x5 A H h t M hM]
  rw [esum, A.shift_sum]
end

/-- the quotients, -/
theorem v_p (h : Fin 8) (t u : Fin 8192) : (val_main_v42 (F := Ideal) x0 x1 x2 x3 (ix3 h t u) : EReal) = ((A.p h t u : ℝ) : EReal) := by
  obtain ⟨M, hM⟩ := v_m x0 x1 x2 x3 x4 x5 A H h t
  have e : (val_main_v42 (F := Ideal) x0 x1 x2 x3 (ix3 h t u) : EReal) = Ideal.div (val_main_v38 (F := Ideal) x0 x1 x2 x3 (ix3 h t u)) (val_main_v39 (F := Ideal) x0 x1 x2 x3 (ix2 h t)) := by
    pointwise [val_main_v42, val_main_v41, val_main_v40]
  rw [e, v_w x0 x1 x2 x3 x4 x5 A H h t M hM, v_z x0 x1 x2 x3 x4 x5 A H h t M hM, ediv _ _ (mul_pos (A.z_pos h t) (Real.exp_pos _)).ne',
    mul_div_mul_right _ _ (Real.exp_pos _).ne']
  rfl

theorem v_dp (h : Fin 8) (t u : Fin 8192) : (val_main_v51 (F := Ideal) x4 x5 (ix3 h t u) : EReal) = ((A.dp h t u : ℝ) : EReal) := by
  have e : (val_main_v51 (F := Ideal) x4 x5 (ix3 h t u) : EReal) = ∑ d : Fin 128, x5 (ix2 t (lane h d)) * x4 (ix3 u h d) := by
    pointwise [val_main_v51, val_main_v50, val_main_v49]
    exact Finset.sum_congr rfl fun d _ => congrArg (fun l => x5 (ix2 t l) * x4 (ix3 u h d)) (lane_eq h d)
  rw [e]
  simp only [H.v, H.g, ← EReal.coe_mul]
  rw [esum, Finset.sum_congr rfl fun d _ => mul_comm _ _]; rfl

/-- the scores' cotangents, -/
theorem v_ds (h : Fin 8) (t u : Fin 8192) : (val_main_v68 (F := Ideal) x0 x1 x2 x3 x4 x5 (ix3 h t u) : EReal) = ((A.ds h t u / √192 : ℝ) : EReal) := by
  obtain ⟨M, hM⟩ := v_m x0 x1 x2 x3 x4 x5 A H h t
  have hz := (mul_pos (A.z_pos h t) (Real.exp_pos (-M)))
  have e1 : (val_main_v45 (F := Ideal) x0 x1 x2 x3 (ix3 h t 0) : EReal) = ((1 / (A.z h t * Real.exp (-M) * (A.z h t * Real.exp (-M))) : ℝ) : EReal) := by
    have e : (val_main_v45 (F := Ideal) x0 x1 x2 x3 (ix3 h t 0) : EReal) = Ideal.div 1 (val_main_v39 (F := Ideal) x0 x1 x2 x3 (ix2 h t) * val_main_v39 (F := Ideal) x0 x1 x2 x3 (ix2 h t)) := by
      pointwise [val_main_v45, val_main_v44, val_main_cst_11, val_main_v43, val_main_v40]
    rw [e, v_z x0 x1 x2 x3 x4 x5 A H h t M hM, ← EReal.coe_mul, ← EReal.coe_one, ediv _ _ (mul_pos hz hz).ne']
  have e2 : (val_main_v57 (F := Ideal) x0 x1 x2 x3 x4 x5 (ix2 h t) : EReal) = ((A.del h t / (A.z h t * Real.exp (-M)) : ℝ) : EReal) := by
    have e : (val_main_v57 (F := Ideal) x0 x1 x2 x3 x4 x5 (ix2 h t) : EReal) = ∑ u : Fin 8192, val_main_v51 (F := Ideal) x4 x5 (ix3 h t u) * val_main_v45 (F := Ideal) x0 x1 x2 x3 (ix3 h t 0) * val_main_v38 (F := Ideal) x0 x1 x2 x3 (ix3 h t u) := by
      pointwise [val_main_v57, val_main_cst_12, val_main_v56, val_main_v55, val_main_v54]
    rw [e, e1]
    simp only [v_dp x0 x1 x2 x3 x4 x5 A H, v_w x0 x1 x2 x3 x4 x5 A H h t M hM, ← EReal.coe_mul]
    rw [esum]
    refine congrArg (fun r : ℝ => (r : EReal)) ?_
    rw [Args.del, Finset.sum_div]
    refine Finset.sum_congr rfl fun u _ => ?_
    have h1 := (A.z_pos h t).ne'
    have h2 := (Real.exp_pos (-M)).ne'
    unfold Args.p
    field_simp
  have e3 : (val_main_v64 (F := Ideal) x0 x1 x2 x3 x4 x5 (ix3 h t u) : EReal) = (((A.dp h t u - A.del h t) / (A.z h t * Real.exp (-M)) : ℝ) : EReal) := by
    have e : (val_main_v64 (F := Ideal) x0 x1 x2 x3 x4 x5 (ix3 h t u) : EReal) = Ideal.div (val_main_v51 (F := Ideal) x4 x5 (ix3 h t u)) (val_main_v39 (F := Ideal) x0 x1 x2 x3 (ix2 h t)) + -(val_main_v57 (F := Ideal) x0 x1 x2 x3 x4 x5 (ix2 h t)) := by
      pointwise [val_main_v64, val_main_v63, val_main_v62, val_main_cst_13, val_main_v61, val_main_v60, val_main_v59, val_main_v58, val_main_v40]
      rw [Fin.sum_univ_one]
    rw [e, e2, v_dp x0 x1 x2 x3 x4 x5 A H, v_z x0 x1 x2 x3 x4 x5 A H h t M hM, ediv _ _ hz.ne', ← EReal.coe_neg, ← EReal.coe_add, sub_div, sub_eq_add_neg]
  have e4 : (val_main_v66 (F := Ideal) x0 x1 x2 x3 x4 x5 (ix3 h t u) : EReal) = ((A.ds h t u : ℝ) : EReal) := by
    rw [val_main_v66_apply, v_mask]
    have e : (val_main_v65 (F := Ideal) x0 x1 x2 x3 x4 x5 (ix3 h t u) : EReal) = val_main_v64 (F := Ideal) x0 x1 x2 x3 x4 x5 (ix3 h t u) * val_main_v38 (F := Ideal) x0 x1 x2 x3 (ix3 h t u) := by
      pointwise [val_main_v65]
    have z : (val_main_call1_v0 (F := Ideal) (ix3 h t u) : EReal) = 0 := by
      pointwise [val_main_call1_v0, val_main_call1_cst]
    have h1 := (A.z_pos h t).ne'
    have h2 := (Real.exp_pos (-M)).ne'
    by_cases l : u.val ≤ t.val
    · rw [if_pos l]
      refine Eq.trans (b := (val_main_v65 (F := Ideal) x0 x1 x2 x3 x4 x5 (ix3 h t u) : EReal)) rfl ?_
      rw [e, e3, v_w x0 x1 x2 x3 x4 x5 A H h t M hM, ← EReal.coe_mul]
      refine congrArg (fun r : ℝ => (r : EReal)) ?_
      unfold Args.ds Args.p
      field_simp
    · rw [if_neg l]
      refine Eq.trans (b := (val_main_call1_v0 (F := Ideal) (ix3 h t u) : EReal)) rfl ?_
      rw [z]
      unfold Args.ds Args.p Args.w
      rw [if_neg l, zero_div, zero_mul, EReal.coe_zero]
  have e5 : (val_main_v68 (F := Ideal) x0 x1 x2 x3 x4 x5 (ix3 h t u) : EReal) = val_main_v66 (F := Ideal) x0 x1 x2 x3 x4 x5 (ix3 h t u) * val_main_v14 (F := Ideal) ix0 := by
    pointwise [val_main_v68, val_main_v67]
  rw [e5, e4, v_scale, ← EReal.coe_mul, mul_one_div]

/-- and the results. -/
theorem v_outV (h : Fin 8) (u : Fin 8192) (d : Fin 128) : (val_main_v89 (F := Ideal) x0 x1 x2 x3 x5 (ix3 h u d) : EReal) = ((A.dv h u d : ℝ) : EReal) := by
  have e : (val_main_v89 (F := Ideal) x0 x1 x2 x3 x5 (ix3 h u d) : EReal) = ∑ t : Fin 8192, x5 (ix2 t (lane h d)) * val_main_v42 (F := Ideal) x0 x1 x2 x3 (ix3 h t u) := by
    pointwise [val_main_v89, val_main_v53, val_main_v52, val_main_v50, val_main_v49]
    exact Finset.sum_congr rfl fun t _ => congrArg (fun l => x5 (ix2 t l) * val_main_v42 (F := Ideal) x0 x1 x2 x3 (ix3 h t u)) (lane_eq h d)
  rw [e]
  simp only [v_p x0 x1 x2 x3 x4 x5 A H, H.g, ← EReal.coe_mul]
  rw [esum, Finset.sum_congr rfl fun d _ => mul_comm _ _]; rfl

theorem v_kn (h : Fin 8) (u : Fin 8192) (d : Fin 128) : (val_main_v74 (F := Ideal) x0 x1 x2 x3 x4 x5 (ix3 u h d) : EReal) = ((∑ t, A.ds h t u * A.qn t h d / √192 : ℝ) : EReal) := by
  have e : (val_main_v74 (F := Ideal) x0 x1 x2 x3 x4 x5 (ix3 u h d) : EReal) = ∑ t : Fin 8192, val_main_v68 (F := Ideal) x0 x1 x2 x3 x4 x5 (ix3 h t u) * x0 (ix3 t h d) := by
    pointwise [val_main_v74, val_main_v73]
  rw [e]
  simp only [v_ds x0 x1 x2 x3 x4 x5 A H, H.qn, ← EReal.coe_mul]
  rw [esum, Finset.sum_congr rfl fun t _ => div_mul_eq_mul_div _ _ _]

theorem v_kr (h : Fin 8) (u : Fin 8192) (d : Fin 64) : (val_main_v70 (F := Ideal) x0 x1 x2 x3 x4 x5 (ix3 u h d) : EReal) = ((∑ t, A.ds h t u * A.qr t h d / √192 : ℝ) : EReal) := by
  have e : (val_main_v70 (F := Ideal) x0 x1 x2 x3 x4 x5 (ix3 u h d) : EReal) = ∑ t : Fin 8192, val_main_v68 (F := Ideal) x0 x1 x2 x3 x4 x5 (ix3 h t u) * x1 (ix3 t h d) := by
    pointwise [val_main_v70, val_main_v69]
  rw [e]
  simp only [v_ds x0 x1 x2 x3 x4 x5 A H, H.qr, ← EReal.coe_mul]
  rw [esum, Finset.sum_congr rfl fun t _ => div_mul_eq_mul_div _ _ _]

theorem v_qn (h : Fin 8) (t : Fin 8192) (d : Fin 128) : (val_main_v76 (F := Ideal) x0 x1 x2 x3 x4 x5 (ix3 t h d) : EReal) = ((∑ u, A.ds h t u / √192 * A.kn u h d : ℝ) : EReal) := by
  have e : (val_main_v76 (F := Ideal) x0 x1 x2 x3 x4 x5 (ix3 t h d) : EReal) = ∑ u : Fin 8192, val_main_v68 (F := Ideal) x0 x1 x2 x3 x4 x5 (ix3 h t u) * x2 (ix3 u h d) := by
    pointwise [val_main_v76, val_main_v75]
  rw [e]
  simp only [v_ds x0 x1 x2 x3 x4 x5 A H, H.kn, ← EReal.coe_mul]
  rw [esum]

theorem v_qr (h : Fin 8) (t : Fin 8192) (d : Fin 64) : (val_main_v72 (F := Ideal) x0 x1 x2 x3 x4 x5 (ix3 t h d) : EReal) = ((∑ u, A.ds h t u / √192 * A.kr u d : ℝ) : EReal) := by
  have e : (val_main_v72 (F := Ideal) x0 x1 x2 x3 x4 x5 (ix3 t h d) : EReal) = ∑ u : Fin 8192, val_main_v68 (F := Ideal) x0 x1 x2 x3 x4 x5 (ix3 h t u) * x3 (ix2 u d) := by
    pointwise [val_main_v72, val_main_v71, val_main_v1, val_main_v0]
  rw [e]
  simp only [v_ds x0 x1 x2 x3 x4 x5 A H, H.kr, ← EReal.coe_mul]
  rw [esum]

theorem v_outK (h : Fin 8) (u : Fin 8192) (d : Fin 256) : (val_main_v88 (F := Ideal) x0 x1 x2 x3 x4 x5 (ix3 h u d) : EReal) = ((A.dk h u d : ℝ) : EReal) := by
  pointwise [val_main_v88, val_main_v85]
  simp only [v_kn x0 x1 x2 x3 x4 x5 A H, v_kr x0 x1 x2 x3 x4 x5 A H]
  unfold Args.dk Args.qc
  split
  · rfl
  · split <;> rfl

theorem v_fac : (val_main_v82 (F := Ideal) ix0 : EReal) = ((√192 * Real.log 2 : ℝ) : EReal) := by
  rw [val_main_v82_apply, val_main_v81_apply, val_main_v80_apply, val_main_v79_apply]
  pointwise [val_main_cst_15, val_main_cst_16]
  rw [n192, two, esqrt _ (by norm_num), elog _ (by norm_num), ← EReal.coe_mul]

theorem v_outQ (h : Fin 8) (q : Fin 16) (d : Fin 256) (b : Fin 512) : (val_main_v87 (F := Ideal) x0 x1 x2 x3 x4 x5 (ix4 h q d b) : EReal) = ((A.dq h (rowOf q b) d : ℝ) : EReal) := by
  have e : (val_main_v87 (F := Ideal) x0 x1 x2 x3 x4 x5 (ix4 h q d b) : EReal) = val_main_v84 (F := Ideal) x0 x1 x2 x3 x4 x5 (ix3 (rowOf q b) h d) := by
    pointwise [val_main_v87, val_main_v86]
    exact congrArg (fun s => val_main_v84 (F := Ideal) x0 x1 x2 x3 x4 x5 (ix3 s h d)) (row_eq h q b)
  have f : (val_main_v84 (F := Ideal) x0 x1 x2 x3 x4 x5 (ix3 (rowOf q b) h d) : EReal) = val_main_v78 (F := Ideal) x0 x1 x2 x3 x4 x5 (ix3 (rowOf q b) h d) * val_main_v82 (F := Ideal) ix0 := by
    pointwise [val_main_v84, val_main_v83]
  rw [e, f, v_fac x0 x1 x2 x3 x4 x5 A H]
  pointwise [val_main_v78, val_main_v77, val_main_cst_14]
  simp only [v_qn x0 x1 x2 x3 x4 x5 A H, v_qr x0 x1 x2 x3 x4 x5 A H]
  have key : ∀ k : Fin 8192 → ℝ, (∑ u, A.ds h (rowOf q b) u / √192 * k u) * (√192 * Real.log 2) = ∑ u, k u * (A.ds h (rowOf q b) u * Real.log 2) := fun k => by
    rw [Finset.sum_mul]
    refine Finset.sum_congr rfl fun u _ => ?_
    have h2 := sqrt_pos.ne'
    field_simp
  unfold Args.dq Args.kc
  split
  · rw [← EReal.coe_mul, key]
  · split
    · rw [← EReal.coe_mul, key]
    · rw [zero_mul]; simp

end Cert.FlashRef
end
-- ==== Proof.Finite.lean ====
/- An array whose elements are all below infinity in size, as the preconditions say it, is an array of reals. -/
module

public import proofs.«01_k».proof.Proof.Extended
public import Idealize.ShloMosaic.Lib.ReduceAll
public import Idealize.ShloMosaic.Lib.Pointwise

@[expose] public section

set_option maxRecDepth 16384

noncomputable section

namespace Cert.Finite

open Idealize.ShloMosaic

/-- The shape of a single number. -/
abbrev P0 : Shape := ⟨0, ![]⟩

instance : Subsingleton P0.Idx := ⟨fun _ _ => funext fun k => k.elim0⟩

/-- One element: its size is compared with infinity. -/
theorem real_of_cmp (x : EReal) (e : FloatOps.cmpf (F := Ideal) (φ := .f32) .olt (FloatOps.hostAbsf (F := Ideal) (φ := .f32) x) (FloatOps.ofBits (F := Ideal) .f32 0x7F800000#32) = 1#1) : x = ((x.toReal : ℝ) : EReal) := by
  have htop : Ideal.ofBits .f32 0x7F800000#32 = ⊤ := by simp [Ideal.ofBits, Ideal.ieee]
  refine Cert.Extended.real_of_abs x ?_
  by_contra hn
  have e' : Ideal.cmp .olt (max x (-x)) (Ideal.ofBits .f32 0x7F800000#32) = 1#1 := e
  rw [htop] at e'
  simp [Ideal.cmp, hn] at e'

/-- Every element of an array whose test "all of them finite" came out true is real. -/
theorem real_of_all {s : Shape} {axes : List (Fin s.rank)} (x : FVec Ideal s .f32) (hb : P0.BroadcastsInDim s (![] : Fin 0 → Fin s.rank)) (hr : s.ReducesTo axes P0) (hu : 0 < P0.numel) (j : P0.Idx)
    (e : Host.reduce IntOp.andi (cmpf .olt (Host.absf x) (broadcastInDim s ![] hb (constant P0 .f32 0x7F800000#32))) (constantI P0 1 1#1) hr hu j = 1#1) (i : s.Idx) : (x i : EReal) = (((x i : EReal).toReal : ℝ) : EReal) :=
  real_of_cmp _ (Host.reduce_andi_all _ _ hr hu j e i)

/-- A conjunction of two tests. -/
theorem and_true {s : Shape} {a b : IVec s 1} {j : s.Idx} (e : andi a b j = 1#1) : a j = 1#1 ∧ b j = 1#1 := IntOp.andi_eq_one.1 e

end Cert.Finite
end
end
-- ==== Proof.FlashPre.lean ====
/- The precondition of the attention's claim: finite arguments are real ones. -/
module

public import proofs.«01_k».proof.Proof.Finite
public import proofs.«01_k».proof.Proof.FlashHost
public import proofs.«01_k».proof.Proof.Gen.Pre_finite

@[expose] public section

set_option maxRecDepth 16384

noncomputable section

namespace Cert.FlashPre

open Idealize.ShloMosaic
open Cert.FlashKernelIdeal
open Cert.Finite
open Cert.FlashRun (HoldsArgs)
open Cert.FlashReal (Args)

/-- The reals that the arguments hold. -/
def args (x0 : S8192x8x128.Idx → EReal) (x1 : S8192x8x64.Idx → EReal) (x2 : S8192x8x128.Idx → EReal) (x3 : S8192x64.Idx → EReal) (x4 : S8192x8x128.Idx → EReal) (x5 : S8192x1024.Idx → EReal) : Args where
  qn t h d := (x0 (ix3 t h d)).toReal
  qr t h d := (x1 (ix3 t h d)).toReal
  kn t h d := (x2 (ix3 t h d)).toReal
  kr t d := (x3 (ix2 t d)).toReal
  v t h d := (x4 (ix3 t h d)).toReal
  g t d := (x5 (ix2 t d)).toReal

/-- Under the precondition the arguments hold reals. -/
theorem holds (x0 : S8192x8x128.Idx → EReal) (x1 : S8192x8x64.Idx → EReal) (x2 : S8192x8x128.Idx → EReal) (x3 : S8192x64.Idx → EReal) (x4 : S8192x8x128.Idx → EReal) (x5 : S8192x1024.Idx → EReal)
    (h : @Cert.Pre_finite.fn Cert.Pre_finite.Gen.facts Ideal _ x0 x1 x2 x3 x4 x5 = fun _ => 1#1) : HoldsArgs (args x0 x1 x2 x3 x4 x5) x0 x1 x2 x3 x4 x5 := by
  have e := congrFun h ix0
  unfold Cert.Pre_finite.fn Cert.Pre_finite.fn_part1 at e
  obtain ⟨e, e5⟩ := and_true e
  obtain ⟨e, e4⟩ := and_true e
  obtain ⟨e, e3⟩ := and_true e
  obtain ⟨e, e2⟩ := and_true e
  obtain ⟨e0, e1⟩ := and_true e
  exact ⟨fun _ _ _ => real_of_all x0 _ _ _ _ e0 _, fun _ _ _ => real_of_all x1 _ _ _ _ e1 _, fun _ _ _ => real_of_all x2 _ _ _ _ e2 _, fun _ _ => real_of_all x3 _ _ _ _ e3 _, fun _ _ _ => real_of_all x4 _ _ _ _ e4 _, fun _ _ => real_of_all x5 _ _ _ _ e5 _⟩

end Cert.FlashPre
end
end
-- ==== Proof.Flash.lean ====
/- The claims about the attention's backward call, assembled. -/
module

public import proofs.«01_k».proof.Defs
public import proofs.«01_k».proof.Proof.Gen.FlashKernel
public import proofs.«01_k».proof.Proof.Gen.FlashKernel.Launch
public import proofs.«01_k».proof.Proof.FlashValue
public import proofs.«01_k».proof.Proof.FlashRef
public import proofs.«01_k».proof.Proof.FlashPre
public import proofs.«01_k».proof.Proof.Gen.Pre_finite
public import proofs.«01_k».proof.Proof.Gen.FlashReferenceIdeal.Read
public import proofs.«01_k».proof.Proof.Gen.FlashReferenceIdeal.Run
public import Idealize.ShloMosaic.Lib.Quiescent
public import Idealize.ShloMosaic.Adequacy
public import Idealize.ShloMosaic.Init

@[expose] public section

set_option maxRecDepth 16384

namespace Cert.Flash

open Idealize.ShloMosaic Idealize.ShloMosaic.TcCoe Idealize.ShloMosaic.Tactic Idealize.SL.Sem

/-- Among the rounded numbers a named constant is the word it was printed as: the idealized program then is the rounded one. -/
instance : Named Bits := ⟨fun _ _ {φ} b => Scalar.ofBits φ b⟩

set_option maxHeartbeats 2000000 in
/-- The rounded program and the idealized one have the same text: one run is both frames. -/
theorem frame_kernel : Cert.quiescent_FlashKernel (hFlashKernel := Cert.FlashKernel.Gen.facts) := fun m ρ _ =>
  Eq.mp (by sl_kernel_rfl) (Cert.FlashRun.frame_main (F := Bits) m ρ)

theorem frame_ideal : Cert.quiescent_FlashKernelIdeal (hFlashKernelIdeal := Cert.FlashKernelIdeal.Gen.facts) := fun m ρ _ =>
  Cert.FlashRun.frame_main (F := Ideal) m ρ

theorem frame_ideal_pre : Cert.quiescent_FlashKernelIdeal_pre_finite (hFlashKernelIdeal := Cert.FlashKernelIdeal.Gen.facts) (hPre_finite := Cert.Pre_finite.Gen.facts) := fun m ρ _ =>
  Cert.FlashRun.frame_main (F := Ideal) m ρ

theorem frame_ref : Cert.quiescent_FlashReferenceIdeal (hFlashReferenceIdeal := Cert.FlashReferenceIdeal.Gen.facts) := fun m ρ _ =>
  (θ_run Cert.FlashReferenceIdeal.defs _ _).mono (fun r h => ⟨fun c => (h c).2.2.2, sem_eq_zero_of_no_sems rfl r.2⟩) (Cert.FlashReferenceIdeal.Value.run m ρ)

theorem frame_ref_pre : Cert.quiescent_FlashReferenceIdeal_pre_finite (hFlashReferenceIdeal := Cert.FlashReferenceIdeal.Gen.facts) (hPre_finite := Cert.Pre_finite.Gen.facts) := fun m ρ _ =>
  frame_ref m ρ trivial

/-- The constant named in the idealized program is the logarithm of two. -/
theorem preserves : Cert.preserves_FlashKernel_FlashKernelIdeal :=
  IdealRules.named_const.statement Cert.FlashKernelIdeal.κ "ln2" .f32 0x3F317218#32 ((Real.log 2 : ℝ) : EReal) rfl

/-- What two statements about one run say together. -/
theorem both {nD : ℕ} {τ : Topo} {sig : RefSig} {Val : EltTy → Type} {Λ : Labels} {defs : Defs nD τ sig Val Λ} {p : (c : Thread nD τ) → Prog (TpuEff nD τ sig Val Λ c.2) PUnit} {s : MemSt nD τ sig Val} {Q Q' : PUnit × MemSt nD τ sig Val → Prop}
    (h : θ_run defs p s Q) (h' : θ_run defs p s Q') : θ_run defs p s fun r => Q r ∧ Q' r :=
  ⟨fun t ht hf => ⟨h.post t ht hf, h'.post t ht hf⟩, h.progress, h.fair⟩

set_option maxHeartbeats 2000000 in
open Cert.FlashRun in
/-- The three gradients are the same: each is the real number that `Args` defines. -/
theorem algebraic : Cert.algebraic_FlashKernelIdeal_FlashReferenceIdeal_pre_finite (hFlashKernelIdeal := Cert.FlashKernelIdeal.Gen.facts) (hFlashReferenceIdeal := Cert.FlashReferenceIdeal.Gen.facts) (hPre_finite := Cert.Pre_finite.Gen.facts) := by
  intro m g m' g' hpre hag
  have H := fun c => Cert.FlashPre.holds _ _ _ _ _ _ (hpre c)
  refine ⟨fun c => (dats m 0 c).arrAt 6 Cert.FlashKernelIdeal.cfg0.N, fun c => (dats m 0 c).arrAt 7 Cert.FlashKernelIdeal.cfg0.N, fun c => (dats m 0 c).arrAt 8 Cert.FlashKernelIdeal.cfg0.N,
    (θ_run Cert.FlashKernelIdeal.defs _ _).mono (fun r h c => ⟨(h.1.1 c).1 6, (h.1.1 c).1 7, (h.1.1 c).1 8, h.2.1 c⟩) (both (run_main (F := Ideal) m g) (frame_main (F := Ideal) m g)),
    (θ_run Cert.FlashReferenceIdeal.defs _ _).mono (fun r h c => ⟨(h c).1.trans ?_, (h c).2.1.trans ?_, (h c).2.2.1.trans ?_, (h c).2.2.2⟩) (Cert.FlashReferenceIdeal.Value.run m' g')⟩
  · rw [Cert.FlashReferenceIdeal.Read.val_main_v87_eq, (hag c).1, (hag c).2.1, (hag c).2.2.1, (hag c).2.2.2.1, (hag c).2.2.2.2.1, (hag c).2.2.2.2.2]
    refine Eq.trans ?_ (final_q m c).symm
    funext i
    idx_vars i
    exact (Cert.FlashRef.v_outQ _ _ _ _ _ _ _ (H c) _ _ _ _).trans (r_outQ m c _ (H c) _ _ _ _).symm
  · rw [Cert.FlashReferenceIdeal.Read.val_main_v88_eq, (hag c).1, (hag c).2.1, (hag c).2.2.1, (hag c).2.2.2.1, (hag c).2.2.2.2.1, (hag c).2.2.2.2.2]
    refine Eq.trans ?_ (final_k m c).symm
    funext i
    idx_vars i
    exact (Cert.FlashRef.v_outK _ _ _ _ _ _ _ (H c) _ _ _).trans (r_outK m c _ (H c) _ _ _).symm
  · rw [Cert.FlashReferenceIdeal.Read.val_main_v89_eq, (hag c).1, (hag c).2.1, (hag c).2.2.1, (hag c).2.2.2.1, (hag c).2.2.2.2.2]
    refine Eq.trans ?_ (final_v m c).symm
    funext i
    idx_vars i
    exact (Cert.FlashRef.v_outV _ _ _ _ _ _ _ (H c) _ _ _).trans (r_outV m c _ (H c) _ _ _).symm

end Cert.Flash
end
-- ==== Proof.Real.lean ====
/- Real numbers among the extended ones: sums and products of reals are real. -/
module

public import proofs.«01_k».proof.Proof.Extended

@[expose] public section

set_option maxRecDepth 16384

noncomputable section

namespace Cert.Extended

open Idealize.ShloMosaic

/-- An extended real that is a real number. -/
def IsReal (x : EReal) : Prop := ∃ r : ℝ, x = (r : EReal)

namespace IsReal

theorem coe (r : ℝ) : IsReal (r : EReal) := ⟨r, rfl⟩

theorem add {x y : EReal} : IsReal x → IsReal y → IsReal (x + y) := by
  rintro ⟨a, rfl⟩ ⟨b, rfl⟩; exact ⟨a + b, (EReal.coe_add a b).symm⟩

theorem sub {x y : EReal} : IsReal x → IsReal y → IsReal (x - y) := by
  rintro ⟨a, rfl⟩ ⟨b, rfl⟩; exact ⟨a - b, (EReal.coe_sub a b).symm⟩

theorem mul {x y : EReal} : IsReal x → IsReal y → IsReal (x * y) := by
  rintro ⟨a, rfl⟩ ⟨b, rfl⟩; exact ⟨a * b, (EReal.coe_mul a b).symm⟩

theorem sum {ι : Type} [Fintype ι] {f : ι → EReal} (h : ∀ i, IsReal (f i)) : IsReal (∑ i, f i) := by
  choose g hg using h
  exact ⟨∑ i, g i, by rw [← esum]; exact Finset.sum_congr rfl fun i _ => hg i⟩

/-- A family of reals is the image of a real family. -/
theorem fam {ι : Type} {f : ι → EReal} (h : ∀ i, IsReal (f i)) : ∃ g : ι → ℝ, f = fun i => (g i : EReal) := by
  choose g hg using h
  exact ⟨g, funext hg⟩

end IsReal

end Cert.Extended
end
end
-- ==== Proof.Rms.lean ====
/- The gradient of a row's root-mean-square norm, `y j = x j * rsqrt (mean (x * x) + e) * g j`, along `y j`'s cotangents:
   written out by hand, and as the rules of differentiation give it factor by factor. -/
module

public import proofs.«01_k».proof.Proof.Real

@[expose] public section

set_option maxRecDepth 16384

noncomputable section

namespace Cert.Rms

open Idealize.ShloMosaic
open Cert.Extended

variable {n : ℕ}

/-- A row's scale: one over the root of the mean of the squares plus `e`. -/
def scale (N e : EReal) (X : Fin n → EReal) : EReal := Ideal.rsqrt (Ideal.div (∑ j, X j * X j) N + e)

/-- The gradient written out. -/
def hand (N e : EReal) (X G Y : Fin n → EReal) (i : Fin n) : EReal :=
  scale N e X * (Y i * G i) - X i * (scale N e X * scale N e X * scale N e X * Ideal.div (∑ j, Y j * G j * X j) N)

/-- What the rules give for the scale's argument: the cotangent of each `x j * x j`. -/
def inner (N e H : EReal) (X G Y : Fin n → EReal) : EReal :=
  Ideal.div ((∑ j, X j * (Y j * G j)) * (H * Ideal.div (scale N e X) (Ideal.div (∑ j, X j * X j) N + e))) N

/-- The gradient by the rules. -/
def rules (N e H : EReal) (X G Y : Fin n → EReal) (i : Fin n) : EReal :=
  Y i * G i * scale N e X + X i * inner N e H X G Y + inner N e H X G Y * X i

theorem n1024 : Ideal.ofBits .f32 0x44800000#32 = ((1024 : ℝ) : EReal) := by
  simp [Ideal.ofBits, Ideal.ieee, -EReal.coe_mul]; norm_num

theorem n256 : Ideal.ofBits .f32 0x43800000#32 = ((256 : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

theorem eps : ∃ r : ℝ, 0 < r ∧ Ideal.ofBits .f32 0x358637BD#32 = (r : EReal) := by
  refine ⟨8796093 / 2 ^ 43, by norm_num, ?_⟩
  simp [Ideal.ofBits, Ideal.ieee, -EReal.coe_mul]; norm_num

/-- A row of reals has a real scale, the inverse of a positive root. -/
theorem scale_coe (N e : ℝ) (hN : 0 < N) (he : 0 < e) (x : Fin n → ℝ) :
    0 < (∑ j, x j * x j) / N + e ∧ Ideal.div (∑ j, (x j : EReal) * (x j : EReal)) (N : EReal) + (e : EReal) = (((∑ j, x j * x j) / N + e : ℝ) : EReal)
      ∧ scale (N : EReal) (e : EReal) (fun j => (x j : EReal)) = (((√((∑ j, x j * x j) / N + e))⁻¹ : ℝ) : EReal) := by
  have h0 : 0 < (∑ j, x j * x j) / N + e :=
    add_pos_of_nonneg_of_pos (div_nonneg (Finset.sum_nonneg fun j _ => mul_self_nonneg (x j)) hN.le) he
  have h1 : Ideal.div (∑ j, (x j : EReal) * (x j : EReal)) (N : EReal) + (e : EReal) = (((∑ j, x j * x j) / N + e : ℝ) : EReal) := by
    simp only [← EReal.coe_mul]
    rw [esum, ediv _ _ hN.ne', ← EReal.coe_add]
  refine ⟨h0, h1, ?_⟩
  unfold scale
  rw [h1, Ideal.rsqrt_coe, if_neg (not_lt.2 h0.le), if_neg h0.ne']

theorem scale_real (N e : ℝ) (hN : 0 < N) (he : 0 < e) {X : Fin n → EReal} (hX : ∀ j, IsReal (X j)) : IsReal (scale (N : EReal) (e : EReal) X) := by
  obtain ⟨x, rfl⟩ := IsReal.fam hX
  exact ⟨_, (scale_coe N e hN he x).2.2⟩

/-- The two gradients agree on reals: the derivative of `s ^ (-1/2)` is `-1/2` times its cube. -/
theorem hand_eq_rules (N e : ℝ) (hN : 0 < N) (he : 0 < e) {X G Y : Fin n → EReal} (hX : ∀ j, IsReal (X j)) (hG : ∀ j, IsReal (G j)) (hY : ∀ j, IsReal (Y j)) (i : Fin n) :
    hand (N : EReal) (e : EReal) X G Y i = rules (N : EReal) (e : EReal) ((-(1 / 2) : ℝ) : EReal) X G Y i := by
  obtain ⟨x, rfl⟩ := IsReal.fam hX
  obtain ⟨g, rfl⟩ := IsReal.fam hG
  obtain ⟨y, rfl⟩ := IsReal.fam hY
  obtain ⟨h0, h1, h2⟩ := scale_coe N e hN he x
  unfold hand rules inner
  rw [h1, h2]
  set s : ℝ := (∑ j, x j * x j) / N + e with hs
  simp only [← EReal.coe_mul]
  rw [esum, esum, ediv _ _ h0.ne', ediv _ _ hN.ne']
  simp only [← EReal.coe_mul]
  rw [ediv _ _ hN.ne']
  simp only [← EReal.coe_mul, ← EReal.coe_add, ← EReal.coe_sub]
  refine congrArg (fun r : ℝ => (r : EReal)) ?_
  have e1 : ∑ j, x j * (y j * g j) = ∑ j, y j * g j * x j := Finset.sum_congr rfl fun j _ => mul_comm _ _
  rw [e1]
  generalize (∑ j, y j * g j * x j) = q
  have hr : √s ≠ 0 := (Real.sqrt_pos.2 h0).ne'
  have e2 : s = √s * √s := (Real.mul_self_sqrt h0.le).symm
  generalize hR : √s = R at *
  rw [e2]
  field_simp
  ring

/-- … with the constants as the programs spell them, over rows of 1024 entries. -/
theorem hand_eq_rules_1024 {X G Y : Fin n → EReal} (hX : ∀ j, IsReal (X j)) (hG : ∀ j, IsReal (G j)) (hY : ∀ j, IsReal (Y j)) (i : Fin n) :
    hand (Ideal.ofBits .f32 0x44800000#32) (Ideal.ofBits .f32 0x358637BD#32) X G Y i
      = rules (Ideal.ofBits .f32 0x44800000#32) (Ideal.ofBits .f32 0x358637BD#32) (Ideal.ofBits .f32 0xBF000000#32) X G Y i := by
  obtain ⟨e, he, h⟩ := eps
  rw [n1024, neg_half, h]
  exact hand_eq_rules 1024 e (by norm_num) he hX hG hY i

/-- … and over rows of 256 entries. -/
theorem hand_eq_rules_256 {X G Y : Fin n → EReal} (hX : ∀ j, IsReal (X j)) (hG : ∀ j, IsReal (G j)) (hY : ∀ j, IsReal (Y j)) (i : Fin n) :
    hand (Ideal.ofBits .f32 0x43800000#32) (Ideal.ofBits .f32 0x358637BD#32) X G Y i
      = rules (Ideal.ofBits .f32 0x43800000#32) (Ideal.ofBits .f32 0x358637BD#32) (Ideal.ofBits .f32 0xBF000000#32) X G Y i := by
  obtain ⟨e, he, h⟩ := eps
  rw [n256, neg_half, h]
  exact hand_eq_rules 256 e (by norm_num) he hX hG hY i

end Cert.Rms
end
end
-- ==== Proof.InValue.lean ====
/- The value of the up product's and the norm's gradient: what the kernel leaves, entry by entry. -/
module

public import proofs.«01_k».proof.Defs
public import proofs.«01_k».proof.Proof.Gen.InKernelIdeal.Value
public import proofs.«01_k».proof.Proof.Rms
public import Idealize.ShloMosaic.Lib.Pipeline.ValueKit
public import Idealize.ShloMosaic.Lib.Pointwise
public import Idealize.ShloMosaic.Lib.StableHlo.ReadAt

@[expose] public section

set_option maxRecDepth 16384

noncomputable section

namespace Cert.InValue

open Idealize.ShloMosaic Idealize.ShloMosaic.TcCoe Idealize.SL.Sem
open Idealize.ShloMosaic.Pipeline (Dat)
open Cert.InKernelIdeal Cert.InKernelIdeal.Gen

variable (m : (ℓ : Loc nD τ sig) → Buf (Elt Ideal) ℓ) (c : Dev nD)

/-- The norm's constants: the row's length and the term under the root. -/
abbrev N : EReal := Ideal.ofBits .f32 0x44800000#32
abbrev e : EReal := Ideal.ofBits .f32 0x358637BD#32

/-- Row i of the cotangent of the norm's output: the row of du times the weight's rows. -/
def Y (du : S8192x4096.Idx → EReal) (w : S1024x4096.Idx → EReal) (i : Fin 8192) (j : Fin 1024) : EReal :=
  ∑ k : Fin 4096, du (ix2 i k) * w (ix2 j k)

/-- The gradient of the norm's input, added to the cotangent that passes it by. -/
def dh (du : S8192x4096.Idx → EReal) (d h : S8192x1024.Idx → EReal) (w : S1024x4096.Idx → EReal) (g : S1024.Idx → EReal) (i : S8192x1024.Idx) : EReal :=
  d i + Rms.hand N e (fun j => h (ix2 (i 0) j)) (fun j => g (ix1 j)) (Y du w (i 0)) (i 1)

/-- The gradient of the norm's weight. -/
def dg (du : S8192x4096.Idx → EReal) (h : S8192x1024.Idx → EReal) (w : S1024x4096.Idx → EReal) (j : Fin 1024) : EReal :=
  ∑ i : Fin 8192, Y du w i j * (h (ix2 i j) * Rms.scale N e (fun l => h (ix2 i l)))

/-- Which block each window shows at a grid point. -/
theorem idx : ∀ t : Fin cfg0.N, win0_0.index t = ![(t : Nat), 0] ∧ win0_1.index t = ![(t : Nat), 0] ∧ win0_2.index t = ![(t : Nat), 0] ∧ win0_3.index t = ![0, 0] ∧ win0_4.index t = ![0, 0] ∧ win0_5.index t = ![(t : Nat), 0] ∧ win0_6.index t = ![0, 0] :=
  (by decide +kernel : ∀ t : Fin grid0.N, _)

/-- The row of the whole array at row a of point t's block. -/
def row (t : Fin cfg0.N) (a : Fin 512) : Fin 8192 := ⟨512 * t.val + a.val, by have := t.isLt; change t.val < 16 at this; omega⟩

section
variable (du : Vec Ideal S512x4096 .bf16) (w : Vec Ideal S1024x4096 .bf16) (h d : Vec Ideal S512x1024 .f32) (g : Vec Ideal S1x1024 .f32)

theorem p3 (a : Fin 512) (b : Fin 1024) : k0_pay3 (F := Ideal) du w (ix2 a b) = ∑ k : Fin 4096, du (ix2 a k) * w (ix2 b k) := by
  pointwise [k0_pay3]

theorem p4 (a : Fin 512) : k0_pay4 (F := Ideal) h (ix2 a 0) = Rms.scale N e (fun j => h (ix2 a j)) := by
  unfold Rms.scale
  pointwise [k0_pay4]

/-- The stored block at an entry. -/
theorem p6 (a : Fin 512) (b : Fin 1024) : k0_pay6 (F := Ideal) du w h g d (ix2 a b)
    = d (ix2 a b) + Rms.hand N e (fun j => h (ix2 a j)) (fun j => g (ix2 0 j)) (fun j => ∑ k : Fin 4096, du (ix2 a k) * w (ix2 j k)) b := by
  unfold Rms.hand
  simp only [← p4]
  pointwise [k0_pay6]
  simp only [p3]

/-- The accumulator after a point, at an entry. -/
theorem p1 (x : Vec Ideal S1x1024 .f32) (b : Fin 1024) : k0_pay1 (F := Ideal) (k0_pay5 du w h) x (ix2 0 b)
    = x (ix2 0 b) + ∑ a : Fin 512, (∑ k : Fin 4096, du (ix2 a k) * w (ix2 b k)) * (h (ix2 a b) * Rms.scale N e (fun j => h (ix2 a j))) := by
  simp only [← p4]
  pointwise [k0_pay1, k0_pay5]
  simp only [p3]
end

theorem e0 (t : Fin cfg0.N) (a : Fin 512) (k : Fin 4096) : ((win0_0.blk t).view.emb (ix2 a k) : S8192x4096.Idx) = ix2 (row t a) k := by
  obtain ⟨i0, i1, i2, i3, i4, i5, i6⟩ := idx t
  funext j; apply Fin.ext; refine (Pipeline.Window.rect_emb_val win0_0 t _ j).trans ?_; rw [i0]
  fin_cases j <;> simp [row, ix2, win0_0] <;> omega
theorem e1 (t : Fin cfg0.N) (a : Fin 512) (k : Fin 1024) : ((win0_1.blk t).view.emb (ix2 a k) : S8192x1024.Idx) = ix2 (row t a) k := by
  obtain ⟨i0, i1, i2, i3, i4, i5, i6⟩ := idx t
  funext j; apply Fin.ext; refine (Pipeline.Window.rect_emb_val win0_1 t _ j).trans ?_; rw [i1]
  fin_cases j <;> simp [row, ix2, win0_1] <;> omega
theorem e2 (t : Fin cfg0.N) (a : Fin 512) (k : Fin 1024) : ((win0_2.blk t).view.emb (ix2 a k) : S8192x1024.Idx) = ix2 (row t a) k := by
  obtain ⟨i0, i1, i2, i3, i4, i5, i6⟩ := idx t
  funext j; apply Fin.ext; refine (Pipeline.Window.rect_emb_val win0_2 t _ j).trans ?_; rw [i2]
  fin_cases j <;> simp [row, ix2, win0_2] <;> omega
theorem e3 (t : Fin cfg0.N) (a : Fin 1024) (k : Fin 4096) : ((win0_3.blk t).view.emb (ix2 a k) : S1024x4096.Idx) = ix2 a k := by
  obtain ⟨i0, i1, i2, i3, i4, i5, i6⟩ := idx t
  funext j; apply Fin.ext; refine (Pipeline.Window.rect_emb_val win0_3 t _ j).trans ?_; rw [i3]
  fin_cases j <;> simp [ix2, win0_3]
theorem e4 (t : Fin cfg0.N) (k : Fin 1024) : ((win0_4.blk t).view.emb (ix2 0 k) : S1x1024.Idx) = ix2 0 k := by
  obtain ⟨i0, i1, i2, i3, i4, i5, i6⟩ := idx t
  funext j; apply Fin.ext; refine (Pipeline.Window.rect_emb_val win0_4 t _ j).trans ?_; rw [i4]
  fin_cases j <;> simp [ix2, win0_4]
theorem e5 (t : Fin cfg0.N) (a : Fin 512) (k : Fin 1024) : ((win0_5.blk t).view.emb (ix2 a k) : S8192x1024.Idx) = ix2 (row t a) k := by
  obtain ⟨i0, i1, i2, i3, i4, i5, i6⟩ := idx t
  funext j; apply Fin.ext; refine (Pipeline.Window.rect_emb_val win0_5 t _ j).trans ?_; rw [i5]
  fin_cases j <;> simp [row, ix2, win0_5] <;> omega

/-- The weight as the kernel reads it, and the norm's weight as one row. -/
abbrev aW : S1024x4096.Idx → EReal := V m c main_v0
abbrev aG : S1x1024.Idx → EReal := V m c main_v1
abbrev mU : S8192x4096.Idx → EReal := m ((c : Thread nD τ).loc main_arg0)
abbrev mD : S8192x1024.Idx → EReal := m ((c : Thread nD τ).loc main_arg1)
abbrev mH : S8192x1024.Idx → EReal := m ((c : Thread nD τ).loc main_arg2)
abbrev mW : S1024x4096.Idx → EReal := m ((c : Thread nD τ).loc main_arg3)
abbrev mG : S1024.Idx → EReal := m ((c : Thread nD τ).loc main_arg4)

theorem h_w (i : S1024x4096.Idx) : aW m c i = mW m c i := by
  have : aW m c = truncf (F := Ideal) .bf16 (mW m c) bitsLt_bf16_f32 := by
    unfold aW V
    after_reads_simp
  rw [this]; rfl

theorem h_g (k : Fin 1024) : aG m c (ix2 0 k) = mG m c (ix1 k) := by
  have : aG m c = fun i => shapeCast main_v1.ty.shape (mG m c) shapeCasts_S1024_S1x1024 i := by
    unfold aG V
    after_reads_simp
  refine (congrFun this _).trans ?_
  pointwise

theorem b0 (t : Fin cfg0.N) (a : Fin 512) (k : Fin 4096) : (iblk m c 0 t : Vec Ideal S512x4096 .bf16) (ix2 a k) = mU m c (ix2 (row t a) k) :=
  (show _ = V m c main_arg0 ((win0_0.blk t).view.emb (ix2 a k)) from rfl).trans ((congrArg (V m c main_arg0) (e0 t a k)).trans (congrFun (V_main_arg0 m c) _))
theorem b1 (t : Fin cfg0.N) (a : Fin 512) (k : Fin 1024) : (iblk m c 1 t : Vec Ideal S512x1024 .f32) (ix2 a k) = mD m c (ix2 (row t a) k) :=
  (show _ = V m c main_arg1 ((win0_1.blk t).view.emb (ix2 a k)) from rfl).trans ((congrArg (V m c main_arg1) (e1 t a k)).trans (congrFun (V_main_arg1 m c) _))
theorem b2 (t : Fin cfg0.N) (a : Fin 512) (k : Fin 1024) : (iblk m c 2 t : Vec Ideal S512x1024 .f32) (ix2 a k) = mH m c (ix2 (row t a) k) :=
  (show _ = V m c main_arg2 ((win0_2.blk t).view.emb (ix2 a k)) from rfl).trans ((congrArg (V m c main_arg2) (e2 t a k)).trans (congrFun (V_main_arg2 m c) _))
theorem b3 (t : Fin cfg0.N) (a : Fin 1024) (k : Fin 4096) : (iblk m c 3 t : Vec Ideal S1024x4096 .bf16) (ix2 a k) = mW m c (ix2 a k) :=
  (show _ = V m c main_v0 ((win0_3.blk t).view.emb (ix2 a k)) from rfl).trans ((congrArg (V m c main_v0) (e3 t a k)).trans (h_w m c _))
theorem b4 (t : Fin cfg0.N) (k : Fin 1024) : (iblk m c 4 t : Vec Ideal S1x1024 .f32) (ix2 0 k) = mG m c (ix1 k) :=
  (show _ = V m c main_v1 ((win0_4.blk t).view.emb (ix2 0 k)) from rfl).trans ((congrArg (V m c main_v1) (e4 t k)).trans (h_g m c k))

/-- What a point stores for the input's gradient. -/
theorem pay (t : Fin cfg0.N) (y : S512x1024.Idx) :
    k0_pay6 (F := Ideal) (iblk m c 0 t) (iblk m c 3 t) (iblk m c 2 t) (iblk m c 4 t) (iblk m c 1 t) y
      = dh (mU m c) (mD m c) (mH m c) (mW m c) (mG m c) ((win0_5.blk t).view.emb y) := by
  idx_vars y
  rw [p6, e5]
  simp only [b0, b1, b2, b3, b4]
  rfl

theorem final5 : (dats m 0 c).arrAt 5 cfg0.N = dh (mU m c) (mD m c) (mH m c) (mW m c) (mG m c) := by
  refine (dats m 0 c).arrAt_eq_of_covers 5 _ (by decide +kernel) fun t hf y => ?_
  blk_simp
  rw [after0_5]
  by_cases h0 : t.val % 16 = 0
  · rw [outsAt0_A m c t h0]
    frame_out
    exact pay m c t _
  · rw [outsAt0_B m c t h0]
    frame_out
    exact pay m c t _

/-- What a point adds to the weight's gradient. -/
def term (t : Fin cfg0.N) (j : S1x1024.Idx) : EReal :=
  ∑ a : Fin 512, Y (mU m c) (mW m c) (row t a) (j 1) * (mH m c (ix2 (row t a) (j 1)) * Rms.scale N e (fun l => mH m c (ix2 (row t a) l)))

theorem acc (t : Fin cfg0.N) (x : Vec Ideal S1x1024 .f32) (j : S1x1024.Idx) :
    k0_pay1 (F := Ideal) (k0_pay5 (iblk m c 0 t) (iblk m c 3 t) (iblk m c 2 t)) x j = x j + term m c t j := by
  idx_vars j
  obtain rfl : j0 = 0 := Fin.eq_zero _
  rw [p1]
  simp only [b0, b2, b3]
  rfl

theorem final6 : (dats m 0 c).arrAt 6 cfg0.N = fun j => dg (mU m c) (mH m c) (mW m c) (j 1) := by
  refine (dats m 0 c).arrAt_eq_of_after_last 6 t0_15 (by decide +kernel) _ fun j => ?_
  blk_simp
  rw [after0_6]
  refine (Pipeline.eq_sum_fin_of_reset_step_apply_last (fun n h => (outsAt0 m c n h).2) 16 (fun _ => 0) (fun p => term m c p) (fun t h j => ?_) (fun t h j => ?_) (by decide) t0_15 rfl j).trans ?_
  · rw [outsAt0_A m c t h]
    frame_out
    refine (acc m c t _ j).trans (congrArg (· + _) ?_)
    idx_vars j
    pointwise [k0_pay2]
  · rw [outsAt0_B m c t h]
    frame_out
    exact acc m c t _ j
  · rw [zero_add]
    refine (Fin.sum_points_lanes_congr (A := 1) (L := 8192) 16 (g := fun _ i => Y (mU m c) (mW m c) i (j 1) * (mH m c (ix2 i (j 1)) * Rms.scale N e (fun l => mH m c (ix2 i l)))) fun t k ha hl => ?_).trans (Fin.sum_univ_one _)
    have hr : row t k = ⟨t.val % 16 * 512 + k.val, hl⟩ := Fin.ext (by have := t.isLt; change t.val < 16 at this; show 512 * t.val + k.val = t.val % 16 * 512 + k.val; omega)
    rw [hr]

end Cert.InValue
end
-- ==== Proof.InRef.lean ====
/- The value of the reference of the up product's and the norm's gradient, entry by entry. -/
module

public import proofs.«01_k».proof.Proof.Gen.InReferenceIdeal.Read
public import proofs.«01_k».proof.Proof.Rms
public import Idealize.ShloMosaic.Lib.Pointwise

@[expose] public section

set_option maxRecDepth 16384

noncomputable section

namespace Cert.InRef

open Idealize.ShloMosaic Idealize.ShloMosaic.TcCoe
open Cert.InReferenceIdeal Cert.InReferenceIdeal.Read

abbrev N : EReal := Ideal.ofBits .f32 0x44800000#32
abbrev e : EReal := Ideal.ofBits .f32 0x358637BD#32
abbrev H : EReal := Ideal.ofBits .f32 0xBF000000#32

variable (du : S8192x4096.Idx → EReal) (d h : S8192x1024.Idx → EReal) (w : S1024x4096.Idx → EReal) (g : S1024.Idx → EReal)

theorem r18 (i : Fin 8192) (j : Fin 1024) : val_main_v18 (F := Ideal) du w (ix2 i j) = ∑ k : Fin 4096, du (ix2 i k) * w (ix2 j k) := by
  pointwise [val_main_v18, val_main_v17]

theorem r6 (i : Fin 8192) : val_main_v6 (F := Ideal) h (ix2 i 0) = Ideal.div (∑ j : Fin 1024, h (ix2 i j) * h (ix2 i j)) N + e := by
  pointwise [val_main_v6, val_main_v5, val_main_v4, val_main_v3, val_main_v2, val_main_v1, val_main_v0, val_main_cst, val_main_cst_0, val_main_cst_1]

theorem r7 (i : Fin 8192) : val_main_v7 (F := Ideal) h (ix2 i 0) = Rms.scale N e (fun j => h (ix2 i j)) := by
  unfold Rms.scale
  rw [← r6]
  pointwise [val_main_v7]

theorem r10 (i : Fin 8192) : val_main_v10 (F := Ideal) h (ix2 i 0) = H * Ideal.div (Rms.scale N e (fun j => h (ix2 i j))) (Ideal.div (∑ j : Fin 1024, h (ix2 i j) * h (ix2 i j)) N + e) := by
  rw [← r6, ← r7]
  pointwise [val_main_v10, val_main_v9, val_main_v8, val_main_cst_2]

theorem r23 (i : Fin 8192) (j : Fin 1024) : val_main_v23 (F := Ideal) du w g (ix2 i j) = (∑ k : Fin 4096, du (ix2 i k) * w (ix2 j k)) * g (ix1 j) := by
  rw [← r18]
  pointwise [val_main_v23, val_main_v22, val_main_v13]

theorem r27 (i : Fin 8192) : val_main_v27 (F := Ideal) du h w g (ix2 i 0) = ∑ j : Fin 1024, h (ix2 i j) * ((∑ k : Fin 4096, du (ix2 i k) * w (ix2 j k)) * g (ix1 j)) := by
  simp only [← r23]
  pointwise [val_main_v27, val_main_v26, val_main_v25, val_main_cst_5]

theorem r34 (i : Fin 8192) (j : Fin 1024) : val_main_v34 (F := Ideal) du h w g (ix2 i j) = Rms.inner N e H (fun j => h (ix2 i j)) (fun j => g (ix1 j)) (fun j => ∑ k : Fin 4096, du (ix2 i k) * w (ix2 j k)) := by
  unfold Rms.inner
  rw [← r27, ← r10]
  pointwise [val_main_v34, val_main_v33, val_main_v32, val_main_v31, val_main_v30, val_main_cst_6, val_main_cst_7]
  exact Fin.sum_univ_one _

theorem r39 (i : Fin 8192) (j : Fin 1024) : val_main_v39 (F := Ideal) du d h w g (ix2 i j)
    = d (ix2 i j) + Rms.rules N e H (fun j => h (ix2 i j)) (fun j => g (ix1 j)) (fun j => ∑ k : Fin 4096, du (ix2 i k) * w (ix2 j k)) j := by
  unfold Rms.rules
  rw [← r34 du h w g i j, ← r23, ← r7]
  pointwise [val_main_v39, val_main_v38, val_main_v37, val_main_v36, val_main_v35, val_main_v29, val_main_v28]

theorem r40 (j : Fin 1024) : val_main_v40 (F := Ideal) du h w (ix2 0 j)
    = ∑ i : Fin 8192, (h (ix2 i j) * Rms.scale N e (fun j => h (ix2 i j))) * ∑ k : Fin 4096, du (ix2 i k) * w (ix2 j k) := by
  simp only [← r18, ← r7]
  pointwise [val_main_v40, val_main_v24, val_main_v21, val_main_v20, val_main_v19, val_main_v12, val_main_v11, val_main_cst_3, val_main_cst_4]
  exact Fin.sum_univ_one _

end Cert.InRef
end
-- ==== Proof.In.lean ====
/- The five claims about the gradients of the MLP's input and of its norm's weight. -/
module

public import proofs.«01_k».proof.Proof.InValue
public import proofs.«01_k».proof.Proof.InRef
public import proofs.«01_k».proof.Proof.Finite
public import proofs.«01_k».proof.Proof.Gen.InReferenceIdeal.Run
public import proofs.«01_k».proof.Proof.Gen.InKernel
public import proofs.«01_k».proof.Proof.Gen.InKernel.Frame
public import proofs.«01_k».proof.Proof.Gen.Pre_in_finite
public import Idealize.ShloMosaic.Adequacy
public import Idealize.ShloMosaic.Init
public import Idealize.ShloMosaic.Lib.Quiescent

@[expose] public section

set_option maxRecDepth 16384

noncomputable section

namespace Cert.In

open Idealize.ShloMosaic Idealize.ShloMosaic.TcCoe Idealize.SL.Sem
open Cert.Extended Cert.Finite
open Cert.Pre_in_finite (S8192x4096 S8192x1024 S1024x4096 S1024)

/-- Under the precondition the arguments that reach the norm hold reals. -/
theorem reals (x0 : S8192x4096.Idx → EReal) (x1 x2 : S8192x1024.Idx → EReal) (x3 : S1024x4096.Idx → EReal) (x4 : S1024.Idx → EReal)
    (h : @Cert.Pre_in_finite.fn Cert.Pre_in_finite.Gen.facts Ideal _ x0 x1 x2 x3 x4 = fun _ => 1#1) :
    (∀ i, IsReal (x0 i)) ∧ (∀ i, IsReal (x2 i)) ∧ (∀ i, IsReal (x3 i)) ∧ (∀ i, IsReal (x4 i)) := by
  have e := congrFun h ix0
  unfold Cert.Pre_in_finite.fn at e
  obtain ⟨e, e4⟩ := and_true e
  obtain ⟨e, e3⟩ := and_true e
  obtain ⟨e0, e2⟩ := and_true e
  exact ⟨fun i => ⟨_, real_of_all x0 _ _ _ _ e0 i⟩, fun i => ⟨_, real_of_all x2 _ _ _ _ e2 i⟩, fun i => ⟨_, real_of_all x3 _ _ _ _ e3 i⟩, fun i => ⟨_, real_of_all x4 _ _ _ _ e4 i⟩⟩

theorem frame_kernel : Cert.quiescent_InKernel (hInKernel := Cert.InKernel.Gen.facts) :=
  fun m ρ _ => Cert.InKernel.Gen.frame m ρ

theorem frame_ideal : Cert.quiescent_InKernelIdeal (hInKernelIdeal := Cert.InKernelIdeal.Gen.facts) :=
  fun m ρ _ => Cert.InKernelIdeal.Gen.frame m ρ

theorem frame_ideal_pre : Cert.quiescent_InKernelIdeal_pre_in_finite (hInKernelIdeal := Cert.InKernelIdeal.Gen.facts) (hPre_in_finite := Cert.Pre_in_finite.Gen.facts) :=
  fun m ρ _ => Cert.InKernelIdeal.Gen.frame m ρ

theorem frame_ref : Cert.quiescent_InReferenceIdeal (hInReferenceIdeal := Cert.InReferenceIdeal.Gen.facts) :=
  fun m ρ _ => (θ_run Cert.InReferenceIdeal.defs _ _).mono (fun r h => ⟨fun c => (h c).2.2, sem_eq_zero_of_no_sems rfl r.2⟩) (Cert.InReferenceIdeal.Value.run m ρ)

theorem frame_ref_pre : Cert.quiescent_InReferenceIdeal_pre_in_finite (hInReferenceIdeal := Cert.InReferenceIdeal.Gen.facts) (hPre_in_finite := Cert.Pre_in_finite.Gen.facts) :=
  fun m ρ _ => frame_ref m ρ trivial

/-- Nothing was rewritten. -/
theorem preserves : Cert.preserves_InKernel_InKernelIdeal := trivial

/-- Kernel and reference compute one function of arguments that are reals. -/
theorem algebraic : Cert.algebraic_InKernelIdeal_InReferenceIdeal_pre_in_finite (hInKernelIdeal := Cert.InKernelIdeal.Gen.facts) (hInReferenceIdeal := Cert.InReferenceIdeal.Gen.facts) (hPre_in_finite := Cert.Pre_in_finite.Gen.facts) := by
  intro m g m' g' hpre hag
  refine ⟨_, _, Cert.InKernelIdeal.Value.run_blocks m g, (θ_run Cert.InReferenceIdeal.defs _ _).mono (fun r h c => ⟨(h c).1.trans ?_, (h c).2.1.trans ?_, (h c).2.2⟩) (Cert.InReferenceIdeal.Value.run m' g')⟩
  · obtain ⟨h0, h2, h3, h4⟩ := reals _ _ _ _ _ (hpre c)
    rw [Cert.InReferenceIdeal.Read.val_main_v39_eq, (hag c).1, (hag c).2.1, (hag c).2.2.1, (hag c).2.2.2.1, (hag c).2.2.2.2]
    refine Eq.trans ?_ (Cert.InValue.final5 m c).symm
    funext i
    idx_vars i
    refine (Cert.InRef.r39 _ _ _ _ _ _ _).trans ?_
    rw [← Rms.hand_eq_rules_1024 (fun j => h2 _) (fun j => h4 _) (fun j => IsReal.sum fun k => (h0 _).mul (h3 _))]
    rfl
  · rw [Cert.InReferenceIdeal.Read.val_main_v40_eq, (hag c).1, (hag c).2.2.1, (hag c).2.2.2.1]
    refine Eq.trans ?_ (Cert.InValue.final6 m c).symm
    funext i
    idx_vars i
    obtain rfl : i0 = 0 := Fin.eq_zero _
    refine (Cert.InRef.r40 _ _ _ _).trans (Finset.sum_congr rfl fun k _ => ?_)
    exact mul_comm _ _

end Cert.In
end
-- ==== Proof.LossValue.lean ====
/- The value of the loss call: the down product's argument, the gradient of the norm's input and of its weight, and the loss, entry by
   entry. -/
module

public import proofs.«01_k».proof.Defs
public import proofs.«01_k».proof.Proof.Gen.LossKernelIdeal.Value
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.LossValue

open Idealize.ShloMosaic Idealize.ShloMosaic.TcCoe Idealize.SL.Sem
open Idealize.ShloMosaic.Pipeline (Dat)
open Cert.LossKernelIdeal Cert.LossKernelIdeal.Gen

variable (m : (ℓ : Loc nD τ sig) → Buf (Elt Ideal) ℓ) (c : Dev nD)

/-- The norm's constants: the row's length and the term under the root. -/
abbrev N : EReal := Ideal.ofBits .f32 0x44800000#32
abbrev e : EReal := Ideal.ofBits .f32 0x358637BD#32

/-- The squared rectifier. -/
def act (x : EReal) : EReal := max x 0 * max x 0

/-- A row of h2: h1 plus the down product of the activations. -/
def X (u : Fin 4096 → EReal) (h : Fin 1024 → EReal) (w : S4096x1024.Idx → EReal) (j : Fin 1024) : EReal :=
  h j + ∑ k : Fin 4096, act (u k) * w (ix2 k j)

/-- A row of the error: the norm of the row minus the target. -/
def err (x g t : Fin 1024 → EReal) (j : Fin 1024) : EReal := x j * Rms.scale N e x * g j - t j

/-- The cotangent of the norm's output as the kernel writes it. -/
def Y (x g t : Fin 1024 → EReal) (j : Fin 1024) : EReal := err x g t j * Ideal.ofBits .f32 0x3A800000#32

section
variable (u : S8192x4096.Idx → EReal) (h t : S8192x1024.Idx → EReal) (w : S4096x1024.Idx → EReal) (g : S1024.Idx → EReal)

/-- Row i of h2, of the error and of the cotangent, over the whole arrays. -/
def xr (i : Fin 8192) : Fin 1024 → EReal := X (fun k => u (ix2 i k)) (fun j => h (ix2 i j)) w
def er (i : Fin 8192) : Fin 1024 → EReal := err (xr u h w i) (fun j => g (ix1 j)) (fun j => t (ix2 i j))
def yr (i : Fin 8192) : Fin 1024 → EReal := Y (xr u h w i) (fun j => g (ix1 j)) (fun j => t (ix2 i j))

/-- The gradient of the norm's input. -/
def dh (i : S8192x1024.Idx) : EReal := Rms.hand N e (xr u h w (i 0)) (fun j => g (ix1 j)) (yr u h t w g (i 0)) (i 1)

/-- The gradient of the norm's weight. -/
def dg (j : Fin 1024) : EReal := ∑ i : Fin 8192, yr u h t w g i j * (xr u h w i j * Rms.scale N e (xr u h w i))

/-- The loss. -/
def loss : EReal := (∑ j : Fin 1024, ∑ i : Fin 8192, er u h t w g i j * er u h t w g i j) * Ideal.ofBits .f32 0x3A000000#32
end

/-- Which block each window shows at a grid point. -/
theorem idx : ∀ t : Fin cfg0.N, win0_0.index t = ![(t : Nat), 0] ∧ win0_1.index t = ![(t : Nat), 0] ∧ win0_2.index t = ![(t : Nat), 0] ∧ win0_3.index t = ![0, 0] ∧ win0_4.index t = ![0, 0] ∧ win0_5.index t = ![(t : Nat), 0] ∧ win0_6.index t = ![(t : Nat), 0] :=
  (by decide +kernel : ∀ t : Fin grid0.N, _)

/-- The row of the whole array at row a of point t's block. -/
def row (t : Fin cfg0.N) (a : Fin 512) : Fin 8192 := ⟨512 * t.val + a.val, by have := t.isLt; change t.val < 16 at this; omega⟩

section
variable (u : Vec Ideal S512x4096 .f32) (w : Vec Ideal S4096x1024 .bf16) (h d : Vec Ideal S512x1024 .f32) (g x : Vec Ideal S1x1024 .f32)

/-- A row of the block's h2. -/
abbrev bx (a : Fin 512) : Fin 1024 → EReal := X (fun k => u (ix2 a k)) (fun j => h (ix2 a j)) w

theorem p8 (a : Fin 512) (k : Fin 4096) : k0_pay8 (F := Ideal) u (ix2 a k) = act (u (ix2 a k)) := by
  unfold act
  pointwise [k0_pay8]

theorem p9 (a : Fin 512) (b : Fin 1024) : k0_pay9 (F := Ideal) u h w (ix2 a b) = bx u w h a b := by
  unfold bx X
  simp only [← p8]
  pointwise [k0_pay9]

theorem p10 (a : Fin 512) : k0_pay10 (F := Ideal) u h w (ix2 a 0) = Rms.scale N e (bx u w h a) := by
  unfold Rms.scale
  simp only [← p9]
  pointwise [k0_pay10]

theorem p11 (b : Fin 1024) : k0_pay11 (F := Ideal) g (ix2 0 b) = g (ix2 0 b) := by
  pointwise [k0_pay11]

theorem p12 (a : Fin 512) (b : Fin 1024) : k0_pay12 (F := Ideal) u h w g d (ix2 a b) = err (bx u w h a) (fun j => g (ix2 0 j)) (fun j => d (ix2 a j)) b := by
  unfold err
  rw [← p9, ← p10]
  pointwise [k0_pay12]
  rw [p11]

/-- The loss's accumulator after a point. -/
theorem p13 (b : Fin 1024) : k0_pay1 (F := Ideal) (k0_pay13 u h w g d x) (ix2 0 b)
    = x (ix2 0 b) + ∑ a : Fin 512, err (bx u w h a) (fun j => g (ix2 0 j)) (fun j => d (ix2 a j)) b * err (bx u w h a) (fun j => g (ix2 0 j)) (fun j => d (ix2 a j)) b := by
  simp only [← p12]
  pointwise [k0_pay1, k0_pay13]

/-- The stored gradient of the norm's input. -/
theorem p3 (a : Fin 512) (b : Fin 1024) : k0_pay3 (F := Ideal) (k0_pay9 u h w) (k0_pay10 u h w) (k0_pay11 g) (k0_pay12 u h w g d) (ix2 a b)
    = Rms.hand N e (bx u w h a) (fun j => g (ix2 0 j)) (Y (bx u w h a) (fun j => g (ix2 0 j)) (fun j => d (ix2 a j))) b := by
  unfold Rms.hand Y
  pointwise [k0_pay3, k0_pay2]
  simp only [p9, p10, p11, p12]

/-- The weight's gradient after a point. -/
theorem p4 (b : Fin 1024) : k0_pay4 (F := Ideal) (k0_pay9 u h w) (k0_pay10 u h w) (k0_pay12 u h w g d) x (ix2 0 b)
    = x (ix2 0 b) + ∑ a : Fin 512, Y (bx u w h a) (fun j => g (ix2 0 j)) (fun j => d (ix2 a j)) b * (bx u w h a b * Rms.scale N e (bx u w h a)) := by
  unfold Y
  pointwise [k0_pay4, k0_pay2]
  simp only [p9, p10, p12]

theorem p5 (a : Fin 8) (b : Fin 128) : k0_pay5 (F := Ideal) x (ix2 a b) = (∑ j : Fin 1024, x (ix2 0 j)) * Ideal.ofBits .f32 0x3A000000#32 := by
  pointwise [k0_pay5]
end

theorem e0 (t : Fin cfg0.N) (a : Fin 512) (k : Fin 4096) : ((win0_0.blk t).view.emb (ix2 a k) : S8192x4096.Idx) = ix2 (row t a) k := by
  obtain ⟨i0, i1, i2, i3, i4, i5, i6⟩ := idx t
  funext j; apply Fin.ext; refine (Pipeline.Window.rect_emb_val win0_0 t _ j).trans ?_; rw [i0]
  fin_cases j <;> simp [row, ix2, win0_0] <;> omega
theorem e1 (t : Fin cfg0.N) (a : Fin 512) (k : Fin 1024) : ((win0_1.blk t).view.emb (ix2 a k) : S8192x1024.Idx) = ix2 (row t a) k := by
  obtain ⟨i0, i1, i2, i3, i4, i5, i6⟩ := idx t
  funext j; apply Fin.ext; refine (Pipeline.Window.rect_emb_val win0_1 t _ j).trans ?_; rw [i1]
  fin_cases j <;> simp [row, ix2, win0_1] <;> omega
theorem e2 (t : Fin cfg0.N) (a : Fin 512) (k : Fin 1024) : ((win0_2.blk t).view.emb (ix2 a k) : S8192x1024.Idx) = ix2 (row t a) k := by
  obtain ⟨i0, i1, i2, i3, i4, i5, i6⟩ := idx t
  funext j; apply Fin.ext; refine (Pipeline.Window.rect_emb_val win0_2 t _ j).trans ?_; rw [i2]
  fin_cases j <;> simp [row, ix2, win0_2] <;> omega
theorem e3 (t : Fin cfg0.N) (a : Fin 4096) (k : Fin 1024) : ((win0_3.blk t).view.emb (ix2 a k) : S4096x1024.Idx) = ix2 a k := by
  obtain ⟨i0, i1, i2, i3, i4, i5, i6⟩ := idx t
  funext j; apply Fin.ext; refine (Pipeline.Window.rect_emb_val win0_3 t _ j).trans ?_; rw [i3]
  fin_cases j <;> simp [ix2, win0_3]
theorem e4 (t : Fin cfg0.N) (k : Fin 1024) : ((win0_4.blk t).view.emb (ix2 0 k) : S1x1024.Idx) = ix2 0 k := by
  obtain ⟨i0, i1, i2, i3, i4, i5, i6⟩ := idx t
  funext j; apply Fin.ext; refine (Pipeline.Window.rect_emb_val win0_4 t _ j).trans ?_; rw [i4]
  fin_cases j <;> simp [ix2, win0_4]
theorem e5 (t : Fin cfg0.N) (a : Fin 512) (k : Fin 4096) : ((win0_5.blk t).view.emb (ix2 a k) : S8192x4096.Idx) = ix2 (row t a) k := by
  obtain ⟨i0, i1, i2, i3, i4, i5, i6⟩ := idx t
  funext j; apply Fin.ext; refine (Pipeline.Window.rect_emb_val win0_5 t _ j).trans ?_; rw [i5]
  fin_cases j <;> simp [row, ix2, win0_5] <;> omega
theorem e6 (t : Fin cfg0.N) (a : Fin 512) (k : Fin 1024) : ((win0_6.blk t).view.emb (ix2 a k) : S8192x1024.Idx) = ix2 (row t a) k := by
  obtain ⟨i0, i1, i2, i3, i4, i5, i6⟩ := idx t
  funext j; apply Fin.ext; refine (Pipeline.Window.rect_emb_val win0_6 t _ j).trans ?_; rw [i6]
  fin_cases j <;> simp [row, ix2, win0_6] <;> omega

/-- The weight as the kernel reads it, and the norm's weight as one row. -/
abbrev aW : S4096x1024.Idx → EReal := V m c main_v0
abbrev aG : S1x1024.Idx → EReal := V m c main_v1
abbrev mU : S8192x4096.Idx → EReal := m ((c : Thread nD τ).loc main_arg0)
abbrev mH : S8192x1024.Idx → EReal := m ((c : Thread nD τ).loc main_arg1)
abbrev mT : S8192x1024.Idx → EReal := m ((c : Thread nD τ).loc main_arg2)
abbrev mW : S4096x1024.Idx → EReal := m ((c : Thread nD τ).loc main_arg3)
abbrev mG : S1024.Idx → EReal := m ((c : Thread nD τ).loc main_arg4)

theorem h_w (i : S4096x1024.Idx) : aW m c i = mW m c i := by
  have : aW m c = truncf (F := Ideal) .bf16 (mW m c) bitsLt_bf16_f32 := by
    unfold aW V
    after_reads_simp
  rw [this]; rfl

theorem h_g (k : Fin 1024) : aG m c (ix2 0 k) = mG m c (ix1 k) := by
  have : aG m c = fun i => shapeCast main_v1.ty.shape (mG m c) shapeCasts_S1024_S1x1024 i := by
    unfold aG V
    after_reads_simp
  refine (congrFun this _).trans ?_
  pointwise

theorem b0 (t : Fin cfg0.N) (a : Fin 512) (k : Fin 4096) : (iblk m c 0 t : Vec Ideal S512x4096 .f32) (ix2 a k) = mU m c (ix2 (row t a) k) :=
  (show _ = V m c main_arg0 ((win0_0.blk t).view.emb (ix2 a k)) from rfl).trans ((congrArg (V m c main_arg0) (e0 t a k)).trans (congrFun (V_main_arg0 m c) _))
theorem b1 (t : Fin cfg0.N) (a : Fin 512) (k : Fin 1024) : (iblk m c 1 t : Vec Ideal S512x1024 .f32) (ix2 a k) = mH m c (ix2 (row t a) k) :=
  (show _ = V m c main_arg1 ((win0_1.blk t).view.emb (ix2 a k)) from rfl).trans ((congrArg (V m c main_arg1) (e1 t a k)).trans (congrFun (V_main_arg1 m c) _))
theorem b2 (t : Fin cfg0.N) (a : Fin 512) (k : Fin 1024) : (iblk m c 2 t : Vec Ideal S512x1024 .f32) (ix2 a k) = mT m c (ix2 (row t a) k) :=
  (show _ = V m c main_arg2 ((win0_2.blk t).view.emb (ix2 a k)) from rfl).trans ((congrArg (V m c main_arg2) (e2 t a k)).trans (congrFun (V_main_arg2 m c) _))
theorem b3 (t : Fin cfg0.N) (a : Fin 4096) (k : Fin 1024) : (iblk m c 3 t : Vec Ideal S4096x1024 .bf16) (ix2 a k) = mW m c (ix2 a k) :=
  (show _ = V m c main_v0 ((win0_3.blk t).view.emb (ix2 a k)) from rfl).trans ((congrArg (V m c main_v0) (e3 t a k)).trans (h_w m c _))
theorem b4 (t : Fin cfg0.N) (k : Fin 1024) : (iblk m c 4 t : Vec Ideal S1x1024 .f32) (ix2 0 k) = mG m c (ix1 k) :=
  (show _ = V m c main_v1 ((win0_4.blk t).view.emb (ix2 0 k)) from rfl).trans ((congrArg (V m c main_v1) (e4 t k)).trans (h_g m c k))

/-- A row of the block's h2 is the whole array's. -/
theorem bxr (t : Fin cfg0.N) (a : Fin 512) : bx (iblk m c 0 t) (iblk m c 3 t) (iblk m c 1 t) a = xr (mU m c) (mH m c) (mW m c) (row t a) := by
  funext j
  unfold bx xr X
  simp only [b0, b1, b3]

theorem pay5 (t : Fin cfg0.N) (y : S512x4096.Idx) : k0_pay8 (F := Ideal) (iblk m c 0 t) y = act (mU m c ((win0_5.blk t).view.emb y)) := by
  idx_vars y
  rw [p8, e5, b0]

theorem final5 : (dats m 0 c).arrAt 5 cfg0.N = fun i => act (mU m c i) := by
  refine (dats m 0 c).arrAt_eq_of_covers 5 _ (by decide +kernel) fun t hf y => ?_
  blk_simp
  rw [after0_5]
  by_cases h0 : t.val % 16 = 0
  · rw [outsAt0_A m c t h0 (by omega)]
    frame_out
    exact pay5 m c t _
  by_cases h1 : t.val % 16 = 15
  · rw [outsAt0_C m c t h0 h1]
    frame_out
    exact pay5 m c t _
  · rw [outsAt0_B m c t h0 h1]
    frame_out
    exact pay5 m c t _

theorem pay6 (t : Fin cfg0.N) (y : S512x1024.Idx) :
    k0_pay3 (F := Ideal) (k0_pay9 (iblk m c 0 t) (iblk m c 1 t) (iblk m c 3 t)) (k0_pay10 (iblk m c 0 t) (iblk m c 1 t) (iblk m c 3 t)) (k0_pay11 (iblk m c 4 t))
      (k0_pay12 (iblk m c 0 t) (iblk m c 1 t) (iblk m c 3 t) (iblk m c 4 t) (iblk m c 2 t)) y
      = dh (mU m c) (mH m c) (mT m c) (mW m c) (mG m c) ((win0_6.blk t).view.emb y) := by
  idx_vars y
  rw [p3, e6, bxr]
  simp only [b2, b4]
  rfl

theorem final6 : (dats m 0 c).arrAt 6 cfg0.N = dh (mU m c) (mH m c) (mT m c) (mW m c) (mG m c) := by
  refine (dats m 0 c).arrAt_eq_of_covers 6 _ (by decide +kernel) fun t hf y => ?_
  blk_simp
  rw [after0_6]
  by_cases h0 : t.val % 16 = 0
  · rw [outsAt0_A m c t h0 (by omega)]
    frame_out
    exact pay6 m c t _
  by_cases h1 : t.val % 16 = 15
  · rw [outsAt0_C m c t h0 h1]
    frame_out
    exact pay6 m c t _
  · rw [outsAt0_B m c t h0 h1]
    frame_out
    exact pay6 m c t _

/-- What a point adds to the weight's gradient. -/
def term (t : Fin cfg0.N) (j : S1x1024.Idx) : EReal :=
  ∑ a : Fin 512, yr (mU m c) (mH m c) (mT m c) (mW m c) (mG m c) (row t a) (j 1) * (xr (mU m c) (mH m c) (mW m c) (row t a) (j 1) * Rms.scale N e (xr (mU m c) (mH m c) (mW m c) (row t a)))

theorem acc (t : Fin cfg0.N) (x : Vec Ideal S1x1024 .f32) (j : S1x1024.Idx) :
    k0_pay4 (F := Ideal) (k0_pay9 (iblk m c 0 t) (iblk m c 1 t) (iblk m c 3 t)) (k0_pay10 (iblk m c 0 t) (iblk m c 1 t) (iblk m c 3 t))
      (k0_pay12 (iblk m c 0 t) (iblk m c 1 t) (iblk m c 3 t) (iblk m c 4 t) (iblk m c 2 t)) x j = x j + term m c t j := by
  idx_vars j
  obtain rfl : j0 = 0 := Fin.eq_zero _
  rw [p4]
  simp only [bxr, b2, b4]
  rfl

/-- What a point adds to the loss's accumulator. -/
def lterm (t : Fin cfg0.N) (j : S1x1024.Idx) : EReal :=
  ∑ a : Fin 512, er (mU m c) (mH m c) (mT m c) (mW m c) (mG m c) (row t a) (j 1) * er (mU m c) (mH m c) (mT m c) (mW m c) (mG m c) (row t a) (j 1)

theorem lacc (t : Fin cfg0.N) (x : Vec Ideal S1x1024 .f32) (j : S1x1024.Idx) :
    k0_pay1 (F := Ideal) (k0_pay13 (iblk m c 0 t) (iblk m c 1 t) (iblk m c 3 t) (iblk m c 4 t) (iblk m c 2 t) x) j = x j + lterm m c t j := by
  idx_vars j
  obtain rfl : j0 = 0 := Fin.eq_zero _
  rw [p13]
  simp only [bxr, b2, b4]
  rfl

/-- A sum over the points of the sums over their rows is the sum over all rows. -/
theorem rows (f : Fin 8192 → EReal) : ∑ t : Fin 16, ∑ a : Fin 512, f (row t a) = ∑ i, f i := by
  refine (Fin.sum_points_lanes_congr (A := 1) (L := 8192) 16 (g := fun _ i => f i) fun t k ha hl => ?_).trans (Fin.sum_univ_one _)
  have hr : row t k = ⟨t.val % 16 * 512 + k.val, hl⟩ := Fin.ext (by have := t.isLt; show 512 * t.val + k.val = t.val % 16 * 512 + k.val; omega)
  rw [hr]

theorem final8 : (dats m 0 c).arrAt 8 cfg0.N = fun j => dg (mU m c) (mH m c) (mT m c) (mW m c) (mG m c) (j 1) := by
  refine (dats m 0 c).arrAt_eq_of_after_last 8 t0_15 (by decide +kernel) _ fun j => ?_
  blk_simp
  rw [after0_8]
  refine (Pipeline.eq_sum_fin_of_reset_step_apply_last (fun n h => (outsAt0 m c n h).2.2.2.1) 16 (fun _ => 0) (fun p => term m c p) (fun t h j => ?_) (fun t h j => ?_) (by decide) t0_15 rfl j).trans ?_
  · rw [outsAt0_A m c t h (by omega)]
    frame_out
    refine (acc m c t _ j).trans (congrArg (· + _) ?_)
    idx_vars j
    pointwise [k0_pay7]
  · by_cases h1 : t.val % 16 = 15
    · rw [outsAt0_C m c t h h1]
      frame_out
      exact acc m c t _ j
    · rw [outsAt0_B m c t h h1]
      frame_out
      exact acc m c t _ j
  · rw [zero_add]
    exact rows fun i => yr (mU m c) (mH m c) (mT m c) (mW m c) (mG m c) i (j 1) * (xr (mU m c) (mH m c) (mW m c) i (j 1) * Rms.scale N e (xr (mU m c) (mH m c) (mW m c) i))

/-- The loss's accumulator after the last point. -/
theorem scratch (j : S1x1024.Idx) : (outsAt0 m c t0_15.val t0_15.isLt).2.2.2.2 j
    = ∑ i : Fin 8192, er (mU m c) (mH m c) (mT m c) (mW m c) (mG m c) i (j 1) * er (mU m c) (mH m c) (mT m c) (mW m c) (mG m c) i (j 1) := by
  refine (Pipeline.eq_sum_fin_of_reset_step_apply_last (fun n h => (outsAt0 m c n h).2.2.2.2) 16 (fun _ => 0) (fun p => lterm m c p) (fun t h j => ?_) (fun t h j => ?_) (by decide) t0_15 rfl j).trans ?_
  · rw [outsAt0_A m c t h (by omega)]
    frame_out
    refine (lacc m c t _ j).trans (congrArg (· + _) ?_)
    idx_vars j
    pointwise [k0_pay6]
  · by_cases h1 : t.val % 16 = 15
    · rw [outsAt0_C m c t h h1]
      frame_out
      rw [read_unread_whole]
      exact lacc m c t _ j
    · rw [outsAt0_B m c t h h1]
      frame_out
      rw [read_unread_whole]
      exact lacc m c t _ j
  · rw [zero_add]
    exact rows fun i => er (mU m c) (mH m c) (mT m c) (mW m c) (mG m c) i (j 1) * er (mU m c) (mH m c) (mT m c) (mW m c) (mG m c) i (j 1)

theorem last : (outsAt0 m c t0_15.val t0_15.isLt).2.2.1 = k0_pay5 (F := Ideal) (outsAt0 m c t0_15.val t0_15.isLt).2.2.2.2 := by
  rw [outsAt0_C m c t0_15 (by decide) (by decide)]
  frame_out

theorem final7 : (dats m 0 c).arrAt 7 cfg0.N = fun _ => loss (mU m c) (mH m c) (mT m c) (mW m c) (mG m c) := by
  refine (dats m 0 c).arrAt_eq_of_after_last 7 t0_15 (by decide +kernel) _ fun j => ?_
  blk_simp
  rw [after0_7, last]
  idx_vars j
  rw [p5]
  simp only [scratch]
  rfl

end Cert.LossValue
end
-- ==== Proof.LossRef.lean ====
/- The reference's loss, its gradient along h2 and along the norm's weight, and the down product's argument, entry by entry. -/
module

public import proofs.«01_k».proof.Defs
public import proofs.«01_k».proof.Proof.Gen.LossReferenceIdeal.Read
public import proofs.«01_k».proof.Proof.LossValue
public import Idealize.ShloMosaic.Lib.Pointwise

@[expose] public section

set_option maxRecDepth 16384

noncomputable section

namespace Cert.LossRef

open Idealize.ShloMosaic Idealize.ShloMosaic.TcCoe
open Cert.LossReferenceIdeal Cert.LossReferenceIdeal.Gen Cert.LossReferenceIdeal.Read
open Cert.LossValue (N e act X err xr er yr)

/-- The rule's factor: the derivative of the inverse root. -/
abbrev H : EReal := Ideal.ofBits .f32 0xBF000000#32

variable (u : S8192x4096.Idx → EReal) (h t : S8192x1024.Idx → EReal) (w : S4096x1024.Idx → EReal) (g : S1024.Idx → EReal)

theorem r1 (i : S8192x4096.Idx) : val_main_v1 (F := Ideal) u i = act (u i) := by
  idx_vars i
  unfold act
  pointwise [val_main_v1, val_main_v0, val_main_call0_v0, val_main_call0_cst]

theorem r3 (i : Fin 8192) (j : Fin 1024) : val_main_v3 (F := Ideal) u h w (ix2 i j) = xr u h w i j := by
  unfold xr X
  simp only [← r1]
  pointwise [val_main_v3, val_main_v2]

theorem r10 (i : Fin 8192) : val_main_v10 (F := Ideal) u h w (ix2 i 0) = Ideal.div (∑ j : Fin 1024, xr u h w i j * xr u h w i j) N + e := by
  simp only [← r3]
  pointwise [val_main_v10, val_main_v9, val_main_v8, val_main_v7, val_main_v6, val_main_v5, val_main_v4, val_main_cst, val_main_cst_0, val_main_cst_1]

theorem r11 (i : Fin 8192) : val_main_v11 (F := Ideal) u h w (ix2 i 0) = Rms.scale N e (xr u h w i) := by
  unfold Rms.scale
  rw [← r10]
  pointwise [val_main_v11]

theorem r14 (i : Fin 8192) : val_main_v14 (F := Ideal) u h w (ix2 i 0) = H * Ideal.div (Rms.scale N e (xr u h w i)) (Ideal.div (∑ j : Fin 1024, xr u h w i j * xr u h w i j) N + e) := by
  rw [← r10, ← r11]
  pointwise [val_main_v14, val_main_v13, val_main_v12, val_main_cst_2]

theorem r20 (i : Fin 8192) (j : Fin 1024) : val_main_v20 (F := Ideal) u h t w g (ix2 i j) = er u h t w g i j := by
  unfold er err
  rw [← r3, ← r11]
  pointwise [val_main_v20, val_main_v19, val_main_v18, val_main_v17, val_main_v16, val_main_v15]

/-- The reference's loss. -/
theorem r56 (a : Fin 8) (b : Fin 128) : val_main_v56 (F := Ideal) u h t w g (ix2 a b)
    = Ideal.ofBits .f32 0x3F000000#32 * ∑ i : Fin 8192, Ideal.div (∑ j : Fin 1024, er u h t w g i j * er u h t w g i j) N := by
  simp only [← r20]
  pointwise [val_main_v56, val_main_v28, val_main_v27, val_main_v26, val_main_v25, val_main_v24, val_main_v21, val_main_cst_4, val_main_cst_5, val_main_cst_6, val_main_cst_7]

/-- The cotangent of the norm's output by the rules. -/
def Y (x : EReal) : EReal := Ideal.div (Ideal.ofBits .f32 0x3F000000#32 * Ideal.ofBits .f32 0x3F800000#32) N * (Ideal.ofBits .f32 0x40000000#32 * x)

theorem r34 (i : Fin 8192) (j : Fin 1024) : val_main_v34 (F := Ideal) u h t w g (ix2 i j) = Y (er u h t w g i j) := by
  unfold Y
  rw [← r20]
  pointwise [val_main_v34, val_main_v33, val_main_v32, val_main_v31, val_main_v30, val_main_v29, val_main_v23, val_main_v22, val_main_cst_3, val_main_cst_8, val_main_cst_9, val_main_cst_10]

theorem r39 (i : Fin 8192) (j : Fin 1024) : val_main_v39 (F := Ideal) u h t w g (ix2 i j) = Y (er u h t w g i j) * g (ix1 j) := by
  rw [← r34]
  pointwise [val_main_v39, val_main_v38, val_main_v17]

theorem r43 (i : Fin 8192) : val_main_v43 (F := Ideal) u h t w g (ix2 i 0) = ∑ j : Fin 1024, xr u h w i j * (Y (er u h t w g i j) * g (ix1 j)) := by
  simp only [← r39, ← r3]
  pointwise [val_main_v43, val_main_v42, val_main_v41, val_main_cst_13]

theorem r50 (i : Fin 8192) (j : Fin 1024) : val_main_v50 (F := Ideal) u h t w g (ix2 i j) = Rms.inner N e H (xr u h w i) (fun j => g (ix1 j)) (fun j => Y (er u h t w g i j)) := by
  unfold Rms.inner
  rw [← r43, ← r14]
  pointwise [val_main_v50, val_main_v49, val_main_v48, val_main_v47, val_main_v46, val_main_cst_14, val_main_cst_15]
  exact Fin.sum_univ_one _

theorem r54 (i : Fin 8192) (j : Fin 1024) : val_main_v54 (F := Ideal) u h t w g (ix2 i j) = Rms.rules N e H (xr u h w i) (fun j => g (ix1 j)) (fun j => Y (er u h t w g i j)) j := by
  unfold Rms.rules
  rw [← r50 u h t w g i j, ← r39, ← r11, ← r3]
  pointwise [val_main_v54, val_main_v53, val_main_v52, val_main_v51, val_main_v45, val_main_v44]

theorem r57 (j : Fin 1024) : val_main_v57 (F := Ideal) u h t w g (ix2 0 j) = ∑ i : Fin 8192, (xr u h w i j * Rms.scale N e (xr u h w i)) * Y (er u h t w g i j) := by
  simp only [← r34, ← r11, ← r3]
  pointwise [val_main_v57, val_main_v40, val_main_v37, val_main_v36, val_main_v35, val_main_v16, val_main_v15, val_main_cst_11, val_main_cst_12]
  exact Fin.sum_univ_one _

theorem r55 (i : S8192x4096.Idx) : val_main_v55 (F := Ideal) u i = act (u i) := r1 u i

end Cert.LossRef
end
-- ==== Proof.Loss.lean ====
/- The five claims about the loss, its gradient along the last norm's input and weight, and the down product's argument. -/
module

public import proofs.«01_k».proof.Proof.LossRef
public import proofs.«01_k».proof.Proof.Finite
public import proofs.«01_k».proof.Proof.Gen.LossReferenceIdeal.Run
public import proofs.«01_k».proof.Proof.Gen.LossKernel
public import proofs.«01_k».proof.Proof.Gen.LossKernel.Frame
public import proofs.«01_k».proof.Proof.Gen.Pre_loss_finite
public import Idealize.ShloMosaic.Adequacy
public import Idealize.ShloMosaic.Init
public import Idealize.ShloMosaic.Lib.Quiescent

@[expose] public section

set_option maxRecDepth 16384

noncomputable section

namespace Cert.Loss

open Idealize.ShloMosaic Idealize.ShloMosaic.TcCoe Idealize.SL.Sem
open Cert.Extended Cert.Finite
open Cert.LossValue (N e act X err xr er yr)
open Cert.Pre_loss_finite (S8192x4096 S8192x1024 S4096x1024 S1024)

/-- Under the precondition every argument holds reals. -/
theorem reals (x0 : S8192x4096.Idx → EReal) (x1 x2 : S8192x1024.Idx → EReal) (x3 : S4096x1024.Idx → EReal) (x4 : S1024.Idx → EReal)
    (h : @Cert.Pre_loss_finite.fn Cert.Pre_loss_finite.Gen.facts Ideal _ x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have e := congrFun h ix0
  unfold Cert.Pre_loss_finite.fn at e
  obtain ⟨e, e4⟩ := and_true e
  obtain ⟨e, e3⟩ := and_true e
  obtain ⟨e, e2⟩ := and_true e
  obtain ⟨e0, e1⟩ := and_true e
  exact ⟨fun i => ⟨_, real_of_all x0 _ _ _ _ e0 i⟩, fun i => ⟨_, real_of_all x1 _ _ _ _ e1 i⟩, fun i => ⟨_, real_of_all x2 _ _ _ _ e2 i⟩,
    fun i => ⟨_, real_of_all x3 _ _ _ _ e3 i⟩, fun i => ⟨_, real_of_all x4 _ _ _ _ e4 i⟩⟩

theorem half : Ideal.ofBits .f32 0x3F000000#32 = ((1 / 2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem c1024 : Ideal.ofBits .f32 0x3A800000#32 = ((1 / 1024 : ℝ) : EReal) := by
  simp [Ideal.ofBits, Ideal.ieee, -EReal.coe_mul]; norm_num
theorem c2048 : Ideal.ofBits .f32 0x3A000000#32 = ((1 / 2048 : ℝ) : EReal) := by
  simp [Ideal.ofBits, Ideal.ieee, -EReal.coe_mul]; norm_num

/-- Half of the mean's cotangent times twice the error is the error over the row's length. -/
theorem cot {x : EReal} (h : IsReal x) : Cert.LossRef.Y x = x * Ideal.ofBits .f32 0x3A800000#32 := by
  obtain ⟨r, rfl⟩ := h
  unfold Cert.LossRef.Y N
  rw [half, one, two, c1024, Rms.n1024]
  simp only [← EReal.coe_mul]
  rw [ediv _ _ (by norm_num)]
  simp only [← EReal.coe_mul]
  refine congrArg (fun r : ℝ => (r : EReal)) ?_
  ring

/-- Half of the sum of the rows' means is the sum of all squares over twice the row's length. -/
theorem mean {f : Fin 8192 → Fin 1024 → EReal} (h : ∀ i j, IsReal (f i j)) :
    Ideal.ofBits .f32 0x3F000000#32 * ∑ i : Fin 8192, Ideal.div (∑ j : Fin 1024, f i j * f i j) N = (∑ j : Fin 1024, ∑ i : Fin 8192, f i j * f i j) * Ideal.ofBits .f32 0x3A000000#32 := by
  choose r hr using h
  simp only [hr]
  unfold N
  rw [half, c2048, Rms.n1024]
  simp only [← EReal.coe_mul]
  simp only [esum]
  simp only [ediv _ _ (show (1024 : ℝ) ≠ 0 by norm_num)]
  simp only [esum]
  simp only [← EReal.coe_mul]
  refine congrArg (fun r : ℝ => (r : EReal)) ?_
  rw [Finset.sum_comm, ← Finset.sum_div]
  ring

section
variable {u : S8192x4096.Idx → EReal} {h t : S8192x1024.Idx → EReal} {w : S4096x1024.Idx → EReal} {g : S1024.Idx → EReal}

theorem act_real {x : EReal} (hx : IsReal x) : IsReal (act x) := by
  obtain ⟨r, rfl⟩ := hx
  refine ⟨max r 0 * max r 0, ?_⟩
  unfold act
  rw [EReal.coe_mul, (EReal.coe_strictMono.monotone.map_max : ((max r 0 : ℝ) : EReal) = _), EReal.coe_zero]

theorem xr_real (hu : ∀ i, IsReal (u i)) (hh : ∀ i, IsReal (h i)) (hw : ∀ i, IsReal (w i)) (i : Fin 8192) (j : Fin 1024) : IsReal (xr u h w i j) :=
  (hh _).add (IsReal.sum fun k => (act_real (hu _)).mul (hw _))

theorem er_real (hu : ∀ i, IsReal (u i)) (hh : ∀ i, IsReal (h i)) (ht : ∀ i, IsReal (t i)) (hw : ∀ i, IsReal (w i)) (hg : ∀ i, IsReal (g i)) (i : Fin 8192) (j : Fin 1024) :
    IsReal (er u h t w g i j) := by
  obtain ⟨e, he, q⟩ := Rms.eps
  have hs : IsReal (Rms.scale N LossValue.e (xr u h w i)) := by
    unfold N LossValue.e
    rw [q, Rms.n1024]
    exact Rms.scale_real 1024 e (by norm_num) he (xr_real hu hh hw i)
  exact (((xr_real hu hh hw i j).mul hs).mul (hg _)).sub (ht _)
end

theorem frame_kernel : Cert.quiescent_LossKernel (hLossKernel := Cert.LossKernel.Gen.facts) :=
  fun m ρ _ => Cert.LossKernel.Gen.frame m ρ

theorem frame_ideal : Cert.quiescent_LossKernelIdeal (hLossKernelIdeal := Cert.LossKernelIdeal.Gen.facts) :=
  fun m ρ _ => Cert.LossKernelIdeal.Gen.frame m ρ

theorem frame_ideal_pre : Cert.quiescent_LossKernelIdeal_pre_loss_finite (hLossKernelIdeal := Cert.LossKernelIdeal.Gen.facts) (hPre_loss_finite := Cert.Pre_loss_finite.Gen.facts) :=
  fun m ρ _ => Cert.LossKernelIdeal.Gen.frame m ρ

theorem frame_ref : Cert.quiescent_LossReferenceIdeal (hLossReferenceIdeal := Cert.LossReferenceIdeal.Gen.facts) :=
  fun m ρ _ => (θ_run Cert.LossReferenceIdeal.defs _ _).mono (fun r h => ⟨fun c => (h c).2.2.2.2, sem_eq_zero_of_no_sems rfl r.2⟩) (Cert.LossReferenceIdeal.Value.run m ρ)

theorem frame_ref_pre : Cert.quiescent_LossReferenceIdeal_pre_loss_finite (hLossReferenceIdeal := Cert.LossReferenceIdeal.Gen.facts) (hPre_loss_finite := Cert.Pre_loss_finite.Gen.facts) :=
  fun m ρ _ => frame_ref m ρ trivial

/-- Nothing was rewritten. -/
theorem preserves : Cert.preserves_LossKernel_LossKernelIdeal := trivial

/-- Kernel and reference compute one function of arguments that are reals. -/
theorem algebraic : Cert.algebraic_LossKernelIdeal_LossReferenceIdeal_pre_loss_finite (hLossKernelIdeal := Cert.LossKernelIdeal.Gen.facts) (hLossReferenceIdeal := Cert.LossReferenceIdeal.Gen.facts) (hPre_loss_finite := Cert.Pre_loss_finite.Gen.facts) := by
  intro m g m' g' hpre hag
  refine ⟨_, _, _, _, Cert.LossKernelIdeal.Value.run_blocks m g, (θ_run Cert.LossReferenceIdeal.defs _ _).mono (fun r h c => ⟨(h c).1.trans ?_, (h c).2.1.trans ?_, (h c).2.2.1.trans ?_, (h c).2.2.2.1.trans ?_, (h c).2.2.2.2⟩) (Cert.LossReferenceIdeal.Value.run m' g')⟩
  all_goals obtain ⟨h0, h1, h2, h3, h4⟩ := reals _ _ _ _ _ (hpre c)
  all_goals have he := er_real h0 h1 h2 h3 h4
  · rw [Cert.LossReferenceIdeal.Read.val_main_v55_eq, (hag c).1]
    refine Eq.trans ?_ (Cert.LossValue.final5 m c).symm
    funext i
    exact Cert.LossRef.r55 _ i
  · rw [Cert.LossReferenceIdeal.Read.val_main_v54_eq, (hag c).1, (hag c).2.1, (hag c).2.2.1, (hag c).2.2.2.1, (hag c).2.2.2.2]
    refine Eq.trans ?_ (Cert.LossValue.final6 m c).symm
    funext i
    idx_vars i
    refine (Cert.LossRef.r54 _ _ _ _ _ _ _).trans ?_
    simp only [cot (he _ _)]
    rw [← Rms.hand_eq_rules_1024 (xr_real h0 h1 h3 _) (fun j => h4 _) (fun j => (he _ _).mul ⟨_, c1024⟩)]
    rfl
  · rw [Cert.LossReferenceIdeal.Read.val_main_v56_eq, (hag c).1, (hag c).2.1, (hag c).2.2.1, (hag c).2.2.2.1, (hag c).2.2.2.2]
    refine Eq.trans ?_ (Cert.LossValue.final7 m c).symm
    funext i
    idx_vars i
    exact (Cert.LossRef.r56 _ _ _ _ _ _ _).trans (mean he)
  · rw [Cert.LossReferenceIdeal.Read.val_main_v57_eq, (hag c).1, (hag c).2.1, (hag c).2.2.1, (hag c).2.2.2.1, (hag c).2.2.2.2]
    refine Eq.trans ?_ (Cert.LossValue.final8 m c).symm
    funext i
    idx_vars i
    obtain rfl : i0 = 0 := Fin.eq_zero _
    refine (Cert.LossRef.r57 _ _ _ _ _ _).trans (Finset.sum_congr rfl fun k _ => ?_)
    rw [cot (he _ _)]
    exact mul_comm _ _

end Cert.Loss
end
-- ==== Proof.InprojWeight.lean ====
/- The value of the input projection's gradient: the weight's rows as the host lines order them for the kernel. -/
module

public import proofs.«01_k».proof.Defs
public import proofs.«01_k».proof.Proof.Gen.InprojKernelIdeal.Value
public import proofs.«01_k».proof.Proof.Rms
public import Idealize.ShloMosaic.Lib.Pipeline.ValueKit
public import Idealize.ShloMosaic.Lib.Pointwise
public import Idealize.ShloMosaic.Lib.StableHlo.ReadAt

@[expose] public section

set_option maxRecDepth 16384

noncomputable section

namespace Cert.InprojWeight

open Idealize.ShloMosaic Idealize.ShloMosaic.TcCoe Idealize.SL.Sem
open Idealize.ShloMosaic.Pipeline (Dat)
open Cert.InprojKernelIdeal Cert.InprojKernelIdeal.Gen

variable (m : (ℓ : Loc nD τ sig) → Buf (Elt Ideal) ℓ) (c : Dev nD)

/-- The norm's constants: the row's length and the term under the root. -/
abbrev N : EReal := Ideal.ofBits .f32 0x44800000#32
abbrev e : EReal := Ideal.ofBits .f32 0x358637BD#32

/-- The arguments, and the weight's rows in the kernel's column order. -/
abbrev aW : S4736x1024.Idx → EReal := V m c main_v15
abbrev aG : S1x1024.Idx → EReal := V m c main_v16
abbrev mX : S8192x1024.Idx → EReal := m ((c : Thread nD τ).loc main_arg0)
abbrev mD : S8192x1024.Idx → EReal := m ((c : Thread nD τ).loc main_arg1)
abbrev mR : S8192x1024.Idx → EReal := m ((c : Thread nD τ).loc main_arg2)
abbrev mT : S8192x3072.Idx → EReal := m ((c : Thread nD τ).loc main_arg3)
abbrev mM : S8192x640.Idx → EReal := m ((c : Thread nD τ).loc main_arg4)
abbrev mW : S1024x4672.Idx → EReal := m ((c : Thread nD τ).loc main_arg5)
abbrev mG : S1024.Idx → EReal := m ((c : Thread nD τ).loc main_arg6)

/-- The weight's rows in the kernel's column order: the columns of x and of the gates, then q's and k's, then k_rope's with its
    rotation. -/
def Wk (W : S1024x4672.Idx → EReal) (r : Fin 4736) (j : Fin 1024) : EReal :=
  if h : r.val < 2048 then W (ix2 j ⟨r.val, by omega⟩) else if h : r.val < 4096 then W (ix2 j ⟨r.val + 576, by omega⟩)
  else if h : r.val < 4672 then W (ix2 j ⟨r.val - 2048, by omega⟩) else if h : r.val < 4704 then -W (ix2 j ⟨r.val - 2080, by omega⟩)
  else W (ix2 j ⟨r.val - 2144, by omega⟩)

theorem wk1 (W : S1024x4672.Idx → EReal) (r : Fin 4736) (j : Fin 1024) {q : Fin 4672} (h : r.val < 2048) (e : q.val = r.val) : W (ix2 j q) = Wk W r j := by
  unfold Wk; rw [dif_pos h]; exact congrArg (fun q => W (ix2 j q)) (Fin.ext e)
theorem wk2 (W : S1024x4672.Idx → EReal) (r : Fin 4736) (j : Fin 1024) {q : Fin 4672} (h0 : 2048 ≤ r.val) (h : r.val < 4096) (e : q.val = r.val + 576) : W (ix2 j q) = Wk W r j := by
  unfold Wk; rw [dif_neg (by omega), dif_pos h]; exact congrArg (fun q => W (ix2 j q)) (Fin.ext e)
theorem wk3 (W : S1024x4672.Idx → EReal) (r : Fin 4736) (j : Fin 1024) {q : Fin 4672} (h0 : 4096 ≤ r.val) (h : r.val < 4672) (e : q.val = r.val - 2048) : W (ix2 j q) = Wk W r j := by
  unfold Wk; rw [dif_neg (by omega), dif_neg (by omega), dif_pos h]; exact congrArg (fun q => W (ix2 j q)) (Fin.ext e)
theorem wk4 (W : S1024x4672.Idx → EReal) (r : Fin 4736) (j : Fin 1024) {q : Fin 4672} (h0 : 4672 ≤ r.val) (h : r.val < 4704) (e : q.val = r.val - 2080) : -W (ix2 j q) = Wk W r j := by
  unfold Wk; rw [dif_neg (by omega), dif_neg (by omega), dif_neg (by omega), dif_pos h]; exact congrArg (fun q => -W (ix2 j q)) (Fin.ext e)
theorem wk5 (W : S1024x4672.Idx → EReal) (r : Fin 4736) (j : Fin 1024) {q : Fin 4672} (h : 4704 ≤ r.val) (e : q.val = r.val - 2144) : W (ix2 j q) = Wk W r j := by
  unfold Wk; rw [dif_neg (by omega), dif_neg (by omega), dif_neg (by omega), dif_neg (by omega)]; exact congrArg (fun q => W (ix2 j q)) (Fin.ext e)

set_option maxHeartbeats 1000000 in
theorem h_w (r : Fin 4736) (j : Fin 1024) : aW m c (ix2 r j) = Wk (mW m c) r j := by
  unfold aW V
  after_reads_at
  split
  · after_reads_at; exact wk1 _ _ _ (by omega) (by simp only [] <;> omega)
  split
  · after_reads_at; exact wk1 _ _ _ (by omega) (by simp only [] <;> omega)
  split
  · after_reads_at; exact wk2 _ _ _ (by omega) (by omega) (by simp only [] <;> omega)
  split
  · after_reads_at; exact wk2 _ _ _ (by omega) (by omega) (by simp only [] <;> omega)
  split
  · after_reads_at; exact wk3 _ _ _ (by omega) (by omega) (by simp only [] <;> omega)
  split
  · after_reads_at; exact wk3 _ _ _ (by omega) (by omega) (by simp only [] <;> omega)
  split
  · after_reads_at; exact wk3 _ _ _ (by omega) (by omega) (by simp only [] <;> omega)
  after_reads_at
  split
  · after_reads_at; exact wk4 _ _ _ (by omega) (by omega) (by simp only [] <;> omega)
  · after_reads_at; exact wk5 _ _ _ (by omega) (by simp only [] <;> omega)

end Cert.InprojWeight
end
-- ==== Proof.InprojValue.lean ====
/- The value of the input projection's gradient: what the kernel leaves, entry by entry. -/
module

public import proofs.«01_k».proof.Defs
public import proofs.«01_k».proof.Proof.Gen.InprojKernelIdeal.Value
public import proofs.«01_k».proof.Proof.InprojWeight
public import Idealize.ShloMosaic.Lib.Pipeline.ValueKit
public import Idealize.ShloMosaic.Lib.Pointwise
public import Idealize.ShloMosaic.Lib.StableHlo.ReadAt

@[expose] public section

set_option maxRecDepth 16384

noncomputable section

namespace Cert.InprojValue

open Idealize.ShloMosaic Idealize.ShloMosaic.TcCoe Idealize.SL.Sem
open Idealize.ShloMosaic.Pipeline (Dat)
open Cert.InprojWeight (mX mD mR mT mM mW mG aW aG Wk h_w)
open Cert.InprojKernelIdeal Cert.InprojKernelIdeal.Gen

variable (m : (ℓ : Loc nD τ sig) → Buf (Elt Ideal) ℓ) (c : Dev nD)

/-- The norm's constants: the row's length and the term under the root. -/
abbrev N : EReal := Ideal.ofBits .f32 0x44800000#32
abbrev e : EReal := Ideal.ofBits .f32 0x358637BD#32

/-- The cotangent of the norm's output: the five products, over rows dr, dt, dm of the cotangents and column w of the weight. -/
def Z (dr : Fin 1024 → EReal) (dt : Fin 3072 → EReal) (dm : Fin 640 → EReal) (w : Fin 4736 → EReal) : EReal :=
  (∑ k : Fin 1024, dr k * w ⟨k.val, by omega⟩) + (∑ k : Fin 1024, dt ⟨k.val, by omega⟩ * w ⟨1024 + k.val, by omega⟩)
    + (∑ k : Fin 1024, dt ⟨1024 + k.val, by omega⟩ * w ⟨2048 + k.val, by omega⟩) + (∑ k : Fin 1024, dt ⟨2048 + k.val, by omega⟩ * w ⟨3072 + k.val, by omega⟩)
    + ∑ k : Fin 640, dm k * w ⟨4096 + k.val, by omega⟩

/-- Row i of the cotangent of the norm's output. -/
def Y (dr : S8192x1024.Idx → EReal) (dt : S8192x3072.Idx → EReal) (dm : S8192x640.Idx → EReal) (w : S1024x4672.Idx → EReal) (i : Fin 8192) (j : Fin 1024) : EReal :=
  Z (fun k => dr (ix2 i k)) (fun k => dt (ix2 i k)) (fun k => dm (ix2 i k)) (fun k => Wk w k j)

/-- The gradient of the norm's input, added to the cotangent that passes it by. -/
def dx (x d dr : S8192x1024.Idx → EReal) (dt : S8192x3072.Idx → EReal) (dm : S8192x640.Idx → EReal) (w : S1024x4672.Idx → EReal) (g : S1024.Idx → EReal) (i : S8192x1024.Idx) : EReal :=
  d i + Rms.hand N e (fun j => x (ix2 (i 0) j)) (fun j => g (ix1 j)) (Y dr dt dm w (i 0)) (i 1)

/-- The gradient of the norm's weight. -/
def dg (x dr : S8192x1024.Idx → EReal) (dt : S8192x3072.Idx → EReal) (dm : S8192x640.Idx → EReal) (w : S1024x4672.Idx → EReal) (j : Fin 1024) : EReal :=
  ∑ i : Fin 8192, Y dr dt dm w i j * (x (ix2 i j) * Rms.scale N e (fun l => x (ix2 i l)))

/-- Which block each window shows at a grid point. -/
theorem idx : ∀ t : Fin cfg0.N, win0_0.index t = ![(t : Nat), 0] ∧ win0_1.index t = ![(t : Nat), 0] ∧ win0_2.index t = ![(t : Nat), 0] ∧ win0_3.index t = ![(t : Nat), 0] ∧ win0_4.index t = ![(t : Nat), 0] ∧ win0_5.index t = ![0, 0] ∧ win0_6.index t = ![0, 0] ∧ win0_7.index t = ![(t : Nat), 0] ∧ win0_8.index t = ![0, 0] :=
  (by decide +kernel : ∀ t : Fin grid0.N, _)

/-- The row of the whole array at row a of point t's block. -/
def row (t : Fin cfg0.N) (a : Fin 512) : Fin 8192 := ⟨512 * t.val + a.val, by have := t.isLt; change t.val < 16 at this; omega⟩

section
variable (x d : Vec Ideal S512x1024 .f32) (dr : Vec Ideal S512x1024 .bf16) (dt : Vec Ideal S512x3072 .bf16) (dm : Vec Ideal S512x640 .bf16) (w : Vec Ideal S4736x1024 .bf16) (g : Vec Ideal S1x1024 .f32)

/-- The five products as a grid point forms them. -/
def five : FVec Ideal S512x1024 .f32 :=
  k0_pay5 (F := Ideal) dr (View.ld w (Rect.unit ![0, 0] ![1024, 1024] inb_S4736x1024_S1024x1024_0_0))
    (View.ld dt (Rect.unit ![0, 0] ![512, 1024] inb_S512x3072_S512x1024_0_0)) (View.ld w (Rect.unit ![1024, 0] ![1024, 1024] inb_S4736x1024_S1024x1024_1024_0))
    (View.ld dt (Rect.unit ![0, 1024] ![512, 1024] inb_S512x3072_S512x1024_0_1024)) (View.ld w (Rect.unit ![2048, 0] ![1024, 1024] inb_S4736x1024_S1024x1024_2048_0))
    (View.ld dt (Rect.unit ![0, 2048] ![512, 1024] inb_S512x3072_S512x1024_0_2048)) (View.ld w (Rect.unit ![3072, 0] ![1024, 1024] inb_S4736x1024_S1024x1024_3072_0)) dm
    (View.ld w (Rect.unit ![4096, 0] ![640, 1024] inb_S4736x1024_S640x1024_4096_0))

theorem p5 (a : Fin 512) (b : Fin 1024) : five dr dt dm w (ix2 a b)
    = Z (fun k => dr (ix2 a k)) (fun k => dt (ix2 a k)) (fun k => dm (ix2 a k)) (fun k => w (ix2 k b)) := by
  unfold five Z
  pointwise [k0_pay5, View.ld_apply]

theorem p4 (a : Fin 512) : k0_pay1 (F := Ideal) (k0_pay6 x) (ix2 a 0) = Rms.scale N e (fun j => x (ix2 a j)) := by
  unfold Rms.scale
  pointwise [k0_pay1, k0_pay6]

/-- The stored block at an entry. -/
theorem p6 (y : FVec Ideal S512x1024 .f32) (a : Fin 512) (b : Fin 1024) : k0_pay2 (F := Ideal) y x (k0_pay6 x) g d (ix2 a b)
    = d (ix2 a b) + Rms.hand N e (fun j => x (ix2 a j)) (fun j => g (ix2 0 j)) (fun j => y (ix2 a j)) b := by
  unfold Rms.hand
  simp only [← p4]
  pointwise [k0_pay2]

/-- The accumulator after a point, at an entry. -/
theorem p1 (y : FVec Ideal S512x1024 .f32) (z : Vec Ideal S1x1024 .f32) (b : Fin 1024) : k0_pay3 (F := Ideal) y x (k0_pay6 x) z (ix2 0 b)
    = z (ix2 0 b) + ∑ a : Fin 512, y (ix2 a b) * (x (ix2 a b) * Rms.scale N e (fun j => x (ix2 a j))) := by
  simp only [← p4]
  pointwise [k0_pay3]
end

theorem e0 (t : Fin cfg0.N) (a : Fin 512) (k : Fin 1024) : ((win0_0.blk t).view.emb (ix2 a k) : S8192x1024.Idx) = ix2 (row t a) k := by
  obtain ⟨i0, i1, i2, i3, i4, i5, i6, i7, i8⟩ := idx t
  funext j; apply Fin.ext; refine (Pipeline.Window.rect_emb_val win0_0 t _ j).trans ?_; rw [i0]
  fin_cases j <;> simp [row, ix2, win0_0] <;> omega
theorem e1 (t : Fin cfg0.N) (a : Fin 512) (k : Fin 1024) : ((win0_1.blk t).view.emb (ix2 a k) : S8192x1024.Idx) = ix2 (row t a) k := by
  obtain ⟨i0, i1, i2, i3, i4, i5, i6, i7, i8⟩ := idx t
  funext j; apply Fin.ext; refine (Pipeline.Window.rect_emb_val win0_1 t _ j).trans ?_; rw [i1]
  fin_cases j <;> simp [row, ix2, win0_1] <;> omega
theorem e2 (t : Fin cfg0.N) (a : Fin 512) (k : Fin 1024) : ((win0_2.blk t).view.emb (ix2 a k) : S8192x1024.Idx) = ix2 (row t a) k := by
  obtain ⟨i0, i1, i2, i3, i4, i5, i6, i7, i8⟩ := idx t
  funext j; apply Fin.ext; refine (Pipeline.Window.rect_emb_val win0_2 t _ j).trans ?_; rw [i2]
  fin_cases j <;> simp [row, ix2, win0_2] <;> omega
theorem e3 (t : Fin cfg0.N) (a : Fin 512) (k : Fin 3072) : ((win0_3.blk t).view.emb (ix2 a k) : S8192x3072.Idx) = ix2 (row t a) k := by
  obtain ⟨i0, i1, i2, i3, i4, i5, i6, i7, i8⟩ := idx t
  funext j; apply Fin.ext; refine (Pipeline.Window.rect_emb_val win0_3 t _ j).trans ?_; rw [i3]
  fin_cases j <;> simp [row, ix2, win0_3] <;> omega
theorem e4 (t : Fin cfg0.N) (a : Fin 512) (k : Fin 640) : ((win0_4.blk t).view.emb (ix2 a k) : S8192x640.Idx) = ix2 (row t a) k := by
  obtain ⟨i0, i1, i2, i3, i4, i5, i6, i7, i8⟩ := idx t
  funext j; apply Fin.ext; refine (Pipeline.Window.rect_emb_val win0_4 t _ j).trans ?_; rw [i4]
  fin_cases j <;> simp [row, ix2, win0_4] <;> omega
theorem e5 (t : Fin cfg0.N) (a : Fin 4736) (k : Fin 1024) : ((win0_5.blk t).view.emb (ix2 a k) : S4736x1024.Idx) = ix2 a k := by
  obtain ⟨i0, i1, i2, i3, i4, i5, i6, i7, i8⟩ := idx t
  funext j; apply Fin.ext; refine (Pipeline.Window.rect_emb_val win0_5 t _ j).trans ?_; rw [i5]
  fin_cases j <;> simp [row, ix2, win0_5] <;> omega
theorem e6 (t : Fin cfg0.N) (k : Fin 1024) : ((win0_6.blk t).view.emb (ix2 0 k) : S1x1024.Idx) = ix2 0 k := by
  obtain ⟨i0, i1, i2, i3, i4, i5, i6, i7, i8⟩ := idx t
  funext j; apply Fin.ext; refine (Pipeline.Window.rect_emb_val win0_6 t _ j).trans ?_; rw [i6]
  fin_cases j <;> simp [ix2, win0_6]
theorem e7 (t : Fin cfg0.N) (a : Fin 512) (k : Fin 1024) : ((win0_7.blk t).view.emb (ix2 a k) : S8192x1024.Idx) = ix2 (row t a) k := by
  obtain ⟨i0, i1, i2, i3, i4, i5, i6, i7, i8⟩ := idx t
  funext j; apply Fin.ext; refine (Pipeline.Window.rect_emb_val win0_7 t _ j).trans ?_; rw [i7]
  fin_cases j <;> simp [row, ix2, win0_7] <;> omega

theorem h_g (k : Fin 1024) : aG m c (ix2 0 k) = mG m c (ix1 k) := by
  have : aG m c = fun i => shapeCast main_v16.ty.shape (mG m c) shapeCasts_S1024_S1x1024 i := by
    unfold aG V
    after_reads_simp
  refine (congrFun this _).trans ?_
  pointwise

theorem b0 (t : Fin cfg0.N) (a : Fin 512) (k : Fin 1024) : (iblk m c 0 t : Vec Ideal S512x1024 .f32) (ix2 a k) = mX m c (ix2 (row t a) k) :=
  (show _ = V m c main_arg0 ((win0_0.blk t).view.emb (ix2 a k)) from rfl).trans ((congrArg (V m c main_arg0) (e0 t a k)).trans (congrFun (V_main_arg0 m c) _))
theorem b1 (t : Fin cfg0.N) (a : Fin 512) (k : Fin 1024) : (iblk m c 1 t : Vec Ideal S512x1024 .f32) (ix2 a k) = mD m c (ix2 (row t a) k) :=
  (show _ = V m c main_arg1 ((win0_1.blk t).view.emb (ix2 a k)) from rfl).trans ((congrArg (V m c main_arg1) (e1 t a k)).trans (congrFun (V_main_arg1 m c) _))
theorem b2 (t : Fin cfg0.N) (a : Fin 512) (k : Fin 1024) : (iblk m c 2 t : Vec Ideal S512x1024 .bf16) (ix2 a k) = mR m c (ix2 (row t a) k) :=
  (show _ = V m c main_arg2 ((win0_2.blk t).view.emb (ix2 a k)) from rfl).trans ((congrArg (V m c main_arg2) (e2 t a k)).trans (congrFun (V_main_arg2 m c) _))
theorem b3 (t : Fin cfg0.N) (a : Fin 512) (k : Fin 3072) : (iblk m c 3 t : Vec Ideal S512x3072 .bf16) (ix2 a k) = mT m c (ix2 (row t a) k) :=
  (show _ = V m c main_arg3 ((win0_3.blk t).view.emb (ix2 a k)) from rfl).trans ((congrArg (V m c main_arg3) (e3 t a k)).trans (congrFun (V_main_arg3 m c) _))
theorem b4 (t : Fin cfg0.N) (a : Fin 512) (k : Fin 640) : (iblk m c 4 t : Vec Ideal S512x640 .bf16) (ix2 a k) = mM m c (ix2 (row t a) k) :=
  (show _ = V m c main_arg4 ((win0_4.blk t).view.emb (ix2 a k)) from rfl).trans ((congrArg (V m c main_arg4) (e4 t a k)).trans (congrFun (V_main_arg4 m c) _))
theorem b5 (t : Fin cfg0.N) (a : Fin 4736) (k : Fin 1024) : (iblk m c 5 t : Vec Ideal S4736x1024 .bf16) (ix2 a k) = Wk (mW m c) a k :=
  (show _ = V m c main_v15 ((win0_5.blk t).view.emb (ix2 a k)) from rfl).trans ((congrArg (V m c main_v15) (e5 t a k)).trans (h_w m c a k))
theorem b6 (t : Fin cfg0.N) (k : Fin 1024) : (iblk m c 6 t : Vec Ideal S1x1024 .f32) (ix2 0 k) = mG m c (ix1 k) :=
  (show _ = V m c main_v16 ((win0_6.blk t).view.emb (ix2 0 k)) from rfl).trans ((congrArg (V m c main_v16) (e6 t k)).trans (h_g m c k))

/-- What a point stores for the input's gradient. -/
theorem pay (t : Fin cfg0.N) (y : S512x1024.Idx) :
    k0_pay2 (F := Ideal) (five (iblk m c 2 t) (iblk m c 3 t) (iblk m c 4 t) (iblk m c 5 t)) (iblk m c 0 t) (k0_pay6 (iblk m c 0 t)) (iblk m c 6 t) (iblk m c 1 t) y
      = dx (mX m c) (mD m c) (mR m c) (mT m c) (mM m c) (mW m c) (mG m c) ((win0_7.blk t).view.emb y) := by
  idx_vars y
  rw [p6, e7]
  simp only [p5, b0, b1, b2, b3, b4, b5, b6]
  rfl

theorem final7 : (dats m 0 c).arrAt 7 cfg0.N = dx (mX m c) (mD m c) (mR m c) (mT m c) (mM m c) (mW m c) (mG m c) := by
  refine (dats m 0 c).arrAt_eq_of_covers 7 _ (by decide +kernel) fun t hf y => ?_
  blk_simp
  rw [after0_7]
  by_cases h0 : t.val % 16 = 0
  · rw [outsAt0_A m c t h0]
    frame_out
    exact pay m c t _
  · rw [outsAt0_B m c t h0]
    frame_out
    exact pay m c t _

/-- What a point adds to the weight's gradient. -/
def term (t : Fin cfg0.N) (j : S1x1024.Idx) : EReal :=
  ∑ a : Fin 512, Y (mR m c) (mT m c) (mM m c) (mW m c) (row t a) (j 1) * (mX m c (ix2 (row t a) (j 1)) * Rms.scale N e (fun l => mX m c (ix2 (row t a) l)))

theorem acc (t : Fin cfg0.N) (z : Vec Ideal S1x1024 .f32) (j : S1x1024.Idx) :
    k0_pay3 (F := Ideal) (five (iblk m c 2 t) (iblk m c 3 t) (iblk m c 4 t) (iblk m c 5 t)) (iblk m c 0 t) (k0_pay6 (iblk m c 0 t)) z j = z j + term m c t j := by
  idx_vars j
  obtain rfl : j0 = 0 := Fin.eq_zero _
  rw [p1]
  simp only [p5, b0, b2, b3, b4, b5]
  rfl

theorem final8 : (dats m 0 c).arrAt 8 cfg0.N = fun j => dg (mX m c) (mR m c) (mT m c) (mM m c) (mW m c) (j 1) := by
  refine (dats m 0 c).arrAt_eq_of_after_last 8 t0_15 (by decide +kernel) _ fun j => ?_
  blk_simp
  rw [after0_8]
  refine (Pipeline.eq_sum_fin_of_reset_step_apply_last (fun n h => (outsAt0 m c n h).2) 16 (fun _ => 0) (fun p => term m c p) (fun t h j => ?_) (fun t h j => ?_) (by decide) t0_15 rfl j).trans ?_
  · rw [outsAt0_A m c t h]
    frame_out
    refine (acc m c t _ j).trans (congrArg (· + _) ?_)
    idx_vars j
    pointwise [k0_pay4]
  · rw [outsAt0_B m c t h]
    frame_out
    exact acc m c t _ j
  · rw [zero_add]
    refine (Fin.sum_points_lanes_congr (A := 1) (L := 8192) 16 (g := fun _ i => Y (mR m c) (mT m c) (mM m c) (mW m c) i (j 1) * (mX m c (ix2 i (j 1)) * Rms.scale N e (fun l => mX m c (ix2 i l)))) fun t k ha hl => ?_).trans (Fin.sum_univ_one _)
    have hr : row t k = ⟨t.val % 16 * 512 + k.val, hl⟩ := Fin.ext (by have := t.isLt; change t.val < 16 at this; show 512 * t.val + k.val = t.val % 16 * 512 + k.val; omega)
    rw [hr]

end Cert.InprojValue
end
-- ==== Proof.InprojRef.lean ====
/- The value of the reference of the input projection's gradient, entry by entry. -/
module

public import proofs.«01_k».proof.Proof.Gen.InprojReferenceIdeal.Read
public import proofs.«01_k».proof.Proof.Rms
public import Idealize.ShloMosaic.Lib.Pointwise

@[expose] public section

set_option maxRecDepth 16384

noncomputable section

namespace Cert.InprojRef

open Idealize.ShloMosaic Idealize.ShloMosaic.TcCoe
open Cert.InprojReferenceIdeal Cert.InprojReferenceIdeal.Read

abbrev N : EReal := Ideal.ofBits .f32 0x44800000#32
abbrev e : EReal := Ideal.ofBits .f32 0x358637BD#32
abbrev H : EReal := Ideal.ofBits .f32 0xBF000000#32

variable (x d dr : S8192x1024.Idx → EReal) (dt : S8192x3072.Idx → EReal) (dm : S8192x640.Idx → EReal) (w : S1024x4672.Idx → EReal) (g : S1024.Idx → EReal)

/-- The cotangents side by side in the weight's column order; k_rope's holds its own and, the other way round, its rotation's. -/
def C (dr : Fin 1024 → EReal) (dt : Fin 3072 → EReal) (dm : Fin 640 → EReal) (k : Fin 4672) : EReal :=
  if h : k.val < 1024 then dr ⟨k.val, h⟩
  else if h : k.val - 1024 < 1024 then dt ⟨k.val - 1024, by omega⟩
  else if h : k.val - 1024 - 1024 < 256 then dm ⟨k.val - 1024 - 1024, by omega⟩
  else if h : k.val - 1024 - 1024 - 256 < 256 then dm ⟨256 + (k.val - 1024 - 1024 - 256), by omega⟩
  else if h : k.val - 1024 - 1024 - 256 - 256 < 64 then
    (dm ⟨512 + (k.val - 1024 - 1024 - 256 - 256), by omega⟩
      + if h' : k.val - 1024 - 1024 - 256 - 256 < 32 then dm ⟨576 + (32 + (k.val - 1024 - 1024 - 256 - 256)), by omega⟩ else 0)
      + if h' : 32 ≤ k.val - 1024 - 1024 - 256 - 256 ∧ k.val - 1024 - 1024 - 256 - 256 - 32 < 32 then -dm ⟨576 + (k.val - 1024 - 1024 - 256 - 256 - 32), by omega⟩ else 0
  else if h : k.val - 1024 - 1024 - 256 - 256 - 64 < 1024 then dt ⟨1024 + (k.val - 1024 - 1024 - 256 - 256 - 64), by omega⟩
  else dt ⟨2048 + (k.val - 1024 - 1024 - 256 - 256 - 64 - 1024), by omega⟩

/-- The cotangent of the norm's output. -/
def Y (dr : S8192x1024.Idx → EReal) (dt : S8192x3072.Idx → EReal) (dm : S8192x640.Idx → EReal) (w : S1024x4672.Idx → EReal) (i : Fin 8192) (j : Fin 1024) : EReal :=
  ∑ k : Fin 4672, C (fun k => dr (ix2 i k)) (fun k => dt (ix2 i k)) (fun k => dm (ix2 i k)) k * w (ix2 j k)

theorem r45 (i : Fin 8192) (k : Fin 4672) : val_main_v45 (F := Ideal) dr dt dm (ix2 i k) = C (fun k => dr (ix2 i k)) (fun k => dt (ix2 i k)) (fun k => dm (ix2 i k)) k := by
  pointwise [val_main_v45]
  pointwise [val_main_v44, val_main_v43, val_main_v42, val_main_v41, val_main_v40, val_main_v39, val_main_v38, val_main_v9, val_main_v8, val_main_v7, val_main_v6, val_main_v5, val_main_v4, val_main_v3, val_main_v2, val_main_v1, val_main_v0, val_main_cst_3, val_main_cst_4]
  rfl

theorem r46 (i : Fin 8192) (j : Fin 1024) : val_main_v46 (F := Ideal) dr dt dm w (ix2 i j) = Y dr dt dm w i j := by
  unfold Y
  simp only [← r45]
  pointwise [val_main_v46]

theorem r16 (i : Fin 8192) : val_main_v16 (F := Ideal) x (ix2 i 0) = Ideal.div (∑ j : Fin 1024, x (ix2 i j) * x (ix2 i j)) N + e := by
  pointwise [val_main_v16, val_main_v15, val_main_v14, val_main_v13, val_main_v12, val_main_v11, val_main_v10, val_main_cst, val_main_cst_0, val_main_cst_1]

theorem r17 (i : Fin 8192) : val_main_v17 (F := Ideal) x (ix2 i 0) = Rms.scale N e (fun j => x (ix2 i j)) := by
  unfold Rms.scale
  rw [← r16]
  pointwise [val_main_v17]

theorem r20 (i : Fin 8192) : val_main_v20 (F := Ideal) x (ix2 i 0) = H * Ideal.div (Rms.scale N e (fun j => x (ix2 i j))) (Ideal.div (∑ j : Fin 1024, x (ix2 i j) * x (ix2 i j)) N + e) := by
  rw [← r16, ← r17]
  pointwise [val_main_v20, val_main_v19, val_main_v18, val_main_cst_2]

theorem r51 (i : Fin 8192) (j : Fin 1024) : val_main_v51 (F := Ideal) dr dt dm w g (ix2 i j) = Y dr dt dm w i j * g (ix1 j) := by
  rw [← r46]
  pointwise [val_main_v51, val_main_v50, val_main_v23]

theorem r55 (i : Fin 8192) : val_main_v55 (F := Ideal) x dr dt dm w g (ix2 i 0) = ∑ j : Fin 1024, x (ix2 i j) * (Y dr dt dm w i j * g (ix1 j)) := by
  simp only [← r51]
  pointwise [val_main_v55, val_main_v54, val_main_v53, val_main_cst_7]

theorem r62 (i : Fin 8192) (j : Fin 1024) : val_main_v62 (F := Ideal) x dr dt dm w g (ix2 i j) = Rms.inner N e H (fun j => x (ix2 i j)) (fun j => g (ix1 j)) (fun j => Y dr dt dm w i j) := by
  unfold Rms.inner
  rw [← r55, ← r20]
  pointwise [val_main_v62, val_main_v61, val_main_v60, val_main_v59, val_main_v58, val_main_cst_8, val_main_cst_9]
  exact Fin.sum_univ_one _

theorem r67 (i : Fin 8192) (j : Fin 1024) : val_main_v67 (F := Ideal) x d dr dt dm w g (ix2 i j)
    = d (ix2 i j) + Rms.rules N e H (fun j => x (ix2 i j)) (fun j => g (ix1 j)) (fun j => Y dr dt dm w i j) j := by
  unfold Rms.rules
  rw [← r62 x dr dt dm w g i j, ← r51, ← r17]
  pointwise [val_main_v67, val_main_v66, val_main_v65, val_main_v64, val_main_v63, val_main_v57, val_main_v56]

theorem r68 (j : Fin 1024) : val_main_v68 (F := Ideal) x dr dt dm w (ix2 0 j)
    = ∑ i : Fin 8192, (x (ix2 i j) * Rms.scale N e (fun j => x (ix2 i j))) * Y dr dt dm w i j := by
  simp only [← r46, ← r17]
  pointwise [val_main_v68, val_main_v52, val_main_v49, val_main_v48, val_main_v47, val_main_v22, val_main_v21, val_main_cst_5, val_main_cst_6]
  exact Fin.sum_univ_one _

end Cert.InprojRef
end
-- ==== Proof.InprojSum.lean ====
/- The cotangent of the input projection's norm: the reference's one product over all columns is the kernel's five. -/
module

public import proofs.«01_k».proof.Proof.InprojValue
public import proofs.«01_k».proof.Proof.InprojRef

@[expose] public section

set_option maxRecDepth 16384

noncomputable section

namespace Cert.InprojSum

open Idealize.ShloMosaic Idealize.ShloMosaic.TcCoe
open Cert.Extended
open Cert.InprojWeight (Wk wk1 wk2 wk3 wk4 wk5)
open Cert.InprojRef (C)
open Cert.InprojReferenceIdeal (S1024x4672)

theorem peel (n m : ℕ) (f : Fin (n + m) → EReal) : ∑ k, f k = ∑ k : Fin n, f ⟨k.val, by omega⟩ + ∑ k : Fin m, f ⟨n + k.val, by omega⟩ :=
  Fin.sum_univ_add f

theorem sum4672 (f : Fin 4672 → EReal) : ∑ k, f k = (∑ k : Fin 1024, f ⟨k.val, by omega⟩) + (∑ k : Fin 1024, f ⟨1024 + k.val, by omega⟩) + (∑ k : Fin 512, f ⟨2048 + k.val, by omega⟩)
    + ((∑ k : Fin 32, f ⟨2560 + k.val, by omega⟩) + (∑ k : Fin 32, f ⟨2592 + k.val, by omega⟩)) + (∑ k : Fin 1024, f ⟨2624 + k.val, by omega⟩) + ∑ k : Fin 1024, f ⟨3648 + k.val, by omega⟩ := by
  rw [show ∑ k, f k = _ from peel 3648 1024 f, show ∑ k : Fin 3648, f ⟨k.val, by omega⟩ = _ from peel 2624 1024 fun k => f ⟨k.val, by omega⟩,
    show ∑ k : Fin 2624, f ⟨k.val, by omega⟩ = _ from peel 2592 32 fun k => f ⟨k.val, by omega⟩, show ∑ k : Fin 2592, f ⟨k.val, by omega⟩ = _ from peel 2560 32 fun k => f ⟨k.val, by omega⟩,
    show ∑ k : Fin 2560, f ⟨k.val, by omega⟩ = _ from peel 2048 512 fun k => f ⟨k.val, by omega⟩, show ∑ k : Fin 2048, f ⟨k.val, by omega⟩ = _ from peel 1024 1024 fun k => f ⟨k.val, by omega⟩]
  abel

theorem sum640 (f : Fin 640 → EReal) : ∑ k, f k = (∑ k : Fin 512, f ⟨k.val, by omega⟩) + ((∑ k : Fin 32, f ⟨512 + k.val, by omega⟩) + (∑ k : Fin 32, f ⟨544 + k.val, by omega⟩))
    + (∑ k : Fin 32, f ⟨576 + k.val, by omega⟩) + ∑ k : Fin 32, f ⟨608 + k.val, by omega⟩ := by
  rw [show ∑ k, f k = _ from peel 608 32 f, show ∑ k : Fin 608, f ⟨k.val, by omega⟩ = _ from peel 576 32 fun k => f ⟨k.val, by omega⟩,
    show ∑ k : Fin 576, f ⟨k.val, by omega⟩ = _ from peel 544 32 fun k => f ⟨k.val, by omega⟩, show ∑ k : Fin 544, f ⟨k.val, by omega⟩ = _ from peel 512 32 fun k => f ⟨k.val, by omega⟩]
  abel

variable (dr : Fin 1024 → EReal) (dt : Fin 3072 → EReal) (dm : Fin 640 → EReal)

theorem c1 (k : Fin 1024) : C dr dt dm ⟨k.val, by omega⟩ = dr k := by
  unfold C; rw [dif_pos k.isLt]
theorem c2 (k : Fin 1024) : C dr dt dm ⟨1024 + k.val, by omega⟩ = dt ⟨k.val, by omega⟩ := by
  unfold C; rw [dif_neg (by simp only []; omega), dif_pos (by simp only []; omega)]; exact congrArg dt (Fin.ext (by simp only []; omega))
theorem c3 (k : Fin 512) : C dr dt dm ⟨2048 + k.val, by omega⟩ = dm ⟨k.val, by omega⟩ := by
  unfold C; rw [dif_neg (by simp only []; omega), dif_neg (by simp only []; omega)]
  by_cases h : k.val < 256
  · rw [dif_pos (by simp only []; omega)]; exact congrArg dm (Fin.ext (by simp only []; omega))
  · rw [dif_neg (by simp only []; omega), dif_pos (by simp only []; omega)]; exact congrArg dm (Fin.ext (by simp only []; omega))
theorem c4 (k : Fin 32) : C dr dt dm ⟨2560 + k.val, by omega⟩ = dm ⟨512 + k.val, by omega⟩ + dm ⟨608 + k.val, by omega⟩ := by
  unfold C
  rw [dif_neg (by simp only []; omega), dif_neg (by simp only []; omega), dif_neg (by simp only []; omega), dif_neg (by simp only []; omega), dif_pos (by simp only []; omega), dif_pos (by simp only []; omega), dif_neg (by simp only []; omega), add_zero]
  exact congrArg₂ (fun a b => dm a + dm b) (Fin.ext (by simp only []; omega)) (Fin.ext (by simp only []; omega))
theorem c5 (k : Fin 32) : C dr dt dm ⟨2592 + k.val, by omega⟩ = dm ⟨544 + k.val, by omega⟩ + -dm ⟨576 + k.val, by omega⟩ := by
  unfold C
  rw [dif_neg (by simp only []; omega), dif_neg (by simp only []; omega), dif_neg (by simp only []; omega), dif_neg (by simp only []; omega), dif_pos (by simp only []; omega), dif_neg (by simp only []; omega), dif_pos (by simp only []; omega), add_zero]
  exact congrArg₂ (fun a b => dm a + -dm b) (Fin.ext (by simp only []; omega)) (Fin.ext (by simp only []; omega))
theorem c6 (k : Fin 1024) : C dr dt dm ⟨2624 + k.val, by omega⟩ = dt ⟨1024 + k.val, by omega⟩ := by
  unfold C
  rw [dif_neg (by simp only []; omega), dif_neg (by simp only []; omega), dif_neg (by simp only []; omega), dif_neg (by simp only []; omega), dif_neg (by simp only []; omega), dif_pos (by simp only []; omega)]
  exact congrArg dt (Fin.ext (by simp only []; omega))
theorem c7 (k : Fin 1024) : C dr dt dm ⟨3648 + k.val, by omega⟩ = dt ⟨2048 + k.val, by omega⟩ := by
  unfold C
  rw [dif_neg (by simp only []; omega), dif_neg (by simp only []; omega), dif_neg (by simp only []; omega), dif_neg (by simp only []; omega), dif_neg (by simp only []; omega), dif_neg (by simp only []; omega)]
  exact congrArg dt (Fin.ext (by simp only []; omega))

theorem add_mul {a b c : EReal} (ha : IsReal a) (hb : IsReal b) (hc : IsReal c) : (a + b) * c = a * c + b * c := by
  obtain ⟨a, rfl⟩ := ha; obtain ⟨b, rfl⟩ := hb; obtain ⟨c, rfl⟩ := hc
  rw [← EReal.coe_add, ← EReal.coe_mul, ← EReal.coe_mul, ← EReal.coe_mul, ← EReal.coe_add, _root_.add_mul]

set_option maxHeartbeats 1000000 in
/-- The two forms of the cotangent agree where the rotated columns' factors are reals. -/
theorem join (W : S1024x4672.Idx → EReal) (j : Fin 1024) (hm : ∀ k, IsReal (dm k)) (hW : ∀ i, IsReal (W i)) :
    ∑ k : Fin 4672, C dr dt dm k * W (ix2 j k) = InprojValue.Z dr dt dm (fun k => Wk W k j) := by
  have hn : ∀ k, IsReal (-dm k) := fun k => by
    obtain ⟨r, h⟩ := hm k
    exact ⟨-r, by rw [h, EReal.coe_neg]⟩
  rw [sum4672]
  unfold InprojValue.Z
  rw [sum640]
  simp only [c1, c2, c3, c4, c5, c6, c7, add_mul (hm _) (hm _) (hW _), add_mul (hm _) (hn _) (hW _), Finset.sum_add_distrib]
  have s1 : ∀ k : Fin 1024, Wk W ⟨k.val, by omega⟩ j = W (ix2 j ⟨k.val, by omega⟩) := fun k => (wk1 W _ j (by simp only []; omega) rfl).symm
  have s2 : ∀ k : Fin 1024, Wk W ⟨1024 + k.val, by omega⟩ j = W (ix2 j ⟨1024 + k.val, by omega⟩) := fun k => (wk1 W _ j (by simp only []; omega) rfl).symm
  have s3 : ∀ k : Fin 1024, Wk W ⟨2048 + k.val, by omega⟩ j = W (ix2 j ⟨2624 + k.val, by omega⟩) := fun k => (wk2 W _ j (by simp only []; omega) (by simp only []; omega) (by simp only []; omega)).symm
  have s4 : ∀ k : Fin 1024, Wk W ⟨3072 + k.val, by omega⟩ j = W (ix2 j ⟨3648 + k.val, by omega⟩) := fun k => (wk2 W _ j (by simp only []; omega) (by simp only []; omega) (by simp only []; omega)).symm
  have s5 : ∀ k : Fin 512, Wk W ⟨4096 + k.val, by omega⟩ j = W (ix2 j ⟨2048 + k.val, by omega⟩) := fun k => (wk3 W _ j (by simp only []; omega) (by simp only []; omega) (by simp only []; omega)).symm
  have s6 : ∀ k : Fin 32, Wk W ⟨4096 + (512 + k.val), by omega⟩ j = W (ix2 j ⟨2560 + k.val, by omega⟩) := fun k => (wk3 W _ j (by simp only []; omega) (by simp only []; omega) (by simp only []; omega)).symm
  have s7 : ∀ k : Fin 32, Wk W ⟨4096 + (544 + k.val), by omega⟩ j = W (ix2 j ⟨2592 + k.val, by omega⟩) := fun k => (wk3 W _ j (by simp only []; omega) (by simp only []; omega) (by simp only []; omega)).symm
  have s8 : ∀ k : Fin 32, Wk W ⟨4096 + (576 + k.val), by omega⟩ j = -W (ix2 j ⟨2592 + k.val, by omega⟩) := fun k => (wk4 W _ j (by simp only []; omega) (by simp only []; omega) (by simp only []; omega)).symm
  have s9 : ∀ k : Fin 32, Wk W ⟨4096 + (608 + k.val), by omega⟩ j = W (ix2 j ⟨2560 + k.val, by omega⟩) := fun k => (wk5 W _ j (by simp only []; omega) (by simp only []; omega)).symm
  simp only [s1, s2, s3, s4, s5, s6, s7, s8, s9, neg_mul, mul_neg]
  abel

end Cert.InprojSum
end
-- ==== Proof.Inproj.lean ====
/- The five claims about the gradients of the step's input and of the mixer's norm's weight. -/
module

public import proofs.«01_k».proof.Proof.InprojSum
public import proofs.«01_k».proof.Proof.Finite
public import proofs.«01_k».proof.Proof.Gen.InprojReferenceIdeal.Run
public import proofs.«01_k».proof.Proof.Gen.InprojKernel
public import proofs.«01_k».proof.Proof.Gen.InprojKernel.Frame
public import proofs.«01_k».proof.Proof.Gen.Pre_inp_finite
public import Idealize.ShloMosaic.Adequacy
public import Idealize.ShloMosaic.Init
public import Idealize.ShloMosaic.Lib.Quiescent

@[expose] public section

set_option maxRecDepth 16384

noncomputable section

namespace Cert.Inproj

open Idealize.ShloMosaic Idealize.ShloMosaic.TcCoe Idealize.SL.Sem
open Cert.Extended Cert.Finite
open Cert.Pre_inp_finite (S8192x3072 S8192x1024 S8192x640 S1024x4672 S1024)

/-- Under the precondition the arguments that reach the norm hold reals. -/
theorem reals (x0 x1 x2 : S8192x1024.Idx → EReal) (x3 : S8192x3072.Idx → EReal) (x4 : S8192x640.Idx → EReal) (x5 : S1024x4672.Idx → EReal) (x6 : S1024.Idx → EReal)
    (h : @Cert.Pre_inp_finite.fn Cert.Pre_inp_finite.Gen.facts Ideal _ x0 x1 x2 x3 x4 x5 x6 = fun _ => 1#1) :
    (∀ i, IsReal (x0 i)) ∧ (∀ i, IsReal (x2 i)) ∧ (∀ i, IsReal (x3 i)) ∧ (∀ i, IsReal (x4 i)) ∧ (∀ i, IsReal (x5 i)) ∧ (∀ i, IsReal (x6 i)) := by
  have e := congrFun h ix0
  unfold Cert.Pre_inp_finite.fn at e
  obtain ⟨e, e6⟩ := and_true e
  obtain ⟨e, e5⟩ := and_true e
  obtain ⟨e, e4⟩ := and_true e
  obtain ⟨e, e3⟩ := and_true e
  obtain ⟨e0, e2⟩ := and_true e
  exact ⟨fun i => ⟨_, real_of_all x0 _ _ _ _ e0 i⟩, fun i => ⟨_, real_of_all x2 _ _ _ _ e2 i⟩, fun i => ⟨_, real_of_all x3 _ _ _ _ e3 i⟩,
    fun i => ⟨_, real_of_all x4 _ _ _ _ e4 i⟩, fun i => ⟨_, real_of_all x5 _ _ _ _ e5 i⟩, fun i => ⟨_, real_of_all x6 _ _ _ _ e6 i⟩⟩

theorem isReal_C {dr : Fin 1024 → EReal} {dt : Fin 3072 → EReal} {dm : Fin 640 → EReal} (h0 : ∀ k, IsReal (dr k)) (h1 : ∀ k, IsReal (dt k)) (h2 : ∀ k, IsReal (dm k)) (k : Fin 4672) :
    IsReal (Cert.InprojRef.C dr dt dm k) := by
  have z : IsReal 0 := ⟨0, rfl⟩
  have n : ∀ k, IsReal (-dm k) := fun k => by
    obtain ⟨r, h⟩ := h2 k
    exact ⟨-r, by rw [h, EReal.coe_neg]⟩
  unfold Cert.InprojRef.C
  split
  · exact h0 _
  split
  · exact h1 _
  split
  · exact h2 _
  split
  · exact h2 _
  split
  · refine ((h2 _).add ?_).add ?_
    · split
      · exact h2 _
      · exact z
    · split
      · exact n _
      · exact z
  split <;> exact h1 _

theorem isReal_Y (dr : S8192x1024.Idx → EReal) (dt : S8192x3072.Idx → EReal) (dm : S8192x640.Idx → EReal) (w : S1024x4672.Idx → EReal)
    (h0 : ∀ k, IsReal (dr k)) (h1 : ∀ k, IsReal (dt k)) (h2 : ∀ k, IsReal (dm k)) (h3 : ∀ k, IsReal (w k)) (i : Fin 8192) (j : Fin 1024) : IsReal (Cert.InprojRef.Y dr dt dm w i j) :=
  IsReal.sum fun k => (isReal_C (fun _ => h0 _) (fun _ => h1 _) (fun _ => h2 _) k).mul (h3 _)

theorem frame_kernel : Cert.quiescent_InprojKernel (hInprojKernel := Cert.InprojKernel.Gen.facts) :=
  fun m ρ _ => Cert.InprojKernel.Gen.frame m ρ

theorem frame_ideal : Cert.quiescent_InprojKernelIdeal (hInprojKernelIdeal := Cert.InprojKernelIdeal.Gen.facts) :=
  fun m ρ _ => Cert.InprojKernelIdeal.Gen.frame m ρ

theorem frame_ideal_pre : Cert.quiescent_InprojKernelIdeal_pre_inp_finite (hInprojKernelIdeal := Cert.InprojKernelIdeal.Gen.facts) (hPre_inp_finite := Cert.Pre_inp_finite.Gen.facts) :=
  fun m ρ _ => Cert.InprojKernelIdeal.Gen.frame m ρ

theorem frame_ref : Cert.quiescent_InprojReferenceIdeal (hInprojReferenceIdeal := Cert.InprojReferenceIdeal.Gen.facts) :=
  fun m ρ _ => (θ_run Cert.InprojReferenceIdeal.defs _ _).mono (fun r h => ⟨fun c => (h c).2.2, sem_eq_zero_of_no_sems rfl r.2⟩) (Cert.InprojReferenceIdeal.Value.run m ρ)

theorem frame_ref_pre : Cert.quiescent_InprojReferenceIdeal_pre_inp_finite (hInprojReferenceIdeal := Cert.InprojReferenceIdeal.Gen.facts) (hPre_inp_finite := Cert.Pre_inp_finite.Gen.facts) :=
  fun m ρ _ => frame_ref m ρ trivial

/-- Nothing was rewritten. -/
theorem preserves : Cert.preserves_InprojKernel_InprojKernelIdeal := trivial

/-- Kernel and reference compute one function of arguments that are reals. -/
theorem algebraic : Cert.algebraic_InprojKernelIdeal_InprojReferenceIdeal_pre_inp_finite (hInprojKernelIdeal := Cert.InprojKernelIdeal.Gen.facts) (hInprojReferenceIdeal := Cert.InprojReferenceIdeal.Gen.facts) (hPre_inp_finite := Cert.Pre_inp_finite.Gen.facts) := by
  intro m g m' g' hpre hag
  refine ⟨_, _, Cert.InprojKernelIdeal.Value.run_blocks m g, (θ_run Cert.InprojReferenceIdeal.defs _ _).mono (fun r h c => ⟨(h c).1.trans ?_, (h c).2.1.trans ?_, (h c).2.2⟩) (Cert.InprojReferenceIdeal.Value.run m' g')⟩
  · obtain ⟨h0, h2, h3, h4, h5, h6⟩ := reals _ _ _ _ _ _ _ (hpre c)
    rw [Cert.InprojReferenceIdeal.Read.val_main_v67_eq, (hag c).1, (hag c).2.1, (hag c).2.2.1, (hag c).2.2.2.1, (hag c).2.2.2.2.1, (hag c).2.2.2.2.2.1, (hag c).2.2.2.2.2.2]
    refine Eq.trans ?_ (Cert.InprojValue.final7 m c).symm
    funext i
    idx_vars i
    have hy : ∀ j, Cert.InprojRef.Y (InprojWeight.mR m c) (InprojWeight.mT m c) (InprojWeight.mM m c) (InprojWeight.mW m c) i0 j
        = Cert.InprojValue.Y (InprojWeight.mR m c) (InprojWeight.mT m c) (InprojWeight.mM m c) (InprojWeight.mW m c) i0 j :=
      fun j => Cert.InprojSum.join _ _ _ _ j (fun k => h4 _) h5
    refine (Cert.InprojRef.r67 _ _ _ _ _ _ _ _ _).trans ?_
    rw [← Rms.hand_eq_rules_1024 (fun j => h0 _) (fun j => h6 _) (fun j => isReal_Y _ _ _ _ h2 h3 h4 h5 _ j)]
    exact congrArg (fun y : Fin 1024 → EReal => (HAdd.hAdd (α := EReal) (β := EReal) (γ := EReal) (InprojWeight.mD m c (ix2 i0 i1)) (Rms.hand InprojValue.N InprojValue.e (fun j => InprojWeight.mX m c (ix2 i0 j)) (fun j => InprojWeight.mG m c (ix1 j)) y i1))) (funext hy)
  · obtain ⟨h0, h2, h3, h4, h5, h6⟩ := reals _ _ _ _ _ _ _ (hpre c)
    rw [Cert.InprojReferenceIdeal.Read.val_main_v68_eq, (hag c).1, (hag c).2.2.1, (hag c).2.2.2.1, (hag c).2.2.2.2.1, (hag c).2.2.2.2.2.1]
    refine Eq.trans ?_ (Cert.InprojValue.final8 m c).symm
    funext i
    idx_vars i
    obtain rfl : i0 = 0 := Fin.eq_zero _
    refine (Cert.InprojRef.r68 _ _ _ _ _ _).trans (Finset.sum_congr rfl fun k _ => ?_)
    refine (mul_comm _ _).trans ?_
    exact congrArg (· * _) (Cert.InprojSum.join _ _ _ (InprojWeight.mW m c) i1 (fun k => h4 _) h5)

end Cert.Inproj
end
-- ==== Proof.MergePoint.lean ====
/- The merge's gradient at one entry: the functions it is made of, and what each stored block holds in terms of them. -/
module

public import proofs.«01_k».proof.Defs
public import proofs.«01_k».proof.Proof.Gen.MergeKernelIdeal.Value
public import Idealize.ShloMosaic.Lib.Pipeline.ValueKit
public import Idealize.ShloMosaic.Lib.Pointwise

@[expose] public section

set_option maxRecDepth 16384

noncomputable section

namespace Cert.MergePoint

open Idealize.ShloMosaic Idealize.ShloMosaic.TcCoe Idealize.SL.Sem
open Cert.MergeKernelIdeal Cert.MergeKernelIdeal.Gen

abbrev one : EReal := Ideal.ofBits .f32 0x3F800000#32
abbrev half : EReal := Ideal.ofBits .f32 0x3F000000#32
/-- The gelu's outer factor, and the coefficient of its cube with three times that coefficient. -/
abbrev s : EReal := Ideal.ofBits .f32 0x3F4C422A#32
abbrev cube : EReal := ((8943 / 200000 : ℝ) : EReal)
abbrev cube3 : EReal := ((26829 / 200000 : ℝ) : EReal)

/-- The logistic function. -/
def sg (x : EReal) : EReal := Ideal.div one (one + Ideal.exp (-x))
/-- The gelu's inner hyperbolic tangent, for a coefficient C of the cube. -/
def th (C x : EReal) : EReal := Ideal.tanh (s * (x + C * (x * x * x)))
/-- The gelu. -/
def gl (C x : EReal) : EReal := x * (half * (one + th C x))
/-- The gelu's derivative as the kernel writes it. -/
def gd (x : EReal) : EReal :=
  half * (one + th cube x) + x * (half * (one - th cube x * th cube x) * s * (one + cube3 * (x * x)))

section
variable (d x1 x2 x3 hv yb : Vec Ideal S512x1024 .f32) (w : Vec Ideal S1024x1024 .bf16) (mg : Vec Ideal S512x1024 .bf16) (a : Fin 512) (b : Fin 1024)

/-- The cotangent of the merged value. -/
theorem p5 : k0_pay5 (F := Ideal) d w (ix2 a b) = ∑ k : Fin 1024, d (ix2 a k) * w (ix2 b k) := by
  pointwise [k0_pay5, k0_pay3]

theorem p7 : k0_pay7 (F := Ideal) x2 (ix2 a b) = sg (x2 (ix2 a b)) := by
  unfold sg
  pointwise [k0_pay7]
  rw [zero_sub]

theorem p8 : k0_pay10 (F := Ideal) (k0_pay8 x3) k0_pay9 (ix2 a b) = sg (x3 (ix2 a b)) := by
  unfold sg
  pointwise [k0_pay10, k0_pay8, k0_pay9]
  rw [zero_sub]

theorem p11 : k0_pay11 (F := Ideal) (k0_pay6 x1) (ix2 a b) = gl cube (x1 (ix2 a b)) := by
  unfold gl th
  pointwise [k0_pay11, k0_pay6]
  rfl

theorem p12 : k0_pay12 (F := Ideal) (k0_pay5 d w) (k0_pay7 x2) (ix2 a b) = (∑ k : Fin 1024, d (ix2 a k) * w (ix2 b k)) * sg (x2 (ix2 a b)) := by
  pointwise [k0_pay12]
  rw [p5, p7]

theorem p13 : k0_pay13 (F := Ideal) (k0_pay5 d w) (k0_pay8 x3) k0_pay9 (ix2 a b) = (∑ k : Fin 1024, d (ix2 a k) * w (ix2 b k)) * sg (x3 (ix2 a b)) := by
  pointwise [k0_pay13]
  rw [p5, p8]

theorem p14 : k0_pay14 (F := Ideal) (k0_pay5 d w) (k0_pay7 x2) hv (ix2 a b) = (∑ k : Fin 1024, d (ix2 a k) * w (ix2 b k)) * sg (x2 (ix2 a b)) * hv (ix2 a b) := by
  pointwise [k0_pay14]
  rw [p12]

theorem p19 : k0_pay19 (F := Ideal) (k0_pay6 x1) (k0_pay14 (k0_pay5 d w) (k0_pay7 x2) hv) (k0_pay16 (k0_pay6 x1)) (k0_pay17 (k0_pay6 x1)) (k0_pay18 (k0_pay6 x1)) (ix2 a b)
    = (∑ k : Fin 1024, d (ix2 a k) * w (ix2 b k)) * sg (x2 (ix2 a b)) * hv (ix2 a b) * gd (x1 (ix2 a b)) := by
  unfold gd th
  rw [← p14]
  pointwise [k0_pay19, k0_pay16, k0_pay17, k0_pay18, k0_pay15, k0_pay6]
  rfl

theorem p20 : k0_pay20 (F := Ideal) (k0_pay7 x2) (k0_pay11 (k0_pay6 x1)) hv (k0_pay12 (k0_pay5 d w) (k0_pay7 x2)) (ix2 a b)
    = (∑ k : Fin 1024, d (ix2 a k) * w (ix2 b k)) * sg (x2 (ix2 a b)) * (hv (ix2 a b) * gl cube (x1 (ix2 a b))) * (one - sg (x2 (ix2 a b))) := by
  rw [← p12, ← p11, ← p7]
  pointwise [k0_pay20]

theorem p21 : k0_pay21 (F := Ideal) (k0_pay10 (k0_pay8 x3) k0_pay9) yb (k0_pay13 (k0_pay5 d w) (k0_pay8 x3) k0_pay9) (ix2 a b)
    = (∑ k : Fin 1024, d (ix2 a k) * w (ix2 b k)) * sg (x3 (ix2 a b)) * yb (ix2 a b) * (one - sg (x3 (ix2 a b))) := by
  rw [← p13, ← p8]
  pointwise [k0_pay21]

theorem p22 : k0_pay22 (F := Ideal) (k0_pay11 (k0_pay6 x1)) (k0_pay12 (k0_pay5 d w) (k0_pay7 x2)) (ix2 a b)
    = (∑ k : Fin 1024, d (ix2 a k) * w (ix2 b k)) * sg (x2 (ix2 a b)) * gl cube (x1 (ix2 a b)) := by
  rw [← p12, ← p11]
  pointwise [k0_pay22]

theorem p23 : k0_pay23 (F := Ideal) (k0_pay13 (k0_pay5 d w) (k0_pay8 x3) k0_pay9) (ix2 a b)
    = (∑ k : Fin 1024, d (ix2 a k) * w (ix2 b k)) * sg (x3 (ix2 a b)) := by
  rw [← p13]
  pointwise [k0_pay23]

theorem p24 : k0_pay24 (F := Ideal) yb (k0_pay13 (k0_pay5 d w) (k0_pay8 x3) k0_pay9) (ix2 a b)
    = (∑ k : Fin 1024, d (ix2 a k) * w (ix2 b k)) * sg (x3 (ix2 a b)) * yb (ix2 a b) := by
  rw [← p13]
  pointwise [k0_pay24]

theorem p4 (z : Vec Ideal S1024x1024 .f32) (i : Fin 1024) : k0_pay4 (F := Ideal) d z mg (ix2 i b) = z (ix2 i b) + ∑ k : Fin 512, mg (ix2 k i) * d (ix2 k b) := by
  pointwise [k0_pay4, k0_pay3]
end

section
variable (v49 : Vec Ideal S512x1024 .f32) (P v51 : FVec Ideal S512x1024 .f32) (y : S1x8x512.Idx)

/-- One head's part of a row's sum of products: 128 columns from o on, each times one. -/
def head (P : S512x1024.Idx → EReal) (o : Nat) (h : o + 128 ≤ 1024) (a : Fin 512) : EReal := ∑ k : Fin 128, one * P (ix2 a ⟨o + k.val, by omega⟩)

theorem q0 : k0_pay26 (F := Ideal) v49 v51 y = head (k0_pay24 v49 v51) 0 (by omega) (y 2) := by
  unfold head
  idx_vars y
  pointwise [k0_pay26, k0_pay25]
theorem q1 : k0_pay28 (F := Ideal) (k0_pay27 v49 v51) y = head (k0_pay24 v49 v51) 128 (by omega) (y 2) := by
  unfold head
  idx_vars y
  pointwise [k0_pay28, k0_pay27, k0_pay25]
theorem q2 : k0_pay29 (F := Ideal) P k0_pay25 y = head P 256 (by omega) (y 2) := by
  unfold head
  idx_vars y
  pointwise [k0_pay29, k0_pay25]
theorem q3 : k0_pay30 (F := Ideal) P k0_pay25 y = head P 384 (by omega) (y 2) := by
  unfold head
  idx_vars y
  pointwise [k0_pay30, k0_pay25]
theorem q4 : k0_pay31 (F := Ideal) P k0_pay25 y = head P 512 (by omega) (y 2) := by
  unfold head
  idx_vars y
  pointwise [k0_pay31, k0_pay25]
theorem q5 : k0_pay32 (F := Ideal) P k0_pay25 y = head P 640 (by omega) (y 2) := by
  unfold head
  idx_vars y
  pointwise [k0_pay32, k0_pay25]
theorem q6 : k0_pay33 (F := Ideal) P k0_pay25 y = head P 768 (by omega) (y 2) := by
  unfold head
  idx_vars y
  pointwise [k0_pay33, k0_pay25]
theorem q7 : k0_pay1 (F := Ideal) (k0_pay34 P k0_pay25) y = head P 896 (by omega) (y 2) := by
  unfold head
  idx_vars y
  pointwise [k0_pay1, k0_pay34, k0_pay25]
end

end Cert.MergePoint
end
-- ==== Proof.MergeValue.lean ====
/- The value of the merge's gradient: what the kernel leaves, entry by entry. -/
module

public import proofs.«01_k».proof.Defs
public import proofs.«01_k».proof.Proof.Gen.MergeKernelIdeal.Value
public import proofs.«01_k».proof.Proof.MergePoint
public import Idealize.ShloMosaic.Lib.Pipeline.ValueKit
public import Idealize.ShloMosaic.Lib.Pointwise
public import Idealize.ShloMosaic.Lib.StableHlo.ReadAt

@[expose] public section

set_option maxRecDepth 16384

noncomputable section

namespace Cert.MergeValue

open Idealize.ShloMosaic Idealize.ShloMosaic.TcCoe Idealize.SL.Sem
open Idealize.ShloMosaic.Pipeline (Dat)
open Cert.MergePoint
open Cert.MergeKernelIdeal Cert.MergeKernelIdeal.Gen

variable (m : (ℓ : Loc nD τ sig) → Buf (Elt Ideal) ℓ) (c : Dev nD)

/-- The arguments: the cotangent, the weight, the three gates before their functions, and the two branches. -/
abbrev mD : S8192x1024.Idx → EReal := m ((c : Thread nD τ).loc main_arg0)
abbrev mW : S1024x1024.Idx → EReal := m ((c : Thread nD τ).loc main_arg1)
abbrev mG : S8192x1024.Idx → EReal := m ((c : Thread nD τ).loc main_arg2)
abbrev mA : S8192x1024.Idx → EReal := m ((c : Thread nD τ).loc main_arg3)
abbrev mB : S8192x1024.Idx → EReal := m ((c : Thread nD τ).loc main_arg4)
abbrev mH : S8192x1024.Idx → EReal := m ((c : Thread nD τ).loc main_arg5)
abbrev mY : S8192x1024.Idx → EReal := m ((c : Thread nD τ).loc main_arg6)

/-- The coefficient of the gelu's cube as the forward pass takes it: a quotient of two literals. -/
abbrev quot : EReal := Ideal.div (Ideal.ofBits .f32 0x472EAB00#32) (Ideal.ofBits .f32 0x49742400#32)

/-- The merged value. -/
def merged (G A B H Y : S8192x1024.Idx → EReal) (i : S8192x1024.Idx) : EReal := sg (A i) * (H i * gl quot (G i)) + sg (B i) * Y i

/-- The cotangent of the merged value. -/
def ct (D : S8192x1024.Idx → EReal) (W : S1024x1024.Idx → EReal) (i : S8192x1024.Idx) : EReal := ∑ k : Fin 1024, D (ix2 (i 0) k) * W (ix2 (i 1) k)

/-- Three blocks of columns side by side. -/
def three (f g h : Fin 1024 → EReal) (j : Fin 3072) : EReal :=
  if h0 : j.val < 1024 then f ⟨j.val, h0⟩ else if h1 : j.val - 1024 < 1024 then g ⟨j.val - 1024, h1⟩ else h ⟨j.val - 1024 - 1024, by omega⟩

theorem three1 (f g h : Fin 1024 → EReal) (j : Fin 3072) (b : Fin 1024) (e : j.val = b.val) : three f g h j = f b := by
  unfold three
  rw [dif_pos (by omega)]
  exact congrArg f (Fin.ext e)
theorem three2 (f g h : Fin 1024 → EReal) (j : Fin 3072) (b : Fin 1024) (e : j.val = 1024 + b.val) : three f g h j = g b := by
  unfold three
  rw [dif_neg (by omega), dif_pos (by omega)]
  exact congrArg g (Fin.ext (by show j.val - 1024 = b.val; omega))
theorem three3 (f g h : Fin 1024 → EReal) (j : Fin 3072) (b : Fin 1024) (e : j.val = 2048 + b.val) : three f g h j = h b := by
  unfold three
  rw [dif_neg (by omega), dif_neg (by omega)]
  exact congrArg h (Fin.ext (by show j.val - 1024 - 1024 = b.val; omega))

/-- The gradients of the gelu's gate and of the two logistic gates. -/
def dG (d G A H : S8192x1024.Idx → EReal) (i : S8192x1024.Idx) : EReal := d i * sg (A i) * H i * gd (G i)
def dA (d G A H : S8192x1024.Idx → EReal) (i : S8192x1024.Idx) : EReal := d i * sg (A i) * (H i * gl cube (G i)) * (one - sg (A i))
def dB (d B Y : S8192x1024.Idx → EReal) (i : S8192x1024.Idx) : EReal := d i * sg (B i) * Y i * (one - sg (B i))
/-- The gradients of the two branches, and the products whose sums the attention's gradient needs. -/
def dH (d G A : S8192x1024.Idx → EReal) (i : S8192x1024.Idx) : EReal := d i * sg (A i) * gl cube (G i)
def dY (d B : S8192x1024.Idx → EReal) (i : S8192x1024.Idx) : EReal := d i * sg (B i)
def dL (d B Y : S8192x1024.Idx → EReal) (i : S8192x1024.Idx) : EReal := d i * sg (B i) * Y i

/-- The three gates' gradients side by side. -/
def gates (d G A B H Y : S8192x1024.Idx → EReal) (i : S8192x3072.Idx) : EReal :=
  three (fun j => dG d G A H (ix2 (i 0) j)) (fun j => dA d G A H (ix2 (i 0) j)) (fun j => dB d B Y (ix2 (i 0) j)) (i 1)

/-- Each head's sum over its 128 columns, in eight equal rows. -/
def sums (d B Y : S8192x1024.Idx → EReal) (i : S8x8x8192.Idx) : EReal :=
  ∑ k : Fin 128, one * dL d B Y (ix2 (i 2) ⟨128 * (i 0).val + k.val, by have := (i 0).isLt; change (i 0).val < 8 at this; omega⟩)

/-- The gradient of the weight. -/
def dW (D : S8192x1024.Idx → EReal) (M : S8192x1024.Idx → EReal) (i : S1024x1024.Idx) : EReal := ∑ k : Fin 8192, M (ix2 k (i 0)) * D (ix2 k (i 1))

/-- Which block each window shows at a grid point. -/
theorem idx : ∀ t : Fin cfg0.N, win0_0.index t = ![(t : Nat), 0] ∧ win0_1.index t = ![0, 0] ∧ win0_2.index t = ![(t : Nat), 0] ∧ win0_3.index t = ![(t : Nat), 0] ∧ win0_4.index t = ![(t : Nat), 0] ∧ win0_5.index t = ![(t : Nat), 0] ∧ win0_6.index t = ![(t : Nat), 0] ∧ win0_7.index t = ![(t : Nat), 0] ∧ win0_8.index t = ![0, 0, (t : Nat)] ∧ win0_9.index t = ![(t : Nat), 0] :=
  (by decide +kernel : ∀ t : Fin grid0.N, _)

/-- The row of the whole array at row a of point t's block. -/
def row (t : Fin cfg0.N) (a : Fin 512) : Fin 8192 := ⟨512 * t.val + a.val, by have := t.isLt; change t.val < 16 at this; omega⟩

theorem e0 (t : Fin cfg0.N) (a : Fin 512) (k : Fin 1024) : ((win0_0.blk t).view.emb (ix2 a k) : S8192x1024.Idx) = ix2 (row t a) k := by
  obtain ⟨i0, i1, i2, i3, i4, i5, i6, i7, i8, i9⟩ := idx t
  funext j; apply Fin.ext; refine (Pipeline.Window.rect_emb_val win0_0 t _ j).trans ?_; rw [i0]
  fin_cases j <;> simp [row, ix2, win0_0] <;> omega
theorem e1 (t : Fin cfg0.N) (a k : Fin 1024) : ((win0_1.blk t).view.emb (ix2 a k) : S1024x1024.Idx) = ix2 a k := by
  obtain ⟨i0, i1, i2, i3, i4, i5, i6, i7, i8, i9⟩ := idx t
  funext j; apply Fin.ext; refine (Pipeline.Window.rect_emb_val win0_1 t _ j).trans ?_; rw [i1]
  fin_cases j <;> simp [row, ix2, win0_1] <;> omega
theorem e2 (t : Fin cfg0.N) (a : Fin 512) (k : Fin 3072) : ((win0_2.blk t).view.emb (ix2 a k) : S8192x3072.Idx) = ix2 (row t a) k := by
  obtain ⟨i0, i1, i2, i3, i4, i5, i6, i7, i8, i9⟩ := idx t
  funext j; apply Fin.ext; refine (Pipeline.Window.rect_emb_val win0_2 t _ j).trans ?_; rw [i2]
  fin_cases j <;> simp [row, ix2, win0_2] <;> omega
theorem e3 (t : Fin cfg0.N) (a : Fin 512) (k : Fin 1024) : ((win0_3.blk t).view.emb (ix2 a k) : S8192x1024.Idx) = ix2 (row t a) k := by
  obtain ⟨i0, i1, i2, i3, i4, i5, i6, i7, i8, i9⟩ := idx t
  funext j; apply Fin.ext; refine (Pipeline.Window.rect_emb_val win0_3 t _ j).trans ?_; rw [i3]
  fin_cases j <;> simp [row, ix2, win0_3] <;> omega
theorem e4 (t : Fin cfg0.N) (a : Fin 512) (k : Fin 1024) : ((win0_4.blk t).view.emb (ix2 a k) : S8192x1024.Idx) = ix2 (row t a) k := by
  obtain ⟨i0, i1, i2, i3, i4, i5, i6, i7, i8, i9⟩ := idx t
  funext j; apply Fin.ext; refine (Pipeline.Window.rect_emb_val win0_4 t _ j).trans ?_; rw [i4]
  fin_cases j <;> simp [row, ix2, win0_4] <;> omega
theorem e5 (t : Fin cfg0.N) (a : Fin 512) (k : Fin 1024) : ((win0_5.blk t).view.emb (ix2 a k) : S8192x1024.Idx) = ix2 (row t a) k := by
  obtain ⟨i0, i1, i2, i3, i4, i5, i6, i7, i8, i9⟩ := idx t
  funext j; apply Fin.ext; refine (Pipeline.Window.rect_emb_val win0_5 t _ j).trans ?_; rw [i5]
  fin_cases j <;> simp [row, ix2, win0_5] <;> omega
theorem e6 (t : Fin cfg0.N) (a : Fin 512) (k : Fin 3072) : ((win0_6.blk t).view.emb (ix2 a k) : S8192x3072.Idx) = ix2 (row t a) k := by
  obtain ⟨i0, i1, i2, i3, i4, i5, i6, i7, i8, i9⟩ := idx t
  funext j; apply Fin.ext; refine (Pipeline.Window.rect_emb_val win0_6 t _ j).trans ?_; rw [i6]
  fin_cases j <;> simp [row, ix2, win0_6] <;> omega
theorem e7 (t : Fin cfg0.N) (a : Fin 512) (k : Fin 1024) : ((win0_7.blk t).view.emb (ix2 a k) : S8192x1024.Idx) = ix2 (row t a) k := by
  obtain ⟨i0, i1, i2, i3, i4, i5, i6, i7, i8, i9⟩ := idx t
  funext j; apply Fin.ext; refine (Pipeline.Window.rect_emb_val win0_7 t _ j).trans ?_; rw [i7]
  fin_cases j <;> simp [row, ix2, win0_7] <;> omega
theorem e8 (t : Fin cfg0.N) (h r : Fin 8) (a : Fin 512) : ((win0_8.blk t).view.emb (ix3 h r a) : S8x8x8192.Idx) = ix3 h r (row t a) := by
  obtain ⟨i0, i1, i2, i3, i4, i5, i6, i7, i8, i9⟩ := idx t
  funext j; apply Fin.ext; refine (Pipeline.Window.rect_emb_val win0_8 t _ j).trans ?_; rw [i8]
  fin_cases j <;> simp [row, ix3, win0_8] <;> omega
theorem e9 (t : Fin cfg0.N) (a : Fin 512) (k : Fin 1024) : ((win0_9.blk t).view.emb (ix2 a k) : S8192x1024.Idx) = ix2 (row t a) k := by
  obtain ⟨i0, i1, i2, i3, i4, i5, i6, i7, i8, i9⟩ := idx t
  funext j; apply Fin.ext; refine (Pipeline.Window.rect_emb_val win0_9 t _ j).trans ?_; rw [i9]
  fin_cases j <;> simp [row, ix2, win0_9] <;> omega

abbrev aG3 : S8192x3072.Idx → EReal := V m c main_v0
abbrev aM : S8192x1024.Idx → EReal := V m c main_v32
abbrev aW : S1024x1024.Idx → EReal := V m c main_v33

theorem h_g3 (i : Fin 8192) (j : Fin 3072) : aG3 m c (ix2 i j) = three (fun j => mG m c (ix2 i j)) (fun j => mA m c (ix2 i j)) (fun j => mB m c (ix2 i j)) j := by
  unfold aG3 V three
  after_reads_at

theorem h_w (j k : Fin 1024) : aW m c (ix2 j k) = mW m c (ix2 j k) := by
  unfold aW V
  after_reads_at

theorem h_m (i : Fin 8192) (j : Fin 1024) : aM m c (ix2 i j) = merged (mG m c) (mA m c) (mB m c) (mH m c) (mY m c) (ix2 i j) := by
  unfold aM V merged sg gl th
  after_reads_at
  rfl

theorem b0 (t : Fin cfg0.N) (a : Fin 512) (k : Fin 1024) : (iblk m c 0 t : Vec Ideal S512x1024 .f32) (ix2 a k) = mD m c (ix2 (row t a) k) :=
  (show _ = V m c main_arg0 ((win0_0.blk t).view.emb (ix2 a k)) from rfl).trans ((congrArg (V m c main_arg0) (e0 t a k)).trans (congrFun (V_main_arg0 m c) _))
theorem b1 (t : Fin cfg0.N) (a k : Fin 1024) : (iblk m c 1 t : Vec Ideal S1024x1024 .bf16) (ix2 a k) = mW m c (ix2 a k) :=
  (show _ = V m c main_v33 ((win0_1.blk t).view.emb (ix2 a k)) from rfl).trans ((congrArg (V m c main_v33) (e1 t a k)).trans (h_w m c a k))
theorem b2 (t : Fin cfg0.N) (a : Fin 512) (k : Fin 3072) : (iblk m c 2 t : Vec Ideal S512x3072 .f32) (ix2 a k) = three (fun j => mG m c (ix2 (row t a) j)) (fun j => mA m c (ix2 (row t a) j)) (fun j => mB m c (ix2 (row t a) j)) k :=
  (show _ = V m c main_v0 ((win0_2.blk t).view.emb (ix2 a k)) from rfl).trans ((congrArg (V m c main_v0) (e2 t a k)).trans (h_g3 m c _ k))
theorem b3 (t : Fin cfg0.N) (a : Fin 512) (k : Fin 1024) : (iblk m c 3 t : Vec Ideal S512x1024 .f32) (ix2 a k) = mH m c (ix2 (row t a) k) :=
  (show _ = V m c main_arg5 ((win0_3.blk t).view.emb (ix2 a k)) from rfl).trans ((congrArg (V m c main_arg5) (e3 t a k)).trans (congrFun (V_main_arg5 m c) _))
theorem b4 (t : Fin cfg0.N) (a : Fin 512) (k : Fin 1024) : (iblk m c 4 t : Vec Ideal S512x1024 .f32) (ix2 a k) = mY m c (ix2 (row t a) k) :=
  (show _ = V m c main_arg6 ((win0_4.blk t).view.emb (ix2 a k)) from rfl).trans ((congrArg (V m c main_arg6) (e4 t a k)).trans (congrFun (V_main_arg6 m c) _))
theorem b5 (t : Fin cfg0.N) (a : Fin 512) (k : Fin 1024) : (iblk m c 5 t : Vec Ideal S512x1024 .bf16) (ix2 a k) = merged (mG m c) (mA m c) (mB m c) (mH m c) (mY m c) (ix2 (row t a) k) :=
  (show _ = V m c main_v32 ((win0_5.blk t).view.emb (ix2 a k)) from rfl).trans ((congrArg (V m c main_v32) (e5 t a k)).trans (h_m m c _ k))

/-- The three gates' columns of a block. -/
def g1 (t : Fin cfg0.N) : Vec Ideal S512x1024 .f32 := View.ld (iblk m c 2 t : Vec Ideal S512x3072 .f32) (Rect.unit ![0, 0] ![512, 1024] inb_S512x3072_S512x1024_0_0)
def g2 (t : Fin cfg0.N) : Vec Ideal S512x1024 .f32 := View.ld (iblk m c 2 t : Vec Ideal S512x3072 .f32) (Rect.unit ![0, 1024] ![512, 1024] inb_S512x3072_S512x1024_0_1024)
def g3 (t : Fin cfg0.N) : Vec Ideal S512x1024 .f32 := View.ld (iblk m c 2 t : Vec Ideal S512x3072 .f32) (Rect.unit ![0, 2048] ![512, 1024] inb_S512x3072_S512x1024_0_2048)

theorem c1 (t : Fin cfg0.N) (a : Fin 512) (k : Fin 1024) : g1 m c t (ix2 a k) = mG m c (ix2 (row t a) k) := by
  unfold g1
  pointwise [View.ld_apply]
  exact (b2 m c t _ _).trans (three1 _ _ _ _ k rfl)
theorem c2 (t : Fin cfg0.N) (a : Fin 512) (k : Fin 1024) : g2 m c t (ix2 a k) = mA m c (ix2 (row t a) k) := by
  unfold g2
  pointwise [View.ld_apply]
  exact (b2 m c t _ _).trans (three2 _ _ _ _ k rfl)
theorem c3 (t : Fin cfg0.N) (a : Fin 512) (k : Fin 1024) : g3 m c t (ix2 a k) = mB m c (ix2 (row t a) k) := by
  unfold g3
  pointwise [View.ld_apply]
  exact (b2 m c t _ _).trans (three3 _ _ _ _ k rfl)

/-- The cotangent of the merged value at a row of a point's block. -/
abbrev cc : S8192x1024.Idx → EReal := ct (mD m c) (mW m c)

theorem cm (t : Fin cfg0.N) (a : Fin 512) (b : Fin 1024) (x : Vec Ideal S512x1024 .f32) (w : Vec Ideal S1024x1024 .bf16) (hx : x = iblk m c 0 t) (hw : w = iblk m c 1 t) :
    ∑ k : Fin 1024, x (ix2 a k) * w (ix2 b k) = cc m c (ix2 (row t a) b) := by
  subst hx hw
  exact Finset.sum_congr rfl fun k _ => congrArg₂ (HMul.hMul (α := EReal) (β := EReal) (γ := EReal)) (b0 m c t a k) (b1 m c t b k)

theorem s19 (t : Fin cfg0.N) (a : Fin 512) (b : Fin 1024) :
    k0_pay19 (F := Ideal) (k0_pay6 (g1 m c t)) (k0_pay14 (k0_pay5 (iblk m c 0 t) (iblk m c 1 t)) (k0_pay7 (g2 m c t)) (iblk m c 3 t)) (k0_pay16 (k0_pay6 (g1 m c t))) (k0_pay17 (k0_pay6 (g1 m c t))) (k0_pay18 (k0_pay6 (g1 m c t))) (ix2 a b)
      = dG (cc m c) (mG m c) (mA m c) (mH m c) (ix2 (row t a) b) := by
  rw [p19, cm m c t a b _ _ rfl rfl, c1, c2, b3]
  rfl
theorem s20 (t : Fin cfg0.N) (a : Fin 512) (b : Fin 1024) :
    k0_pay20 (F := Ideal) (k0_pay7 (g2 m c t)) (k0_pay11 (k0_pay6 (g1 m c t))) (iblk m c 3 t) (k0_pay12 (k0_pay5 (iblk m c 0 t) (iblk m c 1 t)) (k0_pay7 (g2 m c t))) (ix2 a b)
      = dA (cc m c) (mG m c) (mA m c) (mH m c) (ix2 (row t a) b) := by
  rw [p20, cm m c t a b _ _ rfl rfl, c1, c2, b3]
  rfl
theorem s21 (t : Fin cfg0.N) (a : Fin 512) (b : Fin 1024) :
    k0_pay21 (F := Ideal) (k0_pay10 (k0_pay8 (g3 m c t)) k0_pay9) (iblk m c 4 t) (k0_pay13 (k0_pay5 (iblk m c 0 t) (iblk m c 1 t)) (k0_pay8 (g3 m c t)) k0_pay9) (ix2 a b)
      = dB (cc m c) (mB m c) (mY m c) (ix2 (row t a) b) := by
  rw [p21, cm m c t a b _ _ rfl rfl, c3, b4]
  rfl
theorem s22 (t : Fin cfg0.N) (a : Fin 512) (b : Fin 1024) :
    k0_pay22 (F := Ideal) (k0_pay11 (k0_pay6 (g1 m c t))) (k0_pay12 (k0_pay5 (iblk m c 0 t) (iblk m c 1 t)) (k0_pay7 (g2 m c t))) (ix2 a b)
      = dH (cc m c) (mG m c) (mA m c) (ix2 (row t a) b) := by
  rw [p22, cm m c t a b _ _ rfl rfl, c1, c2]
  rfl
theorem s23 (t : Fin cfg0.N) (a : Fin 512) (b : Fin 1024) :
    k0_pay23 (F := Ideal) (k0_pay13 (k0_pay5 (iblk m c 0 t) (iblk m c 1 t)) (k0_pay8 (g3 m c t)) k0_pay9) (ix2 a b)
      = dY (cc m c) (mB m c) (ix2 (row t a) b) := by
  rw [p23, cm m c t a b _ _ rfl rfl, c3]
  rfl
theorem s24 (t : Fin cfg0.N) (a : Fin 512) (b : Fin 1024) :
    k0_pay24 (F := Ideal) (iblk m c 4 t) (k0_pay13 (k0_pay5 (iblk m c 0 t) (iblk m c 1 t)) (k0_pay8 (g3 m c t)) k0_pay9) (ix2 a b)
      = dL (cc m c) (mB m c) (mY m c) (ix2 (row t a) b) := by
  rw [p24, cm m c t a b _ _ rfl rfl, c3, b4]
  rfl

/-- The three stored tiles of columns, each at an entry of its own. -/
theorem k19 (t : Fin cfg0.N) (z : S512x3072.Idx) (y : S512x1024.Idx) (h0 : (z 0).val = (y 0).val) (h1 : (z 1).val = (y 1).val) :
    k0_pay19 (F := Ideal) (k0_pay6 (g1 m c t)) (k0_pay14 (k0_pay5 (iblk m c 0 t) (iblk m c 1 t)) (k0_pay7 (g2 m c t)) (iblk m c 3 t)) (k0_pay16 (k0_pay6 (g1 m c t))) (k0_pay17 (k0_pay6 (g1 m c t))) (k0_pay18 (k0_pay6 (g1 m c t))) y
      = gates (cc m c) (mG m c) (mA m c) (mB m c) (mH m c) (mY m c) (ix2 (row t (z 0)) (z 1)) := by
  idx_vars y
  refine (s19 m c t _ _).trans ?_
  rw [show z 0 = y0 from Fin.ext h0]
  exact (three1 (fun j => dG (cc m c) (mG m c) (mA m c) (mH m c) (ix2 (row t y0) j)) (fun j => dA (cc m c) (mG m c) (mA m c) (mH m c) (ix2 (row t y0) j)) (fun j => dB (cc m c) (mB m c) (mY m c) (ix2 (row t y0) j)) _ y1 h1).symm
theorem k20 (t : Fin cfg0.N) (z : S512x3072.Idx) (y : S512x1024.Idx) (h0 : (z 0).val = (y 0).val) (h1 : (z 1).val = 1024 + (y 1).val) :
    k0_pay20 (F := Ideal) (k0_pay7 (g2 m c t)) (k0_pay11 (k0_pay6 (g1 m c t))) (iblk m c 3 t) (k0_pay12 (k0_pay5 (iblk m c 0 t) (iblk m c 1 t)) (k0_pay7 (g2 m c t))) y
      = gates (cc m c) (mG m c) (mA m c) (mB m c) (mH m c) (mY m c) (ix2 (row t (z 0)) (z 1)) := by
  idx_vars y
  refine (s20 m c t _ _).trans ?_
  rw [show z 0 = y0 from Fin.ext h0]
  exact (three2 (fun j => dG (cc m c) (mG m c) (mA m c) (mH m c) (ix2 (row t y0) j)) (fun j => dA (cc m c) (mG m c) (mA m c) (mH m c) (ix2 (row t y0) j)) (fun j => dB (cc m c) (mB m c) (mY m c) (ix2 (row t y0) j)) _ y1 h1).symm
theorem k21 (t : Fin cfg0.N) (z : S512x3072.Idx) (y : S512x1024.Idx) (h0 : (z 0).val = (y 0).val) (h1 : (z 1).val = 2048 + (y 1).val) :
    k0_pay21 (F := Ideal) (k0_pay10 (k0_pay8 (g3 m c t)) k0_pay9) (iblk m c 4 t) (k0_pay13 (k0_pay5 (iblk m c 0 t) (iblk m c 1 t)) (k0_pay8 (g3 m c t)) k0_pay9) y
      = gates (cc m c) (mG m c) (mA m c) (mB m c) (mH m c) (mY m c) (ix2 (row t (z 0)) (z 1)) := by
  idx_vars y
  refine (s21 m c t _ _).trans ?_
  rw [show z 0 = y0 from Fin.ext h0]
  exact (three3 (fun j => dG (cc m c) (mG m c) (mA m c) (mH m c) (ix2 (row t y0) j)) (fun j => dA (cc m c) (mG m c) (mA m c) (mH m c) (ix2 (row t y0) j)) (fun j => dB (cc m c) (mB m c) (mY m c) (ix2 (row t y0) j)) _ y1 h1).symm

/-- A head's sum over a point's block is that head's sum over the whole array's rows. -/
theorem hd (t : Fin cfg0.N) (z : S8x8x512.Idx) (y : S1x8x512.Idx) (n o : Nat) (ho : o + 128 ≤ 1024) (e : o = 128 * n) (h0 : (z 0).val = n + (y 0).val) (h2 : (z 2).val = (y 2).val) :
    head (k0_pay24 (F := Ideal) (iblk m c 4 t) (k0_pay13 (k0_pay5 (iblk m c 0 t) (iblk m c 1 t)) (k0_pay8 (g3 m c t)) k0_pay9)) o ho (y 2)
      = sums (cc m c) (mB m c) (mY m c) (ix3 (z 0) (z 1) (row t (z 2))) := by
  have hy : (y 0).val < 1 := (y 0).isLt
  rw [show y 2 = z 2 from Fin.ext h2.symm]
  refine Finset.sum_congr rfl fun k _ => congrArg (one * ·) ((s24 m c t _ _).trans ?_)
  refine congrArg (fun j => dL (cc m c) (mB m c) (mY m c) (ix2 (row t (z 2)) j)) (Fin.ext ?_)
  show o + k.val = 128 * (z 0).val + k.val
  omega

theorem final6 : (dats m 0 c).arrAt 6 cfg0.N = gates (cc m c) (mG m c) (mA m c) (mB m c) (mH m c) (mY m c) := by
  refine (dats m 0 c).arrAt_eq_of_covers 6 _ (by decide +kernel) fun t hf z => ?_
  blk_simp
  rw [after0_6, show (win0_6.blk t).view.emb z = ix2 (row t (z 0)) (z 1) by idx_vars z; exact e6 t _ _]
  by_cases hp : t.val % 16 = 0
  · rw [outsAt0_A m c t hp]
    frame_out
    canon_tiles z h
    · exact k21 m c t _ _ h0 h1
    · exact k20 m c t _ _ h0 h1
    · exact k19 m c t _ _ h0 h1
  · rw [outsAt0_B m c t hp]
    frame_out
    canon_tiles z h
    · exact k21 m c t _ _ h0 h1
    · exact k20 m c t _ _ h0 h1
    · exact k19 m c t _ _ h0 h1

theorem final7 : (dats m 0 c).arrAt 7 cfg0.N = dY (cc m c) (mB m c) := by
  refine (dats m 0 c).arrAt_eq_of_covers 7 _ (by decide +kernel) fun t hf z => ?_
  blk_simp
  idx_vars z
  rw [after0_7, e7]
  by_cases hp : t.val % 16 = 0
  · rw [outsAt0_A m c t hp]
    frame_out
    exact s23 m c t _ _
  · rw [outsAt0_B m c t hp]
    frame_out
    exact s23 m c t _ _

theorem final8 : (dats m 0 c).arrAt 8 cfg0.N = sums (cc m c) (mB m c) (mY m c) := by
  refine (dats m 0 c).arrAt_eq_of_covers 8 _ (by decide +kernel) fun t hf z => ?_
  blk_simp
  rw [after0_8, show (win0_8.blk t).view.emb z = ix3 (z 0) (z 1) (row t (z 2)) by idx_vars z; exact e8 t _ _ _]
  by_cases hp : t.val % 16 = 0
  · rw [outsAt0_A m c t hp]
    frame_out
    canon_tiles z h
    · exact (q7 _ _).trans (hd m c t _ _ 7 _ _ rfl h0 h2)
    · exact (q6 _ _).trans (hd m c t _ _ 6 _ _ rfl h0 h2)
    · exact (q5 _ _).trans (hd m c t _ _ 5 _ _ rfl h0 h2)
    · exact (q4 _ _).trans (hd m c t _ _ 4 _ _ rfl h0 h2)
    · exact (q3 _ _).trans (hd m c t _ _ 3 _ _ rfl h0 h2)
    · exact (q2 _ _).trans (hd m c t _ _ 2 _ _ rfl h0 h2)
    · exact (q1 _ _ _).trans (hd m c t _ _ 1 _ _ rfl h0 h2)
    · exact (q0 _ _ _).trans (hd m c t _ _ 0 _ _ rfl (h0.trans (Nat.zero_add _).symm) h2)
  · rw [outsAt0_B m c t hp]
    frame_out
    canon_tiles z h
    · exact (q7 _ _).trans (hd m c t _ _ 7 _ _ rfl h0 h2)
    · exact (q6 _ _).trans (hd m c t _ _ 6 _ _ rfl h0 h2)
    · exact (q5 _ _).trans (hd m c t _ _ 5 _ _ rfl h0 h2)
    · exact (q4 _ _).trans (hd m c t _ _ 4 _ _ rfl h0 h2)
    · exact (q3 _ _).trans (hd m c t _ _ 3 _ _ rfl h0 h2)
    · exact (q2 _ _).trans (hd m c t _ _ 2 _ _ rfl h0 h2)
    · exact (q1 _ _ _).trans (hd m c t _ _ 1 _ _ rfl h0 h2)
    · exact (q0 _ _ _).trans (hd m c t _ _ 0 _ _ rfl (h0.trans (Nat.zero_add _).symm) h2)

theorem final9 : (dats m 0 c).arrAt 9 cfg0.N = dH (cc m c) (mG m c) (mA m c) := by
  refine (dats m 0 c).arrAt_eq_of_covers 9 _ (by decide +kernel) fun t hf z => ?_
  blk_simp
  idx_vars z
  rw [after0_9, e9]
  by_cases hp : t.val % 16 = 0
  · rw [outsAt0_A m c t hp]
    frame_out
    exact s22 m c t _ _
  · rw [outsAt0_B m c t hp]
    frame_out
    exact s22 m c t _ _

/-- What a point adds to the weight's gradient. -/
def term (t : Fin cfg0.N) (j : S1024x1024.Idx) : EReal :=
  ∑ k : Fin 512, merged (mG m c) (mA m c) (mB m c) (mH m c) (mY m c) (ix2 (row t k) (j 0)) * mD m c (ix2 (row t k) (j 1))

theorem acc (t : Fin cfg0.N) (z : Vec Ideal S1024x1024 .f32) (j : S1024x1024.Idx) :
    k0_pay4 (F := Ideal) (iblk m c 0 t) z (iblk m c 5 t) j = z j + term m c t j := by
  idx_vars j
  rw [p4]
  simp only [b0, b5]
  rfl

theorem final10 : (dats m 0 c).arrAt 10 cfg0.N = dW (mD m c) (merged (mG m c) (mA m c) (mB m c) (mH m c) (mY m c)) := by
  refine (dats m 0 c).arrAt_eq_of_after_last 10 t0_15 (by decide +kernel) _ fun j => ?_
  blk_simp
  rw [after0_10]
  refine (Pipeline.eq_sum_fin_of_reset_step_apply_last (fun n h => (outsAt0 m c n h).2.2.2.2) 16 (fun _ => 0) (fun p => term m c p) (fun t h j => ?_) (fun t h j => ?_) (by decide) t0_15 rfl j).trans ?_
  · rw [outsAt0_A m c t h]
    frame_out
    refine (acc m c t _ j).trans (congrArg (· + _) ?_)
    idx_vars j
    pointwise [k0_pay2]
  · rw [outsAt0_B m c t h]
    frame_out
    exact acc m c t _ j
  · rw [zero_add]
    refine (Fin.sum_points_lanes_congr (A := 1) (L := 8192) 16 (g := fun _ i => merged (mG m c) (mA m c) (mB m c) (mH m c) (mY m c) (ix2 i (j 0)) * mD m c (ix2 i (j 1))) fun t k ha hl => ?_).trans (Fin.sum_univ_one _)
    have hr : row t k = ⟨t.val % 16 * 512 + k.val, hl⟩ := Fin.ext (by have := t.isLt; change t.val < 16 at this; show 512 * t.val + k.val = t.val % 16 * 512 + k.val; omega)
    rw [hr]

end Cert.MergeValue
end
-- ==== Proof.MergeRef.lean ====
/- The reference's merged gradient, entry by entry. -/
module

public import proofs.«01_k».proof.Defs
public import proofs.«01_k».proof.Proof.Gen.MergeReferenceIdeal.Read
public import proofs.«01_k».proof.Proof.MergeValue
public import Idealize.ShloMosaic.Lib.Pointwise

@[expose] public section

set_option maxRecDepth 16384

noncomputable section

namespace Cert.MergeRef

open Idealize.ShloMosaic Idealize.ShloMosaic.TcCoe
open Cert.MergeReferenceIdeal Cert.MergeReferenceIdeal.Gen Cert.MergeReferenceIdeal.Read
open Cert.MergePoint Cert.MergeValue

/-- The factor of both inner derivatives: the gelu's outer product against the tangent's derivative. -/
def tang (C x E : EReal) : EReal := s * (half * (x * E) * ((one + th C x) * (one - th C x)))

/-- The gelu's derivative at x times E, as the rules of differentiation write it. -/
def rules (C x E : EReal) : EReal :=
  E * (half * (one + th C x)) + tang C x E + x * x * (C * tang C x E) + x * (C * tang C x E * x) + C * tang C x E * x * x

variable (d : S8192x1024.Idx → EReal) (w : S1024x1024.Idx → EReal) (g a b h y : S8192x1024.Idx → EReal)

theorem r5 (i : S8192x1024.Idx) : val_main_v5 (F := Ideal) a i = sg (a i) := by
  idx_vars i
  unfold sg
  pointwise [val_main_v5, val_main_v4, val_main_v3, val_main_v2, val_main_v1, val_main_v0, val_main_cst, val_main_cst_0]

theorem r36 (i : S8192x1024.Idx) : val_main_v36 (F := Ideal) b i = sg (b i) := by
  idx_vars i
  unfold sg
  pointwise [val_main_v36, val_main_v35, val_main_v34, val_main_v33, val_main_v32, val_main_v31, val_main_cst_9, val_main_cst_10]

theorem r12 (i : S_.Idx) : val_main_v12 (F := Ideal) i = quot := rfl

theorem r18 (i : S8192x1024.Idx) : val_main_v18 (F := Ideal) g i = th quot (g i) := by
  idx_vars i
  unfold th
  rw [← r12 ix0]
  pointwise [val_main_v18, val_main_v17, val_main_v16, val_main_v15, val_main_v14, val_main_v13, val_main_v11, val_main_v10, val_main_cst_4]

theorem r27 (i : S8192x1024.Idx) : val_main_v27 (F := Ideal) g i = half * (one + th quot (g i)) := by
  rw [← r18]
  idx_vars i
  pointwise [val_main_v27, val_main_v26, val_main_v25, val_main_v24, val_main_cst_7, val_main_cst_8]

theorem r23 (i : S8192x1024.Idx) : val_main_v23 (F := Ideal) g i = (one + th quot (g i)) * (one - th quot (g i)) := by
  rw [← r18]
  idx_vars i
  pointwise [val_main_v23, val_main_v22, val_main_v21, val_main_v20, val_main_v19, val_main_cst_5, val_main_cst_6]

theorem r28 (i : S8192x1024.Idx) : val_main_v28 (F := Ideal) g i = gl quot (g i) := by
  unfold gl
  rw [← r27]
  idx_vars i
  pointwise [val_main_v28]

theorem r41 (i : S8192x1024.Idx) : val_main_v41 (F := Ideal) g a b h y i = merged g a b h y i := by
  unfold merged
  rw [← r5, ← r36, ← r28]
  idx_vars i
  pointwise [val_main_v41, val_main_v40, val_main_v30, val_main_v29]

/-- The gradient of the weight. -/
theorem r44 (i : S1024x1024.Idx) : val_main_v44 (F := Ideal) d g a b h y i = dW d (merged g a b h y) i := by
  idx_vars i
  unfold dW
  simp only [← r41]
  pointwise [val_main_v44, val_main_v43]
  exact Finset.sum_congr rfl fun k _ => mul_comm _ _

theorem r45 (i : S8192x1024.Idx) : val_main_v45 (F := Ideal) d w i = ct d w i := by
  idx_vars i
  unfold ct
  pointwise [val_main_v45]

/-- The cotangent of the attention's output. -/
theorem r46 (i : S8192x1024.Idx) : val_main_v46 (F := Ideal) d w b i = dY (ct d w) b i := by
  unfold dY
  rw [← r36, ← r45, mul_comm]
  idx_vars i
  pointwise [val_main_v46]

theorem r77 (i : S8192x1024.Idx) : val_main_v77 (F := Ideal) d w b i = dY (ct d w) b i := by
  rw [← r46]
  idx_vars i
  pointwise [val_main_v77]

/-- The gradient of the second logistic gate. -/
theorem r48 (i : S8192x1024.Idx) : val_main_v48 (F := Ideal) d w b y i = dB (ct d w) b y i := by
  have e : val_main_v48 (F := Ideal) d w b y i = ct d w i * y i * (sg (b i) * (one - sg (b i))) := by
    rw [← r36, ← r45]
    idx_vars i
    pointwise [val_main_v48, val_main_v47, val_main_v39, val_main_v38, val_main_v37, val_main_cst_11]
  rw [e]
  unfold dB
  ac_rfl

/-- The gradient of the recurrence's branch. -/
theorem r52 (i : S8192x1024.Idx) : val_main_v52 (F := Ideal) d w g a i = ct d w i * sg (a i) * gl quot (g i) := by
  have e : val_main_v52 (F := Ideal) d w g a i = sg (a i) * ct d w i * gl quot (g i) := by
    rw [← r5, ← r45, ← r28]
    idx_vars i
    pointwise [val_main_v52, val_main_v49]
  rw [e]
  ac_rfl

/-- The gradient of the first logistic gate. -/
theorem r70 (i : S8192x1024.Idx) : val_main_v70 (F := Ideal) d w g a h i = ct d w i * sg (a i) * (h i * gl quot (g i)) * (one - sg (a i)) := by
  have e : val_main_v70 (F := Ideal) d w g a h i = ct d w i * (h i * gl quot (g i)) * (sg (a i) * (one - sg (a i))) := by
    rw [← r5, ← r45, ← r28]
    idx_vars i
    pointwise [val_main_v70, val_main_v50, val_main_v29, val_main_v8, val_main_v7, val_main_v6, val_main_cst_2, val_main_cst_1]
  rw [e]
  ac_rfl

theorem r51 (i : S8192x1024.Idx) : val_main_v51 (F := Ideal) d w a h i = h i * (sg (a i) * ct d w i) := by
  rw [← r5, ← r45]
  idx_vars i
  pointwise [val_main_v51, val_main_v49]

theorem r59 (i : S8192x1024.Idx) : val_main_v59 (F := Ideal) d w g a h i = tang quot (g i) (h i * (sg (a i) * ct d w i)) := by
  unfold tang
  rw [← r51, ← r23]
  idx_vars i
  pointwise [val_main_v59, val_main_v58, val_main_v57, val_main_v56, val_main_v55, val_main_v53, val_main_cst_13, val_main_cst_12]

/-- The gradient of the gelu's gate. -/
theorem r69 (i : S8192x1024.Idx) : val_main_v69 (F := Ideal) d w g a h i = rules quot (g i) (h i * (sg (a i) * ct d w i)) := by
  unfold rules
  rw [← r59, ← r51, ← r27, ← r12 ix0]
  idx_vars i
  pointwise [val_main_v69, val_main_v68, val_main_v67, val_main_v66, val_main_v65, val_main_v64, val_main_v63, val_main_v62, val_main_v61, val_main_v60, val_main_v54, val_main_v10]

theorem r76 (i : Fin 8192) (j : Fin 3072) : val_main_v76 (F := Ideal) d w g a b h y (ix2 i j)
    = three (fun j => rules quot (g (ix2 i j)) (h (ix2 i j) * (sg (a (ix2 i j)) * ct d w (ix2 i j))))
        (fun j => ct d w (ix2 i j) * sg (a (ix2 i j)) * (h (ix2 i j) * gl quot (g (ix2 i j))) * (one - sg (a (ix2 i j)))) (fun j => dB (ct d w) b y (ix2 i j)) j := by
  simp only [← r69, ← r70, ← r48]
  unfold three
  pointwise [val_main_v76, val_main_v75]

/-- The sums of the products of the attention's output with its cotangent. -/
theorem r79 (i : S8x8x8192.Idx) : val_main_v79 (F := Ideal) d w b y i = sums (ct d w) b y i := by
  have e (i : S8192x1024.Idx) : val_main_v71 (F := Ideal) d w b y i = dL (ct d w) b y i := by
    show _ = dY (ct d w) b i * y i
    rw [← r46]
    idx_vars i
    pointwise [val_main_v71]
  idx_vars i
  unfold sums
  simp only [← e]
  pointwise [val_main_v79, val_main_v78, val_main_v74, val_main_v73, val_main_v72, val_main_cst_14]
  refine Finset.sum_congr rfl fun k _ => congrArg (fun j => val_main_v71 (F := Ideal) d w b y (ix2 i2 j)) (Fin.ext ?_)
  show i0.val * 128 + k.val = 128 * i0.val + k.val
  omega

end Cert.MergeRef
end
-- ==== Proof.Merge.lean ====
/- The five claims about the gradients of the merged branches. -/
module

public import proofs.«01_k».proof.Proof.MergeRef
public import proofs.«01_k».proof.Proof.Real
public import proofs.«01_k».proof.Proof.Extended
public import proofs.«01_k».proof.Proof.Finite
public import proofs.«01_k».proof.Proof.Gen.MergeReferenceIdeal.Run
public import proofs.«01_k».proof.Proof.Gen.MergeKernel
public import proofs.«01_k».proof.Proof.Gen.MergeKernel.Frame
public import proofs.«01_k».proof.Proof.Gen.Pre_merge_finite
public import Idealize.ShloMosaic.Adequacy
public import Idealize.ShloMosaic.Init
public import Idealize.ShloMosaic.Lib.Quiescent

@[expose] public section

set_option maxRecDepth 16384

noncomputable section

namespace Cert.Merge

open Idealize.ShloMosaic Idealize.ShloMosaic.TcCoe Idealize.SL.Sem
open Cert.Extended Cert.Finite
open Cert.MergePoint Cert.MergeValue Cert.MergeRef
open Cert.Pre_merge_finite (S8192x1024 S1024x1024)

/-- Under the precondition the cotangent, the weight, the gelu's gate and the recurrence's branch hold reals. -/
theorem reals (x0 : S8192x1024.Idx → EReal) (x1 : S1024x1024.Idx → EReal) (x2 x3 x4 x5 x6 : S8192x1024.Idx → EReal)
    (h : @Cert.Pre_merge_finite.fn Cert.Pre_merge_finite.Gen.facts Ideal _ x0 x1 x2 x3 x4 x5 x6 = fun _ => 1#1) :
    (∀ i, IsReal (x0 i)) ∧ (∀ i, IsReal (x1 i)) ∧ (∀ i, IsReal (x2 i)) ∧ (∀ i, IsReal (x5 i)) := by
  have e := congrFun h ix0
  unfold Cert.Pre_merge_finite.fn at e
  obtain ⟨e, e3⟩ := and_true e
  obtain ⟨e, e2⟩ := and_true e
  obtain ⟨e0, e1⟩ := and_true e
  exact ⟨fun i => ⟨_, real_of_all x0 _ _ _ _ e0 i⟩, fun i => ⟨_, real_of_all x1 _ _ _ _ e1 i⟩, fun i => ⟨_, real_of_all x2 _ _ _ _ e2 i⟩,
    fun i => ⟨_, real_of_all x5 _ _ _ _ e3 i⟩⟩

theorem half_coe : half = ((1 / 2 : ℝ) : EReal) := by
  simp [Ideal.ofBits, Ideal.ieee, -EReal.coe_mul]; norm_num
theorem one_coe : one = ((1 : ℝ) : EReal) := by
  simp [Ideal.ofBits, Ideal.ieee, -EReal.coe_mul]
theorem s_real : IsReal s := by
  refine ⟨13386282 / 16777216, ?_⟩
  simp [Ideal.ofBits, Ideal.ieee, -EReal.coe_mul]; norm_num

/-- The forward pass's quotient of two literals is the named coefficient. -/
theorem quot_eq : quot = cube := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  unfold quot
  rw [h1, h2, ediv _ _ (by norm_num)]
  refine congrArg (fun r : ℝ => (r : EReal)) ?_
  norm_num

/-- The logistic function takes every extended real to a real. -/
theorem sg_real (x : EReal) : IsReal (sg x) := by
  unfold sg
  rw [one_coe]
  induction x with
  | bot => exact ⟨0, by rw [EReal.neg_bot, show Ideal.exp ⊤ = ⊤ from rfl, EReal.coe_add_top, Ideal.div]; simp⟩
  | top => exact ⟨1, by rw [EReal.neg_top, show Ideal.exp ⊥ = ((0 : ℝ) : EReal) from rfl, ← EReal.coe_add, ediv _ _ (by norm_num)]; norm_num⟩
  | coe r =>
    refine ⟨1 / (1 + Real.exp (-r)), ?_⟩
    rw [← ediv _ _ (by positivity)]
    rfl

/-- The rules' sum is the product with the derivative written by hand. -/
theorem rules_eq {x E : EReal} (hx : IsReal x) (hE : IsReal E) : rules cube x E = E * gd x := by
  obtain ⟨x, rfl⟩ := hx
  obtain ⟨E, rfl⟩ := hE
  obtain ⟨S, hS⟩ := s_real
  have ht : th cube x = ((Real.tanh (S * (x + 8943 / 200000 * (x * x * x))) : ℝ) : EReal) := by
    unfold th
    rw [hS]
    rfl
  unfold rules tang gd
  rw [ht, hS, half_coe, one_coe]
  generalize Real.tanh _ = T
  simp only [← EReal.coe_mul, ← EReal.coe_add, ← EReal.coe_sub]
  refine congrArg (fun r : ℝ => (r : EReal)) ?_
  ring

/-- The reference's three gates' gradients, with the coefficient C of the gelu's cube, are the kernel's. -/
theorem gates_eq {C : EReal} (hC : C = cube) {d : S8192x1024.Idx → EReal} {g a b h y : S8192x1024.Idx → EReal} (hd : ∀ i, IsReal (d i)) (hg : ∀ i, IsReal (g i)) (hh : ∀ i, IsReal (h i)) (i : Fin 8192) (j : Fin 3072) :
    three (fun j => rules C (g (ix2 i j)) (h (ix2 i j) * (sg (a (ix2 i j)) * d (ix2 i j))))
        (fun j => d (ix2 i j) * sg (a (ix2 i j)) * (h (ix2 i j) * gl C (g (ix2 i j))) * (one - sg (a (ix2 i j)))) (fun j => dB d b y (ix2 i j)) j
      = gates d g a b h y (ix2 i j) := by
  subst hC
  refine congrArg (fun f => three f _ _ j) (funext fun j => ?_)
  refine (rules_eq (hg (ix2 i j)) ((hh (ix2 i j)).mul ((sg_real (a (ix2 i j))).mul (hd (ix2 i j))))).trans ?_
  unfold dG
  ac_rfl

/-- The same of the recurrence's branch. -/
theorem dH_eq {C : EReal} (hC : C = cube) (d g a : S8192x1024.Idx → EReal) (i : S8192x1024.Idx) : d i * sg (a i) * gl C (g i) = dH d g a i := by
  subst hC
  rfl

theorem frame_kernel : Cert.quiescent_MergeKernel (hMergeKernel := Cert.MergeKernel.Gen.facts) :=
  fun m ρ _ => Cert.MergeKernel.Gen.frame m ρ

theorem frame_ideal : Cert.quiescent_MergeKernelIdeal (hMergeKernelIdeal := Cert.MergeKernelIdeal.Gen.facts) :=
  fun m ρ _ => Cert.MergeKernelIdeal.Gen.frame m ρ

theorem frame_ideal_pre : Cert.quiescent_MergeKernelIdeal_pre_merge_finite (hMergeKernelIdeal := Cert.MergeKernelIdeal.Gen.facts) (hPre_merge_finite := Cert.Pre_merge_finite.Gen.facts) :=
  fun m ρ _ => Cert.MergeKernelIdeal.Gen.frame m ρ

theorem frame_ref : Cert.quiescent_MergeReferenceIdeal (hMergeReferenceIdeal := Cert.MergeReferenceIdeal.Gen.facts) :=
  fun m ρ _ => (θ_run Cert.MergeReferenceIdeal.defs _ _).mono (fun r h => ⟨fun c => (h c).2.2.2.2.2, sem_eq_zero_of_no_sems rfl r.2⟩) (Cert.MergeReferenceIdeal.Value.run m ρ)

theorem frame_ref_pre : Cert.quiescent_MergeReferenceIdeal_pre_merge_finite (hMergeReferenceIdeal := Cert.MergeReferenceIdeal.Gen.facts) (hPre_merge_finite := Cert.Pre_merge_finite.Gen.facts) :=
  fun m ρ _ => frame_ref m ρ trivial

/-- Only the gelu's rounded coefficients were named. -/
theorem preserves : Cert.preserves_MergeKernel_MergeKernelIdeal :=
  ⟨IdealRules.named_const.statement Cert.MergeKernelIdeal.κ "gelu" .f32 0x3D372713#32 ((8943 / 200000 : ℝ) : EReal) rfl, IdealRules.named_const.statement Cert.MergeKernelIdeal.κ "gelu3" .f32 0x3E095D4F#32 ((26829 / 200000 : ℝ) : EReal) rfl⟩

set_option maxHeartbeats 2000000 in
/-- Kernel and reference compute one function where the four arguments hold reals. -/
theorem algebraic : Cert.algebraic_MergeKernelIdeal_MergeReferenceIdeal_pre_merge_finite (hMergeKernelIdeal := Cert.MergeKernelIdeal.Gen.facts) (hMergeReferenceIdeal := Cert.MergeReferenceIdeal.Gen.facts) (hPre_merge_finite := Cert.Pre_merge_finite.Gen.facts) := by
  intro m g m' g' hpre hag
  refine ⟨_, _, _, _, _, Cert.MergeKernelIdeal.Value.run_blocks m g, (θ_run Cert.MergeReferenceIdeal.defs _ _).mono (fun r h c => ⟨(h c).1.trans ?_, (h c).2.1.trans ?_, (h c).2.2.1.trans ?_, (h c).2.2.2.1.trans ?_, (h c).2.2.2.2.1.trans ?_, (h c).2.2.2.2.2⟩) (Cert.MergeReferenceIdeal.Value.run m' g')⟩
  all_goals obtain ⟨a0, a1, a2, a3, a4, a5, a6⟩ := hag c
  · rw [Cert.MergeReferenceIdeal.Read.val_main_v76_eq, a0, a1, a2, a3, a4, a5, a6]
    refine Eq.trans ?_ (final6 m c).symm
    obtain ⟨h0, h1, h2, h5⟩ := reals _ _ _ _ _ _ _ (hpre c)
    funext i
    idx_vars i
    have hd (i : S8192x1024.Idx) : IsReal (cc m c i) := IsReal.sum fun k => (h0 _).mul (h1 _)
    exact (r76 (mD m c) (mW m c) (mG m c) (mA m c) (mB m c) (mH m c) (mY m c) i0 i1).trans (gates_eq (d := cc m c) (g := mG m c) (a := mA m c) (b := mB m c) (h := mH m c) (y := mY m c) quot_eq hd h2 h5 i0 i1)
  · rw [Cert.MergeReferenceIdeal.Read.val_main_v77_eq, a0, a1, a4]
    refine Eq.trans ?_ (final7 m c).symm
    funext i
    exact r77 (mD m c) (mW m c) (mB m c) i
  · rw [Cert.MergeReferenceIdeal.Read.val_main_v79_eq, a0, a1, a4, a6]
    refine Eq.trans ?_ (final8 m c).symm
    funext i
    exact r79 (mD m c) (mW m c) (mB m c) (mY m c) i
  · rw [Cert.MergeReferenceIdeal.Read.val_main_v52_eq, a0, a1, a2, a3]
    refine Eq.trans ?_ (final9 m c).symm
    funext i
    exact (r52 (mD m c) (mW m c) (mG m c) (mA m c) i).trans (dH_eq quot_eq (cc m c) (mG m c) (mA m c) i)
  · rw [Cert.MergeReferenceIdeal.Read.val_main_v44_eq, a0, a2, a3, a4, a5, a6]
    refine Eq.trans ?_ (final10 m c).symm
    funext i
    exact r44 (mD m c) (mG m c) (mA m c) (mB m c) (mH m c) (mY m c) i

end Cert.Merge
end
-- ==== Proof.MlaPoint.lean ====
/- The latent projections' gradients at one grid point: the printed payloads, entry by entry. -/
module

public import proofs.«01_k».proof.Defs
public import proofs.«01_k».proof.Proof.Gen.MlaKernelIdeal.Skeleton
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.MlaPoint

open Idealize.ShloMosaic Idealize.ShloMosaic.TcCoe
open Cert.MlaKernelIdeal Cert.MlaKernelIdeal.Gen

/-- The norm's constants: the row's length and the term under the root. -/
abbrev N : EReal := Ideal.ofBits .f32 0x43800000#32
abbrev e : EReal := Ideal.ofBits .f32 0x358637BD#32

/-- The unit of the scores: one over the root of 192 times the logarithm of two. -/
abbrev u : EReal := (((Real.sqrt 192 * Real.log 2)⁻¹ : ℝ) : EReal)

/-- One head's cotangent of the projected queries, packed: the part without position, then the rotary part times the cosine and times the sine. -/
def qp (d : Fin 256 → EReal) (t : Fin 128 → EReal) (k : Fin 256) : EReal :=
  if h : k.val < 128 then d k * u else if h' : k.val < 192 then d k * u * t ⟨k.val - 128, by omega⟩ else d ⟨k.val - 64, by omega⟩ * u * t ⟨k.val - 128, by omega⟩

/-- One head's cotangent of the projected keys and values, side by side. -/
def kp (y z : Fin 128 → EReal) (k : Fin 256) : EReal :=
  if h : k.val < 128 then y ⟨k.val, h⟩ else z ⟨k.val - 128, by omega⟩

theorem lane (n : ℕ) (h : n < 128) : IntOp.cmpi .slt (BitVec.ofNat 32 n) 64#32 = BitVec.ofBool (decide (n < 64)) := by
  rw [WordCmp.cmpi_slt_ofNat (by omega) (by omega)]

/-- A select on the lane's number being under sixty-four. -/
theorem sel (n : ℕ) (A B : EReal) (h : n < 128) :
    Scalar.select (IntOp.cmpi .slt (BitVec.ofNat 32 n) 64#32) A B = if n < 64 then A else B := by
  rw [lane n h, WordCmp.select_ofBool]; simp

theorem low (n n' : ℕ) (A B C : EReal) (h : n < 64) (h' : n' < 128) (g : ¬n' < 64) :
    (Scalar.select (IntOp.cmpi .slt (BitVec.ofNat 32 n) 64#32) A 0 + Scalar.select (IntOp.cmpi .slt (BitVec.ofNat 32 n') 64#32) B 0) * C = A * C := by
  rw [sel n A 0 (by omega), sel n' B 0 h', if_pos h, if_neg g, add_zero]

theorem high (n n' : ℕ) (A B C : EReal) (h : n < 128) (g : ¬n < 64) (h' : n' < 64) :
    (Scalar.select (IntOp.cmpi .slt (BitVec.ofNat 32 n) 64#32) A 0 + Scalar.select (IntOp.cmpi .slt (BitVec.ofNat 32 n') 64#32) B 0) * C = B * C := by
  rw [sel n A 0 h, sel n' B 0 (by omega), if_neg g, if_pos h', zero_add]

theorem p15 (t : Vec Ideal S512x128 .f32) (d : Vec Ideal S1x1x256x512 .f32) (a : Fin 512) (k : Fin 256) :
    k0_pay15 (F := Ideal) t d (ix2 a k) = qp (fun j => d (ix4 0 0 j a)) (fun l => t (ix2 a l)) k := by
  unfold qp
  pointwise [k0_pay15, k0_pay10]
  have nu : (Named.named (F := Ideal) (φ := .f32) κ "unit" 1037384597#32 : EReal) = u := rfl
  generalize Named.named (F := Ideal) (φ := .f32) κ "unit" 1037384597#32 = s at nu ⊢
  subst nu
  by_cases h : k.val < 128
  · rw [dif_pos h, dif_pos h]
  · have hk := k.isLt
    have l1 : k.val - 128 < 128 := by omega
    have l2 : (k.val - 128 + 128 - 64) % 128 < 128 := by omega
    refine (dif_neg h).trans (Eq.trans ?_ (dif_neg h).symm)
    by_cases h' : k.val < 192
    · have c1 : k.val - 128 < 64 := by omega
      have c2 : ¬(k.val - 128 + 128 - 64) % 128 < 64 := by omega
      refine Eq.trans ?_ (dif_pos h').symm
      have e1 : (⟨128 + (k.val - 128), by omega⟩ : Fin 256) = k := Fin.ext (by simp only []; omega)
      exact (low _ _ _ _ _ c1 l2 c2).trans (congrArg (fun i => d (ix4 0 0 i a) * u * t (ix2 a ⟨k.val - 128, l1⟩)) e1)
    · have c1 : ¬k.val - 128 < 64 := by omega
      have c2 : (k.val - 128 + 128 - 64) % 128 < 64 := by omega
      refine Eq.trans ?_ (dif_neg h').symm
      have e1 : (⟨128 + (k.val - 128 + 128 - 64) % 128, by omega⟩ : Fin 256) = ⟨k.val - 64, by omega⟩ := Fin.ext (by simp only []; omega)
      exact (high _ _ _ _ _ l1 c1 c2).trans (congrArg (fun i => d (ix4 0 0 i a) * u * t (ix2 a ⟨k.val - 128, l1⟩)) e1)

theorem p19 (y z : Vec Ideal S1x512x128 .f32) (a : Fin 512) (k : Fin 256) :
    k0_pay19 (F := Ideal) y z (ix2 a k) = kp (fun l => y (ix3 0 a l)) (fun l => z (ix3 0 a l)) k := by
  unfold kp
  pointwise [k0_pay19]

/-- The lanes' numbers. -/
abbrev io : IVec S512x128 32 := iota .tc S512x128 32 [1] iota_S512x128_d1_w32

variable (t : Vec Ideal S512x128 .f32) (d : Vec Ideal S1x1x256x512 .f32) (y : FVec Ideal S512x256 .f32) (w : Vec Ideal S256x256 .bf16)
  (x : FVec Ideal S512x256 .bf16) (z : Vec Ideal S256x256 .f32) (k v : Vec Ideal S1x512x128 .f32) (r : FVec Ideal S512x128 .f32)

/-- One head's part of the cotangent of the normed queries. -/
theorem q24 (a : Fin 512) (b : Fin 256) : k0_pay24 (k0_pay10 t) io y (k0_pay22 d) w (ix2 a b) =
    y (ix2 a b) + ∑ j : Fin 256, k0_pay15 t d (ix2 a j) * w (ix2 b j) := by
  have e : k0_pay23 (F := Ideal) (k0_pay10 t) io (k0_pay22 d) = k0_pay15 t d := rfl
  unfold k0_pay24
  rw [e]
  generalize k0_pay15 (F := Ideal) t d = q
  pointwise []

theorem q32 (a : Fin 512) (b : Fin 256) : k0_pay32 (k0_pay10 t) io y d w (ix2 a b) =
    y (ix2 a b) + ∑ j : Fin 256, k0_pay15 t d (ix2 a j) * w (ix2 b j) := q24 t d y w a b

theorem q43 (a : Fin 512) (b : Fin 256) : k0_pay43 y (k0_pay40 d) (k0_pay41 (k0_pay10 t) io d) w (ix2 a b) =
    y (ix2 a b) + ∑ j : Fin 256, k0_pay15 t d (ix2 a j) * w (ix2 b j) := q24 t d y w a b

theorem q50 (a : Fin 512) (b : Fin 256) : k0_pay50 (k0_pay10 t) io y d w (ix2 a b) =
    y (ix2 a b) + ∑ j : Fin 256, k0_pay15 t d (ix2 a j) * w (ix2 b j) := q24 t d y w a b

theorem q57 (a : Fin 512) (b : Fin 256) : k0_pay57 (k0_pay10 t) io y d w (ix2 a b) =
    y (ix2 a b) + ∑ j : Fin 256, k0_pay15 t d (ix2 a j) * w (ix2 b j) := q24 t d y w a b

theorem q65 (a : Fin 512) (b : Fin 256) : k0_pay65 (k0_pay10 t) io y (k0_pay63 d) w (ix2 a b) =
    y (ix2 a b) + ∑ j : Fin 256, k0_pay15 t d (ix2 a j) * w (ix2 b j) := q24 t d y w a b

theorem q73 (a : Fin 512) (b : Fin 256) : k0_pay73 (k0_pay10 t) io y d w (ix2 a b) =
    y (ix2 a b) + ∑ j : Fin 256, k0_pay15 t d (ix2 a j) * w (ix2 b j) := q24 t d y w a b

theorem q16 (a : Fin 512) (b : Fin 256) : k0_pay16 t d w (ix2 a b) = ∑ j : Fin 256, k0_pay15 t d (ix2 a j) * w (ix2 b j) := by
  refine (q24 t d (broadcast S512x256 (Scalar.ofBits .f32 0x00000000#32)) w a b).trans ?_
  pointwise []

/-- One head's part of the gradient of the queries' weight. -/
theorem w17 (a b : Fin 256) : k0_pay17 x (k0_pay15 t d) z (ix2 a b) =
    z (ix2 a b) + ∑ i : Fin 512, x (ix2 i a) * k0_pay15 t d (ix2 i b) := by
  unfold k0_pay17
  generalize k0_pay15 (F := Ideal) t d = q
  pointwise []

theorem w25 (a b : Fin 256) : k0_pay25 (k0_pay10 t) io x (k0_pay22 d) z (ix2 a b) =
    z (ix2 a b) + ∑ i : Fin 512, x (ix2 i a) * k0_pay15 t d (ix2 i b) := w17 t d x z a b

theorem w33 (a b : Fin 256) : k0_pay33 (k0_pay10 t) io x d z (ix2 a b) =
    z (ix2 a b) + ∑ i : Fin 512, x (ix2 i a) * k0_pay15 t d (ix2 i b) := w17 t d x z a b

theorem w44 (a b : Fin 256) : k0_pay44 x (k0_pay40 d) (k0_pay41 (k0_pay10 t) io d) z (ix2 a b) =
    z (ix2 a b) + ∑ i : Fin 512, x (ix2 i a) * k0_pay15 t d (ix2 i b) := w17 t d x z a b

theorem w51 (a b : Fin 256) : k0_pay51 (k0_pay10 t) io x d z (ix2 a b) =
    z (ix2 a b) + ∑ i : Fin 512, x (ix2 i a) * k0_pay15 t d (ix2 i b) := w17 t d x z a b

theorem w58 (a b : Fin 256) : k0_pay58 x (k0_pay56 (k0_pay10 t) io d) z (ix2 a b) =
    z (ix2 a b) + ∑ i : Fin 512, x (ix2 i a) * k0_pay15 t d (ix2 i b) := w17 t d x z a b

theorem w66 (a b : Fin 256) : k0_pay66 (k0_pay10 t) io x (k0_pay63 d) z (ix2 a b) =
    z (ix2 a b) + ∑ i : Fin 512, x (ix2 i a) * k0_pay15 t d (ix2 i b) := w17 t d x z a b

theorem w74 (a b : Fin 256) : k0_pay74 (k0_pay10 t) io x d z (ix2 a b) =
    z (ix2 a b) + ∑ i : Fin 512, x (ix2 i a) * k0_pay15 t d (ix2 i b) := w17 t d x z a b

/-- One head's part of the cotangent of the normed keys and values. -/
theorem k20 (a : Fin 512) (b : Fin 256) : k0_pay20 y k v w (ix2 a b) =
    y (ix2 a b) + ∑ j : Fin 256, k0_pay19 k v (ix2 a j) * w (ix2 b j) := by
  unfold k0_pay20
  generalize k0_pay19 (F := Ideal) k v = q
  pointwise []

theorem k29 (a : Fin 512) (b : Fin 256) : k0_pay29 y (k0_pay27 k v) (k0_pay28 w) (ix2 a b) =
    y (ix2 a b) + ∑ j : Fin 256, k0_pay19 k v (ix2 a j) * w (ix2 b j) := k20 y w k v a b

theorem k37 (a : Fin 512) (b : Fin 256) : k0_pay37 y k v w (ix2 a b) =
    y (ix2 a b) + ∑ j : Fin 256, k0_pay19 k v (ix2 a j) * w (ix2 b j) := k20 y w k v a b

theorem k47 (a : Fin 512) (b : Fin 256) : k0_pay47 y k v w (ix2 a b) =
    y (ix2 a b) + ∑ j : Fin 256, k0_pay19 k v (ix2 a j) * w (ix2 b j) := k20 y w k v a b

theorem k54 (a : Fin 512) (b : Fin 256) : k0_pay54 y k v w (ix2 a b) =
    y (ix2 a b) + ∑ j : Fin 256, k0_pay19 k v (ix2 a j) * w (ix2 b j) := k20 y w k v a b

theorem k61 (a : Fin 512) (b : Fin 256) : k0_pay61 y k v w (ix2 a b) =
    y (ix2 a b) + ∑ j : Fin 256, k0_pay19 k v (ix2 a j) * w (ix2 b j) := k20 y w k v a b

theorem k70 (a : Fin 512) (b : Fin 256) : k0_pay70 y (k0_pay68 k v) (k0_pay69 w) (ix2 a b) =
    y (ix2 a b) + ∑ j : Fin 256, k0_pay19 k v (ix2 a j) * w (ix2 b j) := k20 y w k v a b

theorem k78 (a : Fin 512) (b : Fin 256) : k0_pay78 y k v w (ix2 a b) =
    y (ix2 a b) + ∑ j : Fin 256, k0_pay19 k v (ix2 a j) * w (ix2 b j) := k20 y w k v a b

/-- One head's part of the gradient of the keys' and values' weight. -/
theorem v21 (a b : Fin 256) : k0_pay21 x k v z (ix2 a b) =
    z (ix2 a b) + ∑ i : Fin 512, x (ix2 i a) * k0_pay19 k v (ix2 i b) := by
  unfold k0_pay21
  generalize k0_pay19 (F := Ideal) k v = q
  pointwise []

theorem v30 (a b : Fin 256) : k0_pay30 x (k0_pay27 k v) z (ix2 a b) =
    z (ix2 a b) + ∑ i : Fin 512, x (ix2 i a) * k0_pay19 k v (ix2 i b) := v21 x z k v a b

theorem v38 (a b : Fin 256) : k0_pay38 x k v z (ix2 a b) =
    z (ix2 a b) + ∑ i : Fin 512, x (ix2 i a) * k0_pay19 k v (ix2 i b) := v21 x z k v a b

theorem v48 (a b : Fin 256) : k0_pay48 x k v z (ix2 a b) =
    z (ix2 a b) + ∑ i : Fin 512, x (ix2 i a) * k0_pay19 k v (ix2 i b) := v21 x z k v a b

theorem v55 (a b : Fin 256) : k0_pay55 x k v z (ix2 a b) =
    z (ix2 a b) + ∑ i : Fin 512, x (ix2 i a) * k0_pay19 k v (ix2 i b) := v21 x z k v a b

theorem v62 (a b : Fin 256) : k0_pay62 x k v z (ix2 a b) =
    z (ix2 a b) + ∑ i : Fin 512, x (ix2 i a) * k0_pay19 k v (ix2 i b) := v21 x z k v a b

theorem v71 (a b : Fin 256) : k0_pay71 x (k0_pay68 k v) z (ix2 a b) =
    z (ix2 a b) + ∑ i : Fin 512, x (ix2 i a) * k0_pay19 k v (ix2 i b) := v21 x z k v a b

theorem v79 (a b : Fin 256) : k0_pay79 x k v z (ix2 a b) =
    z (ix2 a b) + ∑ i : Fin 512, x (ix2 i a) * k0_pay19 k v (ix2 i b) := v21 x z k v a b

/-- One head's part of the cotangent of the key's rotary part: the first sixty-four lanes. -/
theorem r18 (a : Fin 512) (l : Fin 128) : k0_pay18 io r k (ix2 a l) = r (ix2 a l) + if l.val < 64 then k (ix3 0 a l) else 0 := by
  pointwise [k0_pay18]
  rw [sel _ _ _ l.isLt]

theorem r26 (a : Fin 512) (l : Fin 128) : k0_pay26 io r k (ix2 a l) = r (ix2 a l) + if l.val < 64 then k (ix3 0 a l) else 0 := r18 k r a l

theorem r35 (a : Fin 512) (l : Fin 128) : k0_pay35 r (k0_pay34 io) k (ix2 a l) = r (ix2 a l) + if l.val < 64 then k (ix3 0 a l) else 0 := r18 k r a l

theorem r45 (a : Fin 512) (l : Fin 128) : k0_pay45 io r k (ix2 a l) = r (ix2 a l) + if l.val < 64 then k (ix3 0 a l) else 0 := r18 k r a l

theorem r52 (a : Fin 512) (l : Fin 128) : k0_pay52 io r k (ix2 a l) = r (ix2 a l) + if l.val < 64 then k (ix3 0 a l) else 0 := r18 k r a l

theorem r59 (a : Fin 512) (l : Fin 128) : k0_pay59 io r k (ix2 a l) = r (ix2 a l) + if l.val < 64 then k (ix3 0 a l) else 0 := r18 k r a l

theorem r67 (a : Fin 512) (l : Fin 128) : k0_pay67 io r k (ix2 a l) = r (ix2 a l) + if l.val < 64 then k (ix3 0 a l) else 0 := r18 k r a l

theorem r76 (a : Fin 512) (l : Fin 128) : k0_pay76 r (k0_pay75 io) k (ix2 a l) = r (ix2 a l) + if l.val < 64 then k (ix3 0 a l) else 0 := r18 k r a l

theorem p5 (a : Fin 512) (l : Fin 128) : k0_pay5 (k0_pay10 t) r (ix2 a l) =
    (r (ix2 a l) + r (ix2 a ⟨(l.val + 128 - 64) % 128, by omega⟩)) * t (ix2 a l) := by
  pointwise [k0_pay5, k0_pay10]

/-- A row's gradient through its norm. -/
theorem hq (X : Vec Ideal S512x256 .f32) (g : Vec Ideal S1x256 .f32) (a : Fin 512) (b : Fin 256) :
    k0_pay3 (k0_pay82 y X (k0_pay80 X) (k0_pay81 g)) (ix2 a b) =
      Rms.hand N e (fun j => X (ix2 a j)) (fun j => g (ix2 0 j)) (fun j => y (ix2 a j)) b := by
  unfold Rms.hand Rms.scale
  pointwise [k0_pay3, k0_pay82, k0_pay80, k0_pay81]

theorem hk (X : Vec Ideal S512x256 .f32) (g : Vec Ideal S1x256 .f32) (a : Fin 512) (b : Fin 256) :
    k0_pay4 (k0_pay84 y X g) (ix2 a b) =
      Rms.hand N e (fun j => X (ix2 a j)) (fun j => g (ix2 0 j)) (fun j => y (ix2 a j)) b :=
  hq y X g a b

/-- A block's part of the norm's gradient. -/
theorem nq (X : Vec Ideal S512x256 .f32) (g : Vec Ideal S1x256 .f32) (b : Fin 256) :
    k0_pay1 (k0_pay86 g) (k0_pay87 y X (k0_pay80 X)) (ix2 0 b) =
      g (ix2 0 b) + ∑ a : Fin 512, y (ix2 a b) * (X (ix2 a b) * Rms.scale N e fun j => X (ix2 a j)) := by
  unfold Rms.scale
  pointwise [k0_pay1, k0_pay86, k0_pay87, k0_pay80]

theorem nk (X : Vec Ideal S512x256 .f32) (g : Vec Ideal S1x256 .f32) (b : Fin 256) :
    k0_pay2 (k0_pay85 y X) g (ix2 0 b) =
      g (ix2 0 b) + ∑ a : Fin 512, y (ix2 a b) * (X (ix2 a b) * Rms.scale N e fun j => X (ix2 a j)) :=
  nq y X g b

end Cert.MlaPoint
end
-- ==== Proof.MlaChain.lean ====
/- The latent projections' gradients at one grid point: the eight heads' parts added up. -/
module

public import proofs.«01_k».proof.Proof.MlaPoint

@[expose] public section

set_option maxRecDepth 16384

noncomputable section

namespace Cert.MlaPoint

open Idealize.ShloMosaic Idealize.ShloMosaic.TcCoe
open Cert.MlaKernelIdeal Cert.MlaKernelIdeal.Gen

/-- A head's column of a packed weight. -/
def col (h : Fin 8) (j : Fin 256) : Fin 2048 := ⟨256 * h.val + j.val, by omega⟩

variable (T : Vec Ideal S512x128 .f32) (D : Vec Ideal S8x1x256x512 .f32) (W : Vec Ideal S256x2048 .bf16)
  (K : Vec Ideal S8x512x256 .f32) (V : Vec Ideal S8x512x128 .f32)

/-- The cotangent of the normed queries' latent row: all heads. -/
def dcq (a : Fin 512) (b : Fin 256) : EReal :=
  ∑ h : Fin 8, ∑ j : Fin 256, qp (fun i => D (ix4 h 0 i a)) (fun l => T (ix2 a l)) j * W (ix2 b (col h j))

/-- The cotangent of the normed keys' and values' latent row: all heads. -/
def dckv (a : Fin 512) (b : Fin 256) : EReal :=
  ∑ h : Fin 8, ∑ j : Fin 256, kp (fun l => K (ix3 h a ⟨l.val, by omega⟩)) (fun l => V (ix3 h a l)) j * W (ix2 b (col h j))

/-- The cotangent of the key's rotary part, in the first sixty-four lanes. -/
def dkr (a : Fin 512) (l : Fin 128) : EReal :=
  ∑ h : Fin 8, if l.val < 64 then K (ix3 h a ⟨128 + l.val, by omega⟩) else 0

theorem c0 (x : Fin 256) : (⟨x.val, by omega⟩ : Fin 2048) = col 0 x := Fin.ext (by simp [col])

theorem dcq_eq (a : Fin 512) (b : Fin 256) :
    k0_pay73 (k0_pay10 T) io
      (k0_pay65 (k0_pay10 T) io
        (k0_pay57 (k0_pay10 T) io
          (k0_pay50 (k0_pay10 T) io
            (k0_pay43
              (k0_pay32 (k0_pay10 T) io
                (k0_pay24 (k0_pay10 T) io
                  (k0_pay16 T (View.ld D (Rect.unit ![0, 0, 0, 0] ![1, 1, 256, 512] inb_S8x1x256x512_S1x1x256x512_0_0_0_0)) (View.ld W (Rect.unit ![0, 0] ![256, 256] inb_S256x2048_S256x256_0_0)))
                  (k0_pay22 (View.ld D (Rect.unit ![1, 0, 0, 0] ![1, 1, 256, 512] inb_S8x1x256x512_S1x1x256x512_1_0_0_0))) (View.ld W (Rect.unit ![0, 256] ![256, 256] inb_S256x2048_S256x256_0_256)))
                (View.ld D (Rect.unit ![2, 0, 0, 0] ![1, 1, 256, 512] inb_S8x1x256x512_S1x1x256x512_2_0_0_0)) (View.ld W (Rect.unit ![0, 512] ![256, 256] inb_S256x2048_S256x256_0_512)))
              (k0_pay40 (View.ld D (Rect.unit ![3, 0, 0, 0] ![1, 1, 256, 512] inb_S8x1x256x512_S1x1x256x512_3_0_0_0)))
              (k0_pay41 (k0_pay10 T) io (View.ld D (Rect.unit ![3, 0, 0, 0] ![1, 1, 256, 512] inb_S8x1x256x512_S1x1x256x512_3_0_0_0))) (View.ld W (Rect.unit ![0, 768] ![256, 256] inb_S256x2048_S256x256_0_768)))
            (View.ld D (Rect.unit ![4, 0, 0, 0] ![1, 1, 256, 512] inb_S8x1x256x512_S1x1x256x512_4_0_0_0)) (View.ld W (Rect.unit ![0, 1024] ![256, 256] inb_S256x2048_S256x256_0_1024)))
          (View.ld D (Rect.unit ![5, 0, 0, 0] ![1, 1, 256, 512] inb_S8x1x256x512_S1x1x256x512_5_0_0_0)) (View.ld W (Rect.unit ![0, 1280] ![256, 256] inb_S256x2048_S256x256_0_1280)))
        (k0_pay63 (View.ld D (Rect.unit ![6, 0, 0, 0] ![1, 1, 256, 512] inb_S8x1x256x512_S1x1x256x512_6_0_0_0))) (View.ld W (Rect.unit ![0, 1536] ![256, 256] inb_S256x2048_S256x256_0_1536)))
      (View.ld D (Rect.unit ![7, 0, 0, 0] ![1, 1, 256, 512] inb_S8x1x256x512_S1x1x256x512_7_0_0_0)) (View.ld W (Rect.unit ![0, 1792] ![256, 256] inb_S256x2048_S256x256_0_1792)) (ix2 a b)
      = dcq T D W a b := by
  rw [q73, q65, q57, q50, q43, q32, q24, q16]
  simp only [p15]
  unfold dcq
  rw [Fin.sum_univ_eight]
  pointwise [View.ld_apply]
  simp only [c0]
  rfl

theorem dckv_eq (a : Fin 512) (b : Fin 256) :
    (k0_pay78 (k0_pay70 (k0_pay61 (k0_pay54 (k0_pay47 (k0_pay37 (k0_pay29 (k0_pay20 k0_pay13 (View.ld K (Rect.unit ![0, 0, 0] ![1, 512, 128] inb_S8x512x256_S1x512x128_0_0_0)) (View.ld V (Rect.unit ![0, 0, 0] ![1, 512, 128] inb_S8x512x128_S1x512x128_0_0_0)) (View.ld W (Rect.unit ![0, 0] ![256, 256] inb_S256x2048_S256x256_0_0)))
      (k0_pay27 (View.ld K (Rect.unit ![1, 0, 0] ![1, 512, 128] inb_S8x512x256_S1x512x128_1_0_0)) (View.ld V (Rect.unit ![1, 0, 0] ![1, 512, 128] inb_S8x512x128_S1x512x128_1_0_0))) (k0_pay28 (View.ld W (Rect.unit ![0, 256] ![256, 256] inb_S256x2048_S256x256_0_256))))
      (View.ld K (Rect.unit ![2, 0, 0] ![1, 512, 128] inb_S8x512x256_S1x512x128_2_0_0)) (View.ld V (Rect.unit ![2, 0, 0] ![1, 512, 128] inb_S8x512x128_S1x512x128_2_0_0)) (View.ld W (Rect.unit ![0, 512] ![256, 256] inb_S256x2048_S256x256_0_512)))
      (View.ld K (Rect.unit ![3, 0, 0] ![1, 512, 128] inb_S8x512x256_S1x512x128_3_0_0)) (View.ld V (Rect.unit ![3, 0, 0] ![1, 512, 128] inb_S8x512x128_S1x512x128_3_0_0)) (View.ld W (Rect.unit ![0, 768] ![256, 256] inb_S256x2048_S256x256_0_768)))
      (View.ld K (Rect.unit ![4, 0, 0] ![1, 512, 128] inb_S8x512x256_S1x512x128_4_0_0)) (View.ld V (Rect.unit ![4, 0, 0] ![1, 512, 128] inb_S8x512x128_S1x512x128_4_0_0)) (View.ld W (Rect.unit ![0, 1024] ![256, 256] inb_S256x2048_S256x256_0_1024)))
      (View.ld K (Rect.unit ![5, 0, 0] ![1, 512, 128] inb_S8x512x256_S1x512x128_5_0_0)) (View.ld V (Rect.unit ![5, 0, 0] ![1, 512, 128] inb_S8x512x128_S1x512x128_5_0_0)) (View.ld W (Rect.unit ![0, 1280] ![256, 256] inb_S256x2048_S256x256_0_1280)))
      (k0_pay68 (View.ld K (Rect.unit ![6, 0, 0] ![1, 512, 128] inb_S8x512x256_S1x512x128_6_0_0)) (View.ld V (Rect.unit ![6, 0, 0] ![1, 512, 128] inb_S8x512x128_S1x512x128_6_0_0))) (k0_pay69 (View.ld W (Rect.unit ![0, 1536] ![256, 256] inb_S256x2048_S256x256_0_1536))))
      (View.ld K (Rect.unit ![7, 0, 0] ![1, 512, 128] inb_S8x512x256_S1x512x128_7_0_0)) (View.ld V (Rect.unit ![7, 0, 0] ![1, 512, 128] inb_S8x512x128_S1x512x128_7_0_0)) (View.ld W (Rect.unit ![0, 1792] ![256, 256] inb_S256x2048_S256x256_0_1792))) (ix2 a b) = dckv W K V a b := by
  rw [k78, k70, k61, k54, k47, k37, k29, k20]
  simp only [p19]
  unfold dckv
  rw [Fin.sum_univ_eight]
  pointwise [View.ld_apply, k0_pay13]
  simp only [c0, zero_add]
  rfl

theorem dkr_eq (a : Fin 512) (l : Fin 128) :
    (k0_pay76 (k0_pay67 io (k0_pay59 io (k0_pay52 io (k0_pay45 io (k0_pay35 (k0_pay26 io (k0_pay18 io k0_pay14 (View.ld K (Rect.unit ![0, 0, 128] ![1, 512, 128] inb_S8x512x256_S1x512x128_0_0_128))) (View.ld K (Rect.unit ![1, 0, 128] ![1, 512, 128] inb_S8x512x256_S1x512x128_1_0_128))) (k0_pay34 io) (View.ld K (Rect.unit ![2, 0, 128] ![1, 512, 128] inb_S8x512x256_S1x512x128_2_0_128)))
      (View.ld K (Rect.unit ![3, 0, 128] ![1, 512, 128] inb_S8x512x256_S1x512x128_3_0_128)))
      (View.ld K (Rect.unit ![4, 0, 128] ![1, 512, 128] inb_S8x512x256_S1x512x128_4_0_128)))
      (View.ld K (Rect.unit ![5, 0, 128] ![1, 512, 128] inb_S8x512x256_S1x512x128_5_0_128)))
      (View.ld K (Rect.unit ![6, 0, 128] ![1, 512, 128] inb_S8x512x256_S1x512x128_6_0_128))) (k0_pay75 io) (View.ld K (Rect.unit ![7, 0, 128] ![1, 512, 128] inb_S8x512x256_S1x512x128_7_0_128))) (ix2 a l) = dkr K a l := by
  rw [r76, r67, r59, r52, r45, r35, r26, r18]
  unfold dkr
  rw [Fin.sum_univ_eight]
  pointwise [View.ld_apply, k0_pay14]

/-- One block's part of the queries' weight's gradient. -/
def stepQ (x : FVec Ideal S512x256 .bf16) (a : Fin 256) (n : Fin 2048) : EReal :=
  ∑ i : Fin 512, x (ix2 i a) * qp (fun r => D (ix4 ⟨n.val / 256, by omega⟩ 0 r i)) (fun l => T (ix2 i l)) ⟨n.val % 256, by omega⟩

/-- One block's part of the keys' and values' weight's gradient. -/
def stepK (x : FVec Ideal S512x256 .bf16) (a : Fin 256) (n : Fin 2048) : EReal :=
  ∑ i : Fin 512, x (ix2 i a) * kp (fun l => K (ix3 ⟨n.val / 256, by omega⟩ i ⟨l.val, by omega⟩)) (fun l => V (ix3 ⟨n.val / 256, by omega⟩ i l)) ⟨n.val % 256, by omega⟩

theorem e11 (x : Vec Ideal S512x256 .bf16) : k0_pay11 (F := Ideal) x = x := by
  funext i
  idx_vars i
  pointwise [k0_pay11]

theorem e12 (x : Vec Ideal S512x256 .bf16) : k0_pay12 (F := Ideal) x = x := e11 x

/-- A head's tile of a weight's gradient: the tile read before, plus the block's part. -/
theorem tileQ (x : FVec Ideal S512x256 .bf16) (P : Vec Ideal S256x2048 .f32) (h o : ℕ) (e : o = 256 * h) (hh : h < 8)
    (ib : ∀ j, ![0, o] j + ![256, 256] j ≤ S256x2048.size j) (id : ∀ j, ![h, 0, 0, 0] j + ![1, 1, 256, 512] j ≤ S8x1x256x512.size j)
    (a b : Fin 256) (Z : S256x2048.Idx) (h0 : (Z 0).val = a.val) (h1 : (Z 1).val = o + b.val) :
    View.ld P (Rect.unit ![0, o] ![256, 256] ib) (ix2 a b) + ∑ i : Fin 512, x (ix2 i a) * k0_pay15 T (View.ld D (Rect.unit ![h, 0, 0, 0] ![1, 1, 256, 512] id)) (ix2 i b)
      = P Z + stepQ T D x (Z 0) (Z 1) := by
  have hn : (Z 1).val / 256 = h := by omega
  have hm : (Z 1).val % 256 = b.val := by omega
  refine congrArg₂ (· + ·) (View.ld_unit_apply_of P _ _ ib (ix2 a b) Z fun j => ?_) (Finset.sum_congr rfl fun i _ => congrArg₂ (· * ·) (congrArg (fun j => x (ix2 i j)) (Fin.ext h0.symm)) ?_)
  · fin_cases j
    · exact h0.trans (Nat.zero_add _).symm
    · exact h1
  · refine (p15 _ _ _ _).trans ?_
    refine congrArg₂ (fun f k => qp f (fun l => T (ix2 i l)) k) (funext fun r => ?_) (Fin.ext hm.symm)
    refine View.ld_unit_apply_of D _ _ id _ _ fun j => ?_
    fin_cases j <;> first | exact hn | exact (Nat.zero_add _).symm

theorem tileK (x : FVec Ideal S512x256 .bf16) (P : Vec Ideal S256x2048 .f32) (h o : ℕ) (e : o = 256 * h) (hh : h < 8)
    (ib : ∀ j, ![0, o] j + ![256, 256] j ≤ S256x2048.size j) (ik : ∀ j, ![h, 0, 0] j + ![1, 512, 128] j ≤ S8x512x256.size j) (iv : ∀ j, ![h, 0, 0] j + ![1, 512, 128] j ≤ S8x512x128.size j)
    (a b : Fin 256) (Z : S256x2048.Idx) (h0 : (Z 0).val = a.val) (h1 : (Z 1).val = o + b.val) :
    View.ld P (Rect.unit ![0, o] ![256, 256] ib) (ix2 a b) + ∑ i : Fin 512, x (ix2 i a) * k0_pay19 (View.ld K (Rect.unit ![h, 0, 0] ![1, 512, 128] ik)) (View.ld V (Rect.unit ![h, 0, 0] ![1, 512, 128] iv)) (ix2 i b)
      = P Z + stepK K V x (Z 0) (Z 1) := by
  have hn : (Z 1).val / 256 = h := by omega
  have hm : (Z 1).val % 256 = b.val := by omega
  refine congrArg₂ (· + ·) (View.ld_unit_apply_of P _ _ ib (ix2 a b) Z fun j => ?_) (Finset.sum_congr rfl fun i _ => congrArg₂ (· * ·) (congrArg (fun j => x (ix2 i j)) (Fin.ext h0.symm)) ?_)
  · fin_cases j
    · exact h0.trans (Nat.zero_add _).symm
    · exact h1
  · refine (p19 _ _ _ _).trans ?_
    rw [show (⟨(Z 1).val % 256, by omega⟩ : Fin 256) = b from Fin.ext hm]
    refine congrArg₂ (fun f g => kp f g b) (funext fun l => ?_) (funext fun l => ?_)
    · refine View.ld_unit_apply_of K _ _ ik _ _ fun j => ?_
      fin_cases j <;> first | exact hn | exact (Nat.zero_add _).symm
    · refine View.ld_unit_apply_of V _ _ iv _ _ fun j => ?_
      fin_cases j <;> first | exact hn | exact (Nat.zero_add _).symm

end Cert.MlaPoint
end
-- ==== Proof.MlaStep.lean ====
/- The latent projections' weights' gradients at one grid point: the eight stores of a point, read as one array. -/
module

public import proofs.«01_k».proof.Proof.MlaChain
public import Idealize.ShloMosaic.Lib.Ring

@[expose] public section

set_option maxRecDepth 16384

noncomputable section

namespace Cert.MlaPoint

open Idealize.ShloMosaic Idealize.ShloMosaic.TcCoe
open Cert.MlaKernelIdeal Cert.MlaKernelIdeal.Gen

variable (T : Vec Ideal S512x128 .f32) (D : Vec Ideal S8x1x256x512 .f32) (x : Vec Ideal S512x256 .bf16) (P : Vec Ideal S256x2048 .f32)
  (K : Vec Ideal S8x512x256 .f32) (V : Vec Ideal S8x512x128 .f32)

/-- The stores of a point into the queries' weight's gradient, the last first. -/
def storesQ : List (View.Piece (Elt Ideal) S256x2048 .f32) :=
  [⟨Rect.unit ![0, 1792] ![256, 256] inb_S256x2048_S256x256_0_1792, k0_pay74 (k0_pay10 T) io (k0_pay11 x) (View.ld D (Rect.unit ![7, 0, 0, 0] ![1, 1, 256, 512] inb_S8x1x256x512_S1x1x256x512_7_0_0_0)) (View.ld P (Rect.unit ![0, 1792] ![256, 256] inb_S256x2048_S256x256_0_1792))⟩,
   ⟨Rect.unit ![0, 1536] ![256, 256] inb_S256x2048_S256x256_0_1536, k0_pay66 (k0_pay10 T) io (k0_pay11 x) (k0_pay63 (View.ld D (Rect.unit ![6, 0, 0, 0] ![1, 1, 256, 512] inb_S8x1x256x512_S1x1x256x512_6_0_0_0))) (View.ld P (Rect.unit ![0, 1536] ![256, 256] inb_S256x2048_S256x256_0_1536))⟩,
   ⟨Rect.unit ![0, 1280] ![256, 256] inb_S256x2048_S256x256_0_1280, k0_pay58 (k0_pay11 x) (k0_pay56 (k0_pay10 T) io (View.ld D (Rect.unit ![5, 0, 0, 0] ![1, 1, 256, 512] inb_S8x1x256x512_S1x1x256x512_5_0_0_0))) (View.ld P (Rect.unit ![0, 1280] ![256, 256] inb_S256x2048_S256x256_0_1280))⟩,
   ⟨Rect.unit ![0, 1024] ![256, 256] inb_S256x2048_S256x256_0_1024, k0_pay51 (k0_pay10 T) io (k0_pay11 x) (View.ld D (Rect.unit ![4, 0, 0, 0] ![1, 1, 256, 512] inb_S8x1x256x512_S1x1x256x512_4_0_0_0)) (View.ld P (Rect.unit ![0, 1024] ![256, 256] inb_S256x2048_S256x256_0_1024))⟩,
   ⟨Rect.unit ![0, 768] ![256, 256] inb_S256x2048_S256x256_0_768, k0_pay44 (k0_pay11 x) (k0_pay40 (View.ld D (Rect.unit ![3, 0, 0, 0] ![1, 1, 256, 512] inb_S8x1x256x512_S1x1x256x512_3_0_0_0))) (k0_pay41 (k0_pay10 T) io (View.ld D (Rect.unit ![3, 0, 0, 0] ![1, 1, 256, 512] inb_S8x1x256x512_S1x1x256x512_3_0_0_0))) (View.ld P (Rect.unit ![0, 768] ![256, 256] inb_S256x2048_S256x256_0_768))⟩,
   ⟨Rect.unit ![0, 512] ![256, 256] inb_S256x2048_S256x256_0_512, k0_pay33 (k0_pay10 T) io (k0_pay11 x) (View.ld D (Rect.unit ![2, 0, 0, 0] ![1, 1, 256, 512] inb_S8x1x256x512_S1x1x256x512_2_0_0_0)) (View.ld P (Rect.unit ![0, 512] ![256, 256] inb_S256x2048_S256x256_0_512))⟩,
   ⟨Rect.unit ![0, 256] ![256, 256] inb_S256x2048_S256x256_0_256, k0_pay25 (k0_pay10 T) io (k0_pay11 x) (k0_pay22 (View.ld D (Rect.unit ![1, 0, 0, 0] ![1, 1, 256, 512] inb_S8x1x256x512_S1x1x256x512_1_0_0_0))) (View.ld P (Rect.unit ![0, 256] ![256, 256] inb_S256x2048_S256x256_0_256))⟩,
   ⟨Rect.unit ![0, 0] ![256, 256] inb_S256x2048_S256x256_0_0, k0_pay17 (k0_pay11 x) (k0_pay15 T (View.ld D (Rect.unit ![0, 0, 0, 0] ![1, 1, 256, 512] inb_S8x1x256x512_S1x1x256x512_0_0_0_0))) (View.ld P (Rect.unit ![0, 0] ![256, 256] inb_S256x2048_S256x256_0_0))⟩]

/-- The stores of a point into the keys' and values' weight's gradient, the last first. -/
def storesK : List (View.Piece (Elt Ideal) S256x2048 .f32) :=
  [⟨Rect.unit ![0, 1792] ![256, 256] inb_S256x2048_S256x256_0_1792, k0_pay79 (k0_pay12 x) (View.ld K (Rect.unit ![7, 0, 0] ![1, 512, 128] inb_S8x512x256_S1x512x128_7_0_0)) (View.ld V (Rect.unit ![7, 0, 0] ![1, 512, 128] inb_S8x512x128_S1x512x128_7_0_0)) (View.ld P (Rect.unit ![0, 1792] ![256, 256] inb_S256x2048_S256x256_0_1792))⟩,
   ⟨Rect.unit ![0, 1536] ![256, 256] inb_S256x2048_S256x256_0_1536, k0_pay71 (k0_pay12 x) (k0_pay68 (View.ld K (Rect.unit ![6, 0, 0] ![1, 512, 128] inb_S8x512x256_S1x512x128_6_0_0)) (View.ld V (Rect.unit ![6, 0, 0] ![1, 512, 128] inb_S8x512x128_S1x512x128_6_0_0))) (View.ld P (Rect.unit ![0, 1536] ![256, 256] inb_S256x2048_S256x256_0_1536))⟩,
   ⟨Rect.unit ![0, 1280] ![256, 256] inb_S256x2048_S256x256_0_1280, k0_pay62 (k0_pay12 x) (View.ld K (Rect.unit ![5, 0, 0] ![1, 512, 128] inb_S8x512x256_S1x512x128_5_0_0)) (View.ld V (Rect.unit ![5, 0, 0] ![1, 512, 128] inb_S8x512x128_S1x512x128_5_0_0)) (View.ld P (Rect.unit ![0, 1280] ![256, 256] inb_S256x2048_S256x256_0_1280))⟩,
   ⟨Rect.unit ![0, 1024] ![256, 256] inb_S256x2048_S256x256_0_1024, k0_pay55 (k0_pay12 x) (View.ld K (Rect.unit ![4, 0, 0] ![1, 512, 128] inb_S8x512x256_S1x512x128_4_0_0)) (View.ld V (Rect.unit ![4, 0, 0] ![1, 512, 128] inb_S8x512x128_S1x512x128_4_0_0)) (View.ld P (Rect.unit ![0, 1024] ![256, 256] inb_S256x2048_S256x256_0_1024))⟩,
   ⟨Rect.unit ![0, 768] ![256, 256] inb_S256x2048_S256x256_0_768, k0_pay48 (k0_pay12 x) (View.ld K (Rect.unit ![3, 0, 0] ![1, 512, 128] inb_S8x512x256_S1x512x128_3_0_0)) (View.ld V (Rect.unit ![3, 0, 0] ![1, 512, 128] inb_S8x512x128_S1x512x128_3_0_0)) (View.ld P (Rect.unit ![0, 768] ![256, 256] inb_S256x2048_S256x256_0_768))⟩,
   ⟨Rect.unit ![0, 512] ![256, 256] inb_S256x2048_S256x256_0_512, k0_pay38 (k0_pay12 x) (View.ld K (Rect.unit ![2, 0, 0] ![1, 512, 128] inb_S8x512x256_S1x512x128_2_0_0)) (View.ld V (Rect.unit ![2, 0, 0] ![1, 512, 128] inb_S8x512x128_S1x512x128_2_0_0)) (View.ld P (Rect.unit ![0, 512] ![256, 256] inb_S256x2048_S256x256_0_512))⟩,
   ⟨Rect.unit ![0, 256] ![256, 256] inb_S256x2048_S256x256_0_256, k0_pay30 (k0_pay12 x) (k0_pay27 (View.ld K (Rect.unit ![1, 0, 0] ![1, 512, 128] inb_S8x512x256_S1x512x128_1_0_0)) (View.ld V (Rect.unit ![1, 0, 0] ![1, 512, 128] inb_S8x512x128_S1x512x128_1_0_0))) (View.ld P (Rect.unit ![0, 256] ![256, 256] inb_S256x2048_S256x256_0_256))⟩,
   ⟨Rect.unit ![0, 0] ![256, 256] inb_S256x2048_S256x256_0_0, k0_pay21 (k0_pay12 x) (View.ld K (Rect.unit ![0, 0, 0] ![1, 512, 128] inb_S8x512x256_S1x512x128_0_0_0)) (View.ld V (Rect.unit ![0, 0, 0] ![1, 512, 128] inb_S8x512x128_S1x512x128_0_0_0)) (View.ld P (Rect.unit ![0, 0] ![256, 256] inb_S256x2048_S256x256_0_0))⟩]

/-- Where an entry of a tile lies. -/
theorem place (o : ℕ) (ib : ∀ j, ![0, o] j + ![256, 256] j ≤ S256x2048.size j) (a b : Fin 256) (j : Fin 2) :
    (((Rect.unit (s := S256x2048) ![0, o] ![256, 256] ib).emb (ix2 a b)) j).val = (![a.val, o + b.val] : Fin 2 → ℕ) j := by
  refine (Rect.idx_unit_val (s := S256x2048) ![0, o] ![256, 256] ib (ix2 a b) j).trans ?_
  fin_cases j
  · exact Nat.zero_add _
  · rfl

/-- Over any earlier stores they leave the array read before, plus the block's part. -/
theorem canonQ (L : List (View.Piece (Elt Ideal) S256x2048 .f32)) (Z : S256x2048.Idx) :
    View.canon (storesQ T D x P ++ L) Z = P Z + stepQ T D (k0_pay11 x) (Z 0) (Z 1) := by
  refine View.canon_append_of_piecesOf (fun Z => P Z + stepQ T D (k0_pay11 x) (Z 0) (Z 1)) L (storesQ T D x P) ⟨fun y => ?h7, fun y => ?h6, fun y => ?h5, fun y => ?h4, fun y => ?h3, fun y => ?h2, fun y => ?h1, fun y => ?h0, trivial⟩ Z
    (View.cover_of_tiledL _ ![256, 256] (by sl_kernel_rfl) Z)
  case h0 => idx_vars y; exact (w17 _ _ _ _ _ _).trans (tileQ T D (k0_pay11 x) P 0 0 rfl (by decide) _ _ y0 y1 ((Rect.unit (s := S256x2048) ![0, 0] ![256, 256] inb_S256x2048_S256x256_0_0).emb (ix2 y0 y1)) (place _ _ _ _ 0) (place _ _ _ _ 1))
  case h1 => idx_vars y; exact (w25 _ _ _ _ _ _).trans (tileQ T D (k0_pay11 x) P 1 256 rfl (by decide) _ _ y0 y1 ((Rect.unit (s := S256x2048) ![0, 256] ![256, 256] inb_S256x2048_S256x256_0_256).emb (ix2 y0 y1)) (place _ _ _ _ 0) (place _ _ _ _ 1))
  case h2 => idx_vars y; exact (w33 _ _ _ _ _ _).trans (tileQ T D (k0_pay11 x) P 2 512 rfl (by decide) _ _ y0 y1 ((Rect.unit (s := S256x2048) ![0, 512] ![256, 256] inb_S256x2048_S256x256_0_512).emb (ix2 y0 y1)) (place _ _ _ _ 0) (place _ _ _ _ 1))
  case h3 => idx_vars y; exact (w44 _ _ _ _ _ _).trans (tileQ T D (k0_pay11 x) P 3 768 rfl (by decide) _ _ y0 y1 ((Rect.unit (s := S256x2048) ![0, 768] ![256, 256] inb_S256x2048_S256x256_0_768).emb (ix2 y0 y1)) (place _ _ _ _ 0) (place _ _ _ _ 1))
  case h4 => idx_vars y; exact (w51 _ _ _ _ _ _).trans (tileQ T D (k0_pay11 x) P 4 1024 rfl (by decide) _ _ y0 y1 ((Rect.unit (s := S256x2048) ![0, 1024] ![256, 256] inb_S256x2048_S256x256_0_1024).emb (ix2 y0 y1)) (place _ _ _ _ 0) (place _ _ _ _ 1))
  case h5 => idx_vars y; exact (w58 _ _ _ _ _ _).trans (tileQ T D (k0_pay11 x) P 5 1280 rfl (by decide) _ _ y0 y1 ((Rect.unit (s := S256x2048) ![0, 1280] ![256, 256] inb_S256x2048_S256x256_0_1280).emb (ix2 y0 y1)) (place _ _ _ _ 0) (place _ _ _ _ 1))
  case h6 => idx_vars y; exact (w66 _ _ _ _ _ _).trans (tileQ T D (k0_pay11 x) P 6 1536 rfl (by decide) _ _ y0 y1 ((Rect.unit (s := S256x2048) ![0, 1536] ![256, 256] inb_S256x2048_S256x256_0_1536).emb (ix2 y0 y1)) (place _ _ _ _ 0) (place _ _ _ _ 1))
  case h7 => idx_vars y; exact (w74 _ _ _ _ _ _).trans (tileQ T D (k0_pay11 x) P 7 1792 rfl (by decide) _ _ y0 y1 ((Rect.unit (s := S256x2048) ![0, 1792] ![256, 256] inb_S256x2048_S256x256_0_1792).emb (ix2 y0 y1)) (place _ _ _ _ 0) (place _ _ _ _ 1))

theorem canonK (L : List (View.Piece (Elt Ideal) S256x2048 .f32)) (Z : S256x2048.Idx) :
    View.canon (storesK x P K V ++ L) Z = P Z + stepK K V (k0_pay12 x) (Z 0) (Z 1) := by
  refine View.canon_append_of_piecesOf (fun Z => P Z + stepK K V (k0_pay12 x) (Z 0) (Z 1)) L (storesK x P K V) ⟨fun y => ?h7, fun y => ?h6, fun y => ?h5, fun y => ?h4, fun y => ?h3, fun y => ?h2, fun y => ?h1, fun y => ?h0, trivial⟩ Z
    (View.cover_of_tiledL _ ![256, 256] (by sl_kernel_rfl) Z)
  case h0 => idx_vars y; exact (v21 _ _ _ _ _ _).trans (tileK K V (k0_pay12 x) P 0 0 rfl (by decide) _ _ _ y0 y1 ((Rect.unit (s := S256x2048) ![0, 0] ![256, 256] inb_S256x2048_S256x256_0_0).emb (ix2 y0 y1)) (place _ _ _ _ 0) (place _ _ _ _ 1))
  case h1 => idx_vars y; exact (v30 _ _ _ _ _ _).trans (tileK K V (k0_pay12 x) P 1 256 rfl (by decide) _ _ _ y0 y1 ((Rect.unit (s := S256x2048) ![0, 256] ![256, 256] inb_S256x2048_S256x256_0_256).emb (ix2 y0 y1)) (place _ _ _ _ 0) (place _ _ _ _ 1))
  case h2 => idx_vars y; exact (v38 _ _ _ _ _ _).trans (tileK K V (k0_pay12 x) P 2 512 rfl (by decide) _ _ _ y0 y1 ((Rect.unit (s := S256x2048) ![0, 512] ![256, 256] inb_S256x2048_S256x256_0_512).emb (ix2 y0 y1)) (place _ _ _ _ 0) (place _ _ _ _ 1))
  case h3 => idx_vars y; exact (v48 _ _ _ _ _ _).trans (tileK K V (k0_pay12 x) P 3 768 rfl (by decide) _ _ _ y0 y1 ((Rect.unit (s := S256x2048) ![0, 768] ![256, 256] inb_S256x2048_S256x256_0_768).emb (ix2 y0 y1)) (place _ _ _ _ 0) (place _ _ _ _ 1))
  case h4 => idx_vars y; exact (v55 _ _ _ _ _ _).trans (tileK K V (k0_pay12 x) P 4 1024 rfl (by decide) _ _ _ y0 y1 ((Rect.unit (s := S256x2048) ![0, 1024] ![256, 256] inb_S256x2048_S256x256_0_1024).emb (ix2 y0 y1)) (place _ _ _ _ 0) (place _ _ _ _ 1))
  case h5 => idx_vars y; exact (v62 _ _ _ _ _ _).trans (tileK K V (k0_pay12 x) P 5 1280 rfl (by decide) _ _ _ y0 y1 ((Rect.unit (s := S256x2048) ![0, 1280] ![256, 256] inb_S256x2048_S256x256_0_1280).emb (ix2 y0 y1)) (place _ _ _ _ 0) (place _ _ _ _ 1))
  case h6 => idx_vars y; exact (v71 _ _ _ _ _ _).trans (tileK K V (k0_pay12 x) P 6 1536 rfl (by decide) _ _ _ y0 y1 ((Rect.unit (s := S256x2048) ![0, 1536] ![256, 256] inb_S256x2048_S256x256_0_1536).emb (ix2 y0 y1)) (place _ _ _ _ 0) (place _ _ _ _ 1))
  case h7 => idx_vars y; exact (v79 _ _ _ _ _ _).trans (tileK K V (k0_pay12 x) P 7 1792 rfl (by decide) _ _ _ y0 y1 ((Rect.unit (s := S256x2048) ![0, 1792] ![256, 256] inb_S256x2048_S256x256_0_1792).emb (ix2 y0 y1)) (place _ _ _ _ 0) (place _ _ _ _ 1))

end Cert.MlaPoint
end
-- ==== Proof.MlaValue.lean ====
/- The value of the latent projections' gradients: what the kernel leaves, entry by entry, in terms of the arrays its launch reads. -/
module

public import proofs.«01_k».proof.Defs
public import proofs.«01_k».proof.Proof.Gen.MlaKernelIdeal.Value
public import proofs.«01_k».proof.Proof.MlaStep
public import Idealize.ShloMosaic.Lib.Pipeline.ValueKit
public import Idealize.ShloMosaic.Lib.Pointwise
public import Idealize.ShloMosaic.Lib.StableHlo.ReadAt

@[expose] public section

set_option maxRecDepth 16384

noncomputable section

namespace Cert.MlaValue

open Idealize.ShloMosaic Idealize.ShloMosaic.TcCoe Idealize.SL.Sem
open Idealize.ShloMosaic.Pipeline (Dat)
open Cert.MlaKernelIdeal Cert.MlaKernelIdeal.Gen
open Cert.MlaPoint (N e u qp kp col io)

variable (m : (ℓ : Loc nD τ sig) → Buf (Elt Ideal) ℓ) (c : Dev nD)

/-- The arrays the launch reads: the cotangents, the normed and the plain latent rows, the rotary table, the packed weights, the norms' weights. -/
abbrev aD : S8x16x256x512.Idx → EReal := m ((c : Thread nD τ).loc main_arg0)
abbrev aK : S8x8192x256.Idx → EReal := m ((c : Thread nD τ).loc main_arg1)
abbrev aV : S8x8192x128.Idx → EReal := m ((c : Thread nD τ).loc main_arg2)
abbrev aX : S8192x256.Idx → EReal := m ((c : Thread nD τ).loc main_arg3)
abbrev aY : S8192x256.Idx → EReal := m ((c : Thread nD τ).loc main_arg4)
abbrev aXn : S8192x256.Idx → EReal := V m c main_v13
abbrev aYn : S8192x256.Idx → EReal := V m c main_v27
abbrev aT : S8192x128.Idx → EReal := V m c main_v49
abbrev aWq : S256x2048.Idx → EReal := V m c main_v59
abbrev aWk : S256x2048.Idx → EReal := V m c main_v60
abbrev aGq : S1x256.Idx → EReal := V m c main_v61
abbrev aGk : S1x256.Idx → EReal := V m c main_v62

/-- A row and head's packed cotangent of the projected queries. -/
def Qr (D : S8x16x256x512.Idx → EReal) (T : S8192x128.Idx → EReal) (i : Fin 8192) (h : Fin 8) : Fin 256 → EReal :=
  qp (fun r => D (ix4 h ⟨i.val / 512, by omega⟩ r ⟨i.val % 512, by omega⟩)) (fun l => T (ix2 i l))

/-- A row and head's packed cotangent of the projected keys and values. -/
def Kr (K : S8x8192x256.Idx → EReal) (V : S8x8192x128.Idx → EReal) (i : Fin 8192) (h : Fin 8) : Fin 256 → EReal :=
  kp (fun l => K (ix3 h i ⟨l.val, by omega⟩)) (fun l => V (ix3 h i l))

/-- The cotangent of a normed row: all heads and columns of the packed weight. -/
def back (R : Fin 8 → Fin 256 → EReal) (W : S256x2048.Idx → EReal) (b : Fin 256) : EReal := ∑ h : Fin 8, ∑ j : Fin 256, R h j * W (ix2 b (col h j))

/-- The heads' sum of the cotangents of the key's rotary part. -/
def Kp (K : S8x8192x256.Idx → EReal) (i : Fin 8192) (l : Fin 128) : EReal := ∑ h : Fin 8, if l.val < 64 then K (ix3 h i ⟨128 + l.val, by omega⟩) else 0

/-- The first result at row i: the two latent rows' gradients, then the rotary part's two halves. -/
def lat (D : S8x16x256x512.Idx → EReal) (K : S8x8192x256.Idx → EReal) (V : S8x8192x128.Idx → EReal) (x y : S8192x256.Idx → EReal) (T : S8192x128.Idx → EReal)
    (wq wk : S256x2048.Idx → EReal) (gq gk : S1x256.Idx → EReal) (i : Fin 8192) (j : Fin 640) : EReal :=
  if h : j.val < 256 then Rms.hand N e (fun l => x (ix2 i l)) (fun l => gq (ix2 0 l)) (back (Qr D T i) wq) ⟨j.val, h⟩
  else if h' : j.val < 512 then Rms.hand N e (fun l => y (ix2 i l)) (fun l => gk (ix2 0 l)) (back (Kr K V i) wk) ⟨j.val - 256, by omega⟩
  else (Kp K i ⟨j.val - 512, by omega⟩ + Kp K i ⟨(j.val - 512 + 128 - 64) % 128, by omega⟩) * T (ix2 i ⟨j.val - 512, by omega⟩)

/-- A packed weight's gradient. -/
def dw (x : S8192x256.Idx → EReal) (R : Fin 8192 → Fin 8 → Fin 256 → EReal) (a : Fin 256) (n : Fin 2048) : EReal :=
  ∑ i : Fin 8192, x (ix2 i a) * R i ⟨n.val / 256, by omega⟩ ⟨n.val % 256, by omega⟩

/-- A norm's weight's gradient. -/
def dn (x : S8192x256.Idx → EReal) (Y : Fin 8192 → Fin 256 → EReal) (b : Fin 256) : EReal :=
  ∑ i : Fin 8192, Y i b * (x (ix2 i b) * Rms.scale N e fun l => x (ix2 i l))

/-- Which block each window shows at a grid point. -/
theorem idx : ∀ t : Fin cfg0.N, win0_0.index t = ![0, (t : Nat), 0, 0] ∧ win0_1.index t = ![0, (t : Nat), 0] ∧ win0_2.index t = ![0, (t : Nat), 0] ∧ win0_3.index t = ![(t : Nat), 0] ∧ win0_4.index t = ![(t : Nat), 0] ∧ win0_5.index t = ![(t : Nat), 0] ∧ win0_6.index t = ![(t : Nat), 0] ∧ win0_7.index t = ![(t : Nat), 0] ∧ win0_8.index t = ![0, 0] ∧ win0_9.index t = ![0, 0] ∧ win0_10.index t = ![0, 0] ∧ win0_11.index t = ![0, 0] ∧ win0_12.index t = ![(t : Nat), 0] :=
  (by decide +kernel : ∀ t : Fin grid0.N, _)

/-- The row of the whole array at row a of point t's block. -/
def row (t : Fin cfg0.N) (a : Fin 512) : Fin 8192 := ⟨512 * t.val + a.val, by have := t.isLt; change t.val < 16 at this; omega⟩

/-- The grid point as a block's number. -/
def pt (t : Fin cfg0.N) : Fin 16 := ⟨t.val, t.isLt⟩

theorem e0 (t : Fin cfg0.N) (h : Fin 8) (r : Fin 256) (a : Fin 512) : ((win0_0.blk t).view.emb (ix4 h 0 r a) : S8x16x256x512.Idx) = ix4 h (pt t) r a := by
  obtain ⟨i0, i1, i2, i3, i4, i5, i6, i7, i8, i9, i10, i11, i12⟩ := idx t
  funext j; apply Fin.ext; refine (Pipeline.Window.rect_emb_val win0_0 t _ j).trans ?_; rw [i0]
  fin_cases j <;> simp [pt, ix4, win0_0]
theorem e1 (t : Fin cfg0.N) (h : Fin 8) (a : Fin 512) (k : Fin 256) : ((win0_1.blk t).view.emb (ix3 h a k) : S8x8192x256.Idx) = ix3 h (row t a) k := by
  obtain ⟨i0, i1, i2, i3, i4, i5, i6, i7, i8, i9, i10, i11, i12⟩ := idx t
  funext j; apply Fin.ext; refine (Pipeline.Window.rect_emb_val win0_1 t _ j).trans ?_; rw [i1]
  fin_cases j <;> simp [row, ix3, win0_1] <;> omega
theorem e2 (t : Fin cfg0.N) (h : Fin 8) (a : Fin 512) (k : Fin 128) : ((win0_2.blk t).view.emb (ix3 h a k) : S8x8192x128.Idx) = ix3 h (row t a) k := by
  obtain ⟨i0, i1, i2, i3, i4, i5, i6, i7, i8, i9, i10, i11, i12⟩ := idx t
  funext j; apply Fin.ext; refine (Pipeline.Window.rect_emb_val win0_2 t _ j).trans ?_; rw [i2]
  fin_cases j <;> simp [row, ix3, win0_2] <;> omega
theorem e3 (t : Fin cfg0.N) (a : Fin 512) (k : Fin 256) : ((win0_3.blk t).view.emb (ix2 a k) : S8192x256.Idx) = ix2 (row t a) k := by
  obtain ⟨i0, i1, i2, i3, i4, i5, i6, i7, i8, i9, i10, i11, i12⟩ := idx t
  funext j; apply Fin.ext; refine (Pipeline.Window.rect_emb_val win0_3 t _ j).trans ?_; rw [i3]
  fin_cases j <;> simp [row, ix2, win0_3] <;> omega
theorem e4 (t : Fin cfg0.N) (a : Fin 512) (k : Fin 256) : ((win0_4.blk t).view.emb (ix2 a k) : S8192x256.Idx) = ix2 (row t a) k := by
  obtain ⟨i0, i1, i2, i3, i4, i5, i6, i7, i8, i9, i10, i11, i12⟩ := idx t
  funext j; apply Fin.ext; refine (Pipeline.Window.rect_emb_val win0_4 t _ j).trans ?_; rw [i4]
  fin_cases j <;> simp [row, ix2, win0_4] <;> omega
theorem e5 (t : Fin cfg0.N) (a : Fin 512) (k : Fin 256) : ((win0_5.blk t).view.emb (ix2 a k) : S8192x256.Idx) = ix2 (row t a) k := by
  obtain ⟨i0, i1, i2, i3, i4, i5, i6, i7, i8, i9, i10, i11, i12⟩ := idx t
  funext j; apply Fin.ext; refine (Pipeline.Window.rect_emb_val win0_5 t _ j).trans ?_; rw [i5]
  fin_cases j <;> simp [row, ix2, win0_5] <;> omega
theorem e6 (t : Fin cfg0.N) (a : Fin 512) (k : Fin 256) : ((win0_6.blk t).view.emb (ix2 a k) : S8192x256.Idx) = ix2 (row t a) k := by
  obtain ⟨i0, i1, i2, i3, i4, i5, i6, i7, i8, i9, i10, i11, i12⟩ := idx t
  funext j; apply Fin.ext; refine (Pipeline.Window.rect_emb_val win0_6 t _ j).trans ?_; rw [i6]
  fin_cases j <;> simp [row, ix2, win0_6] <;> omega
theorem e7 (t : Fin cfg0.N) (a : Fin 512) (k : Fin 128) : ((win0_7.blk t).view.emb (ix2 a k) : S8192x128.Idx) = ix2 (row t a) k := by
  obtain ⟨i0, i1, i2, i3, i4, i5, i6, i7, i8, i9, i10, i11, i12⟩ := idx t
  funext j; apply Fin.ext; refine (Pipeline.Window.rect_emb_val win0_7 t _ j).trans ?_; rw [i7]
  fin_cases j <;> simp [row, ix2, win0_7] <;> omega
theorem e12 (t : Fin cfg0.N) (a : Fin 512) (k : Fin 640) : ((win0_12.blk t).view.emb (ix2 a k) : S8192x640.Idx) = ix2 (row t a) k := by
  obtain ⟨i0, i1, i2, i3, i4, i5, i6, i7, i8, i9, i10, i11, i12⟩ := idx t
  funext j; apply Fin.ext; refine (Pipeline.Window.rect_emb_val win0_12 t _ j).trans ?_; rw [i12]
  fin_cases j <;> simp [row, ix2, win0_12] <;> omega
theorem e8 (t : Fin cfg0.N) (a : Fin 256) (k : Fin 2048) : ((win0_8.blk t).view.emb (ix2 a k) : S256x2048.Idx) = ix2 a k := by
  obtain ⟨i0, i1, i2, i3, i4, i5, i6, i7, i8, i9, i10, i11, i12⟩ := idx t
  funext j; apply Fin.ext; refine (Pipeline.Window.rect_emb_val win0_8 t _ j).trans ?_; rw [i8]
  fin_cases j <;> simp [ix2, win0_8]
theorem e9 (t : Fin cfg0.N) (a : Fin 256) (k : Fin 2048) : ((win0_9.blk t).view.emb (ix2 a k) : S256x2048.Idx) = ix2 a k := by
  obtain ⟨i0, i1, i2, i3, i4, i5, i6, i7, i8, i9, i10, i11, i12⟩ := idx t
  funext j; apply Fin.ext; refine (Pipeline.Window.rect_emb_val win0_9 t _ j).trans ?_; rw [i9]
  fin_cases j <;> simp [ix2, win0_9]
theorem e10 (t : Fin cfg0.N) (k : Fin 256) : ((win0_10.blk t).view.emb (ix2 0 k) : S1x256.Idx) = ix2 0 k := by
  obtain ⟨i0, i1, i2, i3, i4, i5, i6, i7, i8, i9, i10, i11, i12⟩ := idx t
  funext j; apply Fin.ext; refine (Pipeline.Window.rect_emb_val win0_10 t _ j).trans ?_; rw [i10]
  fin_cases j <;> simp [ix2, win0_10]
theorem e11 (t : Fin cfg0.N) (k : Fin 256) : ((win0_11.blk t).view.emb (ix2 0 k) : S1x256.Idx) = ix2 0 k := by
  obtain ⟨i0, i1, i2, i3, i4, i5, i6, i7, i8, i9, i10, i11, i12⟩ := idx t
  funext j; apply Fin.ext; refine (Pipeline.Window.rect_emb_val win0_11 t _ j).trans ?_; rw [i11]
  fin_cases j <;> simp [ix2, win0_11]

theorem b0 (t : Fin cfg0.N) (h : Fin 8) (r : Fin 256) (a : Fin 512) : (iblk m c 0 t : Vec Ideal S8x1x256x512 .f32) (ix4 h 0 r a) = aD m c (ix4 h (pt t) r a) :=
  (show _ = V m c main_arg0 ((win0_0.blk t).view.emb (ix4 h 0 r a)) from rfl).trans ((congrArg (V m c main_arg0) (e0 t h r a)).trans (congrFun (V_main_arg0 m c) _))
theorem b1 (t : Fin cfg0.N) (h : Fin 8) (a : Fin 512) (k : Fin 256) : (iblk m c 1 t : Vec Ideal S8x512x256 .f32) (ix3 h a k) = aK m c (ix3 h (row t a) k) :=
  (show _ = V m c main_arg1 ((win0_1.blk t).view.emb (ix3 h a k)) from rfl).trans ((congrArg (V m c main_arg1) (e1 t h a k)).trans (congrFun (V_main_arg1 m c) _))
theorem b2 (t : Fin cfg0.N) (h : Fin 8) (a : Fin 512) (k : Fin 128) : (iblk m c 2 t : Vec Ideal S8x512x128 .f32) (ix3 h a k) = aV m c (ix3 h (row t a) k) :=
  (show _ = V m c main_arg2 ((win0_2.blk t).view.emb (ix3 h a k)) from rfl).trans ((congrArg (V m c main_arg2) (e2 t h a k)).trans (congrFun (V_main_arg2 m c) _))
theorem b5 (t : Fin cfg0.N) (a : Fin 512) (k : Fin 256) : (iblk m c 5 t : Vec Ideal S512x256 .f32) (ix2 a k) = aX m c (ix2 (row t a) k) :=
  (show _ = V m c main_arg3 ((win0_5.blk t).view.emb (ix2 a k)) from rfl).trans ((congrArg (V m c main_arg3) (e5 t a k)).trans (congrFun (V_main_arg3 m c) _))
theorem b6 (t : Fin cfg0.N) (a : Fin 512) (k : Fin 256) : (iblk m c 6 t : Vec Ideal S512x256 .f32) (ix2 a k) = aY m c (ix2 (row t a) k) :=
  (show _ = V m c main_arg4 ((win0_6.blk t).view.emb (ix2 a k)) from rfl).trans ((congrArg (V m c main_arg4) (e6 t a k)).trans (congrFun (V_main_arg4 m c) _))
theorem b3 (t : Fin cfg0.N) (a : Fin 512) (k : Fin 256) : (iblk m c 3 t : Vec Ideal S512x256 .bf16) (ix2 a k) = aXn m c (ix2 (row t a) k) :=
  (show _ = V m c main_v13 ((win0_3.blk t).view.emb (ix2 a k)) from rfl).trans (congrArg (V m c main_v13) (e3 t a k))
theorem b4 (t : Fin cfg0.N) (a : Fin 512) (k : Fin 256) : (iblk m c 4 t : Vec Ideal S512x256 .bf16) (ix2 a k) = aYn m c (ix2 (row t a) k) :=
  (show _ = V m c main_v27 ((win0_4.blk t).view.emb (ix2 a k)) from rfl).trans (congrArg (V m c main_v27) (e4 t a k))
theorem b7 (t : Fin cfg0.N) (a : Fin 512) (k : Fin 128) : (iblk m c 7 t : Vec Ideal S512x128 .f32) (ix2 a k) = aT m c (ix2 (row t a) k) :=
  (show _ = V m c main_v49 ((win0_7.blk t).view.emb (ix2 a k)) from rfl).trans (congrArg (V m c main_v49) (e7 t a k))
theorem b8 (t : Fin cfg0.N) (a : Fin 256) (k : Fin 2048) : (iblk m c 8 t : Vec Ideal S256x2048 .bf16) (ix2 a k) = aWq m c (ix2 a k) :=
  (show _ = V m c main_v59 ((win0_8.blk t).view.emb (ix2 a k)) from rfl).trans (congrArg (V m c main_v59) (e8 t a k))
theorem b9 (t : Fin cfg0.N) (a : Fin 256) (k : Fin 2048) : (iblk m c 9 t : Vec Ideal S256x2048 .bf16) (ix2 a k) = aWk m c (ix2 a k) :=
  (show _ = V m c main_v60 ((win0_9.blk t).view.emb (ix2 a k)) from rfl).trans (congrArg (V m c main_v60) (e9 t a k))
theorem b10 (t : Fin cfg0.N) (k : Fin 256) : (iblk m c 10 t : Vec Ideal S1x256 .f32) (ix2 0 k) = aGq m c (ix2 0 k) :=
  (show _ = V m c main_v61 ((win0_10.blk t).view.emb (ix2 0 k)) from rfl).trans (congrArg (V m c main_v61) (e10 t k))
theorem b11 (t : Fin cfg0.N) (k : Fin 256) : (iblk m c 11 t : Vec Ideal S1x256 .f32) (ix2 0 k) = aGk m c (ix2 0 k) :=
  (show _ = V m c main_v62 ((win0_11.blk t).view.emb (ix2 0 k)) from rfl).trans (congrArg (V m c main_v62) (e11 t k))

theorem row_div (t : Fin cfg0.N) (a : Fin 512) (h : (row t a).val / 512 < 16) : (⟨(row t a).val / 512, h⟩ : Fin 16) = pt t :=
  Fin.ext (by show (512 * t.val + a.val) / 512 = t.val; omega)
theorem row_mod (t : Fin cfg0.N) (a : Fin 512) (h : (row t a).val % 512 < 512) : (⟨(row t a).val % 512, h⟩ : Fin 512) = a :=
  Fin.ext (by show (512 * t.val + a.val) % 512 = a.val; omega)

/-- A row and head of a point's block is that row and head of the whole array. -/
theorem q_row (t : Fin cfg0.N) (a : Fin 512) (h : Fin 8) :
    qp (fun i => (iblk m c 0 t : Vec Ideal S8x1x256x512 .f32) (ix4 h 0 i a)) (fun l => (iblk m c 7 t : Vec Ideal S512x128 .f32) (ix2 a l)) = Qr (aD m c) (aT m c) (row t a) h := by
  unfold Qr
  simp only [b0, b7, row_div, row_mod]

theorem k_row (t : Fin cfg0.N) (a : Fin 512) (h : Fin 8) :
    kp (fun l => (iblk m c 1 t : Vec Ideal S8x512x256 .f32) (ix3 h a ⟨l.val, by omega⟩)) (fun l => (iblk m c 2 t : Vec Ideal S8x512x128 .f32) (ix3 h a l)) = Kr (aK m c) (aV m c) (row t a) h := by
  unfold Kr
  simp only [b1, b2]

theorem q_back (t : Fin cfg0.N) (a : Fin 512) (b : Fin 256) :
    MlaPoint.dcq (iblk m c 7 t) (iblk m c 0 t) (iblk m c 8 t) a b = back (Qr (aD m c) (aT m c) (row t a)) (aWq m c) b := by
  unfold MlaPoint.dcq back
  simp only [q_row, b8]

theorem k_back (t : Fin cfg0.N) (a : Fin 512) (b : Fin 256) :
    MlaPoint.dckv (iblk m c 9 t) (iblk m c 1 t) (iblk m c 2 t) a b = back (Kr (aK m c) (aV m c) (row t a)) (aWk m c) b := by
  unfold MlaPoint.dckv back
  simp only [k_row, b9]

theorem k_rope (t : Fin cfg0.N) (a : Fin 512) (l : Fin 128) : MlaPoint.dkr (iblk m c 1 t) a l = Kp (aK m c) (row t a) l := by
  unfold MlaPoint.dkr Kp
  simp only [b1]

/-- What a point adds to each accumulator. -/
def tQ (t : Fin cfg0.N) (j : S256x2048.Idx) : EReal := ∑ a : Fin 512, aXn m c (ix2 (row t a) (j 0)) * Qr (aD m c) (aT m c) (row t a) ⟨(j 1).val / 256, by have := (j 1).isLt; change (j 1).val < 2048 at this; omega⟩ ⟨(j 1).val % 256, by omega⟩
def tK (t : Fin cfg0.N) (j : S256x2048.Idx) : EReal := ∑ a : Fin 512, aYn m c (ix2 (row t a) (j 0)) * Kr (aK m c) (aV m c) (row t a) ⟨(j 1).val / 256, by have := (j 1).isLt; change (j 1).val < 2048 at this; omega⟩ ⟨(j 1).val % 256, by omega⟩
def nQ (t : Fin cfg0.N) (j : S1x256.Idx) : EReal := ∑ a : Fin 512, back (Qr (aD m c) (aT m c) (row t a)) (aWq m c) (j 1) * (aX m c (ix2 (row t a) (j 1)) * Rms.scale N e fun l => aX m c (ix2 (row t a) l))
def nK (t : Fin cfg0.N) (j : S1x256.Idx) : EReal := ∑ a : Fin 512, back (Kr (aK m c) (aV m c) (row t a)) (aWk m c) (j 1) * (aY m c (ix2 (row t a) (j 1)) * Rms.scale N e fun l => aY m c (ix2 (row t a) l))

theorem stepQ_eq (t : Fin cfg0.N) (j : S256x2048.Idx) : MlaPoint.stepQ (iblk m c 7 t) (iblk m c 0 t) (k0_pay11 (F := Ideal) (iblk m c 3 t)) (j 0) (j 1) = tQ m c t j := by
  rw [MlaPoint.e11]
  unfold MlaPoint.stepQ tQ
  simp only [q_row]
  exact Finset.sum_congr rfl fun i _ => congrArg (· * _) (b3 m c t i (j 0))

theorem stepK_eq (t : Fin cfg0.N) (j : S256x2048.Idx) : MlaPoint.stepK (iblk m c 1 t) (iblk m c 2 t) (k0_pay12 (F := Ideal) (iblk m c 4 t)) (j 0) (j 1) = tK m c t j := by
  rw [MlaPoint.e12]
  unfold MlaPoint.stepK tK
  simp only [k_row]
  exact Finset.sum_congr rfl fun i _ => congrArg (· * _) (b4 m c t i (j 0))

theorem accQ (t : Fin cfg0.N) (P : Vec Ideal S256x2048 .f32) (L : List (View.Piece (Elt Ideal) S256x2048 .f32)) (j : S256x2048.Idx) :
    View.canon (MlaPoint.storesQ (iblk m c 7 t) (iblk m c 0 t) (iblk m c 3 t) P ++ L) j = P j + tQ m c t j :=
  (MlaPoint.canonQ (iblk m c 7 t) (iblk m c 0 t) (iblk m c 3 t) P L j).trans (congrArg (P j + ·) (stepQ_eq m c t j))

theorem accK (t : Fin cfg0.N) (P : Vec Ideal S256x2048 .f32) (L : List (View.Piece (Elt Ideal) S256x2048 .f32)) (j : S256x2048.Idx) :
    View.canon (MlaPoint.storesK (iblk m c 4 t) P (iblk m c 1 t) (iblk m c 2 t) ++ L) j = P j + tK m c t j :=
  (MlaPoint.canonK (iblk m c 4 t) P (iblk m c 1 t) (iblk m c 2 t) L j).trans (congrArg (P j + ·) (stepK_eq m c t j))

theorem hr (t : Fin cfg0.N) (k : Fin 512) (hl : t.val % 16 * 512 + k.val < 8192) : row t k = ⟨t.val % 16 * 512 + k.val, hl⟩ :=
  Fin.ext (by have := t.isLt; change t.val < 16 at this; show 512 * t.val + k.val = t.val % 16 * 512 + k.val; omega)

end Cert.MlaValue
end
-- ==== Proof.MlaHost.lean ====
/- The arrays the host prepares for the latent projections' gradients, entry by entry. -/
module

public import proofs.«01_k».proof.Proof.MlaValue
public import proofs.«01_k».proof.Proof.Gen.MlaReferenceIdeal.Read

@[expose] public section

set_option maxRecDepth 16384

noncomputable section

namespace Cert.MlaHost

open Idealize.ShloMosaic Idealize.ShloMosaic.TcCoe Idealize.SL.Sem
open Cert.MlaKernelIdeal Cert.MlaKernelIdeal.Gen
open Cert.MlaPoint (N e col)
open Cert.MlaValue (aX aY aXn aYn aT aWq aWk aGq aGk)

variable (m : (ℓ : Loc nD τ sig) → Buf (Elt Ideal) ℓ) (c : Dev nD)

/-- The remaining arguments: the norms' weights and the two projections. -/
abbrev mGq : S256.Idx → EReal := m ((c : Thread nD τ).loc main_arg5)
abbrev mWq : S256x1536.Idx → EReal := m ((c : Thread nD τ).loc main_arg6)
abbrev mGk : S256.Idx → EReal := m ((c : Thread nD τ).loc main_arg7)
abbrev mWk : S256x2048.Idx → EReal := m ((c : Thread nD τ).loc main_arg8)

theorem h_gq (k : Fin 256) : aGq m c (ix2 0 k) = mGq m c (ix1 k) := by
  have : aGq m c = fun i => shapeCast main_v61.ty.shape (mGq m c) shapeCasts_S256_S1x256 i := by
    unfold aGq V
    after_reads_simp
  refine (congrFun this _).trans ?_
  pointwise

theorem h_gk (k : Fin 256) : aGk m c (ix2 0 k) = mGk m c (ix1 k) := by
  have : aGk m c = fun i => shapeCast main_v62.ty.shape (mGk m c) shapeCasts_S256_S1x256 i := by
    unfold aGk V
    after_reads_simp
  refine (congrFun this _).trans ?_
  pointwise

theorem h_wk (a : Fin 256) (k : Fin 2048) : aWk m c (ix2 a k) = mWk m c (ix2 a k) := by
  unfold aWk V
  after_reads_at

/-- The normed rows. -/
theorem h_xn (i : Fin 8192) (k : Fin 256) : aXn m c (ix2 i k) = aX m c (ix2 i k) * Rms.scale N e (fun l => aX m c (ix2 i l)) * mGq m c (ix1 k) := by
  unfold Rms.scale aXn V
  after_reads_at

theorem h_yn (i : Fin 8192) (k : Fin 256) : aYn m c (ix2 i k) = aY m c (ix2 i k) * Rms.scale N e (fun l => aY m c (ix2 i l)) * mGk m c (ix1 k) := by
  unfold Rms.scale aYn V
  after_reads_at

/-- The rotary table is reference.py's two tables side by side. -/
theorem h_t (i : Fin 8192) (k : Fin 128) : aT m c (ix2 i k)
    = if h : k.val < 64 then Cert.MlaReferenceIdeal.Read.val_main_v19 (F := Ideal) (ix2 i ⟨k.val, h⟩) else Cert.MlaReferenceIdeal.Read.val_main_v20 (F := Ideal) (ix2 i ⟨k.val - 64, by omega⟩) := by
  have : aT m c = concatenate S8192x128 1 [⟨S8192x64, Cert.MlaReferenceIdeal.Read.val_main_v19 (F := Ideal)⟩, ⟨S8192x64, Cert.MlaReferenceIdeal.Read.val_main_v20 (F := Ideal)⟩] concatenates_S8192x64_S8192x64_S8192x128_d1 := by
    unfold aT V
    after_reads_simp
    rfl
  refine (congrFun this _).trans ?_
  pointwise

/-- The packed weight's columns: a head's own 192, and the rotation of its last 64. -/
def packed (W : S256x1536.Idx → EReal) (b : Fin 256) (h : Fin 8) (k : Fin 256) : EReal :=
  if hk : k.val < 192 then W (ix2 b ⟨192 * h.val + k.val, by omega⟩) else if hk' : k.val < 224 then -W (ix2 b ⟨192 * h.val + (k.val - 32), by omega⟩) else W (ix2 b ⟨192 * h.val + (k.val - 96), by omega⟩)

theorem pk1 (W : S256x1536.Idx → EReal) (b : Fin 256) (h : Fin 8) (k : Fin 256) {q : Fin 1536} (hk : k.val < 192) (hq : q.val = 192 * h.val + k.val) : W (ix2 b q) = packed W b h k := by
  unfold packed; rw [dif_pos hk]; exact congrArg (fun q => W (ix2 b q)) (Fin.ext hq)
theorem pk2 (W : S256x1536.Idx → EReal) (b : Fin 256) (h : Fin 8) (k : Fin 256) {q : Fin 1536} (hk : 192 ≤ k.val) (hk' : k.val < 224) (hq : q.val = 192 * h.val + (k.val - 32)) : -W (ix2 b q) = packed W b h k := by
  unfold packed; rw [dif_neg (by omega), dif_pos hk']; exact congrArg (fun q => -W (ix2 b q)) (Fin.ext hq)
theorem pk3 (W : S256x1536.Idx → EReal) (b : Fin 256) (h : Fin 8) (k : Fin 256) {q : Fin 1536} (hk : 224 ≤ k.val) (hq : q.val = 192 * h.val + (k.val - 96)) : W (ix2 b q) = packed W b h k := by
  unfold packed; rw [dif_neg (by omega), dif_neg (by omega)]; exact congrArg (fun q => W (ix2 b q)) (Fin.ext hq)

theorem col_div (h : Fin 8) (k : Fin 256) : (col h k).val / 256 = h.val := by show (256 * h.val + k.val) / 256 = h.val; omega
theorem col_mod (h : Fin 8) (k : Fin 256) : (col h k).val % 256 = k.val := by show (256 * h.val + k.val) % 256 = k.val; omega

set_option maxHeartbeats 1000000 in
theorem h_wq (b : Fin 256) (h : Fin 8) (k : Fin 256) : aWq m c (ix2 b (col h k)) = packed (mWq m c) b h k := by
  have ed := col_div h k
  have em := col_mod h k
  unfold aWq V
  after_reads_at
  split
  · after_reads_at; exact pk1 _ _ _ _ (by omega) (by simp only [] <;> omega)
  split
  · after_reads_at; exact pk1 _ _ _ _ (by omega) (by simp only [] <;> omega)
  after_reads_at
  split
  · exact pk2 _ _ _ _ (by omega) (by omega) (by simp only [] <;> omega)
  · exact pk3 _ _ _ _ (by omega) (by simp only [] <;> omega)

/-- The rotary tables side by side. -/
def tab : S8192x128.Idx → EReal := fun z =>
  if h : (z 1).val < 64 then Cert.MlaReferenceIdeal.Read.val_main_v19 (F := Ideal) (ix2 (z 0) ⟨(z 1).val, h⟩)
  else Cert.MlaReferenceIdeal.Read.val_main_v20 (F := Ideal) (ix2 (z 0) ⟨(z 1).val - 64, by have := (z 1).isLt; change (z 1).val < 128 at this; omega⟩)

theorem table : aT m c = tab := by
  funext z
  idx_vars z
  exact h_t m c z0 z1

end Cert.MlaHost
end
-- ==== Proof.MlaRef.lean ====
/- The value of the reference of the latent projections' gradients, entry by entry. -/
module

public import proofs.«01_k».proof.Proof.Gen.MlaReferenceIdeal.Read
public import proofs.«01_k».proof.Proof.Rms
public import proofs.«01_k».proof.Proof.MlaHost
public import proofs.«01_k».proof.Proof.Extended
public import Idealize.ShloMosaic.Lib.Pointwise

@[expose] public section

set_option maxRecDepth 16384

noncomputable section

namespace Cert.MlaRef

open Idealize.ShloMosaic Idealize.ShloMosaic.TcCoe
open Cert.MlaHost (packed tab pk1 pk2 pk3)
open Cert.MlaValue (Qr Kr)
open Cert.MlaPoint (col)
open Cert.MlaReferenceIdeal Cert.MlaReferenceIdeal.Read

abbrev N : EReal := Ideal.ofBits .f32 0x43800000#32
abbrev e : EReal := Ideal.ofBits .f32 0x358637BD#32
abbrev H : EReal := Ideal.ofBits .f32 0xBF000000#32

variable (x0 : S8x16x256x512.Idx → EReal) (x1 : S8x8192x256.Idx → EReal) (x2 : S8x8192x128.Idx → EReal) (x3 x4 : S8192x256.Idx → EReal) (x5 : S256.Idx → EReal) (x6 : S256x1536.Idx → EReal) (x7 : S256.Idx → EReal) (x8 : S256x2048.Idx → EReal)

/-- reference.py's rotary tables. -/
abbrev cs (i : Fin 8192) (d : Fin 64) : EReal := val_main_v19 (F := Ideal) (ix2 i d)
abbrev sn (i : Fin 8192) (d : Fin 64) : EReal := val_main_v20 (F := Ideal) (ix2 i d)

theorem tab_low (i : Fin 8192) (l : Fin 128) (d : Fin 64) (h : l.val = d.val) : tab (ix2 i l) = cs i d := by
  have hl : l.val < 64 := by omega
  exact (dif_pos hl).trans (congrArg (cs i) (Fin.ext h))
theorem tab_high (i : Fin 8192) (l : Fin 128) (d : Fin 64) (h : l.val = 64 + d.val) : tab (ix2 i l) = sn i d := by
  have hl : ¬l.val < 64 := by omega
  exact (dif_neg hl).trans (congrArg (sn i) (Fin.ext (show l.val - 64 = d.val by omega)))

theorem s89 : val_main_v89 (F := Ideal) ix0 = MlaPoint.u := by
  pointwise [val_main_v89, val_main_v88, val_main_v87, val_main_v86, val_main_cst_13, val_main_cst_14, val_main_cst_15]
  have h2 : Real.log 2 ≠ 0 := (Real.log_pos one_lt_two).ne'
  have h1 : Real.sqrt 192 ≠ 0 := (Real.sqrt_pos.2 (by norm_num)).ne'
  rw [Extended.n192, Extended.two, Extended.esqrt _ (by norm_num), Extended.elog _ (by norm_num), ← EReal.coe_mul, ← EReal.coe_one, Extended.ediv _ _ (mul_ne_zero h1 h2), one_div]

theorem r125 (h : Fin 8) (d : Fin 128) (i : Fin 8192) : val_main_v125 (F := Ideal) x0 (ix3 h d i) = Qr x0 tab i h ⟨d.val, by omega⟩ := by
  unfold Qr MlaPoint.qp
  rw [dif_pos d.isLt, ← s89]
  pointwise [val_main_v125, val_main_v108, val_main_v107, val_main_v90, val_main_v31, val_main_v30, val_main_v29]
  rfl

theorem r120 (h : Fin 8) (d : Fin 64) (i : Fin 8192) : val_main_v120 (F := Ideal) x0 (ix3 h d i) = Qr x0 tab i h ⟨128 + d.val, by omega⟩ := by
  unfold Qr MlaPoint.qp
  rw [dif_neg (by simp only []; omega), dif_pos (by simp only []; omega)]
  beta_reduce
  rw [tab_low i _ d (by simp only []; omega), ← s89]
  pointwise [val_main_v120, val_main_v119, val_main_v118, val_main_v73, val_main_v106, val_main_v105, val_main_v93, val_main_v32, val_main_v30, val_main_v29]
  rfl

theorem r114 (h : Fin 8) (d : Fin 64) (i : Fin 8192) : val_main_v114 (F := Ideal) x0 (ix3 h d i) = Qr x0 tab i h ⟨192 + d.val, by omega⟩ := by
  unfold Qr MlaPoint.qp
  rw [dif_neg (by simp only []; omega), dif_neg (by simp only []; omega)]
  beta_reduce
  rw [tab_high i _ d (by simp only []; omega), ← s89]
  have hq : (⟨192 + d.val - 64, by omega⟩ : Fin 256) = ⟨128 + d.val, by omega⟩ := Fin.ext (by simp only []; omega)
  refine Eq.trans ?_ (congrArg (fun q : Fin 256 => x0 (ix4 h ⟨i.val / 512, by omega⟩ q ⟨i.val % 512, by omega⟩) * val_main_v89 (F := Ideal) ix0 * sn i d) hq.symm)
  pointwise [val_main_v114, val_main_v113, val_main_v112, val_main_v78, val_main_v106, val_main_v105, val_main_v93, val_main_v32, val_main_v30, val_main_v29]
  rfl

theorem r22 (a : Fin 256) (h : Fin 8) (d : Fin 128) : val_main_v22 (F := Ideal) x6 (ix3 a h d) = packed x6 a h ⟨d.val, by omega⟩ := by
  pointwise [val_main_v22, val_main_v21]
  exact pk1 _ _ _ _ (by simp only []; omega) (by simp only []; omega)

theorem r23 (a : Fin 256) (h : Fin 8) (d : Fin 64) : val_main_v23 (F := Ideal) x6 (ix3 a h d) = packed x6 a h ⟨128 + d.val, by omega⟩ := by
  pointwise [val_main_v23, val_main_v21]
  exact pk1 _ _ _ _ (by simp only []; omega) (by simp only []; omega)

theorem r27 (a : Fin 256) (h : Fin 8) (d : Fin 64) : val_main_v27 (F := Ideal) x6 (ix3 a h d) = packed x6 a h ⟨192 + d.val, by omega⟩ := by
  pointwise [val_main_v27, val_main_v26, val_main_v25, val_main_v24, val_main_v23, val_main_v21]
  split
  · exact pk2 _ _ _ _ (by simp only []; omega) (by simp only []; omega) (by simp only []; omega)
  · exact pk3 _ _ _ _ (by simp only []; omega) (by simp only []; omega)

theorem split3 (f : Fin 256 → EReal) : ∑ j, f j = (∑ d : Fin 128, f ⟨d.val, by omega⟩) + ((∑ d : Fin 64, f ⟨128 + d.val, by omega⟩) + ∑ d : Fin 64, f ⟨192 + d.val, by omega⟩) := by
  rw [show ∑ j, f j = _ from Fin.sum_univ_add (a := 192) (b := 64) f, show ∑ j : Fin 192, f (Fin.castAdd 64 j) = _ from Fin.sum_univ_add (a := 128) (b := 64) fun j => f (Fin.castAdd 64 j), add_assoc]
  rfl

theorem heads (f : Fin 2048 → EReal) : ∑ n, f n = ∑ h : Fin 8, ∑ j : Fin 256, f (col h j) := by
  rw [← Fintype.sum_prod_type' fun h j => f (col h j)]
  refine (Fintype.sum_equiv (finProdFinEquiv (m := 8) (n := 256)) _ _ fun z => congrArg f (Fin.ext ?_)).symm
  exact Nat.add_comm _ _

/-- The cotangents of the two normed rows. -/
def Yq (i : Fin 8192) (b : Fin 256) : EReal := ∑ h : Fin 8, ∑ j : Fin 256, Qr x0 tab i h j * packed x6 b h j
def Yk (i : Fin 8192) (b : Fin 256) : EReal := ∑ h : Fin 8, ∑ j : Fin 256, Kr x1 x2 i h j * x8 (ix2 b (col h j))

theorem r127 (i : Fin 8192) (b : Fin 256) : val_main_v127 (F := Ideal) x0 x6 (ix2 i b) = Yq x0 x6 i b := by
  unfold Yq
  simp only [split3, Finset.sum_add_distrib]
  rw [add_comm, add_comm (∑ h : Fin 8, ∑ d : Fin 64, _) (∑ h : Fin 8, ∑ d : Fin 64, _)]
  simp only [← r125, ← r120, ← r114, ← r22, ← r23, ← r27]
  pointwise [val_main_v127, val_main_v126, val_main_v122, val_main_v121, val_main_v115]

theorem r130 (i : Fin 8192) (n : Fin 2048) : val_main_v130 (F := Ideal) x1 x2 (ix2 i n) = Kr x1 x2 i ⟨n.val / 256, by omega⟩ ⟨n.val % 256, by omega⟩ := by
  unfold Kr MlaPoint.kp
  pointwise [val_main_v130, val_main_v104, val_main_v103, val_main_v102, val_main_v101, val_main_v100, val_main_v33, val_main_cst_16, val_main_cst_17]
  have h8 : n.val / 256 < 8 := by omega
  by_cases h : n.val % 256 < 128
  · have h' : ¬(128 ≤ n.val % 256 ∧ n.val % 256 - 128 < 128) := by omega
    simp only [h, h', h8, and_true, and_false, ↓reduceDIte, zero_add]
  · have h' : 128 ≤ n.val % 256 ∧ n.val % 256 - 128 < 128 := by omega
    simp only [h, h', h8, and_true, and_false, ↓reduceDIte, add_zero]

theorem r133 (i : Fin 8192) (b : Fin 256) : val_main_v133 (F := Ideal) x1 x2 x8 (ix2 i b) = Yk x1 x2 x8 i b := by
  unfold Yk
  pointwise [val_main_v133]
  rw [heads]
  refine Finset.sum_congr rfl fun h _ => Finset.sum_congr rfl fun j _ => ?_
  refine congrArg (· * _) ((r130 x1 x2 i (col h j)).trans ?_)
  exact congrArg₂ (Kr x1 x2 i) (Fin.ext (MlaHost.col_div h j)) (Fin.ext (MlaHost.col_mod h j))

theorem r41 (i : Fin 8192) : val_main_v41 (F := Ideal) x3 (ix2 i 0) = Ideal.div (∑ j : Fin 256, x3 (ix2 i j) * x3 (ix2 i j)) N + e := by
  pointwise [val_main_v41, val_main_v40, val_main_v39, val_main_v38, val_main_v37, val_main_v36, val_main_v35, val_main_cst_5, val_main_cst_6, val_main_cst_7]
theorem r57 (i : Fin 8192) : val_main_v57 (F := Ideal) x4 (ix2 i 0) = Ideal.div (∑ j : Fin 256, x4 (ix2 i j) * x4 (ix2 i j)) N + e := by
  pointwise [val_main_v57, val_main_v56, val_main_v55, val_main_v54, val_main_v53, val_main_v52, val_main_v51, val_main_cst_9, val_main_cst_10, val_main_cst_11]

theorem r42 (i : Fin 8192) : val_main_v42 (F := Ideal) x3 (ix2 i 0) = Rms.scale N e (fun j => x3 (ix2 i j)) := by
  unfold Rms.scale
  rw [← r41]
  pointwise [val_main_v42]
theorem r58 (i : Fin 8192) : val_main_v58 (F := Ideal) x4 (ix2 i 0) = Rms.scale N e (fun j => x4 (ix2 i j)) := by
  unfold Rms.scale
  rw [← r57]
  pointwise [val_main_v58]

theorem r45 (i : Fin 8192) : val_main_v45 (F := Ideal) x3 (ix2 i 0) = H * Ideal.div (Rms.scale N e (fun j => x3 (ix2 i j))) (Ideal.div (∑ j : Fin 256, x3 (ix2 i j) * x3 (ix2 i j)) N + e) := by
  rw [← r41, ← r42]
  pointwise [val_main_v45, val_main_v44, val_main_v43, val_main_cst_8]
theorem r61 (i : Fin 8192) : val_main_v61 (F := Ideal) x4 (ix2 i 0) = H * Ideal.div (Rms.scale N e (fun j => x4 (ix2 i j))) (Ideal.div (∑ j : Fin 256, x4 (ix2 i j) * x4 (ix2 i j)) N + e) := by
  rw [← r57, ← r58]
  pointwise [val_main_v61, val_main_v60, val_main_v59, val_main_cst_12]

theorem r158 (i : Fin 8192) (j : Fin 256) : val_main_v158 (F := Ideal) x0 x5 x6 (ix2 i j) = Yq x0 x6 i j * x5 (ix1 j) := by
  rw [← r127]
  pointwise [val_main_v158, val_main_v157, val_main_v48]
theorem r138 (i : Fin 8192) (j : Fin 256) : val_main_v138 (F := Ideal) x1 x2 x7 x8 (ix2 i j) = Yk x1 x2 x8 i j * x7 (ix1 j) := by
  rw [← r133]
  pointwise [val_main_v138, val_main_v137, val_main_v64]

theorem r162 (i : Fin 8192) : val_main_v162 (F := Ideal) x0 x3 x5 x6 (ix2 i 0) = ∑ j : Fin 256, x3 (ix2 i j) * (Yq x0 x6 i j * x5 (ix1 j)) := by
  simp only [← r158]
  pointwise [val_main_v162, val_main_v161, val_main_v160, val_main_cst_26]
theorem r142 (i : Fin 8192) : val_main_v142 (F := Ideal) x1 x2 x4 x7 x8 (ix2 i 0) = ∑ j : Fin 256, x4 (ix2 i j) * (Yk x1 x2 x8 i j * x7 (ix1 j)) := by
  simp only [← r138]
  pointwise [val_main_v142, val_main_v141, val_main_v140, val_main_cst_21]

theorem r169 (i : Fin 8192) (j : Fin 256) : val_main_v169 (F := Ideal) x0 x3 x5 x6 (ix2 i j) = Rms.inner N e H (fun j => x3 (ix2 i j)) (fun j => x5 (ix1 j)) (Yq x0 x6 i) := by
  unfold Rms.inner
  rw [← r162, ← r45]
  pointwise [val_main_v169, val_main_v168, val_main_v167, val_main_v166, val_main_v165, val_main_cst_27, val_main_cst_28]
  exact Fin.sum_univ_one _
theorem r149 (i : Fin 8192) (j : Fin 256) : val_main_v149 (F := Ideal) x1 x2 x4 x7 x8 (ix2 i j) = Rms.inner N e H (fun j => x4 (ix2 i j)) (fun j => x7 (ix1 j)) (Yk x1 x2 x8 i) := by
  unfold Rms.inner
  rw [← r142, ← r61]
  pointwise [val_main_v149, val_main_v148, val_main_v147, val_main_v146, val_main_v145, val_main_cst_22, val_main_cst_23]
  exact Fin.sum_univ_one _

theorem r173 (i : Fin 8192) (j : Fin 256) : val_main_v173 (F := Ideal) x0 x3 x5 x6 (ix2 i j) = Rms.rules N e H (fun j => x3 (ix2 i j)) (fun j => x5 (ix1 j)) (Yq x0 x6 i) j := by
  unfold Rms.rules
  rw [← r169 x0 x3 x5 x6 i j, ← r158, ← r42]
  pointwise [val_main_v173, val_main_v172, val_main_v171, val_main_v170, val_main_v164, val_main_v163]
theorem r153 (i : Fin 8192) (j : Fin 256) : val_main_v153 (F := Ideal) x1 x2 x4 x7 x8 (ix2 i j) = Rms.rules N e H (fun j => x4 (ix2 i j)) (fun j => x7 (ix1 j)) (Yk x1 x2 x8 i) j := by
  unfold Rms.rules
  rw [← r149 x1 x2 x4 x7 x8 i j, ← r138, ← r58]
  pointwise [val_main_v153, val_main_v152, val_main_v151, val_main_v150, val_main_v144, val_main_v143]

theorem r178 (b : Fin 256) : val_main_v178 (F := Ideal) x0 x3 x6 (ix2 0 b) = ∑ i : Fin 8192, (x3 (ix2 i b) * Rms.scale N e (fun j => x3 (ix2 i j))) * Yq x0 x6 i b := by
  simp only [← r127, ← r42]
  pointwise [val_main_v178, val_main_v159, val_main_v156, val_main_v155, val_main_v154, val_main_v47, val_main_v46, val_main_cst_24, val_main_cst_25]
  exact Fin.sum_univ_one _
theorem r179 (b : Fin 256) : val_main_v179 (F := Ideal) x1 x2 x4 x8 (ix2 0 b) = ∑ i : Fin 8192, (x4 (ix2 i b) * Rms.scale N e (fun j => x4 (ix2 i j))) * Yk x1 x2 x8 i b := by
  simp only [← r133, ← r58]
  pointwise [val_main_v179, val_main_v139, val_main_v136, val_main_v135, val_main_v134, val_main_v63, val_main_v62, val_main_cst_19, val_main_cst_20]
  exact Fin.sum_univ_one _

/-- The normed rows. -/
def nq (i : Fin 8192) (b : Fin 256) : EReal := x3 (ix2 i b) * Rms.scale N e (fun j => x3 (ix2 i j)) * x5 (ix1 b)

theorem r50 (i : Fin 8192) (b : Fin 256) : val_main_v50 (F := Ideal) x3 x5 (ix2 i b) = nq x3 x5 i b := by
  unfold nq
  rw [← r42]
  pointwise [val_main_v50, val_main_v49, val_main_v48, val_main_v47, val_main_v46]
theorem r66 (i : Fin 8192) (b : Fin 256) : val_main_v66 (F := Ideal) x4 x7 (ix2 i b) = nq x4 x7 i b := by
  unfold nq
  rw [← r58]
  pointwise [val_main_v66, val_main_v65, val_main_v64, val_main_v63, val_main_v62]

theorem r132 (a : Fin 256) (n : Fin 2048) : val_main_v132 (F := Ideal) x1 x2 x4 x7 (ix2 a n)
    = ∑ i : Fin 8192, nq x4 x7 i a * Kr x1 x2 i ⟨n.val / 256, by omega⟩ ⟨n.val % 256, by omega⟩ := by
  simp only [← r66, ← r130]
  pointwise [val_main_v132, val_main_v131]
  exact Finset.sum_congr rfl fun i _ => mul_comm _ _

theorem r177 (a : Fin 256) (n : Fin 2048) : val_main_v177 (F := Ideal) x0 x3 x5 (ix2 a n)
    = ∑ i : Fin 8192, nq x3 x5 i a * Qr x0 tab i ⟨n.val / 256, by omega⟩ ⟨n.val % 256, by omega⟩ := by
  pointwise [val_main_v177]
  pointwise [val_main_v176]
  split
  · simp only [← r50]
    pointwise [val_main_v129, val_main_v128]
    exact Finset.sum_congr rfl fun i _ => (congrArg (· * _) (r125 x0 _ _ i)).trans (mul_comm _ _)
  split
  · simp only [← r50]
    pointwise [val_main_v124, val_main_v123]
    refine Finset.sum_congr rfl fun i _ => (congrArg (· * _) ((r120 x0 _ _ i).trans (congrArg (Qr x0 tab i _) (Fin.ext ?_)))).trans (mul_comm _ _)
    simp only []
    omega
  · simp only [← r50]
    pointwise [val_main_v117, val_main_v116]
    refine Finset.sum_congr rfl fun i _ => (congrArg (· * _) ((r114 x0 _ _ i).trans (congrArg (Qr x0 tab i _) (Fin.ext ?_)))).trans (mul_comm _ _)
    simp only []
    omega

/-- The heads' sum of the key's rotary part's cotangents. -/
def S (i : Fin 8192) (d : Fin 64) : EReal := ∑ h : Fin 8, x1 (ix3 h i ⟨128 + d.val, by omega⟩)

theorem r109 (i : Fin 8192) (d : Fin 64) : val_main_v109 (F := Ideal) x1 (ix2 i d) = S x1 i d := by
  unfold S
  pointwise [val_main_v109, val_main_v34, val_main_cst_18]

/-- The first result at row i. -/
def lat (i : Fin 8192) (j : Fin 640) : EReal :=
  if h : j.val < 256 then Rms.rules N e H (fun j => x3 (ix2 i j)) (fun j => x5 (ix1 j)) (Yq x0 x6 i) ⟨j.val, h⟩
  else if h : j.val - 256 < 256 then Rms.rules N e H (fun j => x4 (ix2 i j)) (fun j => x7 (ix1 j)) (Yk x1 x2 x8 i) ⟨j.val - 256, h⟩
  else if h : j.val - 256 - 256 < 64 then S x1 i ⟨j.val - 256 - 256, h⟩ * cs i ⟨j.val - 256 - 256, h⟩
  else S x1 i ⟨j.val - 256 - 256 - 64, by omega⟩ * sn i ⟨j.val - 256 - 256 - 64, by omega⟩

theorem r175 (i : Fin 8192) (j : Fin 640) : val_main_v175 (F := Ideal) x0 x1 x2 x3 x4 x5 x6 x7 x8 (ix2 i j) = lat x0 x1 x2 x3 x4 x5 x6 x7 x8 i j := by
  unfold lat
  simp only [← r173, ← r153, ← r109]
  pointwise [val_main_v175]
  pointwise [val_main_v174]
  pointwise [val_main_v111, val_main_v110]

end Cert.MlaRef
end
-- ==== Proof.MlaSum.lean ====
/- The kernel's and the reference's forms of the latent projections' gradients are equal on reals. -/
module

public import proofs.«01_k».proof.Proof.MlaRef

@[expose] public section

set_option maxRecDepth 16384

noncomputable section

namespace Cert.MlaSum

open Idealize.ShloMosaic Idealize.ShloMosaic.TcCoe
open Cert.MlaReferenceIdeal Cert.MlaReferenceIdeal.Read
open Cert.Extended
open Cert.MlaHost (packed tab)
open Cert.MlaValue (Qr Kr Kp back)
open Cert.MlaPoint (col N e)
open Cert.MlaRef (cs sn S Yq Yk)

theorem n64 : Ideal.ofBits .f32 0x42800000#32 = ((64 : ℝ) : EReal) := by
  simp [Ideal.ofBits, Ideal.ieee, -EReal.coe_mul]; norm_num
theorem n10000 : Ideal.ofBits .f32 0x461C4000#32 = ((10000 : ℝ) : EReal) := by
  simp [Ideal.ofBits, Ideal.ieee, -EReal.coe_mul]; norm_num

/-- The rotary angles are reals, and so are the two tables. -/
theorem real_v16 (i : Fin 8192) (k : Fin 32) : IsReal (val_main_v16 (F := Ideal) (ix2 i k)) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  have s : ∀ b : BitVec 32, FloatOps.sitofp (F := Ideal) FTy.f32 b = ((b.toInt : ℝ) : EReal) := fun _ => rfl
  rw [s, s, n10000, two, n64, ← EReal.coe_mul, ediv _ _ (by norm_num), Ideal.pow_coe_coe, Real.rpow_eq_pow, ← EReal.coe_one, ediv _ _ (Real.rpow_pos_of_pos (by norm_num) _).ne', ← EReal.coe_mul]
  exact IsReal.coe _

theorem real_cs (i : Fin 8192) (d : Fin 64) : IsReal (cs i d) := by
  have key : ∀ k : Fin 32, IsReal (Ideal.cos (val_main_v16 (F := Ideal) (ix2 i k))) := fun k => by
    obtain ⟨r, h⟩ := real_v16 i k
    exact ⟨Real.cos r, by rw [h]; rfl⟩
  unfold cs
  pointwise [val_main_v19, val_main_v17]
  split <;> exact key _
theorem real_sn (i : Fin 8192) (d : Fin 64) : IsReal (sn i d) := by
  have key : ∀ k : Fin 32, IsReal (Ideal.sin (val_main_v16 (F := Ideal) (ix2 i k))) := fun k => by
    obtain ⟨r, h⟩ := real_v16 i k
    exact ⟨Real.sin r, by rw [h]; rfl⟩
  unfold sn
  pointwise [val_main_v20, val_main_v18]
  split <;> exact key _

theorem real_tab (z : Cert.MlaKernelIdeal.S8192x128.Idx) : IsReal (tab z) := by
  unfold tab
  split
  · exact real_cs _ _
  · exact real_sn _ _

theorem isReal_neg {a : EReal} (h : IsReal a) : IsReal (-a) := by
  obtain ⟨r, rfl⟩ := h
  exact ⟨-r, (EReal.coe_neg r).symm⟩

variable {x0 : S8x16x256x512.Idx → EReal} {x1 : S8x8192x256.Idx → EReal} {x2 : S8x8192x128.Idx → EReal} {x3 x4 : S8192x256.Idx → EReal} {x5 : S256.Idx → EReal} {x6 : S256x1536.Idx → EReal} {x7 : S256.Idx → EReal} {x8 : S256x2048.Idx → EReal}

/-- The normed rows' cotangents are reals where the arguments are. -/
theorem real_Yq (h0 : ∀ i, IsReal (x0 i)) (h6 : ∀ i, IsReal (x6 i)) (i : Fin 8192) (b : Fin 256) : IsReal (Yq x0 x6 i b) := by
  refine IsReal.sum fun h => IsReal.sum fun j => IsReal.mul ?_ ?_
  · unfold Qr MlaPoint.qp
    split
    · exact (h0 _).mul (IsReal.coe _)
    split <;> exact ((h0 _).mul (IsReal.coe _)).mul (real_tab _)
  · unfold packed
    split
    · exact h6 _
    split
    · exact isReal_neg (h6 _)
    · exact h6 _
theorem real_Yk (h1 : ∀ i, IsReal (x1 i)) (h2 : ∀ i, IsReal (x2 i)) (h8 : ∀ i, IsReal (x8 i)) (i : Fin 8192) (b : Fin 256) : IsReal (Yk x1 x2 x8 i b) := by
  refine IsReal.sum fun h => IsReal.sum fun j => IsReal.mul ?_ (h8 _)
  unfold Kr MlaPoint.kp
  split
  · exact h1 _
  · exact h2 _

theorem Kp_low (i : Fin 8192) (l : Fin 128) (d : Fin 64) (h : l.val = d.val) : Kp x1 i l = S x1 i d := by
  have hl : l.val < 64 := by omega
  refine Finset.sum_congr rfl fun k _ => (if_pos hl).trans (congrArg (fun q => x1 (ix3 k i q)) (Fin.ext ?_))
  exact congrArg (128 + ·) h
theorem Kp_high (i : Fin 8192) (l : Fin 128) (h : 64 ≤ l.val) : Kp x1 i l = 0 :=
  Finset.sum_eq_zero fun k _ => if_neg (by omega)

variable {wq wk : S256x2048.Idx → EReal} {gq gk : Cert.MlaKernelIdeal.S1x256.Idx → EReal}

theorem back_q (hq : ∀ b h k, wq (ix2 b (col h k)) = packed x6 b h k) (i : Fin 8192) : back (Qr x0 tab i) wq = Yq x0 x6 i := by
  funext b
  unfold back Yq
  simp only [hq]
theorem back_k (hk : ∀ b n, wk (ix2 b n) = x8 (ix2 b n)) (i : Fin 8192) : back (Kr x1 x2 i) wk = Yk x1 x2 x8 i := by
  funext b
  unfold back Yk
  simp only [hk]

/-- The first result: the two norms' gradients by hand and by the rules, the rotary part in its two halves. -/
theorem lat_eq (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i))
    (hq : ∀ b h k, wq (ix2 b (col h k)) = packed x6 b h k) (hk : ∀ b n, wk (ix2 b n) = x8 (ix2 b n)) (hgq : ∀ k, gq (ix2 0 k) = x5 (ix1 k)) (hgk : ∀ k, gk (ix2 0 k) = x7 (ix1 k)) (i : Fin 8192) (j : Fin 640) :
    MlaRef.lat x0 x1 x2 x3 x4 x5 x6 x7 x8 i j = MlaValue.lat x0 x1 x2 x3 x4 tab wq wk gq gk i j := by
  unfold MlaRef.lat MlaValue.lat
  rw [back_q hq, back_k hk]
  simp only [hgq, hgk]
  by_cases c0 : j.val < 256
  · refine (dif_pos c0).trans (Eq.trans ?_ (dif_pos c0).symm)
    exact (Rms.hand_eq_rules_256 (fun _ => h3 _) (fun _ => h5 _) (real_Yq h0 h6 i) _).symm
  refine (dif_neg c0).trans (Eq.trans ?_ (dif_neg c0).symm)
  by_cases c1 : j.val < 512
  · refine (dif_pos (by omega)).trans (Eq.trans ?_ (dif_pos c1).symm)
    exact (Rms.hand_eq_rules_256 (fun _ => h4 _) (fun _ => h7 _) (real_Yk h1 h2 h8 i) _).symm
  refine (dif_neg (by omega)).trans (Eq.trans ?_ (dif_neg c1).symm)
  by_cases c2 : j.val - 256 - 256 < 64
  · refine (dif_pos c2).trans ?_
    rw [Kp_low i ⟨j.val - 512, by omega⟩ ⟨j.val - 256 - 256, c2⟩ (show j.val - 512 = j.val - 256 - 256 by omega), Kp_high i _ (show 64 ≤ (j.val - 512 + 128 - 64) % 128 by omega), add_zero,
      MlaRef.tab_low i _ ⟨j.val - 256 - 256, c2⟩ (show j.val - 512 = j.val - 256 - 256 by omega)]
  · refine (dif_neg c2).trans ?_
    rw [Kp_high i ⟨j.val - 512, by omega⟩ (show 64 ≤ j.val - 512 by omega), Kp_low i _ ⟨j.val - 256 - 256 - 64, by omega⟩ (show (j.val - 512 + 128 - 64) % 128 = j.val - 256 - 256 - 64 by omega), zero_add,
      MlaRef.tab_high i _ ⟨j.val - 256 - 256 - 64, by omega⟩ (show j.val - 512 = 64 + (j.val - 256 - 256 - 64) by omega)]

end Cert.MlaSum
end
-- ==== Proof.MlaFinal.lean ====
/- The value of the latent projections' gradients: each result array after the run. -/
module

public import proofs.«01_k».proof.Defs
public import proofs.«01_k».proof.Proof.Gen.MlaKernelIdeal.Value
public import proofs.«01_k».proof.Proof.MlaValue
public import Idealize.ShloMosaic.Lib.Pipeline.ValueKit
public import Idealize.ShloMosaic.Lib.Pointwise
public import Idealize.ShloMosaic.Lib.StableHlo.ReadAt

@[expose] public section

set_option maxRecDepth 16384

noncomputable section

namespace Cert.MlaValue

open Idealize.ShloMosaic Idealize.ShloMosaic.TcCoe Idealize.SL.Sem
open Idealize.ShloMosaic.Pipeline (Dat)
open Cert.MlaKernelIdeal Cert.MlaKernelIdeal.Gen
open Cert.MlaPoint (N e u qp kp col io)

variable (m : (ℓ : Loc nD τ sig) → Buf (Elt Ideal) ℓ) (c : Dev nD)

/-- The accumulator of window 13 after a point. -/
theorem t13A (t : Fin cfg0.N) (h : t.val % 16 = 0) (j : S256x2048.Idx) : (outsAt0 m c t.val t.isLt).2.1 j = 0 + tQ m c t j := by
  rw [outsAt0_A m c t h]
  frame_open
  simp (disch := decide) only [↓ View.readCov_skip, ↓ View.readCov_cons_toLoadRect, ↓ View.readCov_fill]
  frame_out
  have q := accQ m c t (k0_pay6 (F := Ideal)) [⟨Rect.unit ![0, 0] ![256, 2048] inb_S256x2048_S256x2048_0_0, k0_pay6 (F := Ideal)⟩] j
  unfold MlaPoint.storesQ at q
  simp only [List.cons_append, List.nil_append] at q
  refine q.trans (congrArg (· + _) ?_)
  idx_vars j
  pointwise [k0_pay6]

theorem t13B (t : Fin cfg0.N) (h : ¬t.val % 16 = 0) (j : S256x2048.Idx) : (outsAt0 m c t.val t.isLt).2.1 j = (outsAt0 m c (t.val - 1) (by have := t.isLt; omega)).2.1 j + tQ m c t j := by
  rw [outsAt0_B m c t h]
  frame_out
  have q := accQ m c t (outsAt0 m c (t.val - 1) (by have := t.isLt; omega)).2.1 [] j
  unfold MlaPoint.storesQ at q
  simp only [List.cons_append, List.nil_append] at q
  exact q

/-- The accumulator of window 14 after a point. -/
theorem t14A (t : Fin cfg0.N) (h : t.val % 16 = 0) (j : S256x2048.Idx) : (outsAt0 m c t.val t.isLt).2.2.1 j = 0 + tK m c t j := by
  rw [outsAt0_A m c t h]
  frame_open
  simp (disch := decide) only [↓ View.readCov_skip, ↓ View.readCov_cons_toLoadRect, ↓ View.readCov_fill]
  frame_out
  have q := accK m c t (k0_pay7 (F := Ideal)) [⟨Rect.unit ![0, 0] ![256, 2048] inb_S256x2048_S256x2048_0_0, k0_pay7 (F := Ideal)⟩] j
  unfold MlaPoint.storesK at q
  simp only [List.cons_append, List.nil_append] at q
  refine q.trans (congrArg (· + _) ?_)
  idx_vars j
  pointwise [k0_pay7]

theorem t14B (t : Fin cfg0.N) (h : ¬t.val % 16 = 0) (j : S256x2048.Idx) : (outsAt0 m c t.val t.isLt).2.2.1 j = (outsAt0 m c (t.val - 1) (by have := t.isLt; omega)).2.2.1 j + tK m c t j := by
  rw [outsAt0_B m c t h]
  frame_out
  have q := accK m c t (outsAt0 m c (t.val - 1) (by have := t.isLt; omega)).2.2.1 [] j
  unfold MlaPoint.storesK at q
  simp only [List.cons_append, List.nil_append] at q
  exact q

theorem t15A (t : Fin cfg0.N) (h : t.val % 16 = 0) (j : S1x256.Idx) : (outsAt0 m c t.val t.isLt).2.2.2.1 j = 0 + nQ m c t j := by
  rw [outsAt0_A m c t h]
  frame_out
  idx_vars j
  obtain rfl : j0 = 0 := Fin.eq_zero _
  refine (MlaPoint.nq _ _ _ _).trans (congrArg₂ (· + ·) ?_ (Finset.sum_congr rfl fun a _ => congrArg₂ (· * ·) ((MlaPoint.dcq_eq _ _ _ a j1).trans (q_back m c t a j1)) ?_))
  · pointwise [k0_pay8]
  · simp only [b5]
    rfl

theorem t15B (t : Fin cfg0.N) (h : ¬t.val % 16 = 0) (j : S1x256.Idx) : (outsAt0 m c t.val t.isLt).2.2.2.1 j = (outsAt0 m c (t.val - 1) (by have := t.isLt; omega)).2.2.2.1 j + nQ m c t j := by
  rw [outsAt0_B m c t h]
  frame_out
  idx_vars j
  obtain rfl : j0 = 0 := Fin.eq_zero _
  refine (MlaPoint.nq _ _ _ _).trans (congrArg₂ (· + ·) rfl (Finset.sum_congr rfl fun a _ => congrArg₂ (· * ·) ((MlaPoint.dcq_eq _ _ _ a j1).trans (q_back m c t a j1)) ?_))
  simp only [b5]
  rfl

theorem t16A (t : Fin cfg0.N) (h : t.val % 16 = 0) (j : S1x256.Idx) : (outsAt0 m c t.val t.isLt).2.2.2.2 j = 0 + nK m c t j := by
  rw [outsAt0_A m c t h]
  frame_out
  idx_vars j
  obtain rfl : j0 = 0 := Fin.eq_zero _
  refine (MlaPoint.nk _ _ _ _).trans (congrArg₂ (· + ·) ?_ (Finset.sum_congr rfl fun a _ => congrArg₂ (· * ·) ((MlaPoint.dckv_eq _ _ _ a j1).trans (k_back m c t a j1)) ?_))
  · pointwise [k0_pay9]
  · simp only [b6]
    rfl

theorem t16B (t : Fin cfg0.N) (h : ¬t.val % 16 = 0) (j : S1x256.Idx) : (outsAt0 m c t.val t.isLt).2.2.2.2 j = (outsAt0 m c (t.val - 1) (by have := t.isLt; omega)).2.2.2.2 j + nK m c t j := by
  rw [outsAt0_B m c t h]
  frame_out
  idx_vars j
  obtain rfl : j0 = 0 := Fin.eq_zero _
  refine (MlaPoint.nk _ _ _ _).trans (congrArg₂ (· + ·) rfl (Finset.sum_congr rfl fun a _ => congrArg₂ (· * ·) ((MlaPoint.dckv_eq _ _ _ a j1).trans (k_back m c t a j1)) ?_))
  simp only [b6]
  rfl

theorem final13 : (dats m 0 c).arrAt 13 cfg0.N = fun j => dw (aXn m c) (Qr (aD m c) (aT m c)) (j 0) (j 1) := by
  refine (dats m 0 c).arrAt_eq_of_after_last 13 t0_15 (by decide +kernel) _ fun j => ?_
  blk_simp
  rw [after0_13]
  refine (Pipeline.eq_sum_fin_of_reset_step_apply_last (fun n h => (outsAt0 m c n h).2.1) 16 (fun _ => 0) (fun p => tQ m c p) (fun t h j => t13A m c t h j) (fun t h j => t13B m c t h j) (by decide) t0_15 rfl j).trans ?_
  rw [zero_add]
  refine (Fin.sum_points_lanes_congr (A := 1) (L := 8192) 16 (g := fun _ i => aXn m c (ix2 i (j 0)) * Qr (aD m c) (aT m c) i ⟨(j 1).val / 256, by have := (j 1).isLt; change (j 1).val < 2048 at this; omega⟩ ⟨(j 1).val % 256, by omega⟩) fun t k ha hl => ?_).trans (Fin.sum_univ_one _)
  rw [hr]

theorem final14 : (dats m 0 c).arrAt 14 cfg0.N = fun j => dw (aYn m c) (Kr (aK m c) (aV m c)) (j 0) (j 1) := by
  refine (dats m 0 c).arrAt_eq_of_after_last 14 t0_15 (by decide +kernel) _ fun j => ?_
  blk_simp
  rw [after0_14]
  refine (Pipeline.eq_sum_fin_of_reset_step_apply_last (fun n h => (outsAt0 m c n h).2.2.1) 16 (fun _ => 0) (fun p => tK m c p) (fun t h j => t14A m c t h j) (fun t h j => t14B m c t h j) (by decide) t0_15 rfl j).trans ?_
  rw [zero_add]
  refine (Fin.sum_points_lanes_congr (A := 1) (L := 8192) 16 (g := fun _ i => aYn m c (ix2 i (j 0)) * Kr (aK m c) (aV m c) i ⟨(j 1).val / 256, by have := (j 1).isLt; change (j 1).val < 2048 at this; omega⟩ ⟨(j 1).val % 256, by omega⟩) fun t k ha hl => ?_).trans (Fin.sum_univ_one _)
  rw [hr]

theorem final15 : (dats m 0 c).arrAt 15 cfg0.N = fun j => dn (aX m c) (fun i => back (Qr (aD m c) (aT m c) i) (aWq m c)) (j 1) := by
  refine (dats m 0 c).arrAt_eq_of_after_last 15 t0_15 (by decide +kernel) _ fun j => ?_
  blk_simp
  rw [after0_15]
  refine (Pipeline.eq_sum_fin_of_reset_step_apply_last (fun n h => (outsAt0 m c n h).2.2.2.1) 16 (fun _ => 0) (fun p => nQ m c p) (fun t h j => t15A m c t h j) (fun t h j => t15B m c t h j) (by decide) t0_15 rfl j).trans ?_
  rw [zero_add]
  refine (Fin.sum_points_lanes_congr (A := 1) (L := 8192) 16 (g := fun _ i => back (Qr (aD m c) (aT m c) i) (aWq m c) (j 1) * (aX m c (ix2 i (j 1)) * Rms.scale N e fun l => aX m c (ix2 i l))) fun t k ha hl => ?_).trans (Fin.sum_univ_one _)
  rw [hr]

theorem final16 : (dats m 0 c).arrAt 16 cfg0.N = fun j => dn (aY m c) (fun i => back (Kr (aK m c) (aV m c) i) (aWk m c)) (j 1) := by
  refine (dats m 0 c).arrAt_eq_of_after_last 16 t0_15 (by decide +kernel) _ fun j => ?_
  blk_simp
  rw [after0_16]
  refine (Pipeline.eq_sum_fin_of_reset_step_apply_last (fun n h => (outsAt0 m c n h).2.2.2.2) 16 (fun _ => 0) (fun p => nK m c p) (fun t h j => t16A m c t h j) (fun t h j => t16B m c t h j) (by decide) t0_15 rfl j).trans ?_
  rw [zero_add]
  refine (Fin.sum_points_lanes_congr (A := 1) (L := 8192) 16 (g := fun _ i => back (Kr (aK m c) (aV m c) i) (aWk m c) (j 1) * (aY m c (ix2 i (j 1)) * Rms.scale N e fun l => aY m c (ix2 i l))) fun t k ha hl => ?_).trans (Fin.sum_univ_one _)
  rw [hr]

/-- The three stores of the latent rows' result, each at an entry of its own. -/
abbrev latA (i : Fin 8192) (j : Fin 640) : EReal :=
  lat (aD m c) (aK m c) (aV m c) (aX m c) (aY m c) (aT m c) (aWq m c) (aWk m c) (aGq m c) (aGk m c) i j

theorem l1 (t : Fin cfg0.N) (Y : FVec Ideal S512x256 .f32) (hY : ∀ a b, Y (ix2 a b) = back (Qr (aD m c) (aT m c) (row t a)) (aWq m c) b)
    (z : S512x640.Idx) (y : S512x256.Idx) (h0 : (z 0).val = (y 0).val) (h1 : (z 1).val = (y 1).val) :
    k0_pay3 (F := Ideal) (k0_pay82 Y (iblk m c 5 t) (k0_pay80 (iblk m c 5 t)) (k0_pay81 (iblk m c 10 t))) y = latA m c (row t (z 0)) (z 1) := by
  idx_vars y
  refine (MlaPoint.hq _ _ _ _ _).trans ?_
  have hy : (z 1).val < 256 := h1 ▸ y1.isLt
  unfold latA lat
  refine Eq.trans ?_ (dif_pos hy).symm
  rw [show z 0 = y0 from Fin.ext h0, show (⟨(z 1).val, hy⟩ : Fin 256) = y1 from Fin.ext h1]
  simp only [hY, b5, b10]

theorem l2 (t : Fin cfg0.N) (Y : FVec Ideal S512x256 .f32) (hY : ∀ a b, Y (ix2 a b) = back (Kr (aK m c) (aV m c) (row t a)) (aWk m c) b)
    (z : S512x640.Idx) (y : S512x256.Idx) (h0 : (z 0).val = (y 0).val) (h1 : (z 1).val = 256 + (y 1).val) :
    k0_pay4 (F := Ideal) (k0_pay84 Y (iblk m c 6 t) (iblk m c 11 t)) y = latA m c (row t (z 0)) (z 1) := by
  idx_vars y
  refine (MlaPoint.hk _ _ _ _ _).trans ?_
  have h1' : (z 1).val = 256 + y1.val := h1
  have hb : y1.val < 256 := y1.isLt
  have hy : ¬(z 1).val < 256 := by omega
  have hy' : (z 1).val < 512 := by omega
  unfold latA lat
  refine Eq.trans ?_ ((dif_neg hy).trans (dif_pos hy')).symm
  rw [show z 0 = y0 from Fin.ext h0, show (⟨(z 1).val - 256, by omega⟩ : Fin 256) = y1 from Fin.ext (by simp only []; omega)]
  simp only [hY, b6, b11]

theorem l3 (t : Fin cfg0.N) (r : FVec Ideal S512x128 .f32) (hr : ∀ a l, r (ix2 a l) = Kp (aK m c) (row t a) l)
    (z : S512x640.Idx) (y : S512x128.Idx) (h0 : (z 0).val = (y 0).val) (h1 : (z 1).val = 512 + (y 1).val) :
    k0_pay5 (F := Ideal) (k0_pay10 (iblk m c 7 t)) r y = latA m c (row t (z 0)) (z 1) := by
  idx_vars y
  refine (MlaPoint.p5 _ _ _ _).trans ?_
  have h1' : (z 1).val = 512 + y1.val := h1
  have hb : y1.val < 128 := y1.isLt
  have hy : ¬(z 1).val < 256 := by omega
  have hy' : ¬(z 1).val < 512 := by omega
  unfold latA lat
  refine Eq.trans ?_ ((dif_neg hy).trans (dif_neg hy')).symm
  have ez : (⟨(z 1).val - 512, by have := y1.isLt; omega⟩ : Fin 128) = y1 := Fin.ext (by simp only []; omega)
  have eo : (⟨((z 1).val - 512 + 128 - 64) % 128, by omega⟩ : Fin 128) = ⟨(y1.val + 128 - 64) % 128, by omega⟩ := Fin.ext (by simp only []; omega)
  rw [show z 0 = y0 from Fin.ext h0, ez, eo, hr, hr, b7]

/-- Three stores side by side leave, at every entry, what the store over its column holds there. -/
theorem tiles (p3 : Vec Ideal S512x128 .bf16) (p2 p1 : Vec Ideal S512x256 .bf16) (G : S512x640.Idx → EReal)
    (H3 : ∀ (z : S512x640.Idx) (y : S512x128.Idx), (z 0).val = (y 0).val → (z 1).val = 512 + (y 1).val → p3 y = G z)
    (H2 : ∀ (z : S512x640.Idx) (y : S512x256.Idx), (z 0).val = (y 0).val → (z 1).val = 256 + (y 1).val → p2 y = G z)
    (H1 : ∀ (z : S512x640.Idx) (y : S512x256.Idx), (z 0).val = (y 0).val → (z 1).val = (y 1).val → p1 y = G z) (z : S512x640.Idx) :
    View.canon (Val := Elt Ideal) [(⟨Rect.unit (s := S512x640) ![0, 512] ![512, 128] inb_S512x640_S512x128_0_512, p3⟩ : View.Piece (Elt Ideal) S512x640 .bf16),
      ⟨Rect.unit (s := S512x640) ![0, 256] ![512, 256] inb_S512x640_S512x256_0_256, p2⟩, ⟨Rect.unit (s := S512x640) ![0, 0] ![512, 256] inb_S512x640_S512x256_0_0, p1⟩] z = G z := by
  canon_tiles z h using View.cover_of_tiledBy _ ![512, 128] (by sl_kernel_rfl) z
  · exact H3 _ _ (by omega) (by omega)
  · exact H2 _ _ (by omega) (by omega)
  · exact H1 _ _ (by omega) (by omega)

set_option maxHeartbeats 2000000 in
theorem final12 : (dats m 0 c).arrAt 12 cfg0.N = fun i => latA m c (i 0) (i 1) := by
  refine (dats m 0 c).arrAt_eq_of_covers 12 _ (by decide +kernel) fun t hf z => ?_
  blk_simp
  rw [after0_12, show (win0_12.blk t).view.emb z = ix2 (row t (z 0)) (z 1) by idx_vars z; exact e12 t _ _]
  by_cases h0 : t.val % 16 = 0
  · rw [outsAt0_A m c t h0]
    frame_out
    exact tiles _ _ _ (fun z => latA m c (row t (z 0)) (z 1)) (l3 m c t _ fun a l => (MlaPoint.dkr_eq _ a l).trans (k_rope m c t a l))
      (l2 m c t _ fun a b => (MlaPoint.dckv_eq _ _ _ a b).trans (k_back m c t a b)) (l1 m c t _ fun a b => (MlaPoint.dcq_eq _ _ _ a b).trans (q_back m c t a b)) z
  · rw [outsAt0_B m c t h0]
    frame_out
    exact tiles _ _ _ (fun z => latA m c (row t (z 0)) (z 1)) (l3 m c t _ fun a l => (MlaPoint.dkr_eq _ a l).trans (k_rope m c t a l))
      (l2 m c t _ fun a b => (MlaPoint.dckv_eq _ _ _ a b).trans (k_back m c t a b)) (l1 m c t _ fun a b => (MlaPoint.dcq_eq _ _ _ a b).trans (q_back m c t a b)) z

end Cert.MlaValue
end
-- ==== Proof.Mla.lean ====
/- The five claims about the gradients of the latent projections, their norms and the rotary embedding. -/
module

public import proofs.«01_k».proof.Proof.MlaSum
public import proofs.«01_k».proof.Proof.MlaFinal
public import proofs.«01_k».proof.Proof.Finite
public import proofs.«01_k».proof.Proof.Gen.MlaReferenceIdeal.Run
public import proofs.«01_k».proof.Proof.Gen.MlaKernel
public import proofs.«01_k».proof.Proof.Gen.MlaKernel.Frame
public import proofs.«01_k».proof.Proof.Gen.Pre_mla_finite
public import Idealize.ShloMosaic.Adequacy
public import Idealize.ShloMosaic.Init
public import Idealize.ShloMosaic.Lib.Quiescent

@[expose] public section

set_option maxRecDepth 16384

noncomputable section

namespace Cert.Mla

open Idealize.ShloMosaic Idealize.ShloMosaic.TcCoe Idealize.SL.Sem
open Cert.Extended Cert.Finite
open Cert.MlaReferenceIdeal (S8x16x256x512 S8x8192x256 S8x8192x128 S8192x256 S256 S256x1536 S256x2048)

/-- Under the precondition the arguments hold reals. -/
theorem reals (x0 : S8x16x256x512.Idx → EReal) (x1 : S8x8192x256.Idx → EReal) (x2 : S8x8192x128.Idx → EReal) (x3 x4 : S8192x256.Idx → EReal) (x5 : S256.Idx → EReal) (x6 : S256x1536.Idx → EReal) (x7 : S256.Idx → EReal) (x8 : S256x2048.Idx → EReal)
    (h : @Cert.Pre_mla_finite.fn Cert.Pre_mla_finite.Gen.facts Ideal _ x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) := by
  have e := congrFun h ix0
  unfold Cert.Pre_mla_finite.fn at e
  obtain ⟨e, e8⟩ := and_true e
  obtain ⟨e, e7⟩ := and_true e
  obtain ⟨e, e6⟩ := and_true e
  obtain ⟨e, e5⟩ := and_true e
  obtain ⟨e, e4⟩ := and_true e
  obtain ⟨e, e3⟩ := and_true e
  obtain ⟨e, e2⟩ := and_true e
  obtain ⟨e0, e1⟩ := and_true e
  exact ⟨fun i => ⟨_, real_of_all x0 _ _ _ _ e0 i⟩, fun i => ⟨_, real_of_all x1 _ _ _ _ e1 i⟩, fun i => ⟨_, real_of_all x2 _ _ _ _ e2 i⟩,
    fun i => ⟨_, real_of_all x3 _ _ _ _ e3 i⟩, fun i => ⟨_, real_of_all x4 _ _ _ _ e4 i⟩, fun i => ⟨_, real_of_all x5 _ _ _ _ e5 i⟩,
    fun i => ⟨_, real_of_all x6 _ _ _ _ e6 i⟩, fun i => ⟨_, real_of_all x7 _ _ _ _ e7 i⟩, fun i => ⟨_, real_of_all x8 _ _ _ _ e8 i⟩⟩

theorem frame_kernel : Cert.quiescent_MlaKernel (hMlaKernel := Cert.MlaKernel.Gen.facts) :=
  fun m ρ _ => Cert.MlaKernel.Gen.frame m ρ

theorem frame_ideal : Cert.quiescent_MlaKernelIdeal (hMlaKernelIdeal := Cert.MlaKernelIdeal.Gen.facts) :=
  fun m ρ _ => Cert.MlaKernelIdeal.Gen.frame m ρ

theorem frame_ideal_pre : Cert.quiescent_MlaKernelIdeal_pre_mla_finite (hMlaKernelIdeal := Cert.MlaKernelIdeal.Gen.facts) (hPre_mla_finite := Cert.Pre_mla_finite.Gen.facts) :=
  fun m ρ _ => Cert.MlaKernelIdeal.Gen.frame m ρ

theorem frame_ref : Cert.quiescent_MlaReferenceIdeal (hMlaReferenceIdeal := Cert.MlaReferenceIdeal.Gen.facts) :=
  fun m ρ _ => (θ_run Cert.MlaReferenceIdeal.defs _ _).mono (fun r h => ⟨fun c => (h c).2.2.2.2.2, sem_eq_zero_of_no_sems rfl r.2⟩) (Cert.MlaReferenceIdeal.Value.run m ρ)

theorem frame_ref_pre : Cert.quiescent_MlaReferenceIdeal_pre_mla_finite (hMlaReferenceIdeal := Cert.MlaReferenceIdeal.Gen.facts) (hPre_mla_finite := Cert.Pre_mla_finite.Gen.facts) :=
  fun m ρ _ => frame_ref m ρ trivial

/-- The named constant is the number its word rounds. -/
theorem preserves : Cert.preserves_MlaKernel_MlaKernelIdeal :=
  IdealRules.named_const.statement Cert.MlaKernelIdeal.κ "unit" .f32 0x3DD53B95#32 ((((Real.sqrt 192) * (Real.log 2))⁻¹ : ℝ) : EReal) rfl

set_option maxHeartbeats 2000000 in
/-- Kernel and reference compute one function of arguments that are reals. -/
theorem algebraic : Cert.algebraic_MlaKernelIdeal_MlaReferenceIdeal_pre_mla_finite (hMlaKernelIdeal := Cert.MlaKernelIdeal.Gen.facts) (hMlaReferenceIdeal := Cert.MlaReferenceIdeal.Gen.facts) (hPre_mla_finite := Cert.Pre_mla_finite.Gen.facts) := by
  intro m g m' g' hpre hag
  refine ⟨_, _, _, _, _, Cert.MlaKernelIdeal.Value.run_blocks m g, (θ_run Cert.MlaReferenceIdeal.defs _ _).mono
    (fun r h c => ⟨(h c).1.trans ?_, (h c).2.1.trans ?_, (h c).2.2.1.trans ?_, (h c).2.2.2.1.trans ?_, (h c).2.2.2.2.1.trans ?_, (h c).2.2.2.2.2⟩) (Cert.MlaReferenceIdeal.Value.run m' g')⟩
  all_goals obtain ⟨a0, a1, a2, a3, a4, a5, a6, a7, a8⟩ := hag c
  all_goals replace a0 : StableHlo.launchContents m' c (Proc.tc.devRef Cert.MlaReferenceIdeal.main_arg0) = m (c.tc.loc Cert.MlaKernelIdeal.main_arg0) := a0
  all_goals replace a1 : StableHlo.launchContents m' c (Proc.tc.devRef Cert.MlaReferenceIdeal.main_arg1) = m (c.tc.loc Cert.MlaKernelIdeal.main_arg1) := a1
  all_goals replace a2 : StableHlo.launchContents m' c (Proc.tc.devRef Cert.MlaReferenceIdeal.main_arg2) = m (c.tc.loc Cert.MlaKernelIdeal.main_arg2) := a2
  all_goals replace a3 : StableHlo.launchContents m' c (Proc.tc.devRef Cert.MlaReferenceIdeal.main_arg3) = m (c.tc.loc Cert.MlaKernelIdeal.main_arg3) := a3
  all_goals replace a4 : StableHlo.launchContents m' c (Proc.tc.devRef Cert.MlaReferenceIdeal.main_arg4) = m (c.tc.loc Cert.MlaKernelIdeal.main_arg4) := a4
  all_goals replace a5 : StableHlo.launchContents m' c (Proc.tc.devRef Cert.MlaReferenceIdeal.main_arg5) = m (c.tc.loc Cert.MlaKernelIdeal.main_arg5) := a5
  all_goals replace a6 : StableHlo.launchContents m' c (Proc.tc.devRef Cert.MlaReferenceIdeal.main_arg6) = m (c.tc.loc Cert.MlaKernelIdeal.main_arg6) := a6
  all_goals replace a7 : StableHlo.launchContents m' c (Proc.tc.devRef Cert.MlaReferenceIdeal.main_arg7) = m (c.tc.loc Cert.MlaKernelIdeal.main_arg7) := a7
  all_goals replace a8 : StableHlo.launchContents m' c (Proc.tc.devRef Cert.MlaReferenceIdeal.main_arg8) = m (c.tc.loc Cert.MlaKernelIdeal.main_arg8) := a8
  · obtain ⟨h0, h1, h2, h3, h4, h5, h6, h7, h8⟩ := reals _ _ _ _ _ _ _ _ _ (hpre c)
    rw [Cert.MlaReferenceIdeal.Read.val_main_v175_eq, a0, a1, a2, a3, a4, a5, a6, a7, a8]
    refine Eq.trans ?_ (Cert.MlaValue.final12 m c).symm
    funext i
    idx_vars i
    refine (MlaRef.r175 _ _ _ _ _ _ _ _ _ i0 i1).trans ?_
    unfold MlaValue.latA
    rw [MlaHost.table m c]
    exact MlaSum.lat_eq h0 h1 h2 h3 h4 h5 h6 h7 h8 (MlaHost.h_wq m c) (MlaHost.h_wk m c) (MlaHost.h_gq m c) (MlaHost.h_gk m c) i0 i1
  · rw [Cert.MlaReferenceIdeal.Read.val_main_v177_eq, a0, a3, a5]
    refine Eq.trans ?_ (Cert.MlaValue.final13 m c).symm
    funext i
    idx_vars i
    refine (MlaRef.r177 _ _ _ i0 i1).trans ?_
    rw [MlaHost.table m c]
    exact Finset.sum_congr rfl fun k _ => congrArg (· * _) (MlaHost.h_xn m c k i0).symm
  · rw [Cert.MlaReferenceIdeal.Read.val_main_v132_eq, a1, a2, a4, a7]
    refine Eq.trans ?_ (Cert.MlaValue.final14 m c).symm
    funext i
    idx_vars i
    refine (MlaRef.r132 _ _ _ _ i0 i1).trans ?_
    exact Finset.sum_congr rfl fun k _ => congrArg (· * _) (MlaHost.h_yn m c k i0).symm
  · rw [Cert.MlaReferenceIdeal.Read.val_main_v178_eq, a0, a3, a6]
    refine Eq.trans ?_ (Cert.MlaValue.final15 m c).symm
    funext i
    idx_vars i
    obtain rfl : i0 = 0 := Fin.eq_zero _
    refine (MlaRef.r178 _ _ _ i1).trans (Finset.sum_congr rfl fun k _ => ?_)
    beta_reduce
    rw [MlaHost.table m c, MlaSum.back_q (MlaHost.h_wq m c) k]
    exact mul_comm _ _
  · rw [Cert.MlaReferenceIdeal.Read.val_main_v179_eq, a1, a2, a4, a8]
    refine Eq.trans ?_ (Cert.MlaValue.final16 m c).symm
    funext i
    idx_vars i
    obtain rfl : i0 = 0 := Fin.eq_zero _
    refine (MlaRef.r179 _ _ _ _ i1).trans (Finset.sum_congr rfl fun k _ => ?_)
    beta_reduce
    rw [MlaSum.back_k (MlaHost.h_wk m c) k]
    exact mul_comm _ _

end Cert.Mla
end
-- ==== Proof.OutValue.lean ====
/- The merged branches and their output product: what the kernel leaves, entry by entry. -/
module

public import proofs.«01_k».proof.Defs
public import proofs.«01_k».proof.Proof.Gen.OutKernelIdeal.Value
public import proofs.«01_k».proof.Proof.MergeValue
public import Idealize.ShloMosaic.Lib.Pipeline.ValueKit
public import Idealize.ShloMosaic.Lib.Pointwise
public import Idealize.ShloMosaic.Lib.StableHlo.ReadAt

@[expose] public section

set_option maxRecDepth 16384

noncomputable section

namespace Cert.OutValue

open Idealize.ShloMosaic Idealize.ShloMosaic.TcCoe Idealize.SL.Sem
open Idealize.ShloMosaic.Pipeline (Dat)
open Cert.MergePoint (sg gl th cube)
open Cert.MergeValue (three three1 three2 three3)
open Cert.OutKernelIdeal Cert.OutKernelIdeal.Gen

variable (m : (ℓ : Loc nD τ sig) → Buf (Elt Ideal) ℓ) (c : Dev nD)

/-- The arguments: the residual, the three gates before their functions, the two branches and the weight. -/
abbrev oX : S8192x1024.Idx → EReal := m ((c : Thread nD τ).loc main_arg0)
abbrev oG : S8192x1024.Idx → EReal := m ((c : Thread nD τ).loc main_arg1)
abbrev oA : S8192x1024.Idx → EReal := m ((c : Thread nD τ).loc main_arg2)
abbrev oB : S8192x1024.Idx → EReal := m ((c : Thread nD τ).loc main_arg3)
abbrev oH : S8192x1024.Idx → EReal := m ((c : Thread nD τ).loc main_arg4)
abbrev oY : S8192x1024.Idx → EReal := m ((c : Thread nD τ).loc main_arg5)
abbrev oW : S1024x1024.Idx → EReal := m ((c : Thread nD τ).loc main_arg6)

/-- The two branches under their gates, for a coefficient C of the gelu's cube. -/
def mix (C : EReal) (G A B H Y : S8192x1024.Idx → EReal) (i : S8192x1024.Idx) : EReal := sg (A i) * (H i * gl C (G i)) + sg (B i) * Y i

/-- The residual plus the merged branches times the weight. -/
def out (C : EReal) (X G A B H Y : S8192x1024.Idx → EReal) (W : S1024x1024.Idx → EReal) (i : S8192x1024.Idx) : EReal :=
  X i + ∑ k : Fin 1024, mix C G A B H Y (ix2 (i 0) k) * W (ix2 k (i 1))

section
variable (h g a b y x : Vec Ideal S512x1024 .f32) (w : Vec Ideal S1024x1024 .bf16) (M : FVec Ideal S512x1024 .f32) (i : Fin 512) (j : Fin 1024)

/-- The merged value at an entry of a block. -/
theorem p3 : k0_pay3 (F := Ideal) h g a b y (ix2 i j) = sg (a (ix2 i j)) * (h (ix2 i j) * gl cube (g (ix2 i j))) + sg (b (ix2 i j)) * y (ix2 i j) := by
  unfold sg gl th
  pointwise [k0_pay3]
  simp only [zero_sub]
  rfl

/-- The output at an entry of a block, from the merged block. -/
theorem p2 : k0_pay2 (F := Ideal) M x w (ix2 i j) = x (ix2 i j) + ∑ k : Fin 1024, M (ix2 i k) * w (ix2 k j) := by
  pointwise [k0_pay2, k0_pay1]
end

/-- Which block each window shows at a grid point. -/
theorem idx : ∀ t : Fin cfg0.N, win0_0.index t = ![(t : Nat), 0] ∧ win0_1.index t = ![(t : Nat), 0] ∧ win0_2.index t = ![(t : Nat), 0] ∧ win0_3.index t = ![(t : Nat), 0] ∧ win0_4.index t = ![0, 0] ∧ win0_5.index t = ![(t : Nat), 0] ∧ win0_6.index t = ![(t : Nat), 0] :=
  (by decide +kernel : ∀ t : Fin grid0.N, _)

/-- The row of the whole array at row a of point t's block. -/
def row (t : Fin cfg0.N) (a : Fin 512) : Fin 8192 := ⟨512 * t.val + a.val, by have := t.isLt; change t.val < 16 at this; omega⟩

theorem e0 (t : Fin cfg0.N) (a : Fin 512) (k : Fin 1024) : ((win0_0.blk t).view.emb (ix2 a k) : S8192x1024.Idx) = ix2 (row t a) k := by
  obtain ⟨i0, i1, i2, i3, i4, i5, i6⟩ := idx t
  funext j; apply Fin.ext; refine (Pipeline.Window.rect_emb_val win0_0 t _ j).trans ?_; rw [i0]
  fin_cases j <;> simp [row, ix2, win0_0] <;> omega
theorem e1 (t : Fin cfg0.N) (a : Fin 512) (k : Fin 1024) : ((win0_1.blk t).view.emb (ix2 a k) : S8192x1024.Idx) = ix2 (row t a) k := by
  obtain ⟨i0, i1, i2, i3, i4, i5, i6⟩ := idx t
  funext j; apply Fin.ext; refine (Pipeline.Window.rect_emb_val win0_1 t _ j).trans ?_; rw [i1]
  fin_cases j <;> simp [row, ix2, win0_1] <;> omega
theorem e2 (t : Fin cfg0.N) (a : Fin 512) (k : Fin 3072) : ((win0_2.blk t).view.emb (ix2 a k) : S8192x3072.Idx) = ix2 (row t a) k := by
  obtain ⟨i0, i1, i2, i3, i4, i5, i6⟩ := idx t
  funext j; apply Fin.ext; refine (Pipeline.Window.rect_emb_val win0_2 t _ j).trans ?_; rw [i2]
  fin_cases j <;> simp [row, ix2, win0_2] <;> omega
theorem e3 (t : Fin cfg0.N) (a : Fin 512) (k : Fin 1024) : ((win0_3.blk t).view.emb (ix2 a k) : S8192x1024.Idx) = ix2 (row t a) k := by
  obtain ⟨i0, i1, i2, i3, i4, i5, i6⟩ := idx t
  funext j; apply Fin.ext; refine (Pipeline.Window.rect_emb_val win0_3 t _ j).trans ?_; rw [i3]
  fin_cases j <;> simp [row, ix2, win0_3] <;> omega
theorem e4 (t : Fin cfg0.N) (a k : Fin 1024) : ((win0_4.blk t).view.emb (ix2 a k) : S1024x1024.Idx) = ix2 a k := by
  obtain ⟨i0, i1, i2, i3, i4, i5, i6⟩ := idx t
  funext j; apply Fin.ext; refine (Pipeline.Window.rect_emb_val win0_4 t _ j).trans ?_; rw [i4]
  fin_cases j <;> simp [row, ix2, win0_4] <;> omega
theorem e5 (t : Fin cfg0.N) (a : Fin 512) (k : Fin 1024) : ((win0_5.blk t).view.emb (ix2 a k) : S8192x1024.Idx) = ix2 (row t a) k := by
  obtain ⟨i0, i1, i2, i3, i4, i5, i6⟩ := idx t
  funext j; apply Fin.ext; refine (Pipeline.Window.rect_emb_val win0_5 t _ j).trans ?_; rw [i5]
  fin_cases j <;> simp [row, ix2, win0_5] <;> omega
theorem e6 (t : Fin cfg0.N) (a : Fin 512) (k : Fin 1024) : ((win0_6.blk t).view.emb (ix2 a k) : S8192x1024.Idx) = ix2 (row t a) k := by
  obtain ⟨i0, i1, i2, i3, i4, i5, i6⟩ := idx t
  funext j; apply Fin.ext; refine (Pipeline.Window.rect_emb_val win0_6 t _ j).trans ?_; rw [i6]
  fin_cases j <;> simp [row, ix2, win0_6] <;> omega

abbrev aG3 : S8192x3072.Idx → EReal := V m c main_v0
abbrev aW : S1024x1024.Idx → EReal := V m c main_v1

theorem h_g3 (i : Fin 8192) (j : Fin 3072) : aG3 m c (ix2 i j) = three (fun j => oG m c (ix2 i j)) (fun j => oA m c (ix2 i j)) (fun j => oB m c (ix2 i j)) j := by
  unfold aG3 V three
  after_reads_at

theorem h_w (j k : Fin 1024) : aW m c (ix2 j k) = oW m c (ix2 j k) := by
  unfold aW V
  after_reads_at

theorem b0 (t : Fin cfg0.N) (a : Fin 512) (k : Fin 1024) : (iblk m c 0 t : Vec Ideal S512x1024 .f32) (ix2 a k) = oX m c (ix2 (row t a) k) :=
  (show _ = V m c main_arg0 ((win0_0.blk t).view.emb (ix2 a k)) from rfl).trans ((congrArg (V m c main_arg0) (e0 t a k)).trans (congrFun (V_main_arg0 m c) _))
theorem b1 (t : Fin cfg0.N) (a : Fin 512) (k : Fin 1024) : (iblk m c 1 t : Vec Ideal S512x1024 .f32) (ix2 a k) = oH m c (ix2 (row t a) k) :=
  (show _ = V m c main_arg4 ((win0_1.blk t).view.emb (ix2 a k)) from rfl).trans ((congrArg (V m c main_arg4) (e1 t a k)).trans (congrFun (V_main_arg4 m c) _))
theorem b2 (t : Fin cfg0.N) (a : Fin 512) (k : Fin 3072) : (iblk m c 2 t : Vec Ideal S512x3072 .f32) (ix2 a k) = three (fun j => oG m c (ix2 (row t a) j)) (fun j => oA m c (ix2 (row t a) j)) (fun j => oB m c (ix2 (row t a) j)) k :=
  (show _ = V m c main_v0 ((win0_2.blk t).view.emb (ix2 a k)) from rfl).trans ((congrArg (V m c main_v0) (e2 t a k)).trans (h_g3 m c _ k))
theorem b3 (t : Fin cfg0.N) (a : Fin 512) (k : Fin 1024) : (iblk m c 3 t : Vec Ideal S512x1024 .f32) (ix2 a k) = oY m c (ix2 (row t a) k) :=
  (show _ = V m c main_arg5 ((win0_3.blk t).view.emb (ix2 a k)) from rfl).trans ((congrArg (V m c main_arg5) (e3 t a k)).trans (congrFun (V_main_arg5 m c) _))
theorem b4 (t : Fin cfg0.N) (a k : Fin 1024) : (iblk m c 4 t : Vec Ideal S1024x1024 .bf16) (ix2 a k) = oW m c (ix2 a k) :=
  (show _ = V m c main_v1 ((win0_4.blk t).view.emb (ix2 a k)) from rfl).trans ((congrArg (V m c main_v1) (e4 t a k)).trans (h_w m c a k))

/-- The three gates' columns of a block. -/
theorem c1 (t : Fin cfg0.N) (a : Fin 512) (k : Fin 1024) : View.ld (iblk m c 2 t : Vec Ideal S512x3072 .f32) r0_1 (ix2 a k) = oG m c (ix2 (row t a) k) := by
  pointwise [View.ld_apply]
  exact (b2 m c t _ _).trans (three1 _ _ _ _ k rfl)
theorem c2 (t : Fin cfg0.N) (a : Fin 512) (k : Fin 1024) : View.ld (iblk m c 2 t : Vec Ideal S512x3072 .f32) r0_2 (ix2 a k) = oA m c (ix2 (row t a) k) := by
  pointwise [View.ld_apply]
  exact (b2 m c t _ _).trans (three2 _ _ _ _ k rfl)
theorem c3 (t : Fin cfg0.N) (a : Fin 512) (k : Fin 1024) : View.ld (iblk m c 2 t : Vec Ideal S512x3072 .f32) r0_3 (ix2 a k) = oB m c (ix2 (row t a) k) := by
  pointwise [View.ld_apply]
  exact (b2 m c t _ _).trans (three3 _ _ _ _ k rfl)

/-- A whole block loaded is the block. -/
theorem d1 (x : Vec Ideal S512x1024 .f32) (a : Fin 512) (k : Fin 1024) : View.ld x r0_0 (ix2 a k) = x (ix2 a k) := by
  pointwise [View.ld_apply]

/-- The merged block of a grid point, at an entry. -/
theorem p4 (t : Fin cfg0.N) (a : Fin 512) (k : Fin 1024) :
    k0_pay4 (F := Ideal) (iblk m c 0 t) (iblk m c 1 t) (iblk m c 2 t) (iblk m c 3 t) (iblk m c 4 t) (ix2 a k)
      = mix cube (oG m c) (oA m c) (oB m c) (oH m c) (oY m c) (ix2 (row t a) k) := by
  unfold k0_pay4 mix
  rw [p3, c1, c2, c3, d1, d1, b1, b3]

theorem final5 : (dats m 0 c).arrAt 5 cfg0.N = out cube (oX m c) (oG m c) (oA m c) (oB m c) (oH m c) (oY m c) (oW m c) := by
  refine (dats m 0 c).arrAt_eq_of_covers 5 _ (by decide +kernel) fun t hf z => ?_
  blk_simp
  idx_vars z
  rw [after0_5, e5]
  frame_out
  rw [p2]
  unfold out
  simp only [b0, b4, p4]
  rfl

theorem final6 : (dats m 0 c).arrAt 6 cfg0.N = mix cube (oG m c) (oA m c) (oB m c) (oH m c) (oY m c) := by
  refine (dats m 0 c).arrAt_eq_of_covers 6 _ (by decide +kernel) fun t hf z => ?_
  blk_simp
  idx_vars z
  rw [after0_6, e6]
  frame_out
  exact p4 m c t _ _

end Cert.OutValue
end
-- ==== Proof.Out.lean ====
/- The five claims about the merged branches with their output product. -/
module

public import proofs.«01_k».proof.Proof.OutValue
public import proofs.«01_k».proof.Proof.Merge
public import proofs.«01_k».proof.Proof.Gen.OutReferenceIdeal.Run
public import proofs.«01_k».proof.Proof.Gen.OutReferenceIdeal.Read
public import proofs.«01_k».proof.Proof.Gen.OutKernel
public import proofs.«01_k».proof.Proof.Gen.OutKernel.Frame
public import Idealize.ShloMosaic.Adequacy
public import Idealize.ShloMosaic.Init
public import Idealize.ShloMosaic.Lib.Quiescent

@[expose] public section

set_option maxRecDepth 16384

noncomputable section

namespace Cert.Out

open Idealize.ShloMosaic Idealize.ShloMosaic.TcCoe Idealize.SL.Sem
open Cert.MergePoint (sg gl th cube)
open Cert.MergeValue (quot)
open Cert.OutValue

section
open Cert.OutReferenceIdeal Cert.OutReferenceIdeal.Read
variable (x0 x1 x2 x3 x4 x5 : S8192x1024.Idx → EReal) (x6 : S1024x1024.Idx → EReal)

/-- The reference's merged value at an entry. -/
theorem r30 (i : Fin 8192) (j : Fin 1024) : val_main_v30 (F := Ideal) x1 x2 x3 x4 x5 (ix2 i j) = mix quot x1 x2 x3 x4 x5 (ix2 i j) := by
  unfold mix sg gl th quot
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

/-- The reference's output at an entry. -/
theorem r32 (i : Fin 8192) (j : Fin 1024) : val_main_v32 (F := Ideal) x0 x1 x2 x3 x4 x5 x6 (ix2 i j) = out quot x0 x1 x2 x3 x4 x5 x6 (ix2 i j) := by
  unfold out
  refine congrArg (x0 (ix2 i j) + ·) ((val_main_v31_apply x1 x2 x3 x4 x5 x6 (ix2 i j)).trans (Finset.sum_congr rfl fun k _ => ?_))
  refine congrArg₂ (HMul.hMul (α := EReal) (β := EReal) (γ := EReal)) ?_ (congrArg x6 (by funext b; fin_cases b <;> rfl))
  rw [show lidx_main_v31 (ix2 i j) k = ix2 i k by funext b; fin_cases b <;> rfl]
  exact r30 x1 x2 x3 x4 x5 i k
end

theorem frame_kernel : Cert.quiescent_OutKernel (hOutKernel := Cert.OutKernel.Gen.facts) :=
  fun m ρ _ => Cert.OutKernel.Gen.frame m ρ

theorem frame_ideal : Cert.quiescent_OutKernelIdeal (hOutKernelIdeal := Cert.OutKernelIdeal.Gen.facts) :=
  fun m ρ _ => Cert.OutKernelIdeal.Gen.frame m ρ

theorem frame_ref : Cert.quiescent_OutReferenceIdeal (hOutReferenceIdeal := Cert.OutReferenceIdeal.Gen.facts) :=
  fun m ρ _ => (θ_run Cert.OutReferenceIdeal.defs _ _).mono (fun r h => ⟨fun c => (h c).2.2, sem_eq_zero_of_no_sems rfl r.2⟩) (Cert.OutReferenceIdeal.Value.run m ρ)

/-- Only the gelu's rounded coefficient was named. -/
theorem preserves : Cert.preserves_OutKernel_OutKernelIdeal :=
  IdealRules.named_const.statement Cert.OutKernelIdeal.κ "gelu" .f32 0x3D372713#32 ((8943 / 200000 : ℝ) : EReal) rfl

/-- Kernel and reference compute one function. -/
theorem algebraic : Cert.algebraic_OutKernelIdeal_OutReferenceIdeal (hOutKernelIdeal := Cert.OutKernelIdeal.Gen.facts) (hOutReferenceIdeal := Cert.OutReferenceIdeal.Gen.facts) := by
  intro m g m' g' hpre hag
  refine ⟨_, _, Cert.OutKernelIdeal.Value.run_blocks m g, (θ_run Cert.OutReferenceIdeal.defs _ _).mono (fun r h c => ⟨(h c).1.trans ?_, (h c).2.1.trans ?_, (h c).2.2⟩) (Cert.OutReferenceIdeal.Value.run m' g')⟩
  all_goals obtain ⟨a0, a1, a2, a3, a4, a5, a6⟩ := hag c
  · rw [Cert.OutReferenceIdeal.Read.val_main_v32_eq, a0, a1, a2, a3, a4, a5, a6]
    refine Eq.trans ?_ (final5 m c).symm
    funext i
    idx_vars i
    exact (r32 (oX m c) (oG m c) (oA m c) (oB m c) (oH m c) (oY m c) (oW m c) i0 i1).trans (congrArg (fun C => out C (oX m c) (oG m c) (oA m c) (oB m c) (oH m c) (oY m c) (oW m c) (ix2 i0 i1)) Cert.Merge.quot_eq)
  · rw [Cert.OutReferenceIdeal.Read.val_main_v33_eq, a1, a2, a3, a4, a5]
    refine Eq.trans ?_ (final6 m c).symm
    funext i
    idx_vars i
    exact (show Cert.OutReferenceIdeal.Read.val_main_v33 (F := Ideal) (oG m c) (oA m c) (oB m c) (oH m c) (oY m c) (ix2 i0 i1) = Cert.OutReferenceIdeal.Read.val_main_v30 (F := Ideal) (oG m c) (oA m c) (oB m c) (oH m c) (oY m c) (ix2 i0 i1) from rfl).trans ((r30 (oG m c) (oA m c) (oB m c) (oH m c) (oY m c) i0 i1).trans (congrArg (fun C => mix C (oG m c) (oA m c) (oB m c) (oH m c) (oY m c) (ix2 i0 i1)) Cert.Merge.quot_eq))

end Cert.Out
end
-- ==== Proof.UpValue.lean ====
/- The norm before the up projection with that product: what the kernel leaves, entry by entry. -/
module

public import proofs.«01_k».proof.Defs
public import proofs.«01_k».proof.Proof.Gen.UpKernelIdeal.Value
public import proofs.«01_k».proof.Proof.Rms
public import Idealize.ShloMosaic.Lib.Pipeline.ValueKit
public import Idealize.ShloMosaic.Lib.Pointwise
public import Idealize.ShloMosaic.Lib.StableHlo.ReadAt

@[expose] public section

set_option maxRecDepth 16384

noncomputable section

namespace Cert.UpValue

open Idealize.ShloMosaic Idealize.ShloMosaic.TcCoe Idealize.SL.Sem
open Idealize.ShloMosaic.Pipeline (Dat)
open Cert.UpKernelIdeal Cert.UpKernelIdeal.Gen

variable (m : (ℓ : Loc nD τ sig) → Buf (Elt Ideal) ℓ) (c : Dev nD)

/-- The arguments: the rows, the norm's weight and the product's. -/
abbrev uH : S8192x1024.Idx → EReal := m ((c : Thread nD τ).loc main_arg0)
abbrev uG : S1024.Idx → EReal := m ((c : Thread nD τ).loc main_arg1)
abbrev uW : S1024x4096.Idx → EReal := m ((c : Thread nD τ).loc main_arg2)

abbrev nn : EReal := Ideal.ofBits .f32 0x44800000#32
abbrev ee : EReal := Ideal.ofBits .f32 0x358637BD#32

/-- A normed row times its weight. -/
def norm (H : S8192x1024.Idx → EReal) (G : S1024.Idx → EReal) (i : S8192x1024.Idx) : EReal := H i * Rms.scale nn ee (fun j => H (ix2 (i 0) j)) * G (ix1 (i 1))

/-- The normed rows times the weight. -/
def up (H : S8192x1024.Idx → EReal) (G : S1024.Idx → EReal) (W : S1024x4096.Idx → EReal) (i : S8192x4096.Idx) : EReal := ∑ k : Fin 1024, norm H G (ix2 (i 0) k) * W (ix2 k (i 1))

section
variable (h : Vec Ideal S512x1024 .f32) (g : Vec Ideal S1x1024 .f32) (v : FVec Ideal S512x1024 .bf16) (w : Vec Ideal S1024x512 .bf16) (i : Fin 512) (j : Fin 1024)

/-- The normed block at an entry. -/
theorem p6 : k0_pay6 (F := Ideal) h g (ix2 i j) = h (ix2 i j) * Rms.scale nn ee (fun k => h (ix2 i k)) * g (ix2 0 j) := by
  unfold Rms.scale
  pointwise [k0_pay6]

/-- A tile of the product at an entry: the eight tiles are one function. -/
theorem p5 (l : Fin 512) : k0_pay5 (F := Ideal) v w (ix2 i l) = ∑ k : Fin 1024, v (ix2 i k) * w (ix2 k l) := by
  pointwise [k0_pay5]

theorem q4 : k0_pay4 (F := Ideal) v w = k0_pay5 v w := by unfold k0_pay4 k0_pay5; rfl
theorem q3 : k0_pay3 (F := Ideal) v w = k0_pay5 v w := by unfold k0_pay3 k0_pay5; rfl
theorem q2 : k0_pay2 (F := Ideal) v w = k0_pay5 v w := by unfold k0_pay2 k0_pay5; rfl
theorem q1 : k0_pay1 (F := Ideal) v w = k0_pay5 v w := by unfold k0_pay1 k0_pay5; rfl
theorem q9 : k0_pay9 (F := Ideal) h g w = k0_pay5 (k0_pay6 h g) w := by unfold k0_pay9 k0_pay5; rfl
theorem q8 : k0_pay8 (F := Ideal) h g w = k0_pay5 (k0_pay6 h g) w := by unfold k0_pay8 k0_pay5; rfl
theorem q7 : k0_pay7 (F := Ideal) h g w = k0_pay5 (k0_pay6 h g) w := by unfold k0_pay7 k0_pay5; rfl
end

/-- Which block each window shows at a grid point. -/
theorem idx : ∀ t : Fin cfg0.N, win0_0.index t = ![(t : Nat), 0] ∧ win0_1.index t = ![0, 0] ∧ win0_2.index t = ![0, 0] ∧ win0_3.index t = ![(t : Nat), 0] ∧ win0_4.index t = ![(t : Nat), 0] :=
  (by decide +kernel : ∀ t : Fin grid0.N, _)

/-- The row of the whole array at row a of point t's block. -/
def row (t : Fin cfg0.N) (a : Fin 512) : Fin 8192 := ⟨512 * t.val + a.val, by have := t.isLt; change t.val < 16 at this; omega⟩

theorem e0 (t : Fin cfg0.N) (a : Fin 512) (k : Fin 1024) : ((win0_0.blk t).view.emb (ix2 a k) : S8192x1024.Idx) = ix2 (row t a) k := by
  obtain ⟨i0, i1, i2, i3, i4⟩ := idx t
  funext j; apply Fin.ext; refine (Pipeline.Window.rect_emb_val win0_0 t _ j).trans ?_; rw [i0]
  fin_cases j <;> simp [row, ix2, win0_0] <;> omega
theorem e1 (t : Fin cfg0.N) (a : Fin 1) (k : Fin 1024) : ((win0_1.blk t).view.emb (ix2 a k) : S1x1024.Idx) = ix2 a k := by
  obtain ⟨i0, i1, i2, i3, i4⟩ := idx t
  funext j; apply Fin.ext; refine (Pipeline.Window.rect_emb_val win0_1 t _ j).trans ?_; rw [i1]
  fin_cases j <;> simp [row, ix2, win0_1] <;> omega
theorem e2 (t : Fin cfg0.N) (a : Fin 1024) (k : Fin 4096) : ((win0_2.blk t).view.emb (ix2 a k) : S1024x4096.Idx) = ix2 a k := by
  obtain ⟨i0, i1, i2, i3, i4⟩ := idx t
  funext j; apply Fin.ext; refine (Pipeline.Window.rect_emb_val win0_2 t _ j).trans ?_; rw [i2]
  fin_cases j <;> simp [row, ix2, win0_2] <;> omega
theorem e3 (t : Fin cfg0.N) (a : Fin 512) (k : Fin 4096) : ((win0_3.blk t).view.emb (ix2 a k) : S8192x4096.Idx) = ix2 (row t a) k := by
  obtain ⟨i0, i1, i2, i3, i4⟩ := idx t
  funext j; apply Fin.ext; refine (Pipeline.Window.rect_emb_val win0_3 t _ j).trans ?_; rw [i3]
  fin_cases j <;> simp [row, ix2, win0_3] <;> omega
theorem e4 (t : Fin cfg0.N) (a : Fin 512) (k : Fin 1024) : ((win0_4.blk t).view.emb (ix2 a k) : S8192x1024.Idx) = ix2 (row t a) k := by
  obtain ⟨i0, i1, i2, i3, i4⟩ := idx t
  funext j; apply Fin.ext; refine (Pipeline.Window.rect_emb_val win0_4 t _ j).trans ?_; rw [i4]
  fin_cases j <;> simp [row, ix2, win0_4] <;> omega

abbrev aG : S1x1024.Idx → EReal := V m c main_v0
abbrev aW : S1024x4096.Idx → EReal := V m c main_v1

theorem h_g (j : Fin 1024) : aG m c (ix2 0 j) = uG m c (ix1 j) := by
  unfold aG V
  after_reads_at

theorem h_w (j : Fin 1024) (k : Fin 4096) : aW m c (ix2 j k) = uW m c (ix2 j k) := by
  unfold aW V
  after_reads_at

theorem b0 (t : Fin cfg0.N) (a : Fin 512) (k : Fin 1024) : (iblk m c 0 t : Vec Ideal S512x1024 .f32) (ix2 a k) = uH m c (ix2 (row t a) k) :=
  (show _ = V m c main_arg0 ((win0_0.blk t).view.emb (ix2 a k)) from rfl).trans ((congrArg (V m c main_arg0) (e0 t a k)).trans (congrFun (V_main_arg0 m c) _))
theorem b1 (t : Fin cfg0.N) (k : Fin 1024) : (iblk m c 1 t : Vec Ideal S1x1024 .f32) (ix2 0 k) = uG m c (ix1 k) :=
  (show _ = V m c main_v0 ((win0_1.blk t).view.emb (ix2 0 k)) from rfl).trans ((congrArg (V m c main_v0) (e1 t 0 k)).trans (h_g m c k))
theorem b2 (t : Fin cfg0.N) (a : Fin 1024) (k : Fin 4096) : (iblk m c 2 t : Vec Ideal S1024x4096 .bf16) (ix2 a k) = uW m c (ix2 a k) :=
  (show _ = V m c main_v1 ((win0_2.blk t).view.emb (ix2 a k)) from rfl).trans ((congrArg (V m c main_v1) (e2 t a k)).trans (h_w m c a k))

/-- The normed block of a grid point, at an entry. -/
theorem s6 (t : Fin cfg0.N) (a : Fin 512) (k : Fin 1024) : k0_pay6 (F := Ideal) (iblk m c 0 t) (iblk m c 1 t) (ix2 a k) = norm (uH m c) (uG m c) (ix2 (row t a) k) := by
  rw [p6, b1, b0, show (fun k => (iblk m c 0 t : Vec Ideal S512x1024 .f32) (ix2 a k)) = fun k => uH m c (ix2 (row t a) k) from funext fun k => b0 m c t a k]
  rfl

/-- A tile whose columns start at o, at an entry. -/
theorem tile (t : Fin cfg0.N) (o : Nat) (ho : o + 512 ≤ 4096) (w : Vec Ideal S1024x512 .bf16)
    (hw : ∀ (k : Fin 1024) (l : Fin 512), w (ix2 k l) = (iblk m c 2 t : Vec Ideal S1024x4096 .bf16) (ix2 k ⟨o + l.val, by omega⟩))
    (z : S512x4096.Idx) (y : S512x512.Idx) (h0 : (z 0).val = (y 0).val) (h1 : (z 1).val = o + (y 1).val) :
    k0_pay5 (F := Ideal) (k0_pay6 (iblk m c 0 t) (iblk m c 1 t)) w y = up (uH m c) (uG m c) (uW m c) (ix2 (row t (z 0)) (z 1)) := by
  idx_vars y
  refine (p5 _ _ _ _).trans ?_
  refine Finset.sum_congr rfl fun k _ => ?_
  rw [s6, hw, b2, show z 0 = y0 from Fin.ext h0]
  exact congrArg (fun l => norm (uH m c) (uG m c) (ix2 (row t y0) k) * uW m c (ix2 k l)) (Fin.ext h1.symm)

theorem final4 : (dats m 0 c).arrAt 4 cfg0.N = norm (uH m c) (uG m c) := by
  refine (dats m 0 c).arrAt_eq_of_covers 4 _ (by decide +kernel) fun t hf z => ?_
  blk_simp
  idx_vars z
  rw [after0_4, e4]
  frame_out
  exact s6 m c t _ _

/-- A whole block loaded is the block. -/
theorem d0 (x : Vec Ideal S512x1024 .f32) : View.ld x r0_0 = x := by
  funext z
  idx_vars z
  pointwise [View.ld_apply]
theorem d1 (x : Vec Ideal S1x1024 .f32) : View.ld x r0_1 = x := by
  funext z
  idx_vars z
  pointwise [View.ld_apply]
  rw [Subsingleton.elim z0 0]

set_option maxHeartbeats 1000000 in
/-- Eight stores side by side leave, at every entry, what the store over its column holds there. -/
theorem tiles (p7 p6 p5 p4 p3 p2 p1 p0 : Vec Ideal S512x512 .f32) (G : S512x4096.Idx → EReal)
    (H7 : ∀ (z : S512x4096.Idx) (y : S512x512.Idx), (z 0).val = (y 0).val → (z 1).val = 3584 + (y 1).val → p7 y = G z)
    (H6 : ∀ (z : S512x4096.Idx) (y : S512x512.Idx), (z 0).val = (y 0).val → (z 1).val = 3072 + (y 1).val → p6 y = G z)
    (H5 : ∀ (z : S512x4096.Idx) (y : S512x512.Idx), (z 0).val = (y 0).val → (z 1).val = 2560 + (y 1).val → p5 y = G z)
    (H4 : ∀ (z : S512x4096.Idx) (y : S512x512.Idx), (z 0).val = (y 0).val → (z 1).val = 2048 + (y 1).val → p4 y = G z)
    (H3 : ∀ (z : S512x4096.Idx) (y : S512x512.Idx), (z 0).val = (y 0).val → (z 1).val = 1536 + (y 1).val → p3 y = G z)
    (H2 : ∀ (z : S512x4096.Idx) (y : S512x512.Idx), (z 0).val = (y 0).val → (z 1).val = 1024 + (y 1).val → p2 y = G z)
    (H1 : ∀ (z : S512x4096.Idx) (y : S512x512.Idx), (z 0).val = (y 0).val → (z 1).val = 512 + (y 1).val → p1 y = G z)
    (H0 : ∀ (z : S512x4096.Idx) (y : S512x512.Idx), (z 0).val = (y 0).val → (z 1).val = 0 + (y 1).val → p0 y = G z)
    (z : S512x4096.Idx) :
    View.canon (Val := Elt Ideal) [(⟨r0_17, p7⟩ : View.Piece (Elt Ideal) S512x4096 .f32), ⟨r0_15, p6⟩, ⟨r0_13, p5⟩, ⟨r0_11, p4⟩, ⟨r0_9, p3⟩, ⟨r0_7, p2⟩, ⟨r0_5, p1⟩, ⟨r0_3, p0⟩] z = G z := by
  canon_tiles z h using View.cover_of_tiledBy _ ![512, 512] (by sl_kernel_rfl) z
  · exact H7 _ _ (by omega) (by omega)
  · exact H6 _ _ (by omega) (by omega)
  · exact H5 _ _ (by omega) (by omega)
  · exact H4 _ _ (by omega) (by omega)
  · exact H3 _ _ (by omega) (by omega)
  · exact H2 _ _ (by omega) (by omega)
  · exact H1 _ _ (by omega) (by omega)
  · exact H0 _ _ (by omega) (by omega)

/-- The columns of the weight from o on. -/
theorem ld (o : Nat) (ho : o + 512 ≤ 4096) (inb : ∀ d, (![0, o] : Fin 2 → Nat) d + S1024x512.size d ≤ S1024x4096.size d) (x : Vec Ideal S1024x4096 .bf16) (k : Fin 1024) (l : Fin 512) :
    View.ld x (Rect.unit (s := S1024x4096) ![0, o] S1024x512.size inb) (ix2 k l) = x (ix2 k ⟨o + l.val, by omega⟩) := by
  rw [View.ld_apply]
  refine congrArg x ?_
  funext b
  apply Fin.ext
  fin_cases b <;> simp [ix2, Rect.unit] <;> omega

theorem final3 : (dats m 0 c).arrAt 3 cfg0.N = up (uH m c) (uG m c) (uW m c) := by
  refine (dats m 0 c).arrAt_eq_of_covers 3 _ (by decide +kernel) fun t hf z => ?_
  blk_simp
  rw [after0_3, show (win0_3.blk t).view.emb z = ix2 (row t (z 0)) (z 1) by idx_vars z; exact e3 t _ _]
  unfold out0_3 k0_pay10
  rw [d0, d1, q4, q3, q2, q1, q9, q8, q7]
  exact tiles _ _ _ _ _ _ _ _ (fun z => up (uH m c) (uG m c) (uW m c) (ix2 (row t (z 0)) (z 1)))
    (fun z y h0 h1 => tile m c t 3584 (by omega) _ (ld 3584 (by omega) _ (iblk m c 2 t)) z y h0 h1)
    (fun z y h0 h1 => tile m c t 3072 (by omega) _ (ld 3072 (by omega) _ (iblk m c 2 t)) z y h0 h1)
    (fun z y h0 h1 => tile m c t 2560 (by omega) _ (ld 2560 (by omega) _ (iblk m c 2 t)) z y h0 h1)
    (fun z y h0 h1 => tile m c t 2048 (by omega) _ (ld 2048 (by omega) _ (iblk m c 2 t)) z y h0 h1)
    (fun z y h0 h1 => tile m c t 1536 (by omega) _ (ld 1536 (by omega) _ (iblk m c 2 t)) z y h0 h1)
    (fun z y h0 h1 => tile m c t 1024 (by omega) _ (ld 1024 (by omega) _ (iblk m c 2 t)) z y h0 h1)
    (fun z y h0 h1 => tile m c t 512 (by omega) _ (ld 512 (by omega) _ (iblk m c 2 t)) z y h0 h1)
    (fun z y h0 h1 => tile m c t 0 (by omega) _ (ld 0 (by omega) _ (iblk m c 2 t)) z y h0 h1) z

end Cert.UpValue
end
-- ==== Proof.Up.lean ====
/- The five claims about the norm before the up projection with that product. -/
module

public import proofs.«01_k».proof.Proof.UpValue
public import proofs.«01_k».proof.Proof.Gen.UpReferenceIdeal.Run
public import proofs.«01_k».proof.Proof.Gen.UpReferenceIdeal.Read
public import proofs.«01_k».proof.Proof.Gen.UpKernel
public import proofs.«01_k».proof.Proof.Gen.UpKernel.Frame
public import Idealize.ShloMosaic.Adequacy
public import Idealize.ShloMosaic.Init
public import Idealize.ShloMosaic.Lib.Quiescent

@[expose] public section

set_option maxRecDepth 16384

noncomputable section

namespace Cert.Up

open Idealize.ShloMosaic Idealize.ShloMosaic.TcCoe Idealize.SL.Sem
open Cert.UpValue

section
open Cert.UpReferenceIdeal Cert.UpReferenceIdeal.Read
variable (x0 : S8192x1024.Idx → EReal) (x1 : S1024.Idx → EReal) (x2 : S1024x4096.Idx → EReal)

/-- The reference's normed rows at an entry. -/
theorem r12 (i : Fin 8192) (j : Fin 1024) : val_main_v12 (F := Ideal) x0 x1 (ix2 i j) = norm x0 x1 (ix2 i j) := by
  unfold UpValue.norm Rms.scale
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  try simp only [zero_add]
  try rfl

/-- The reference's product at an entry. -/
theorem r13 (i : Fin 8192) (j : Fin 4096) : val_main_v13 (F := Ideal) x0 x1 x2 (ix2 i j) = up x0 x1 x2 (ix2 i j) := by
  unfold up
  refine (val_main_v13_apply x0 x1 x2 (ix2 i j)).trans (Finset.sum_congr rfl fun k _ => ?_)
  refine congrArg₂ (HMul.hMul (α := EReal) (β := EReal) (γ := EReal)) ?_ (congrArg x2 (by funext b; fin_cases b <;> rfl))
  exact (congrArg (val_main_v12 (F := Ideal) x0 x1) (by funext b; fin_cases b <;> rfl)).trans (r12 x0 x1 i k)
end

theorem frame_kernel : Cert.quiescent_UpKernel (hUpKernel := Cert.UpKernel.Gen.facts) :=
  fun m ρ _ => Cert.UpKernel.Gen.frame m ρ

theorem frame_ideal : Cert.quiescent_UpKernelIdeal (hUpKernelIdeal := Cert.UpKernelIdeal.Gen.facts) :=
  fun m ρ _ => Cert.UpKernelIdeal.Gen.frame m ρ

theorem frame_ref : Cert.quiescent_UpReferenceIdeal (hUpReferenceIdeal := Cert.UpReferenceIdeal.Gen.facts) :=
  fun m ρ _ => (θ_run Cert.UpReferenceIdeal.defs _ _).mono (fun r h => ⟨fun c => (h c).2.2, sem_eq_zero_of_no_sems rfl r.2⟩) (Cert.UpReferenceIdeal.Value.run m ρ)

theorem preserves : Cert.preserves_UpKernel_UpKernelIdeal := trivial

/-- Kernel and reference compute one function. -/
theorem algebraic : Cert.algebraic_UpKernelIdeal_UpReferenceIdeal (hUpKernelIdeal := Cert.UpKernelIdeal.Gen.facts) (hUpReferenceIdeal := Cert.UpReferenceIdeal.Gen.facts) := by
  intro m g m' g' hpre hag
  refine ⟨_, _, Cert.UpKernelIdeal.Value.run_blocks m g, (θ_run Cert.UpReferenceIdeal.defs _ _).mono (fun r h c => ⟨(h c).1.trans ?_, (h c).2.1.trans ?_, (h c).2.2⟩) (Cert.UpReferenceIdeal.Value.run m' g')⟩
  all_goals obtain ⟨a0, a1, a2⟩ := hag c
  · rw [Cert.UpReferenceIdeal.Read.val_main_v13_eq, a0, a1, a2]
    refine Eq.trans ?_ (final3 m c).symm
    funext i
    idx_vars i
    exact r13 (uH m c) (uG m c) (uW m c) i0 i1
  · rw [Cert.UpReferenceIdeal.Read.val_main_v14_eq, a0, a1]
    refine Eq.trans ?_ (final4 m c).symm
    funext i
    idx_vars i
    exact (show Cert.UpReferenceIdeal.Read.val_main_v14 (F := Ideal) (uH m c) (uG m c) (ix2 i0 i1) = Cert.UpReferenceIdeal.Read.val_main_v12 (F := Ideal) (uH m c) (uG m c) (ix2 i0 i1) from rfl).trans (r12 (uH m c) (uG m c) i0 i1)

end Cert.Up
end
-- ==== Proof.lean ====
/- The claims of `Cert.Claim`, one after the other; the mathematics is in the modules under Proof/. -/
module

public import proofs.«01_k».proof.Defs
public import proofs.«01_k».proof.Proof.Act
public import proofs.«01_k».proof.Proof.Flash
public import proofs.«01_k».proof.Proof.In
public import proofs.«01_k».proof.Proof.Loss
public import proofs.«01_k».proof.Proof.Inproj
public import proofs.«01_k».proof.Proof.Merge
public import proofs.«01_k».proof.Proof.Mla
public import proofs.«01_k».proof.Proof.Out
public import proofs.«01_k».proof.Proof.Up
public import proofs.«01_k».proof.Proof.Gen.Pre_finite
public import Idealize.ShloMosaic.Adequacy
public import Idealize.ShloMosaic.Init

@[expose] public section

namespace Cert.Proof

theorem claim : Cert.Claim :=
  ⟨Cert.ActKernel.Gen.facts, Cert.ActKernelIdeal.Gen.facts, Cert.ActReferenceIdeal.Gen.facts,
    Cert.FlashKernel.Gen.facts, Cert.FlashKernelIdeal.Gen.facts, Cert.FlashReferenceIdeal.Gen.facts,
    Cert.InKernel.Gen.facts, Cert.InKernelIdeal.Gen.facts, Cert.InReferenceIdeal.Gen.facts,
    Cert.LossKernel.Gen.facts, Cert.LossKernelIdeal.Gen.facts, Cert.LossReferenceIdeal.Gen.facts,
    Cert.InprojKernel.Gen.facts, Cert.InprojKernelIdeal.Gen.facts, Cert.InprojReferenceIdeal.Gen.facts,
    Cert.MergeKernel.Gen.facts, Cert.MergeKernelIdeal.Gen.facts, Cert.MergeReferenceIdeal.Gen.facts,
    Cert.MlaKernel.Gen.facts, Cert.MlaKernelIdeal.Gen.facts, Cert.MlaReferenceIdeal.Gen.facts,
    Cert.OutKernel.Gen.facts, Cert.OutKernelIdeal.Gen.facts, Cert.OutReferenceIdeal.Gen.facts,
    Cert.UpKernel.Gen.facts, Cert.UpKernelIdeal.Gen.facts, Cert.UpReferenceIdeal.Gen.facts,
    Cert.Pre_finite.Gen.facts, Cert.Pre_in_finite.Gen.facts, Cert.Pre_loss_finite.Gen.facts, Cert.Pre_inp_finite.Gen.facts, Cert.Pre_merge_finite.Gen.facts, Cert.Pre_mla_finite.Gen.facts,
    Cert.Act.frame_kernel, Cert.Act.frame_ideal, Cert.Act.frame_ref,
    Cert.Flash.frame_kernel, Cert.Flash.frame_ideal, Cert.Flash.frame_ideal_pre, Cert.Flash.frame_ref, Cert.Flash.frame_ref_pre,
    Cert.In.frame_kernel, Cert.In.frame_ideal, Cert.In.frame_ideal_pre, Cert.In.frame_ref, Cert.In.frame_ref_pre,
    Cert.Loss.frame_kernel, Cert.Loss.frame_ideal, Cert.Loss.frame_ideal_pre, Cert.Loss.frame_ref, Cert.Loss.frame_ref_pre,
    Cert.Inproj.frame_kernel, Cert.Inproj.frame_ideal, Cert.Inproj.frame_ideal_pre, Cert.Inproj.frame_ref, Cert.Inproj.frame_ref_pre,
    Cert.Merge.frame_kernel, Cert.Merge.frame_ideal, Cert.Merge.frame_ideal_pre, Cert.Merge.frame_ref, Cert.Merge.frame_ref_pre,
    Cert.Mla.frame_kernel, Cert.Mla.frame_ideal, Cert.Mla.frame_ideal_pre, Cert.Mla.frame_ref, Cert.Mla.frame_ref_pre,
    Cert.Out.frame_kernel, Cert.Out.frame_ideal, Cert.Out.frame_ref, Cert.Up.frame_kernel, Cert.Up.frame_ideal, Cert.Up.frame_ref,
    Cert.Act.preserves, Cert.Act.algebraic, Cert.Flash.preserves, Cert.Flash.algebraic, Cert.In.preserves, Cert.In.algebraic,
    Cert.Loss.preserves, Cert.Loss.algebraic, Cert.Inproj.preserves, Cert.Inproj.algebraic, Cert.Merge.preserves, Cert.Merge.algebraic,
    Cert.Mla.preserves, Cert.Mla.algebraic, Cert.Out.preserves, Cert.Out.algebraic, Cert.Up.preserves, Cert.Up.algebraic⟩

end Cert.Proof
end
